-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S8192x128 : Shape := ⟨2, ![8192, 128]⟩
abbrev S8192 : Shape := ⟨1, ![8192]⟩
abbrev S8192x64 : Shape := ⟨2, ![8192, 64]⟩
abbrev S100000x128 : Shape := ⟨2, ![100000, 128]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x128 .f32) (main_arg1 : IVec S8192 32) (main_arg2 : IVec S8192x64 32) (main_arg3 : FVec F S100000x128 .f32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 1 := constantI S_ 1 1#1
  let main_v2 : IVec S_ 1 := (fun x v => Host.reduce IntOp.andi x v reducesTo_S8192_S_d0 h_S_) main_v1 main_c_0
  let main_c_1 : IVec S_ 32 := constantI S_ 32 100000#32
  let main_v3 : IVec S8192 32 := broadcastInDim S8192 ![] bcast_S_S8192 main_c_1
  let main_v4 : IVec S8192 1 := cmpi .slt main_arg1 main_v3
  let main_c_2 : IVec S_ 1 := constantI S_ 1 1#1
  let main_v5 : IVec S_ 1 := (fun x v => Host.reduce IntOp.andi x v reducesTo_S8192_S_d0 h_S_) main_v4 main_c_2
  let main_v6 : IVec S_ 1 := andi main_v2 main_v5
  let main_c_3 : IVec S_ 32 := constantI S_ 32 0#32
  let main_v7 : IVec S8192x64 32 := broadcastInDim S8192x64 ![] bcast_S_S8192x64 main_c_3
  let main_v8 : IVec S8192x64 1 := cmpi .sge main_arg2 main_v7
  let main_c_4 : IVec S_ 1 := constantI S_ 1 1#1
  let main_v9 : IVec S_ 1 := (fun x v => Host.reduce IntOp.andi x v reducesTo_S8192x64_S_d0_1 h_S_) main_v8 main_c_4
  let main_v10 : IVec S_ 1 := andi main_v6 main_v9
  let main_c_5 : IVec S_ 32 := constantI S_ 32 100000#32
  let main_v11 : IVec S8192x64 32 := broadcastInDim S8192x64 ![] bcast_S_S8192x64 main_c_5
  let main_v12 : IVec S8192x64 1 := cmpi .slt main_arg2 main_v11
  let main_c_6 : IVec S_ 1 := constantI S_ 1 1#1
  let main_v13 : IVec S_ 1 := (fun x v => Host.reduce IntOp.andi x v reducesTo_S8192x64_S_d0_1 h_S_) main_v12 main_c_6
  let main_v14 : IVec S_ 1 := andi main_v10 main_v13
  main_v14
-- ==== Kernel.lean ====
abbrev S8192x128 : Shape := ⟨2, ![8192, 128]⟩
abbrev S8192 : Shape := ⟨1, ![8192]⟩
abbrev S8192x64 : Shape := ⟨2, ![8192, 64]⟩
abbrev S100000x128 : Shape := ⟨2, ![100000, 128]⟩
abbrev S524288 : Shape := ⟨1, ![524288]⟩
abbrev S256x128 : Shape := ⟨2, ![256, 128]⟩
abbrev S256 : Shape := ⟨1, ![256]⟩
abbrev S16384 : Shape := ⟨1, ![16384]⟩
abbrev S128x128 : Shape := ⟨2, ![128, 128]⟩
abbrev S64x128 : Shape := ⟨2, ![64, 128]⟩
abbrev S64 : Shape := ⟨1, ![64]⟩
abbrev S64x64 : Shape := ⟨2, ![64, 64]⟩
abbrev S_ : Shape := ⟨0, ![]⟩
abbrev S16 : Shape := ⟨1, ![16]⟩
abbrev S128 : Shape := ⟨1, ![128]⟩
abbrev S1x16 : Shape := ⟨2, ![1, 16]⟩
abbrev S4096x128 : Shape := ⟨2, ![4096, 128]⟩
abbrev S1x1 : Shape := ⟨2, ![1, 1]⟩
abbrev S1x64x128 : Shape := ⟨3, ![1, 64, 128]⟩
abbrev S1 : Shape := ⟨1, ![1]⟩
abbrev S1x1x1 : Shape := ⟨3, ![1, 1, 1]⟩
abbrev S1x4096x128 : Shape := ⟨3, ![1, 4096, 128]⟩

abbrev nBuf : Table → Nat
  | .hbm => 11
  | .local .tc .vmem => 3
  | .local .scVector .vmem => 9
  | _ => 0

abbrev bufTy : (tb : Table) → Fin (nBuf tb) → BufTy
  | .hbm, ⟨0, _⟩ => ⟨S8192x128, .f32⟩
  | .hbm, ⟨1, _⟩ => ⟨S8192, .i32⟩
  | .hbm, ⟨2, _⟩ => ⟨S8192x64, .i32⟩
  | .hbm, ⟨3, _⟩ => ⟨S100000x128, .f32⟩
  | .hbm, ⟨4, _⟩ => ⟨S524288, .i32⟩
  | .hbm, ⟨5, _⟩ => ⟨S8192, .f32⟩
  | .hbm, ⟨6, _⟩ => ⟨S8192x64, .f32⟩
  | .hbm, ⟨7, _⟩ => ⟨S64x128, .f32⟩
  | .hbm, ⟨8, _⟩ => ⟨S4096x128, .f32⟩
  | .hbm, ⟨9, _⟩ => ⟨S1x1, .f32⟩
  | .hbm, ⟨10, _⟩ => ⟨S_, .f32⟩
  | .local .tc .vmem, ⟨0, _⟩ => ⟨S64x128, .f32⟩
  | .local .tc .vmem, ⟨1, _⟩ => ⟨S4096x128, .f32⟩
  | .local .tc .vmem, ⟨2, _⟩ => ⟨S1x1, .f32⟩
  | .local .scVector .vmem, ⟨0, _⟩ => ⟨S256x128, .f32⟩
  | .local .scVector .vmem, ⟨1, _⟩ => ⟨S256, .i32⟩
  | .local .scVector .vmem, ⟨2, _⟩ => ⟨S16384, .i32⟩
  | .local .scVector .vmem, ⟨3, _⟩ => ⟨S128x128, .f32⟩
  | .local .scVector .vmem, ⟨4, _⟩ => ⟨S128x128, .f32⟩
  | .local .scVector .vmem, ⟨5, _⟩ => ⟨S64x128, .f32⟩
  | .local .scVector .vmem, ⟨6, _⟩ => ⟨S64x128, .f32⟩
  | .local .scVector .vmem, ⟨7, _⟩ => ⟨S64, .f32⟩
  | .local .scVector .vmem, ⟨8, _⟩ => ⟨S64x64, .f32⟩
  | _, _ => ⟨S8192x128, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 12
abbrev cc1_sem1_0 : DmaSem sig := 13
abbrev cc1_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_54_r0 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32 : BitVec 32 := 64#32
  let v4 : BitVec 32 := Scalar.muli v2 c64_i32
  ![v4.toNat]
@[reducible] def k0_t1_loop : Scf.Loop 32 :=
  let c0_i32_11 : BitVec 32 := 0#32
  let c64_i32_12 : BitVec 32 := 64#32
  let v13 : BitVec 32 := Scalar.addi c0_i32_11 c64_i32_12
  let c1_i32 : BitVec 32 := 1#32
  ⟨c0_i32_11, v13, c1_i32⟩
@[reducible] def k0_t2_loop : Scf.Loop 32 :=
  let c0_i32_71 : BitVec 32 := 0#32
  let c8_i32 : BitVec 32 := 8#32
  let v67 : BitVec 32 := Scalar.addi c0_i32_71 c8_i32
  let c1_i32_72 : BitVec 32 := 1#32
  ⟨c0_i32_71, v67, c1_i32_72⟩

def k0_chk1 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) : Prop :=
  (∀ a x, ((![v40, v160] : Fin 2 → IVec S16 32) a x).toNat < S256x128.size a) ∧
  (∀ a x, ((![v44, v160] : Fin 2 → IVec S16 32) a x).toNat < S128x128.size a) ∧
  (∀ a x, ((![v46, v160] : Fin 2 → IVec S16 32) a x).toNat < S128x128.size a) ∧
  (∀ a x, ((![v48, v160] : Fin 2 → IVec S16 32) a x).toNat < S128x128.size a) ∧
  (∀ a x, ((![v50, v160] : Fin 2 → IVec S16 32) a x).toNat < S128x128.size a) ∧
  (∀ a x, ((![v42, v160] : Fin 2 → IVec S16 32) a x).toNat < S256x128.size a) ∧
  (∀ a x, ((![v52, v160] : Fin 2 → IVec S16 32) a x).toNat < S128x128.size a) ∧
  (∀ a x, ((![v54, v160] : Fin 2 → IVec S16 32) a x).toNat < S128x128.size a) ∧
  (∀ a x, ((![v56, v160] : Fin 2 → IVec S16 32) a x).toNat < S128x128.size a) ∧
  (∀ a x, ((![v58, v160] : Fin 2 → IVec S16 32) a x).toNat < S128x128.size a)
theorem k0_idx1_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v40, v160] : Fin 2 → IVec S16 32) a x).toNat < S256x128.size a := fun v40 v42 v44 v46 v48 v50 v52 v54 v56 v58 v160 k0_hw1 => k0_hw1.1
theorem k0_idx2_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v44, v160] : Fin 2 → IVec S16 32) a x).toNat < S128x128.size a := fun v40 v42 v44 v46 v48 v50 v52 v54 v56 v58 v160 k0_hw1 => k0_hw1.2.1
theorem k0_idx3_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v46, v160] : Fin 2 → IVec S16 32) a x).toNat < S128x128.size a := fun v40 v42 v44 v46 v48 v50 v52 v54 v56 v58 v160 k0_hw1 => k0_hw1.2.2.1
theorem k0_idx4_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v48, v160] : Fin 2 → IVec S16 32) a x).toNat < S128x128.size a := fun v40 v42 v44 v46 v48 v50 v52 v54 v56 v58 v160 k0_hw1 => k0_hw1.2.2.2.1
theorem k0_idx5_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v50, v160] : Fin 2 → IVec S16 32) a x).toNat < S128x128.size a := fun v40 v42 v44 v46 v48 v50 v52 v54 v56 v58 v160 k0_hw1 => k0_hw1.2.2.2.2.1
theorem k0_idx6_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v42, v160] : Fin 2 → IVec S16 32) a x).toNat < S256x128.size a := fun v40 v42 v44 v46 v48 v50 v52 v54 v56 v58 v160 k0_hw1 => k0_hw1.2.2.2.2.2.1
theorem k0_idx7_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v52, v160] : Fin 2 → IVec S16 32) a x).toNat < S128x128.size a := fun v40 v42 v44 v46 v48 v50 v52 v54 v56 v58 v160 k0_hw1 => k0_hw1.2.2.2.2.2.2.1
theorem k0_idx8_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v54, v160] : Fin 2 → IVec S16 32) a x).toNat < S128x128.size a := fun v40 v42 v44 v46 v48 v50 v52 v54 v56 v58 v160 k0_hw1 => k0_hw1.2.2.2.2.2.2.2.1
theorem k0_idx9_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v56, v160] : Fin 2 → IVec S16 32) a x).toNat < S128x128.size a := fun v40 v42 v44 v46 v48 v50 v52 v54 v56 v58 v160 k0_hw1 => k0_hw1.2.2.2.2.2.2.2.2.1
theorem k0_idx10_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v160 : IVec S16 32) (k0_hw1 : k0_chk1 v40 v42 v44 v46 v48 v50 v52 v54 v56 v58 v160), ∀ a x, ((![v58, v160] : Fin 2 → IVec S16 32) a x).toNat < S128x128.size a := fun v40 v42 v44 v46 v48 v50 v52 v54 v56 v58 v160 k0_hw1 => k0_hw1.2.2.2.2.2.2.2.2.2

def k0_chk2 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) : Prop :=
  (∀ a x, ((![v40, v192] : Fin 2 → IVec S16 32) a x).toNat < S256x128.size a) ∧
  (∀ a x, ((![v44, v192] : Fin 2 → IVec S16 32) a x).toNat < S128x128.size a) ∧
  (∀ a x, ((![v46, v192] : Fin 2 → IVec S16 32) a x).toNat < S128x128.size a) ∧
  (∀ a x, ((![v48, v192] : Fin 2 → IVec S16 32) a x).toNat < S128x128.size a) ∧
  (∀ a x, ((![v50, v192] : Fin 2 → IVec S16 32) a x).toNat < S128x128.size a) ∧
  (∀ a x, ((![v42, v192] : Fin 2 → IVec S16 32) a x).toNat < S256x128.size a) ∧
  (∀ a x, ((![v52, v192] : Fin 2 → IVec S16 32) a x).toNat < S128x128.size a) ∧
  (∀ a x, ((![v54, v192] : Fin 2 → IVec S16 32) a x).toNat < S128x128.size a) ∧
  (∀ a x, ((![v56, v192] : Fin 2 → IVec S16 32) a x).toNat < S128x128.size a) ∧
  (∀ a x, ((![v58, v192] : Fin 2 → IVec S16 32) a x).toNat < S128x128.size a)
theorem k0_idx11_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v40, v192] : Fin 2 → IVec S16 32) a x).toNat < S256x128.size a := fun v40 v42 v44 v46 v48 v50 v52 v54 v56 v58 v192 k0_hw2 => k0_hw2.1
theorem k0_idx12_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v44, v192] : Fin 2 → IVec S16 32) a x).toNat < S128x128.size a := fun v40 v42 v44 v46 v48 v50 v52 v54 v56 v58 v192 k0_hw2 => k0_hw2.2.1
theorem k0_idx13_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v46, v192] : Fin 2 → IVec S16 32) a x).toNat < S128x128.size a := fun v40 v42 v44 v46 v48 v50 v52 v54 v56 v58 v192 k0_hw2 => k0_hw2.2.2.1
theorem k0_idx14_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v48, v192] : Fin 2 → IVec S16 32) a x).toNat < S128x128.size a := fun v40 v42 v44 v46 v48 v50 v52 v54 v56 v58 v192 k0_hw2 => k0_hw2.2.2.2.1
theorem k0_idx15_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v50, v192] : Fin 2 → IVec S16 32) a x).toNat < S128x128.size a := fun v40 v42 v44 v46 v48 v50 v52 v54 v56 v58 v192 k0_hw2 => k0_hw2.2.2.2.2.1
theorem k0_idx16_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v42, v192] : Fin 2 → IVec S16 32) a x).toNat < S256x128.size a := fun v40 v42 v44 v46 v48 v50 v52 v54 v56 v58 v192 k0_hw2 => k0_hw2.2.2.2.2.2.1
theorem k0_idx17_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v52, v192] : Fin 2 → IVec S16 32) a x).toNat < S128x128.size a := fun v40 v42 v44 v46 v48 v50 v52 v54 v56 v58 v192 k0_hw2 => k0_hw2.2.2.2.2.2.2.1
theorem k0_idx18_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v54, v192] : Fin 2 → IVec S16 32) a x).toNat < S128x128.size a := fun v40 v42 v44 v46 v48 v50 v52 v54 v56 v58 v192 k0_hw2 => k0_hw2.2.2.2.2.2.2.2.1
theorem k0_idx19_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v56, v192] : Fin 2 → IVec S16 32) a x).toNat < S128x128.size a := fun v40 v42 v44 v46 v48 v50 v52 v54 v56 v58 v192 k0_hw2 => k0_hw2.2.2.2.2.2.2.2.2.1
theorem k0_idx20_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v192 : IVec S16 32) (k0_hw2 : k0_chk2 v40 v42 v44 v46 v48 v50 v52 v54 v56 v58 v192), ∀ a x, ((![v58, v192] : Fin 2 → IVec S16 32) a x).toNat < S128x128.size a := fun v40 v42 v44 v46 v48 v50 v52 v54 v56 v58 v192 k0_hw2 => k0_hw2.2.2.2.2.2.2.2.2.2

def k0_chk3 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) : Prop :=
  (∀ a x, ((![v40, v224] : Fin 2 → IVec S16 32) a x).toNat < S256x128.size a) ∧
  (∀ a x, ((![v44, v224] : Fin 2 → IVec S16 32) a x).toNat < S128x128.size a) ∧
  (∀ a x, ((![v46, v224] : Fin 2 → IVec S16 32) a x).toNat < S128x128.size a) ∧
  (∀ a x, ((![v48, v224] : Fin 2 → IVec S16 32) a x).toNat < S128x128.size a) ∧
  (∀ a x, ((![v50, v224] : Fin 2 → IVec S16 32) a x).toNat < S128x128.size a) ∧
  (∀ a x, ((![v42, v224] : Fin 2 → IVec S16 32) a x).toNat < S256x128.size a) ∧
  (∀ a x, ((![v52, v224] : Fin 2 → IVec S16 32) a x).toNat < S128x128.size a) ∧
  (∀ a x, ((![v54, v224] : Fin 2 → IVec S16 32) a x).toNat < S128x128.size a) ∧
  (∀ a x, ((![v56, v224] : Fin 2 → IVec S16 32) a x).toNat < S128x128.size a) ∧
  (∀ a x, ((![v58, v224] : Fin 2 → IVec S16 32) a x).toNat < S128x128.size a)
theorem k0_idx21_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v40, v224] : Fin 2 → IVec S16 32) a x).toNat < S256x128.size a := fun v40 v42 v44 v46 v48 v50 v52 v54 v56 v58 v224 k0_hw3 => k0_hw3.1
theorem k0_idx22_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v44, v224] : Fin 2 → IVec S16 32) a x).toNat < S128x128.size a := fun v40 v42 v44 v46 v48 v50 v52 v54 v56 v58 v224 k0_hw3 => k0_hw3.2.1
theorem k0_idx23_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v46, v224] : Fin 2 → IVec S16 32) a x).toNat < S128x128.size a := fun v40 v42 v44 v46 v48 v50 v52 v54 v56 v58 v224 k0_hw3 => k0_hw3.2.2.1
theorem k0_idx24_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v48, v224] : Fin 2 → IVec S16 32) a x).toNat < S128x128.size a := fun v40 v42 v44 v46 v48 v50 v52 v54 v56 v58 v224 k0_hw3 => k0_hw3.2.2.2.1
theorem k0_idx25_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v50, v224] : Fin 2 → IVec S16 32) a x).toNat < S128x128.size a := fun v40 v42 v44 v46 v48 v50 v52 v54 v56 v58 v224 k0_hw3 => k0_hw3.2.2.2.2.1
theorem k0_idx26_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v42, v224] : Fin 2 → IVec S16 32) a x).toNat < S256x128.size a := fun v40 v42 v44 v46 v48 v50 v52 v54 v56 v58 v224 k0_hw3 => k0_hw3.2.2.2.2.2.1
theorem k0_idx27_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v52, v224] : Fin 2 → IVec S16 32) a x).toNat < S128x128.size a := fun v40 v42 v44 v46 v48 v50 v52 v54 v56 v58 v224 k0_hw3 => k0_hw3.2.2.2.2.2.2.1
theorem k0_idx28_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v54, v224] : Fin 2 → IVec S16 32) a x).toNat < S128x128.size a := fun v40 v42 v44 v46 v48 v50 v52 v54 v56 v58 v224 k0_hw3 => k0_hw3.2.2.2.2.2.2.2.1
theorem k0_idx29_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v56, v224] : Fin 2 → IVec S16 32) a x).toNat < S128x128.size a := fun v40 v42 v44 v46 v48 v50 v52 v54 v56 v58 v224 k0_hw3 => k0_hw3.2.2.2.2.2.2.2.2.1
theorem k0_idx30_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v224 : IVec S16 32) (k0_hw3 : k0_chk3 v40 v42 v44 v46 v48 v50 v52 v54 v56 v58 v224), ∀ a x, ((![v58, v224] : Fin 2 → IVec S16 32) a x).toNat < S128x128.size a := fun v40 v42 v44 v46 v48 v50 v52 v54 v56 v58 v224 k0_hw3 => k0_hw3.2.2.2.2.2.2.2.2.2

def k0_chk4 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) : Prop :=
  (∀ a x, ((![v40, v256] : Fin 2 → IVec S16 32) a x).toNat < S256x128.size a) ∧
  (∀ a x, ((![v44, v256] : Fin 2 → IVec S16 32) a x).toNat < S128x128.size a) ∧
  (∀ a x, ((![v46, v256] : Fin 2 → IVec S16 32) a x).toNat < S128x128.size a) ∧
  (∀ a x, ((![v48, v256] : Fin 2 → IVec S16 32) a x).toNat < S128x128.size a) ∧
  (∀ a x, ((![v50, v256] : Fin 2 → IVec S16 32) a x).toNat < S128x128.size a) ∧
  (∀ a x, ((![v42, v256] : Fin 2 → IVec S16 32) a x).toNat < S256x128.size a) ∧
  (∀ a x, ((![v52, v256] : Fin 2 → IVec S16 32) a x).toNat < S128x128.size a) ∧
  (∀ a x, ((![v54, v256] : Fin 2 → IVec S16 32) a x).toNat < S128x128.size a) ∧
  (∀ a x, ((![v56, v256] : Fin 2 → IVec S16 32) a x).toNat < S128x128.size a) ∧
  (∀ a x, ((![v58, v256] : Fin 2 → IVec S16 32) a x).toNat < S128x128.size a)
theorem k0_idx31_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v40, v256] : Fin 2 → IVec S16 32) a x).toNat < S256x128.size a := fun v40 v42 v44 v46 v48 v50 v52 v54 v56 v58 v256 k0_hw4 => k0_hw4.1
theorem k0_idx32_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v44, v256] : Fin 2 → IVec S16 32) a x).toNat < S128x128.size a := fun v40 v42 v44 v46 v48 v50 v52 v54 v56 v58 v256 k0_hw4 => k0_hw4.2.1
theorem k0_idx33_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v46, v256] : Fin 2 → IVec S16 32) a x).toNat < S128x128.size a := fun v40 v42 v44 v46 v48 v50 v52 v54 v56 v58 v256 k0_hw4 => k0_hw4.2.2.1
theorem k0_idx34_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v48, v256] : Fin 2 → IVec S16 32) a x).toNat < S128x128.size a := fun v40 v42 v44 v46 v48 v50 v52 v54 v56 v58 v256 k0_hw4 => k0_hw4.2.2.2.1
theorem k0_idx35_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v50, v256] : Fin 2 → IVec S16 32) a x).toNat < S128x128.size a := fun v40 v42 v44 v46 v48 v50 v52 v54 v56 v58 v256 k0_hw4 => k0_hw4.2.2.2.2.1
theorem k0_idx36_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v42, v256] : Fin 2 → IVec S16 32) a x).toNat < S256x128.size a := fun v40 v42 v44 v46 v48 v50 v52 v54 v56 v58 v256 k0_hw4 => k0_hw4.2.2.2.2.2.1
theorem k0_idx37_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v52, v256] : Fin 2 → IVec S16 32) a x).toNat < S128x128.size a := fun v40 v42 v44 v46 v48 v50 v52 v54 v56 v58 v256 k0_hw4 => k0_hw4.2.2.2.2.2.2.1
theorem k0_idx38_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v54, v256] : Fin 2 → IVec S16 32) a x).toNat < S128x128.size a := fun v40 v42 v44 v46 v48 v50 v52 v54 v56 v58 v256 k0_hw4 => k0_hw4.2.2.2.2.2.2.2.1
theorem k0_idx39_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v56, v256] : Fin 2 → IVec S16 32) a x).toNat < S128x128.size a := fun v40 v42 v44 v46 v48 v50 v52 v54 v56 v58 v256 k0_hw4 => k0_hw4.2.2.2.2.2.2.2.2.1
theorem k0_idx40_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v256 : IVec S16 32) (k0_hw4 : k0_chk4 v40 v42 v44 v46 v48 v50 v52 v54 v56 v58 v256), ∀ a x, ((![v58, v256] : Fin 2 → IVec S16 32) a x).toNat < S128x128.size a := fun v40 v42 v44 v46 v48 v50 v52 v54 v56 v58 v256 k0_hw4 => k0_hw4.2.2.2.2.2.2.2.2.2

def k0_chk5 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) : Prop :=
  (∀ a x, ((![v40, v288] : Fin 2 → IVec S16 32) a x).toNat < S256x128.size a) ∧
  (∀ a x, ((![v44, v288] : Fin 2 → IVec S16 32) a x).toNat < S128x128.size a) ∧
  (∀ a x, ((![v46, v288] : Fin 2 → IVec S16 32) a x).toNat < S128x128.size a) ∧
  (∀ a x, ((![v48, v288] : Fin 2 → IVec S16 32) a x).toNat < S128x128.size a) ∧
  (∀ a x, ((![v50, v288] : Fin 2 → IVec S16 32) a x).toNat < S128x128.size a) ∧
  (∀ a x, ((![v42, v288] : Fin 2 → IVec S16 32) a x).toNat < S256x128.size a) ∧
  (∀ a x, ((![v52, v288] : Fin 2 → IVec S16 32) a x).toNat < S128x128.size a) ∧
  (∀ a x, ((![v54, v288] : Fin 2 → IVec S16 32) a x).toNat < S128x128.size a) ∧
  (∀ a x, ((![v56, v288] : Fin 2 → IVec S16 32) a x).toNat < S128x128.size a) ∧
  (∀ a x, ((![v58, v288] : Fin 2 → IVec S16 32) a x).toNat < S128x128.size a)
theorem k0_idx41_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v40, v288] : Fin 2 → IVec S16 32) a x).toNat < S256x128.size a := fun v40 v42 v44 v46 v48 v50 v52 v54 v56 v58 v288 k0_hw5 => k0_hw5.1
theorem k0_idx42_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v44, v288] : Fin 2 → IVec S16 32) a x).toNat < S128x128.size a := fun v40 v42 v44 v46 v48 v50 v52 v54 v56 v58 v288 k0_hw5 => k0_hw5.2.1
theorem k0_idx43_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v46, v288] : Fin 2 → IVec S16 32) a x).toNat < S128x128.size a := fun v40 v42 v44 v46 v48 v50 v52 v54 v56 v58 v288 k0_hw5 => k0_hw5.2.2.1
theorem k0_idx44_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v48, v288] : Fin 2 → IVec S16 32) a x).toNat < S128x128.size a := fun v40 v42 v44 v46 v48 v50 v52 v54 v56 v58 v288 k0_hw5 => k0_hw5.2.2.2.1
theorem k0_idx45_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v50, v288] : Fin 2 → IVec S16 32) a x).toNat < S128x128.size a := fun v40 v42 v44 v46 v48 v50 v52 v54 v56 v58 v288 k0_hw5 => k0_hw5.2.2.2.2.1
theorem k0_idx46_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v42, v288] : Fin 2 → IVec S16 32) a x).toNat < S256x128.size a := fun v40 v42 v44 v46 v48 v50 v52 v54 v56 v58 v288 k0_hw5 => k0_hw5.2.2.2.2.2.1
theorem k0_idx47_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v52, v288] : Fin 2 → IVec S16 32) a x).toNat < S128x128.size a := fun v40 v42 v44 v46 v48 v50 v52 v54 v56 v58 v288 k0_hw5 => k0_hw5.2.2.2.2.2.2.1
theorem k0_idx48_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v54, v288] : Fin 2 → IVec S16 32) a x).toNat < S128x128.size a := fun v40 v42 v44 v46 v48 v50 v52 v54 v56 v58 v288 k0_hw5 => k0_hw5.2.2.2.2.2.2.2.1
theorem k0_idx49_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v56, v288] : Fin 2 → IVec S16 32) a x).toNat < S128x128.size a := fun v40 v42 v44 v46 v48 v50 v52 v54 v56 v58 v288 k0_hw5 => k0_hw5.2.2.2.2.2.2.2.2.1
theorem k0_idx50_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v288 : IVec S16 32) (k0_hw5 : k0_chk5 v40 v42 v44 v46 v48 v50 v52 v54 v56 v58 v288), ∀ a x, ((![v58, v288] : Fin 2 → IVec S16 32) a x).toNat < S128x128.size a := fun v40 v42 v44 v46 v48 v50 v52 v54 v56 v58 v288 k0_hw5 => k0_hw5.2.2.2.2.2.2.2.2.2

def k0_chk6 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) : Prop :=
  (∀ a x, ((![v40, v320] : Fin 2 → IVec S16 32) a x).toNat < S256x128.size a) ∧
  (∀ a x, ((![v44, v320] : Fin 2 → IVec S16 32) a x).toNat < S128x128.size a) ∧
  (∀ a x, ((![v46, v320] : Fin 2 → IVec S16 32) a x).toNat < S128x128.size a) ∧
  (∀ a x, ((![v48, v320] : Fin 2 → IVec S16 32) a x).toNat < S128x128.size a) ∧
  (∀ a x, ((![v50, v320] : Fin 2 → IVec S16 32) a x).toNat < S128x128.size a) ∧
  (∀ a x, ((![v42, v320] : Fin 2 → IVec S16 32) a x).toNat < S256x128.size a) ∧
  (∀ a x, ((![v52, v320] : Fin 2 → IVec S16 32) a x).toNat < S128x128.size a) ∧
  (∀ a x, ((![v54, v320] : Fin 2 → IVec S16 32) a x).toNat < S128x128.size a) ∧
  (∀ a x, ((![v56, v320] : Fin 2 → IVec S16 32) a x).toNat < S128x128.size a) ∧
  (∀ a x, ((![v58, v320] : Fin 2 → IVec S16 32) a x).toNat < S128x128.size a)
theorem k0_idx51_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v40, v320] : Fin 2 → IVec S16 32) a x).toNat < S256x128.size a := fun v40 v42 v44 v46 v48 v50 v52 v54 v56 v58 v320 k0_hw6 => k0_hw6.1
theorem k0_idx52_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v44, v320] : Fin 2 → IVec S16 32) a x).toNat < S128x128.size a := fun v40 v42 v44 v46 v48 v50 v52 v54 v56 v58 v320 k0_hw6 => k0_hw6.2.1
theorem k0_idx53_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v46, v320] : Fin 2 → IVec S16 32) a x).toNat < S128x128.size a := fun v40 v42 v44 v46 v48 v50 v52 v54 v56 v58 v320 k0_hw6 => k0_hw6.2.2.1
theorem k0_idx54_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v48, v320] : Fin 2 → IVec S16 32) a x).toNat < S128x128.size a := fun v40 v42 v44 v46 v48 v50 v52 v54 v56 v58 v320 k0_hw6 => k0_hw6.2.2.2.1
theorem k0_idx55_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v50, v320] : Fin 2 → IVec S16 32) a x).toNat < S128x128.size a := fun v40 v42 v44 v46 v48 v50 v52 v54 v56 v58 v320 k0_hw6 => k0_hw6.2.2.2.2.1
theorem k0_idx56_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v42, v320] : Fin 2 → IVec S16 32) a x).toNat < S256x128.size a := fun v40 v42 v44 v46 v48 v50 v52 v54 v56 v58 v320 k0_hw6 => k0_hw6.2.2.2.2.2.1
theorem k0_idx57_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v52, v320] : Fin 2 → IVec S16 32) a x).toNat < S128x128.size a := fun v40 v42 v44 v46 v48 v50 v52 v54 v56 v58 v320 k0_hw6 => k0_hw6.2.2.2.2.2.2.1
theorem k0_idx58_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v54, v320] : Fin 2 → IVec S16 32) a x).toNat < S128x128.size a := fun v40 v42 v44 v46 v48 v50 v52 v54 v56 v58 v320 k0_hw6 => k0_hw6.2.2.2.2.2.2.2.1
theorem k0_idx59_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v56, v320] : Fin 2 → IVec S16 32) a x).toNat < S128x128.size a := fun v40 v42 v44 v46 v48 v50 v52 v54 v56 v58 v320 k0_hw6 => k0_hw6.2.2.2.2.2.2.2.2.1
theorem k0_idx60_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v320 : IVec S16 32) (k0_hw6 : k0_chk6 v40 v42 v44 v46 v48 v50 v52 v54 v56 v58 v320), ∀ a x, ((![v58, v320] : Fin 2 → IVec S16 32) a x).toNat < S128x128.size a := fun v40 v42 v44 v46 v48 v50 v52 v54 v56 v58 v320 k0_hw6 => k0_hw6.2.2.2.2.2.2.2.2.2

def k0_chk7 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) : Prop :=
  (∀ a x, ((![v40, v352] : Fin 2 → IVec S16 32) a x).toNat < S256x128.size a) ∧
  (∀ a x, ((![v44, v352] : Fin 2 → IVec S16 32) a x).toNat < S128x128.size a) ∧
  (∀ a x, ((![v46, v352] : Fin 2 → IVec S16 32) a x).toNat < S128x128.size a) ∧
  (∀ a x, ((![v48, v352] : Fin 2 → IVec S16 32) a x).toNat < S128x128.size a) ∧
  (∀ a x, ((![v50, v352] : Fin 2 → IVec S16 32) a x).toNat < S128x128.size a) ∧
  (∀ a x, ((![v42, v352] : Fin 2 → IVec S16 32) a x).toNat < S256x128.size a) ∧
  (∀ a x, ((![v52, v352] : Fin 2 → IVec S16 32) a x).toNat < S128x128.size a) ∧
  (∀ a x, ((![v54, v352] : Fin 2 → IVec S16 32) a x).toNat < S128x128.size a) ∧
  (∀ a x, ((![v56, v352] : Fin 2 → IVec S16 32) a x).toNat < S128x128.size a) ∧
  (∀ a x, ((![v58, v352] : Fin 2 → IVec S16 32) a x).toNat < S128x128.size a)
theorem k0_idx61_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v40, v352] : Fin 2 → IVec S16 32) a x).toNat < S256x128.size a := fun v40 v42 v44 v46 v48 v50 v52 v54 v56 v58 v352 k0_hw7 => k0_hw7.1
theorem k0_idx62_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v44, v352] : Fin 2 → IVec S16 32) a x).toNat < S128x128.size a := fun v40 v42 v44 v46 v48 v50 v52 v54 v56 v58 v352 k0_hw7 => k0_hw7.2.1
theorem k0_idx63_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v46, v352] : Fin 2 → IVec S16 32) a x).toNat < S128x128.size a := fun v40 v42 v44 v46 v48 v50 v52 v54 v56 v58 v352 k0_hw7 => k0_hw7.2.2.1
theorem k0_idx64_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v48, v352] : Fin 2 → IVec S16 32) a x).toNat < S128x128.size a := fun v40 v42 v44 v46 v48 v50 v52 v54 v56 v58 v352 k0_hw7 => k0_hw7.2.2.2.1
theorem k0_idx65_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v50, v352] : Fin 2 → IVec S16 32) a x).toNat < S128x128.size a := fun v40 v42 v44 v46 v48 v50 v52 v54 v56 v58 v352 k0_hw7 => k0_hw7.2.2.2.2.1
theorem k0_idx66_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v42, v352] : Fin 2 → IVec S16 32) a x).toNat < S256x128.size a := fun v40 v42 v44 v46 v48 v50 v52 v54 v56 v58 v352 k0_hw7 => k0_hw7.2.2.2.2.2.1
theorem k0_idx67_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v52, v352] : Fin 2 → IVec S16 32) a x).toNat < S128x128.size a := fun v40 v42 v44 v46 v48 v50 v52 v54 v56 v58 v352 k0_hw7 => k0_hw7.2.2.2.2.2.2.1
theorem k0_idx68_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v54, v352] : Fin 2 → IVec S16 32) a x).toNat < S128x128.size a := fun v40 v42 v44 v46 v48 v50 v52 v54 v56 v58 v352 k0_hw7 => k0_hw7.2.2.2.2.2.2.2.1
theorem k0_idx69_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v56, v352] : Fin 2 → IVec S16 32) a x).toNat < S128x128.size a := fun v40 v42 v44 v46 v48 v50 v52 v54 v56 v58 v352 k0_hw7 => k0_hw7.2.2.2.2.2.2.2.2.1
theorem k0_idx70_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v352 : IVec S16 32) (k0_hw7 : k0_chk7 v40 v42 v44 v46 v48 v50 v52 v54 v56 v58 v352), ∀ a x, ((![v58, v352] : Fin 2 → IVec S16 32) a x).toNat < S128x128.size a := fun v40 v42 v44 v46 v48 v50 v52 v54 v56 v58 v352 k0_hw7 => k0_hw7.2.2.2.2.2.2.2.2.2

def k0_chk8 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) : Prop :=
  (∀ a x, ((![v40, v384] : Fin 2 → IVec S16 32) a x).toNat < S256x128.size a) ∧
  (∀ a x, ((![v44, v384] : Fin 2 → IVec S16 32) a x).toNat < S128x128.size a) ∧
  (∀ a x, ((![v46, v384] : Fin 2 → IVec S16 32) a x).toNat < S128x128.size a) ∧
  (∀ a x, ((![v48, v384] : Fin 2 → IVec S16 32) a x).toNat < S128x128.size a) ∧
  (∀ a x, ((![v50, v384] : Fin 2 → IVec S16 32) a x).toNat < S128x128.size a) ∧
  (∀ a x, ((![v42, v384] : Fin 2 → IVec S16 32) a x).toNat < S256x128.size a) ∧
  (∀ a x, ((![v52, v384] : Fin 2 → IVec S16 32) a x).toNat < S128x128.size a) ∧
  (∀ a x, ((![v54, v384] : Fin 2 → IVec S16 32) a x).toNat < S128x128.size a) ∧
  (∀ a x, ((![v56, v384] : Fin 2 → IVec S16 32) a x).toNat < S128x128.size a) ∧
  (∀ a x, ((![v58, v384] : Fin 2 → IVec S16 32) a x).toNat < S128x128.size a)
theorem k0_idx71_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v40, v384] : Fin 2 → IVec S16 32) a x).toNat < S256x128.size a := fun v40 v42 v44 v46 v48 v50 v52 v54 v56 v58 v384 k0_hw8 => k0_hw8.1
theorem k0_idx72_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v44, v384] : Fin 2 → IVec S16 32) a x).toNat < S128x128.size a := fun v40 v42 v44 v46 v48 v50 v52 v54 v56 v58 v384 k0_hw8 => k0_hw8.2.1
theorem k0_idx73_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v46, v384] : Fin 2 → IVec S16 32) a x).toNat < S128x128.size a := fun v40 v42 v44 v46 v48 v50 v52 v54 v56 v58 v384 k0_hw8 => k0_hw8.2.2.1
theorem k0_idx74_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v48, v384] : Fin 2 → IVec S16 32) a x).toNat < S128x128.size a := fun v40 v42 v44 v46 v48 v50 v52 v54 v56 v58 v384 k0_hw8 => k0_hw8.2.2.2.1
theorem k0_idx75_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v50, v384] : Fin 2 → IVec S16 32) a x).toNat < S128x128.size a := fun v40 v42 v44 v46 v48 v50 v52 v54 v56 v58 v384 k0_hw8 => k0_hw8.2.2.2.2.1
theorem k0_idx76_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v42, v384] : Fin 2 → IVec S16 32) a x).toNat < S256x128.size a := fun v40 v42 v44 v46 v48 v50 v52 v54 v56 v58 v384 k0_hw8 => k0_hw8.2.2.2.2.2.1
theorem k0_idx77_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v52, v384] : Fin 2 → IVec S16 32) a x).toNat < S128x128.size a := fun v40 v42 v44 v46 v48 v50 v52 v54 v56 v58 v384 k0_hw8 => k0_hw8.2.2.2.2.2.2.1
theorem k0_idx78_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v54, v384] : Fin 2 → IVec S16 32) a x).toNat < S128x128.size a := fun v40 v42 v44 v46 v48 v50 v52 v54 v56 v58 v384 k0_hw8 => k0_hw8.2.2.2.2.2.2.2.1
theorem k0_idx79_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v56, v384] : Fin 2 → IVec S16 32) a x).toNat < S128x128.size a := fun v40 v42 v44 v46 v48 v50 v52 v54 v56 v58 v384 k0_hw8 => k0_hw8.2.2.2.2.2.2.2.2.1
theorem k0_idx80_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v384 : IVec S16 32) (k0_hw8 : k0_chk8 v40 v42 v44 v46 v48 v50 v52 v54 v56 v58 v384), ∀ a x, ((![v58, v384] : Fin 2 → IVec S16 32) a x).toNat < S128x128.size a := fun v40 v42 v44 v46 v48 v50 v52 v54 v56 v58 v384 k0_hw8 => k0_hw8.2.2.2.2.2.2.2.2.2

def k0_chk9 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) : Prop :=
  (∀ a x, ((![v40, v416] : Fin 2 → IVec S16 32) a x).toNat < S256x128.size a) ∧
  (∀ a x, ((![v44, v416] : Fin 2 → IVec S16 32) a x).toNat < S128x128.size a) ∧
  (∀ a x, ((![v46, v416] : Fin 2 → IVec S16 32) a x).toNat < S128x128.size a) ∧
  (∀ a x, ((![v48, v416] : Fin 2 → IVec S16 32) a x).toNat < S128x128.size a) ∧
  (∀ a x, ((![v50, v416] : Fin 2 → IVec S16 32) a x).toNat < S128x128.size a) ∧
  (∀ a x, ((![v42, v416] : Fin 2 → IVec S16 32) a x).toNat < S256x128.size a) ∧
  (∀ a x, ((![v52, v416] : Fin 2 → IVec S16 32) a x).toNat < S128x128.size a) ∧
  (∀ a x, ((![v54, v416] : Fin 2 → IVec S16 32) a x).toNat < S128x128.size a) ∧
  (∀ a x, ((![v56, v416] : Fin 2 → IVec S16 32) a x).toNat < S128x128.size a) ∧
  (∀ a x, ((![v58, v416] : Fin 2 → IVec S16 32) a x).toNat < S128x128.size a)
theorem k0_idx81_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v40, v416] : Fin 2 → IVec S16 32) a x).toNat < S256x128.size a := fun v40 v42 v44 v46 v48 v50 v52 v54 v56 v58 v416 k0_hw9 => k0_hw9.1
theorem k0_idx82_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v44, v416] : Fin 2 → IVec S16 32) a x).toNat < S128x128.size a := fun v40 v42 v44 v46 v48 v50 v52 v54 v56 v58 v416 k0_hw9 => k0_hw9.2.1
theorem k0_idx83_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v46, v416] : Fin 2 → IVec S16 32) a x).toNat < S128x128.size a := fun v40 v42 v44 v46 v48 v50 v52 v54 v56 v58 v416 k0_hw9 => k0_hw9.2.2.1
theorem k0_idx84_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v48, v416] : Fin 2 → IVec S16 32) a x).toNat < S128x128.size a := fun v40 v42 v44 v46 v48 v50 v52 v54 v56 v58 v416 k0_hw9 => k0_hw9.2.2.2.1
theorem k0_idx85_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v50, v416] : Fin 2 → IVec S16 32) a x).toNat < S128x128.size a := fun v40 v42 v44 v46 v48 v50 v52 v54 v56 v58 v416 k0_hw9 => k0_hw9.2.2.2.2.1
theorem k0_idx86_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v42, v416] : Fin 2 → IVec S16 32) a x).toNat < S256x128.size a := fun v40 v42 v44 v46 v48 v50 v52 v54 v56 v58 v416 k0_hw9 => k0_hw9.2.2.2.2.2.1
theorem k0_idx87_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v52, v416] : Fin 2 → IVec S16 32) a x).toNat < S128x128.size a := fun v40 v42 v44 v46 v48 v50 v52 v54 v56 v58 v416 k0_hw9 => k0_hw9.2.2.2.2.2.2.1
theorem k0_idx88_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v54, v416] : Fin 2 → IVec S16 32) a x).toNat < S128x128.size a := fun v40 v42 v44 v46 v48 v50 v52 v54 v56 v58 v416 k0_hw9 => k0_hw9.2.2.2.2.2.2.2.1
theorem k0_idx89_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v56, v416] : Fin 2 → IVec S16 32) a x).toNat < S128x128.size a := fun v40 v42 v44 v46 v48 v50 v52 v54 v56 v58 v416 k0_hw9 => k0_hw9.2.2.2.2.2.2.2.2.1
theorem k0_idx90_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v416 : IVec S16 32) (k0_hw9 : k0_chk9 v40 v42 v44 v46 v48 v50 v52 v54 v56 v58 v416), ∀ a x, ((![v58, v416] : Fin 2 → IVec S16 32) a x).toNat < S128x128.size a := fun v40 v42 v44 v46 v48 v50 v52 v54 v56 v58 v416 k0_hw9 => k0_hw9.2.2.2.2.2.2.2.2.2

def k0_chk10 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) : Prop :=
  (∀ a x, ((![v40, v448] : Fin 2 → IVec S16 32) a x).toNat < S256x128.size a) ∧
  (∀ a x, ((![v44, v448] : Fin 2 → IVec S16 32) a x).toNat < S128x128.size a) ∧
  (∀ a x, ((![v46, v448] : Fin 2 → IVec S16 32) a x).toNat < S128x128.size a) ∧
  (∀ a x, ((![v48, v448] : Fin 2 → IVec S16 32) a x).toNat < S128x128.size a) ∧
  (∀ a x, ((![v50, v448] : Fin 2 → IVec S16 32) a x).toNat < S128x128.size a) ∧
  (∀ a x, ((![v42, v448] : Fin 2 → IVec S16 32) a x).toNat < S256x128.size a) ∧
  (∀ a x, ((![v52, v448] : Fin 2 → IVec S16 32) a x).toNat < S128x128.size a) ∧
  (∀ a x, ((![v54, v448] : Fin 2 → IVec S16 32) a x).toNat < S128x128.size a) ∧
  (∀ a x, ((![v56, v448] : Fin 2 → IVec S16 32) a x).toNat < S128x128.size a) ∧
  (∀ a x, ((![v58, v448] : Fin 2 → IVec S16 32) a x).toNat < S128x128.size a)
theorem k0_idx91_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v40, v448] : Fin 2 → IVec S16 32) a x).toNat < S256x128.size a := fun v40 v42 v44 v46 v48 v50 v52 v54 v56 v58 v448 k0_hw10 => k0_hw10.1
theorem k0_idx92_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v44, v448] : Fin 2 → IVec S16 32) a x).toNat < S128x128.size a := fun v40 v42 v44 v46 v48 v50 v52 v54 v56 v58 v448 k0_hw10 => k0_hw10.2.1
theorem k0_idx93_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v46, v448] : Fin 2 → IVec S16 32) a x).toNat < S128x128.size a := fun v40 v42 v44 v46 v48 v50 v52 v54 v56 v58 v448 k0_hw10 => k0_hw10.2.2.1
theorem k0_idx94_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v48, v448] : Fin 2 → IVec S16 32) a x).toNat < S128x128.size a := fun v40 v42 v44 v46 v48 v50 v52 v54 v56 v58 v448 k0_hw10 => k0_hw10.2.2.2.1
theorem k0_idx95_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v50, v448] : Fin 2 → IVec S16 32) a x).toNat < S128x128.size a := fun v40 v42 v44 v46 v48 v50 v52 v54 v56 v58 v448 k0_hw10 => k0_hw10.2.2.2.2.1
theorem k0_idx96_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v42, v448] : Fin 2 → IVec S16 32) a x).toNat < S256x128.size a := fun v40 v42 v44 v46 v48 v50 v52 v54 v56 v58 v448 k0_hw10 => k0_hw10.2.2.2.2.2.1
theorem k0_idx97_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v52, v448] : Fin 2 → IVec S16 32) a x).toNat < S128x128.size a := fun v40 v42 v44 v46 v48 v50 v52 v54 v56 v58 v448 k0_hw10 => k0_hw10.2.2.2.2.2.2.1
theorem k0_idx98_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v54, v448] : Fin 2 → IVec S16 32) a x).toNat < S128x128.size a := fun v40 v42 v44 v46 v48 v50 v52 v54 v56 v58 v448 k0_hw10 => k0_hw10.2.2.2.2.2.2.2.1
theorem k0_idx99_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v56, v448] : Fin 2 → IVec S16 32) a x).toNat < S128x128.size a := fun v40 v42 v44 v46 v48 v50 v52 v54 v56 v58 v448 k0_hw10 => k0_hw10.2.2.2.2.2.2.2.2.1
theorem k0_idx100_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v448 : IVec S16 32) (k0_hw10 : k0_chk10 v40 v42 v44 v46 v48 v50 v52 v54 v56 v58 v448), ∀ a x, ((![v58, v448] : Fin 2 → IVec S16 32) a x).toNat < S128x128.size a := fun v40 v42 v44 v46 v48 v50 v52 v54 v56 v58 v448 k0_hw10 => k0_hw10.2.2.2.2.2.2.2.2.2

def k0_chk11 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) : Prop :=
  (∀ a x, ((![v40, v480] : Fin 2 → IVec S16 32) a x).toNat < S256x128.size a) ∧
  (∀ a x, ((![v44, v480] : Fin 2 → IVec S16 32) a x).toNat < S128x128.size a) ∧
  (∀ a x, ((![v46, v480] : Fin 2 → IVec S16 32) a x).toNat < S128x128.size a) ∧
  (∀ a x, ((![v48, v480] : Fin 2 → IVec S16 32) a x).toNat < S128x128.size a) ∧
  (∀ a x, ((![v50, v480] : Fin 2 → IVec S16 32) a x).toNat < S128x128.size a) ∧
  (∀ a x, ((![v42, v480] : Fin 2 → IVec S16 32) a x).toNat < S256x128.size a) ∧
  (∀ a x, ((![v52, v480] : Fin 2 → IVec S16 32) a x).toNat < S128x128.size a) ∧
  (∀ a x, ((![v54, v480] : Fin 2 → IVec S16 32) a x).toNat < S128x128.size a) ∧
  (∀ a x, ((![v56, v480] : Fin 2 → IVec S16 32) a x).toNat < S128x128.size a) ∧
  (∀ a x, ((![v58, v480] : Fin 2 → IVec S16 32) a x).toNat < S128x128.size a)
theorem k0_idx101_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v40, v480] : Fin 2 → IVec S16 32) a x).toNat < S256x128.size a := fun v40 v42 v44 v46 v48 v50 v52 v54 v56 v58 v480 k0_hw11 => k0_hw11.1
theorem k0_idx102_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v44, v480] : Fin 2 → IVec S16 32) a x).toNat < S128x128.size a := fun v40 v42 v44 v46 v48 v50 v52 v54 v56 v58 v480 k0_hw11 => k0_hw11.2.1
theorem k0_idx103_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v46, v480] : Fin 2 → IVec S16 32) a x).toNat < S128x128.size a := fun v40 v42 v44 v46 v48 v50 v52 v54 v56 v58 v480 k0_hw11 => k0_hw11.2.2.1
theorem k0_idx104_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v48, v480] : Fin 2 → IVec S16 32) a x).toNat < S128x128.size a := fun v40 v42 v44 v46 v48 v50 v52 v54 v56 v58 v480 k0_hw11 => k0_hw11.2.2.2.1
theorem k0_idx105_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v50, v480] : Fin 2 → IVec S16 32) a x).toNat < S128x128.size a := fun v40 v42 v44 v46 v48 v50 v52 v54 v56 v58 v480 k0_hw11 => k0_hw11.2.2.2.2.1
theorem k0_idx106_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v42, v480] : Fin 2 → IVec S16 32) a x).toNat < S256x128.size a := fun v40 v42 v44 v46 v48 v50 v52 v54 v56 v58 v480 k0_hw11 => k0_hw11.2.2.2.2.2.1
theorem k0_idx107_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v52, v480] : Fin 2 → IVec S16 32) a x).toNat < S128x128.size a := fun v40 v42 v44 v46 v48 v50 v52 v54 v56 v58 v480 k0_hw11 => k0_hw11.2.2.2.2.2.2.1
theorem k0_idx108_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v54, v480] : Fin 2 → IVec S16 32) a x).toNat < S128x128.size a := fun v40 v42 v44 v46 v48 v50 v52 v54 v56 v58 v480 k0_hw11 => k0_hw11.2.2.2.2.2.2.2.1
theorem k0_idx109_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v56, v480] : Fin 2 → IVec S16 32) a x).toNat < S128x128.size a := fun v40 v42 v44 v46 v48 v50 v52 v54 v56 v58 v480 k0_hw11 => k0_hw11.2.2.2.2.2.2.2.2.1
theorem k0_idx110_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v480 : IVec S16 32) (k0_hw11 : k0_chk11 v40 v42 v44 v46 v48 v50 v52 v54 v56 v58 v480), ∀ a x, ((![v58, v480] : Fin 2 → IVec S16 32) a x).toNat < S128x128.size a := fun v40 v42 v44 v46 v48 v50 v52 v54 v56 v58 v480 k0_hw11 => k0_hw11.2.2.2.2.2.2.2.2.2

def k0_chk12 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) : Prop :=
  (∀ a x, ((![v40, v512] : Fin 2 → IVec S16 32) a x).toNat < S256x128.size a) ∧
  (∀ a x, ((![v44, v512] : Fin 2 → IVec S16 32) a x).toNat < S128x128.size a) ∧
  (∀ a x, ((![v46, v512] : Fin 2 → IVec S16 32) a x).toNat < S128x128.size a) ∧
  (∀ a x, ((![v48, v512] : Fin 2 → IVec S16 32) a x).toNat < S128x128.size a) ∧
  (∀ a x, ((![v50, v512] : Fin 2 → IVec S16 32) a x).toNat < S128x128.size a) ∧
  (∀ a x, ((![v42, v512] : Fin 2 → IVec S16 32) a x).toNat < S256x128.size a) ∧
  (∀ a x, ((![v52, v512] : Fin 2 → IVec S16 32) a x).toNat < S128x128.size a) ∧
  (∀ a x, ((![v54, v512] : Fin 2 → IVec S16 32) a x).toNat < S128x128.size a) ∧
  (∀ a x, ((![v56, v512] : Fin 2 → IVec S16 32) a x).toNat < S128x128.size a) ∧
  (∀ a x, ((![v58, v512] : Fin 2 → IVec S16 32) a x).toNat < S128x128.size a)
theorem k0_idx111_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v40, v512] : Fin 2 → IVec S16 32) a x).toNat < S256x128.size a := fun v40 v42 v44 v46 v48 v50 v52 v54 v56 v58 v512 k0_hw12 => k0_hw12.1
theorem k0_idx112_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v44, v512] : Fin 2 → IVec S16 32) a x).toNat < S128x128.size a := fun v40 v42 v44 v46 v48 v50 v52 v54 v56 v58 v512 k0_hw12 => k0_hw12.2.1
theorem k0_idx113_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v46, v512] : Fin 2 → IVec S16 32) a x).toNat < S128x128.size a := fun v40 v42 v44 v46 v48 v50 v52 v54 v56 v58 v512 k0_hw12 => k0_hw12.2.2.1
theorem k0_idx114_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v48, v512] : Fin 2 → IVec S16 32) a x).toNat < S128x128.size a := fun v40 v42 v44 v46 v48 v50 v52 v54 v56 v58 v512 k0_hw12 => k0_hw12.2.2.2.1
theorem k0_idx115_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v50, v512] : Fin 2 → IVec S16 32) a x).toNat < S128x128.size a := fun v40 v42 v44 v46 v48 v50 v52 v54 v56 v58 v512 k0_hw12 => k0_hw12.2.2.2.2.1
theorem k0_idx116_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v42, v512] : Fin 2 → IVec S16 32) a x).toNat < S256x128.size a := fun v40 v42 v44 v46 v48 v50 v52 v54 v56 v58 v512 k0_hw12 => k0_hw12.2.2.2.2.2.1
theorem k0_idx117_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v52, v512] : Fin 2 → IVec S16 32) a x).toNat < S128x128.size a := fun v40 v42 v44 v46 v48 v50 v52 v54 v56 v58 v512 k0_hw12 => k0_hw12.2.2.2.2.2.2.1
theorem k0_idx118_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v54, v512] : Fin 2 → IVec S16 32) a x).toNat < S128x128.size a := fun v40 v42 v44 v46 v48 v50 v52 v54 v56 v58 v512 k0_hw12 => k0_hw12.2.2.2.2.2.2.2.1
theorem k0_idx119_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v56, v512] : Fin 2 → IVec S16 32) a x).toNat < S128x128.size a := fun v40 v42 v44 v46 v48 v50 v52 v54 v56 v58 v512 k0_hw12 => k0_hw12.2.2.2.2.2.2.2.2.1
theorem k0_idx120_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v512 : IVec S16 32) (k0_hw12 : k0_chk12 v40 v42 v44 v46 v48 v50 v52 v54 v56 v58 v512), ∀ a x, ((![v58, v512] : Fin 2 → IVec S16 32) a x).toNat < S128x128.size a := fun v40 v42 v44 v46 v48 v50 v52 v54 v56 v58 v512 k0_hw12 => k0_hw12.2.2.2.2.2.2.2.2.2

def k0_chk13 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) : Prop :=
  (∀ a x, ((![v40, v544] : Fin 2 → IVec S16 32) a x).toNat < S256x128.size a) ∧
  (∀ a x, ((![v44, v544] : Fin 2 → IVec S16 32) a x).toNat < S128x128.size a) ∧
  (∀ a x, ((![v46, v544] : Fin 2 → IVec S16 32) a x).toNat < S128x128.size a) ∧
  (∀ a x, ((![v48, v544] : Fin 2 → IVec S16 32) a x).toNat < S128x128.size a) ∧
  (∀ a x, ((![v50, v544] : Fin 2 → IVec S16 32) a x).toNat < S128x128.size a) ∧
  (∀ a x, ((![v42, v544] : Fin 2 → IVec S16 32) a x).toNat < S256x128.size a) ∧
  (∀ a x, ((![v52, v544] : Fin 2 → IVec S16 32) a x).toNat < S128x128.size a) ∧
  (∀ a x, ((![v54, v544] : Fin 2 → IVec S16 32) a x).toNat < S128x128.size a) ∧
  (∀ a x, ((![v56, v544] : Fin 2 → IVec S16 32) a x).toNat < S128x128.size a) ∧
  (∀ a x, ((![v58, v544] : Fin 2 → IVec S16 32) a x).toNat < S128x128.size a)
theorem k0_idx121_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v40, v544] : Fin 2 → IVec S16 32) a x).toNat < S256x128.size a := fun v40 v42 v44 v46 v48 v50 v52 v54 v56 v58 v544 k0_hw13 => k0_hw13.1
theorem k0_idx122_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v44, v544] : Fin 2 → IVec S16 32) a x).toNat < S128x128.size a := fun v40 v42 v44 v46 v48 v50 v52 v54 v56 v58 v544 k0_hw13 => k0_hw13.2.1
theorem k0_idx123_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v46, v544] : Fin 2 → IVec S16 32) a x).toNat < S128x128.size a := fun v40 v42 v44 v46 v48 v50 v52 v54 v56 v58 v544 k0_hw13 => k0_hw13.2.2.1
theorem k0_idx124_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v48, v544] : Fin 2 → IVec S16 32) a x).toNat < S128x128.size a := fun v40 v42 v44 v46 v48 v50 v52 v54 v56 v58 v544 k0_hw13 => k0_hw13.2.2.2.1
theorem k0_idx125_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v50, v544] : Fin 2 → IVec S16 32) a x).toNat < S128x128.size a := fun v40 v42 v44 v46 v48 v50 v52 v54 v56 v58 v544 k0_hw13 => k0_hw13.2.2.2.2.1
theorem k0_idx126_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v42, v544] : Fin 2 → IVec S16 32) a x).toNat < S256x128.size a := fun v40 v42 v44 v46 v48 v50 v52 v54 v56 v58 v544 k0_hw13 => k0_hw13.2.2.2.2.2.1
theorem k0_idx127_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v52, v544] : Fin 2 → IVec S16 32) a x).toNat < S128x128.size a := fun v40 v42 v44 v46 v48 v50 v52 v54 v56 v58 v544 k0_hw13 => k0_hw13.2.2.2.2.2.2.1
theorem k0_idx128_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v54, v544] : Fin 2 → IVec S16 32) a x).toNat < S128x128.size a := fun v40 v42 v44 v46 v48 v50 v52 v54 v56 v58 v544 k0_hw13 => k0_hw13.2.2.2.2.2.2.2.1
theorem k0_idx129_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v56, v544] : Fin 2 → IVec S16 32) a x).toNat < S128x128.size a := fun v40 v42 v44 v46 v48 v50 v52 v54 v56 v58 v544 k0_hw13 => k0_hw13.2.2.2.2.2.2.2.2.1
theorem k0_idx130_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v544 : IVec S16 32) (k0_hw13 : k0_chk13 v40 v42 v44 v46 v48 v50 v52 v54 v56 v58 v544), ∀ a x, ((![v58, v544] : Fin 2 → IVec S16 32) a x).toNat < S128x128.size a := fun v40 v42 v44 v46 v48 v50 v52 v54 v56 v58 v544 k0_hw13 => k0_hw13.2.2.2.2.2.2.2.2.2

def k0_chk14 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) : Prop :=
  (∀ a x, ((![v40, v576] : Fin 2 → IVec S16 32) a x).toNat < S256x128.size a) ∧
  (∀ a x, ((![v44, v576] : Fin 2 → IVec S16 32) a x).toNat < S128x128.size a) ∧
  (∀ a x, ((![v46, v576] : Fin 2 → IVec S16 32) a x).toNat < S128x128.size a) ∧
  (∀ a x, ((![v48, v576] : Fin 2 → IVec S16 32) a x).toNat < S128x128.size a) ∧
  (∀ a x, ((![v50, v576] : Fin 2 → IVec S16 32) a x).toNat < S128x128.size a) ∧
  (∀ a x, ((![v42, v576] : Fin 2 → IVec S16 32) a x).toNat < S256x128.size a) ∧
  (∀ a x, ((![v52, v576] : Fin 2 → IVec S16 32) a x).toNat < S128x128.size a) ∧
  (∀ a x, ((![v54, v576] : Fin 2 → IVec S16 32) a x).toNat < S128x128.size a) ∧
  (∀ a x, ((![v56, v576] : Fin 2 → IVec S16 32) a x).toNat < S128x128.size a) ∧
  (∀ a x, ((![v58, v576] : Fin 2 → IVec S16 32) a x).toNat < S128x128.size a)
theorem k0_idx131_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v40, v576] : Fin 2 → IVec S16 32) a x).toNat < S256x128.size a := fun v40 v42 v44 v46 v48 v50 v52 v54 v56 v58 v576 k0_hw14 => k0_hw14.1
theorem k0_idx132_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v44, v576] : Fin 2 → IVec S16 32) a x).toNat < S128x128.size a := fun v40 v42 v44 v46 v48 v50 v52 v54 v56 v58 v576 k0_hw14 => k0_hw14.2.1
theorem k0_idx133_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v46, v576] : Fin 2 → IVec S16 32) a x).toNat < S128x128.size a := fun v40 v42 v44 v46 v48 v50 v52 v54 v56 v58 v576 k0_hw14 => k0_hw14.2.2.1
theorem k0_idx134_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v48, v576] : Fin 2 → IVec S16 32) a x).toNat < S128x128.size a := fun v40 v42 v44 v46 v48 v50 v52 v54 v56 v58 v576 k0_hw14 => k0_hw14.2.2.2.1
theorem k0_idx135_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v50, v576] : Fin 2 → IVec S16 32) a x).toNat < S128x128.size a := fun v40 v42 v44 v46 v48 v50 v52 v54 v56 v58 v576 k0_hw14 => k0_hw14.2.2.2.2.1
theorem k0_idx136_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v42, v576] : Fin 2 → IVec S16 32) a x).toNat < S256x128.size a := fun v40 v42 v44 v46 v48 v50 v52 v54 v56 v58 v576 k0_hw14 => k0_hw14.2.2.2.2.2.1
theorem k0_idx137_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v52, v576] : Fin 2 → IVec S16 32) a x).toNat < S128x128.size a := fun v40 v42 v44 v46 v48 v50 v52 v54 v56 v58 v576 k0_hw14 => k0_hw14.2.2.2.2.2.2.1
theorem k0_idx138_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v54, v576] : Fin 2 → IVec S16 32) a x).toNat < S128x128.size a := fun v40 v42 v44 v46 v48 v50 v52 v54 v56 v58 v576 k0_hw14 => k0_hw14.2.2.2.2.2.2.2.1
theorem k0_idx139_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v56, v576] : Fin 2 → IVec S16 32) a x).toNat < S128x128.size a := fun v40 v42 v44 v46 v48 v50 v52 v54 v56 v58 v576 k0_hw14 => k0_hw14.2.2.2.2.2.2.2.2.1
theorem k0_idx140_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v576 : IVec S16 32) (k0_hw14 : k0_chk14 v40 v42 v44 v46 v48 v50 v52 v54 v56 v58 v576), ∀ a x, ((![v58, v576] : Fin 2 → IVec S16 32) a x).toNat < S128x128.size a := fun v40 v42 v44 v46 v48 v50 v52 v54 v56 v58 v576 k0_hw14 => k0_hw14.2.2.2.2.2.2.2.2.2

def k0_chk15 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) : Prop :=
  (∀ a x, ((![v40, v608] : Fin 2 → IVec S16 32) a x).toNat < S256x128.size a) ∧
  (∀ a x, ((![v44, v608] : Fin 2 → IVec S16 32) a x).toNat < S128x128.size a) ∧
  (∀ a x, ((![v46, v608] : Fin 2 → IVec S16 32) a x).toNat < S128x128.size a) ∧
  (∀ a x, ((![v48, v608] : Fin 2 → IVec S16 32) a x).toNat < S128x128.size a) ∧
  (∀ a x, ((![v50, v608] : Fin 2 → IVec S16 32) a x).toNat < S128x128.size a) ∧
  (∀ a x, ((![v42, v608] : Fin 2 → IVec S16 32) a x).toNat < S256x128.size a) ∧
  (∀ a x, ((![v52, v608] : Fin 2 → IVec S16 32) a x).toNat < S128x128.size a) ∧
  (∀ a x, ((![v54, v608] : Fin 2 → IVec S16 32) a x).toNat < S128x128.size a) ∧
  (∀ a x, ((![v56, v608] : Fin 2 → IVec S16 32) a x).toNat < S128x128.size a) ∧
  (∀ a x, ((![v58, v608] : Fin 2 → IVec S16 32) a x).toNat < S128x128.size a)
theorem k0_idx141_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v40, v608] : Fin 2 → IVec S16 32) a x).toNat < S256x128.size a := fun v40 v42 v44 v46 v48 v50 v52 v54 v56 v58 v608 k0_hw15 => k0_hw15.1
theorem k0_idx142_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v44, v608] : Fin 2 → IVec S16 32) a x).toNat < S128x128.size a := fun v40 v42 v44 v46 v48 v50 v52 v54 v56 v58 v608 k0_hw15 => k0_hw15.2.1
theorem k0_idx143_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v46, v608] : Fin 2 → IVec S16 32) a x).toNat < S128x128.size a := fun v40 v42 v44 v46 v48 v50 v52 v54 v56 v58 v608 k0_hw15 => k0_hw15.2.2.1
theorem k0_idx144_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v48, v608] : Fin 2 → IVec S16 32) a x).toNat < S128x128.size a := fun v40 v42 v44 v46 v48 v50 v52 v54 v56 v58 v608 k0_hw15 => k0_hw15.2.2.2.1
theorem k0_idx145_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v50, v608] : Fin 2 → IVec S16 32) a x).toNat < S128x128.size a := fun v40 v42 v44 v46 v48 v50 v52 v54 v56 v58 v608 k0_hw15 => k0_hw15.2.2.2.2.1
theorem k0_idx146_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v42, v608] : Fin 2 → IVec S16 32) a x).toNat < S256x128.size a := fun v40 v42 v44 v46 v48 v50 v52 v54 v56 v58 v608 k0_hw15 => k0_hw15.2.2.2.2.2.1
theorem k0_idx147_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v52, v608] : Fin 2 → IVec S16 32) a x).toNat < S128x128.size a := fun v40 v42 v44 v46 v48 v50 v52 v54 v56 v58 v608 k0_hw15 => k0_hw15.2.2.2.2.2.2.1
theorem k0_idx148_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v54, v608] : Fin 2 → IVec S16 32) a x).toNat < S128x128.size a := fun v40 v42 v44 v46 v48 v50 v52 v54 v56 v58 v608 k0_hw15 => k0_hw15.2.2.2.2.2.2.2.1
theorem k0_idx149_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v56, v608] : Fin 2 → IVec S16 32) a x).toNat < S128x128.size a := fun v40 v42 v44 v46 v48 v50 v52 v54 v56 v58 v608 k0_hw15 => k0_hw15.2.2.2.2.2.2.2.2.1
theorem k0_idx150_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v608 : IVec S16 32) (k0_hw15 : k0_chk15 v40 v42 v44 v46 v48 v50 v52 v54 v56 v58 v608), ∀ a x, ((![v58, v608] : Fin 2 → IVec S16 32) a x).toNat < S128x128.size a := fun v40 v42 v44 v46 v48 v50 v52 v54 v56 v58 v608 k0_hw15 => k0_hw15.2.2.2.2.2.2.2.2.2

def k0_chk16 (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) : Prop :=
  (∀ a x, ((![v40, v640] : Fin 2 → IVec S16 32) a x).toNat < S256x128.size a) ∧
  (∀ a x, ((![v44, v640] : Fin 2 → IVec S16 32) a x).toNat < S128x128.size a) ∧
  (∀ a x, ((![v46, v640] : Fin 2 → IVec S16 32) a x).toNat < S128x128.size a) ∧
  (∀ a x, ((![v48, v640] : Fin 2 → IVec S16 32) a x).toNat < S128x128.size a) ∧
  (∀ a x, ((![v50, v640] : Fin 2 → IVec S16 32) a x).toNat < S128x128.size a) ∧
  (∀ a x, ((![v42, v640] : Fin 2 → IVec S16 32) a x).toNat < S256x128.size a) ∧
  (∀ a x, ((![v52, v640] : Fin 2 → IVec S16 32) a x).toNat < S128x128.size a) ∧
  (∀ a x, ((![v54, v640] : Fin 2 → IVec S16 32) a x).toNat < S128x128.size a) ∧
  (∀ a x, ((![v56, v640] : Fin 2 → IVec S16 32) a x).toNat < S128x128.size a) ∧
  (∀ a x, ((![v58, v640] : Fin 2 → IVec S16 32) a x).toNat < S128x128.size a)
theorem k0_idx151_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v40, v640] : Fin 2 → IVec S16 32) a x).toNat < S256x128.size a := fun v40 v42 v44 v46 v48 v50 v52 v54 v56 v58 v640 k0_hw16 => k0_hw16.1
theorem k0_idx152_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v44, v640] : Fin 2 → IVec S16 32) a x).toNat < S128x128.size a := fun v40 v42 v44 v46 v48 v50 v52 v54 v56 v58 v640 k0_hw16 => k0_hw16.2.1
theorem k0_idx153_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v46, v640] : Fin 2 → IVec S16 32) a x).toNat < S128x128.size a := fun v40 v42 v44 v46 v48 v50 v52 v54 v56 v58 v640 k0_hw16 => k0_hw16.2.2.1
theorem k0_idx154_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v48, v640] : Fin 2 → IVec S16 32) a x).toNat < S128x128.size a := fun v40 v42 v44 v46 v48 v50 v52 v54 v56 v58 v640 k0_hw16 => k0_hw16.2.2.2.1
theorem k0_idx155_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v50, v640] : Fin 2 → IVec S16 32) a x).toNat < S128x128.size a := fun v40 v42 v44 v46 v48 v50 v52 v54 v56 v58 v640 k0_hw16 => k0_hw16.2.2.2.2.1
theorem k0_idx156_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v42, v640] : Fin 2 → IVec S16 32) a x).toNat < S256x128.size a := fun v40 v42 v44 v46 v48 v50 v52 v54 v56 v58 v640 k0_hw16 => k0_hw16.2.2.2.2.2.1
theorem k0_idx157_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v52, v640] : Fin 2 → IVec S16 32) a x).toNat < S128x128.size a := fun v40 v42 v44 v46 v48 v50 v52 v54 v56 v58 v640 k0_hw16 => k0_hw16.2.2.2.2.2.2.1
theorem k0_idx158_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v54, v640] : Fin 2 → IVec S16 32) a x).toNat < S128x128.size a := fun v40 v42 v44 v46 v48 v50 v52 v54 v56 v58 v640 k0_hw16 => k0_hw16.2.2.2.2.2.2.2.1
theorem k0_idx159_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v56, v640] : Fin 2 → IVec S16 32) a x).toNat < S128x128.size a := fun v40 v42 v44 v46 v48 v50 v52 v54 v56 v58 v640 k0_hw16 => k0_hw16.2.2.2.2.2.2.2.2.1
theorem k0_idx160_inb : ∀ (v40 : IVec S16 32) (v42 : IVec S16 32) (v44 : IVec S16 32) (v46 : IVec S16 32) (v48 : IVec S16 32) (v50 : IVec S16 32) (v52 : IVec S16 32) (v54 : IVec S16 32) (v56 : IVec S16 32) (v58 : IVec S16 32) (v640 : IVec S16 32) (k0_hw16 : k0_chk16 v40 v42 v44 v46 v48 v50 v52 v54 v56 v58 v640), ∀ a x, ((![v58, v640] : Fin 2 → IVec S16 32) a x).toNat < S128x128.size a := fun v40 v42 v44 v46 v48 v50 v52 v54 v56 v58 v640 k0_hw16 => k0_hw16.2.2.2.2.2.2.2.2.2
def k0_off4 (k0_t1 : Fin k0_t1_loop.trips) (c0_i32_74 : BitVec 32) : Fin 2 → Nat :=
  let c2_i32_54 : BitVec 32 := 2#32
  let c0_i32_11 : BitVec 32 := 0#32
  let c1_i32 : BitVec 32 := 1#32
  let arg21 : BitVec 32 := Scf.iv c0_i32_11 c1_i32 k0_t1
  let v34 : BitVec 32 := Scalar.muli c2_i32_54 arg21
  let c0_i32_55 : BitVec 32 := 0#32
  let v35 : BitVec 32 := Scalar.addi v34 c0_i32_55
  let c2_i32_59 : BitVec 32 := 2#32
  let v38 : BitVec 32 := Scalar.muli v35 c2_i32_59
  let v69 : BitVec 32 := Scalar.addi v38 c0_i32_74
  let c63_i32 : BitVec 32 := 63#32
  let v70 : BitVec 32 := Scalar.andi v69 c63_i32
  let v71 : Index := Scalar.indexCast v70
  let c0 : Index := 0#32
  ![v71.toNat, 0]
def k0_off5 (k0_t1 : Fin k0_t1_loop.trips) (c0_i32_74 : BitVec 32) : Fin 2 → Nat :=
  let c2_i32_54 : BitVec 32 := 2#32
  let c0_i32_11 : BitVec 32 := 0#32
  let c1_i32 : BitVec 32 := 1#32
  let arg21 : BitVec 32 := Scf.iv c0_i32_11 c1_i32 k0_t1
  let v34 : BitVec 32 := Scalar.muli c2_i32_54 arg21
  let c0_i32_55 : BitVec 32 := 0#32
  let v35 : BitVec 32 := Scalar.addi v34 c0_i32_55
  let c2_i32_59 : BitVec 32 := 2#32
  let v38 : BitVec 32 := Scalar.muli v35 c2_i32_59
  let v69 : BitVec 32 := Scalar.addi v38 c0_i32_74
  let c63_i32 : BitVec 32 := 63#32
  let v70 : BitVec 32 := Scalar.andi v69 c63_i32
  let v73 : Index := Scalar.indexCast v70
  let c16 : Index := 16#32
  ![v73.toNat, 16]
def k0_off6 (k0_t1 : Fin k0_t1_loop.trips) (c0_i32_74 : BitVec 32) : Fin 2 → Nat :=
  let c2_i32_54 : BitVec 32 := 2#32
  let c0_i32_11 : BitVec 32 := 0#32
  let c1_i32 : BitVec 32 := 1#32
  let arg21 : BitVec 32 := Scf.iv c0_i32_11 c1_i32 k0_t1
  let v34 : BitVec 32 := Scalar.muli c2_i32_54 arg21
  let c0_i32_55 : BitVec 32 := 0#32
  let v35 : BitVec 32 := Scalar.addi v34 c0_i32_55
  let c2_i32_59 : BitVec 32 := 2#32
  let v38 : BitVec 32 := Scalar.muli v35 c2_i32_59
  let v69 : BitVec 32 := Scalar.addi v38 c0_i32_74
  let c63_i32 : BitVec 32 := 63#32
  let v70 : BitVec 32 := Scalar.andi v69 c63_i32
  let v75 : Index := Scalar.indexCast v70
  let c32 : Index := 32#32
  ![v75.toNat, 32]
def k0_off7 (k0_t1 : Fin k0_t1_loop.trips) (c0_i32_74 : BitVec 32) : Fin 2 → Nat :=
  let c2_i32_54 : BitVec 32 := 2#32
  let c0_i32_11 : BitVec 32 := 0#32
  let c1_i32 : BitVec 32 := 1#32
  let arg21 : BitVec 32 := Scf.iv c0_i32_11 c1_i32 k0_t1
  let v34 : BitVec 32 := Scalar.muli c2_i32_54 arg21
  let c0_i32_55 : BitVec 32 := 0#32
  let v35 : BitVec 32 := Scalar.addi v34 c0_i32_55
  let c2_i32_59 : BitVec 32 := 2#32
  let v38 : BitVec 32 := Scalar.muli v35 c2_i32_59
  let v69 : BitVec 32 := Scalar.addi v38 c0_i32_74
  let c63_i32 : BitVec 32 := 63#32
  let v70 : BitVec 32 := Scalar.andi v69 c63_i32
  let v77 : Index := Scalar.indexCast v70
  let c48 : Index := 48#32
  ![v77.toNat, 48]
def k0_cond1 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c63_i32_81 : BitVec 32 := 63#32
  let v89 : BitVec 1 := Scalar.cmpi .slt arg21 c63_i32_81
  let v90 : BitVec 32 := Scalar.extui v89
  let c0_i32_82 : BitVec 32 := 0#32
  let v91 : BitVec 1 := Scalar.cmpi .ne v90 c0_i32_82
  v91

def k0_off8 (k0_t1 : Fin k0_t1_loop.trips) : Fin 1 → Nat :=
  let c2_i32_54 : BitVec 32 := 2#32
  let c0_i32_11 : BitVec 32 := 0#32
  let c1_i32 : BitVec 32 := 1#32
  let arg21 : BitVec 32 := Scf.iv c0_i32_11 c1_i32 k0_t1
  let v34 : BitVec 32 := Scalar.muli c2_i32_54 arg21
  let c0_i32_55 : BitVec 32 := 0#32
  let v35 : BitVec 32 := Scalar.addi v34 c0_i32_55
  let c2_i32_127 : BitVec 32 := 2#32
  let v154 : BitVec 32 := Scalar.addi v35 c2_i32_127
  let c128_i32_128 : BitVec 32 := 128#32
  let v155 : BitVec 32 := Scalar.muli v154 c128_i32_128
  ![v155.toNat]
@[reducible] def k0_t3_loop : Scf.Loop 32 :=
  let c0_i32_107 : BitVec 32 := 0#32
  let c8_i32_108 : BitVec 32 := 8#32
  let v125 : BitVec 32 := Scalar.addi c0_i32_107 c8_i32_108
  let c1_i32_109 : BitVec 32 := 1#32
  ⟨c0_i32_107, v125, c1_i32_109⟩

def k0_chk17 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) : Prop :=
  (∀ a x, ((![v98, v160] : Fin 2 → IVec S16 32) a x).toNat < S256x128.size a) ∧
  (∀ a x, ((![v102, v160] : Fin 2 → IVec S16 32) a x).toNat < S128x128.size a) ∧
  (∀ a x, ((![v104, v160] : Fin 2 → IVec S16 32) a x).toNat < S128x128.size a) ∧
  (∀ a x, ((![v106, v160] : Fin 2 → IVec S16 32) a x).toNat < S128x128.size a) ∧
  (∀ a x, ((![v108, v160] : Fin 2 → IVec S16 32) a x).toNat < S128x128.size a) ∧
  (∀ a x, ((![v100, v160] : Fin 2 → IVec S16 32) a x).toNat < S256x128.size a) ∧
  (∀ a x, ((![v110, v160] : Fin 2 → IVec S16 32) a x).toNat < S128x128.size a) ∧
  (∀ a x, ((![v112, v160] : Fin 2 → IVec S16 32) a x).toNat < S128x128.size a) ∧
  (∀ a x, ((![v114, v160] : Fin 2 → IVec S16 32) a x).toNat < S128x128.size a) ∧
  (∀ a x, ((![v116, v160] : Fin 2 → IVec S16 32) a x).toNat < S128x128.size a)
theorem k0_idx161_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v98, v160] : Fin 2 → IVec S16 32) a x).toNat < S256x128.size a := fun v98 v100 v102 v104 v106 v108 v110 v112 v114 v116 v160 k0_hw17 => k0_hw17.1
theorem k0_idx162_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v102, v160] : Fin 2 → IVec S16 32) a x).toNat < S128x128.size a := fun v98 v100 v102 v104 v106 v108 v110 v112 v114 v116 v160 k0_hw17 => k0_hw17.2.1
theorem k0_idx163_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v104, v160] : Fin 2 → IVec S16 32) a x).toNat < S128x128.size a := fun v98 v100 v102 v104 v106 v108 v110 v112 v114 v116 v160 k0_hw17 => k0_hw17.2.2.1
theorem k0_idx164_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v106, v160] : Fin 2 → IVec S16 32) a x).toNat < S128x128.size a := fun v98 v100 v102 v104 v106 v108 v110 v112 v114 v116 v160 k0_hw17 => k0_hw17.2.2.2.1
theorem k0_idx165_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v108, v160] : Fin 2 → IVec S16 32) a x).toNat < S128x128.size a := fun v98 v100 v102 v104 v106 v108 v110 v112 v114 v116 v160 k0_hw17 => k0_hw17.2.2.2.2.1
theorem k0_idx166_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v100, v160] : Fin 2 → IVec S16 32) a x).toNat < S256x128.size a := fun v98 v100 v102 v104 v106 v108 v110 v112 v114 v116 v160 k0_hw17 => k0_hw17.2.2.2.2.2.1
theorem k0_idx167_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v110, v160] : Fin 2 → IVec S16 32) a x).toNat < S128x128.size a := fun v98 v100 v102 v104 v106 v108 v110 v112 v114 v116 v160 k0_hw17 => k0_hw17.2.2.2.2.2.2.1
theorem k0_idx168_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v112, v160] : Fin 2 → IVec S16 32) a x).toNat < S128x128.size a := fun v98 v100 v102 v104 v106 v108 v110 v112 v114 v116 v160 k0_hw17 => k0_hw17.2.2.2.2.2.2.2.1
theorem k0_idx169_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v114, v160] : Fin 2 → IVec S16 32) a x).toNat < S128x128.size a := fun v98 v100 v102 v104 v106 v108 v110 v112 v114 v116 v160 k0_hw17 => k0_hw17.2.2.2.2.2.2.2.2.1
theorem k0_idx170_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v160 : IVec S16 32) (k0_hw17 : k0_chk17 v98 v100 v102 v104 v106 v108 v110 v112 v114 v116 v160), ∀ a x, ((![v116, v160] : Fin 2 → IVec S16 32) a x).toNat < S128x128.size a := fun v98 v100 v102 v104 v106 v108 v110 v112 v114 v116 v160 k0_hw17 => k0_hw17.2.2.2.2.2.2.2.2.2

def k0_chk18 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) : Prop :=
  (∀ a x, ((![v98, v192] : Fin 2 → IVec S16 32) a x).toNat < S256x128.size a) ∧
  (∀ a x, ((![v102, v192] : Fin 2 → IVec S16 32) a x).toNat < S128x128.size a) ∧
  (∀ a x, ((![v104, v192] : Fin 2 → IVec S16 32) a x).toNat < S128x128.size a) ∧
  (∀ a x, ((![v106, v192] : Fin 2 → IVec S16 32) a x).toNat < S128x128.size a) ∧
  (∀ a x, ((![v108, v192] : Fin 2 → IVec S16 32) a x).toNat < S128x128.size a) ∧
  (∀ a x, ((![v100, v192] : Fin 2 → IVec S16 32) a x).toNat < S256x128.size a) ∧
  (∀ a x, ((![v110, v192] : Fin 2 → IVec S16 32) a x).toNat < S128x128.size a) ∧
  (∀ a x, ((![v112, v192] : Fin 2 → IVec S16 32) a x).toNat < S128x128.size a) ∧
  (∀ a x, ((![v114, v192] : Fin 2 → IVec S16 32) a x).toNat < S128x128.size a) ∧
  (∀ a x, ((![v116, v192] : Fin 2 → IVec S16 32) a x).toNat < S128x128.size a)
theorem k0_idx171_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v98, v192] : Fin 2 → IVec S16 32) a x).toNat < S256x128.size a := fun v98 v100 v102 v104 v106 v108 v110 v112 v114 v116 v192 k0_hw18 => k0_hw18.1
theorem k0_idx172_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v102, v192] : Fin 2 → IVec S16 32) a x).toNat < S128x128.size a := fun v98 v100 v102 v104 v106 v108 v110 v112 v114 v116 v192 k0_hw18 => k0_hw18.2.1
theorem k0_idx173_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v104, v192] : Fin 2 → IVec S16 32) a x).toNat < S128x128.size a := fun v98 v100 v102 v104 v106 v108 v110 v112 v114 v116 v192 k0_hw18 => k0_hw18.2.2.1
theorem k0_idx174_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v106, v192] : Fin 2 → IVec S16 32) a x).toNat < S128x128.size a := fun v98 v100 v102 v104 v106 v108 v110 v112 v114 v116 v192 k0_hw18 => k0_hw18.2.2.2.1
theorem k0_idx175_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v108, v192] : Fin 2 → IVec S16 32) a x).toNat < S128x128.size a := fun v98 v100 v102 v104 v106 v108 v110 v112 v114 v116 v192 k0_hw18 => k0_hw18.2.2.2.2.1
theorem k0_idx176_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v100, v192] : Fin 2 → IVec S16 32) a x).toNat < S256x128.size a := fun v98 v100 v102 v104 v106 v108 v110 v112 v114 v116 v192 k0_hw18 => k0_hw18.2.2.2.2.2.1
theorem k0_idx177_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v110, v192] : Fin 2 → IVec S16 32) a x).toNat < S128x128.size a := fun v98 v100 v102 v104 v106 v108 v110 v112 v114 v116 v192 k0_hw18 => k0_hw18.2.2.2.2.2.2.1
theorem k0_idx178_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v112, v192] : Fin 2 → IVec S16 32) a x).toNat < S128x128.size a := fun v98 v100 v102 v104 v106 v108 v110 v112 v114 v116 v192 k0_hw18 => k0_hw18.2.2.2.2.2.2.2.1
theorem k0_idx179_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v114, v192] : Fin 2 → IVec S16 32) a x).toNat < S128x128.size a := fun v98 v100 v102 v104 v106 v108 v110 v112 v114 v116 v192 k0_hw18 => k0_hw18.2.2.2.2.2.2.2.2.1
theorem k0_idx180_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v192 : IVec S16 32) (k0_hw18 : k0_chk18 v98 v100 v102 v104 v106 v108 v110 v112 v114 v116 v192), ∀ a x, ((![v116, v192] : Fin 2 → IVec S16 32) a x).toNat < S128x128.size a := fun v98 v100 v102 v104 v106 v108 v110 v112 v114 v116 v192 k0_hw18 => k0_hw18.2.2.2.2.2.2.2.2.2

def k0_chk19 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) : Prop :=
  (∀ a x, ((![v98, v224] : Fin 2 → IVec S16 32) a x).toNat < S256x128.size a) ∧
  (∀ a x, ((![v102, v224] : Fin 2 → IVec S16 32) a x).toNat < S128x128.size a) ∧
  (∀ a x, ((![v104, v224] : Fin 2 → IVec S16 32) a x).toNat < S128x128.size a) ∧
  (∀ a x, ((![v106, v224] : Fin 2 → IVec S16 32) a x).toNat < S128x128.size a) ∧
  (∀ a x, ((![v108, v224] : Fin 2 → IVec S16 32) a x).toNat < S128x128.size a) ∧
  (∀ a x, ((![v100, v224] : Fin 2 → IVec S16 32) a x).toNat < S256x128.size a) ∧
  (∀ a x, ((![v110, v224] : Fin 2 → IVec S16 32) a x).toNat < S128x128.size a) ∧
  (∀ a x, ((![v112, v224] : Fin 2 → IVec S16 32) a x).toNat < S128x128.size a) ∧
  (∀ a x, ((![v114, v224] : Fin 2 → IVec S16 32) a x).toNat < S128x128.size a) ∧
  (∀ a x, ((![v116, v224] : Fin 2 → IVec S16 32) a x).toNat < S128x128.size a)
theorem k0_idx181_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v98, v224] : Fin 2 → IVec S16 32) a x).toNat < S256x128.size a := fun v98 v100 v102 v104 v106 v108 v110 v112 v114 v116 v224 k0_hw19 => k0_hw19.1
theorem k0_idx182_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v102, v224] : Fin 2 → IVec S16 32) a x).toNat < S128x128.size a := fun v98 v100 v102 v104 v106 v108 v110 v112 v114 v116 v224 k0_hw19 => k0_hw19.2.1
theorem k0_idx183_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v104, v224] : Fin 2 → IVec S16 32) a x).toNat < S128x128.size a := fun v98 v100 v102 v104 v106 v108 v110 v112 v114 v116 v224 k0_hw19 => k0_hw19.2.2.1
theorem k0_idx184_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v106, v224] : Fin 2 → IVec S16 32) a x).toNat < S128x128.size a := fun v98 v100 v102 v104 v106 v108 v110 v112 v114 v116 v224 k0_hw19 => k0_hw19.2.2.2.1
theorem k0_idx185_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v108, v224] : Fin 2 → IVec S16 32) a x).toNat < S128x128.size a := fun v98 v100 v102 v104 v106 v108 v110 v112 v114 v116 v224 k0_hw19 => k0_hw19.2.2.2.2.1
theorem k0_idx186_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v100, v224] : Fin 2 → IVec S16 32) a x).toNat < S256x128.size a := fun v98 v100 v102 v104 v106 v108 v110 v112 v114 v116 v224 k0_hw19 => k0_hw19.2.2.2.2.2.1
theorem k0_idx187_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v110, v224] : Fin 2 → IVec S16 32) a x).toNat < S128x128.size a := fun v98 v100 v102 v104 v106 v108 v110 v112 v114 v116 v224 k0_hw19 => k0_hw19.2.2.2.2.2.2.1
theorem k0_idx188_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v112, v224] : Fin 2 → IVec S16 32) a x).toNat < S128x128.size a := fun v98 v100 v102 v104 v106 v108 v110 v112 v114 v116 v224 k0_hw19 => k0_hw19.2.2.2.2.2.2.2.1
theorem k0_idx189_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v114, v224] : Fin 2 → IVec S16 32) a x).toNat < S128x128.size a := fun v98 v100 v102 v104 v106 v108 v110 v112 v114 v116 v224 k0_hw19 => k0_hw19.2.2.2.2.2.2.2.2.1
theorem k0_idx190_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v224 : IVec S16 32) (k0_hw19 : k0_chk19 v98 v100 v102 v104 v106 v108 v110 v112 v114 v116 v224), ∀ a x, ((![v116, v224] : Fin 2 → IVec S16 32) a x).toNat < S128x128.size a := fun v98 v100 v102 v104 v106 v108 v110 v112 v114 v116 v224 k0_hw19 => k0_hw19.2.2.2.2.2.2.2.2.2

def k0_chk20 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) : Prop :=
  (∀ a x, ((![v98, v256] : Fin 2 → IVec S16 32) a x).toNat < S256x128.size a) ∧
  (∀ a x, ((![v102, v256] : Fin 2 → IVec S16 32) a x).toNat < S128x128.size a) ∧
  (∀ a x, ((![v104, v256] : Fin 2 → IVec S16 32) a x).toNat < S128x128.size a) ∧
  (∀ a x, ((![v106, v256] : Fin 2 → IVec S16 32) a x).toNat < S128x128.size a) ∧
  (∀ a x, ((![v108, v256] : Fin 2 → IVec S16 32) a x).toNat < S128x128.size a) ∧
  (∀ a x, ((![v100, v256] : Fin 2 → IVec S16 32) a x).toNat < S256x128.size a) ∧
  (∀ a x, ((![v110, v256] : Fin 2 → IVec S16 32) a x).toNat < S128x128.size a) ∧
  (∀ a x, ((![v112, v256] : Fin 2 → IVec S16 32) a x).toNat < S128x128.size a) ∧
  (∀ a x, ((![v114, v256] : Fin 2 → IVec S16 32) a x).toNat < S128x128.size a) ∧
  (∀ a x, ((![v116, v256] : Fin 2 → IVec S16 32) a x).toNat < S128x128.size a)
theorem k0_idx191_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v98, v256] : Fin 2 → IVec S16 32) a x).toNat < S256x128.size a := fun v98 v100 v102 v104 v106 v108 v110 v112 v114 v116 v256 k0_hw20 => k0_hw20.1
theorem k0_idx192_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v102, v256] : Fin 2 → IVec S16 32) a x).toNat < S128x128.size a := fun v98 v100 v102 v104 v106 v108 v110 v112 v114 v116 v256 k0_hw20 => k0_hw20.2.1
theorem k0_idx193_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v104, v256] : Fin 2 → IVec S16 32) a x).toNat < S128x128.size a := fun v98 v100 v102 v104 v106 v108 v110 v112 v114 v116 v256 k0_hw20 => k0_hw20.2.2.1
theorem k0_idx194_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v106, v256] : Fin 2 → IVec S16 32) a x).toNat < S128x128.size a := fun v98 v100 v102 v104 v106 v108 v110 v112 v114 v116 v256 k0_hw20 => k0_hw20.2.2.2.1
theorem k0_idx195_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v108, v256] : Fin 2 → IVec S16 32) a x).toNat < S128x128.size a := fun v98 v100 v102 v104 v106 v108 v110 v112 v114 v116 v256 k0_hw20 => k0_hw20.2.2.2.2.1
theorem k0_idx196_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v100, v256] : Fin 2 → IVec S16 32) a x).toNat < S256x128.size a := fun v98 v100 v102 v104 v106 v108 v110 v112 v114 v116 v256 k0_hw20 => k0_hw20.2.2.2.2.2.1
theorem k0_idx197_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v110, v256] : Fin 2 → IVec S16 32) a x).toNat < S128x128.size a := fun v98 v100 v102 v104 v106 v108 v110 v112 v114 v116 v256 k0_hw20 => k0_hw20.2.2.2.2.2.2.1
theorem k0_idx198_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v112, v256] : Fin 2 → IVec S16 32) a x).toNat < S128x128.size a := fun v98 v100 v102 v104 v106 v108 v110 v112 v114 v116 v256 k0_hw20 => k0_hw20.2.2.2.2.2.2.2.1
theorem k0_idx199_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v114, v256] : Fin 2 → IVec S16 32) a x).toNat < S128x128.size a := fun v98 v100 v102 v104 v106 v108 v110 v112 v114 v116 v256 k0_hw20 => k0_hw20.2.2.2.2.2.2.2.2.1
theorem k0_idx200_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v256 : IVec S16 32) (k0_hw20 : k0_chk20 v98 v100 v102 v104 v106 v108 v110 v112 v114 v116 v256), ∀ a x, ((![v116, v256] : Fin 2 → IVec S16 32) a x).toNat < S128x128.size a := fun v98 v100 v102 v104 v106 v108 v110 v112 v114 v116 v256 k0_hw20 => k0_hw20.2.2.2.2.2.2.2.2.2

def k0_chk21 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) : Prop :=
  (∀ a x, ((![v98, v288] : Fin 2 → IVec S16 32) a x).toNat < S256x128.size a) ∧
  (∀ a x, ((![v102, v288] : Fin 2 → IVec S16 32) a x).toNat < S128x128.size a) ∧
  (∀ a x, ((![v104, v288] : Fin 2 → IVec S16 32) a x).toNat < S128x128.size a) ∧
  (∀ a x, ((![v106, v288] : Fin 2 → IVec S16 32) a x).toNat < S128x128.size a) ∧
  (∀ a x, ((![v108, v288] : Fin 2 → IVec S16 32) a x).toNat < S128x128.size a) ∧
  (∀ a x, ((![v100, v288] : Fin 2 → IVec S16 32) a x).toNat < S256x128.size a) ∧
  (∀ a x, ((![v110, v288] : Fin 2 → IVec S16 32) a x).toNat < S128x128.size a) ∧
  (∀ a x, ((![v112, v288] : Fin 2 → IVec S16 32) a x).toNat < S128x128.size a) ∧
  (∀ a x, ((![v114, v288] : Fin 2 → IVec S16 32) a x).toNat < S128x128.size a) ∧
  (∀ a x, ((![v116, v288] : Fin 2 → IVec S16 32) a x).toNat < S128x128.size a)
theorem k0_idx201_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v98, v288] : Fin 2 → IVec S16 32) a x).toNat < S256x128.size a := fun v98 v100 v102 v104 v106 v108 v110 v112 v114 v116 v288 k0_hw21 => k0_hw21.1
theorem k0_idx202_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v102, v288] : Fin 2 → IVec S16 32) a x).toNat < S128x128.size a := fun v98 v100 v102 v104 v106 v108 v110 v112 v114 v116 v288 k0_hw21 => k0_hw21.2.1
theorem k0_idx203_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v104, v288] : Fin 2 → IVec S16 32) a x).toNat < S128x128.size a := fun v98 v100 v102 v104 v106 v108 v110 v112 v114 v116 v288 k0_hw21 => k0_hw21.2.2.1
theorem k0_idx204_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v106, v288] : Fin 2 → IVec S16 32) a x).toNat < S128x128.size a := fun v98 v100 v102 v104 v106 v108 v110 v112 v114 v116 v288 k0_hw21 => k0_hw21.2.2.2.1
theorem k0_idx205_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v108, v288] : Fin 2 → IVec S16 32) a x).toNat < S128x128.size a := fun v98 v100 v102 v104 v106 v108 v110 v112 v114 v116 v288 k0_hw21 => k0_hw21.2.2.2.2.1
theorem k0_idx206_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v100, v288] : Fin 2 → IVec S16 32) a x).toNat < S256x128.size a := fun v98 v100 v102 v104 v106 v108 v110 v112 v114 v116 v288 k0_hw21 => k0_hw21.2.2.2.2.2.1
theorem k0_idx207_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v110, v288] : Fin 2 → IVec S16 32) a x).toNat < S128x128.size a := fun v98 v100 v102 v104 v106 v108 v110 v112 v114 v116 v288 k0_hw21 => k0_hw21.2.2.2.2.2.2.1
theorem k0_idx208_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v112, v288] : Fin 2 → IVec S16 32) a x).toNat < S128x128.size a := fun v98 v100 v102 v104 v106 v108 v110 v112 v114 v116 v288 k0_hw21 => k0_hw21.2.2.2.2.2.2.2.1
theorem k0_idx209_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v114, v288] : Fin 2 → IVec S16 32) a x).toNat < S128x128.size a := fun v98 v100 v102 v104 v106 v108 v110 v112 v114 v116 v288 k0_hw21 => k0_hw21.2.2.2.2.2.2.2.2.1
theorem k0_idx210_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v288 : IVec S16 32) (k0_hw21 : k0_chk21 v98 v100 v102 v104 v106 v108 v110 v112 v114 v116 v288), ∀ a x, ((![v116, v288] : Fin 2 → IVec S16 32) a x).toNat < S128x128.size a := fun v98 v100 v102 v104 v106 v108 v110 v112 v114 v116 v288 k0_hw21 => k0_hw21.2.2.2.2.2.2.2.2.2

def k0_chk22 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) : Prop :=
  (∀ a x, ((![v98, v320] : Fin 2 → IVec S16 32) a x).toNat < S256x128.size a) ∧
  (∀ a x, ((![v102, v320] : Fin 2 → IVec S16 32) a x).toNat < S128x128.size a) ∧
  (∀ a x, ((![v104, v320] : Fin 2 → IVec S16 32) a x).toNat < S128x128.size a) ∧
  (∀ a x, ((![v106, v320] : Fin 2 → IVec S16 32) a x).toNat < S128x128.size a) ∧
  (∀ a x, ((![v108, v320] : Fin 2 → IVec S16 32) a x).toNat < S128x128.size a) ∧
  (∀ a x, ((![v100, v320] : Fin 2 → IVec S16 32) a x).toNat < S256x128.size a) ∧
  (∀ a x, ((![v110, v320] : Fin 2 → IVec S16 32) a x).toNat < S128x128.size a) ∧
  (∀ a x, ((![v112, v320] : Fin 2 → IVec S16 32) a x).toNat < S128x128.size a) ∧
  (∀ a x, ((![v114, v320] : Fin 2 → IVec S16 32) a x).toNat < S128x128.size a) ∧
  (∀ a x, ((![v116, v320] : Fin 2 → IVec S16 32) a x).toNat < S128x128.size a)
theorem k0_idx211_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v98, v320] : Fin 2 → IVec S16 32) a x).toNat < S256x128.size a := fun v98 v100 v102 v104 v106 v108 v110 v112 v114 v116 v320 k0_hw22 => k0_hw22.1
theorem k0_idx212_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v102, v320] : Fin 2 → IVec S16 32) a x).toNat < S128x128.size a := fun v98 v100 v102 v104 v106 v108 v110 v112 v114 v116 v320 k0_hw22 => k0_hw22.2.1
theorem k0_idx213_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v104, v320] : Fin 2 → IVec S16 32) a x).toNat < S128x128.size a := fun v98 v100 v102 v104 v106 v108 v110 v112 v114 v116 v320 k0_hw22 => k0_hw22.2.2.1
theorem k0_idx214_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v106, v320] : Fin 2 → IVec S16 32) a x).toNat < S128x128.size a := fun v98 v100 v102 v104 v106 v108 v110 v112 v114 v116 v320 k0_hw22 => k0_hw22.2.2.2.1
theorem k0_idx215_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v108, v320] : Fin 2 → IVec S16 32) a x).toNat < S128x128.size a := fun v98 v100 v102 v104 v106 v108 v110 v112 v114 v116 v320 k0_hw22 => k0_hw22.2.2.2.2.1
theorem k0_idx216_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v100, v320] : Fin 2 → IVec S16 32) a x).toNat < S256x128.size a := fun v98 v100 v102 v104 v106 v108 v110 v112 v114 v116 v320 k0_hw22 => k0_hw22.2.2.2.2.2.1
theorem k0_idx217_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v110, v320] : Fin 2 → IVec S16 32) a x).toNat < S128x128.size a := fun v98 v100 v102 v104 v106 v108 v110 v112 v114 v116 v320 k0_hw22 => k0_hw22.2.2.2.2.2.2.1
theorem k0_idx218_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v112, v320] : Fin 2 → IVec S16 32) a x).toNat < S128x128.size a := fun v98 v100 v102 v104 v106 v108 v110 v112 v114 v116 v320 k0_hw22 => k0_hw22.2.2.2.2.2.2.2.1
theorem k0_idx219_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v114, v320] : Fin 2 → IVec S16 32) a x).toNat < S128x128.size a := fun v98 v100 v102 v104 v106 v108 v110 v112 v114 v116 v320 k0_hw22 => k0_hw22.2.2.2.2.2.2.2.2.1
theorem k0_idx220_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v320 : IVec S16 32) (k0_hw22 : k0_chk22 v98 v100 v102 v104 v106 v108 v110 v112 v114 v116 v320), ∀ a x, ((![v116, v320] : Fin 2 → IVec S16 32) a x).toNat < S128x128.size a := fun v98 v100 v102 v104 v106 v108 v110 v112 v114 v116 v320 k0_hw22 => k0_hw22.2.2.2.2.2.2.2.2.2

def k0_chk23 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) : Prop :=
  (∀ a x, ((![v98, v352] : Fin 2 → IVec S16 32) a x).toNat < S256x128.size a) ∧
  (∀ a x, ((![v102, v352] : Fin 2 → IVec S16 32) a x).toNat < S128x128.size a) ∧
  (∀ a x, ((![v104, v352] : Fin 2 → IVec S16 32) a x).toNat < S128x128.size a) ∧
  (∀ a x, ((![v106, v352] : Fin 2 → IVec S16 32) a x).toNat < S128x128.size a) ∧
  (∀ a x, ((![v108, v352] : Fin 2 → IVec S16 32) a x).toNat < S128x128.size a) ∧
  (∀ a x, ((![v100, v352] : Fin 2 → IVec S16 32) a x).toNat < S256x128.size a) ∧
  (∀ a x, ((![v110, v352] : Fin 2 → IVec S16 32) a x).toNat < S128x128.size a) ∧
  (∀ a x, ((![v112, v352] : Fin 2 → IVec S16 32) a x).toNat < S128x128.size a) ∧
  (∀ a x, ((![v114, v352] : Fin 2 → IVec S16 32) a x).toNat < S128x128.size a) ∧
  (∀ a x, ((![v116, v352] : Fin 2 → IVec S16 32) a x).toNat < S128x128.size a)
theorem k0_idx221_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v98, v352] : Fin 2 → IVec S16 32) a x).toNat < S256x128.size a := fun v98 v100 v102 v104 v106 v108 v110 v112 v114 v116 v352 k0_hw23 => k0_hw23.1
theorem k0_idx222_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v102, v352] : Fin 2 → IVec S16 32) a x).toNat < S128x128.size a := fun v98 v100 v102 v104 v106 v108 v110 v112 v114 v116 v352 k0_hw23 => k0_hw23.2.1
theorem k0_idx223_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v104, v352] : Fin 2 → IVec S16 32) a x).toNat < S128x128.size a := fun v98 v100 v102 v104 v106 v108 v110 v112 v114 v116 v352 k0_hw23 => k0_hw23.2.2.1
theorem k0_idx224_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v106, v352] : Fin 2 → IVec S16 32) a x).toNat < S128x128.size a := fun v98 v100 v102 v104 v106 v108 v110 v112 v114 v116 v352 k0_hw23 => k0_hw23.2.2.2.1
theorem k0_idx225_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v108, v352] : Fin 2 → IVec S16 32) a x).toNat < S128x128.size a := fun v98 v100 v102 v104 v106 v108 v110 v112 v114 v116 v352 k0_hw23 => k0_hw23.2.2.2.2.1
theorem k0_idx226_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v100, v352] : Fin 2 → IVec S16 32) a x).toNat < S256x128.size a := fun v98 v100 v102 v104 v106 v108 v110 v112 v114 v116 v352 k0_hw23 => k0_hw23.2.2.2.2.2.1
theorem k0_idx227_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v110, v352] : Fin 2 → IVec S16 32) a x).toNat < S128x128.size a := fun v98 v100 v102 v104 v106 v108 v110 v112 v114 v116 v352 k0_hw23 => k0_hw23.2.2.2.2.2.2.1
theorem k0_idx228_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v112, v352] : Fin 2 → IVec S16 32) a x).toNat < S128x128.size a := fun v98 v100 v102 v104 v106 v108 v110 v112 v114 v116 v352 k0_hw23 => k0_hw23.2.2.2.2.2.2.2.1
theorem k0_idx229_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v114, v352] : Fin 2 → IVec S16 32) a x).toNat < S128x128.size a := fun v98 v100 v102 v104 v106 v108 v110 v112 v114 v116 v352 k0_hw23 => k0_hw23.2.2.2.2.2.2.2.2.1
theorem k0_idx230_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v352 : IVec S16 32) (k0_hw23 : k0_chk23 v98 v100 v102 v104 v106 v108 v110 v112 v114 v116 v352), ∀ a x, ((![v116, v352] : Fin 2 → IVec S16 32) a x).toNat < S128x128.size a := fun v98 v100 v102 v104 v106 v108 v110 v112 v114 v116 v352 k0_hw23 => k0_hw23.2.2.2.2.2.2.2.2.2

def k0_chk24 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) : Prop :=
  (∀ a x, ((![v98, v384] : Fin 2 → IVec S16 32) a x).toNat < S256x128.size a) ∧
  (∀ a x, ((![v102, v384] : Fin 2 → IVec S16 32) a x).toNat < S128x128.size a) ∧
  (∀ a x, ((![v104, v384] : Fin 2 → IVec S16 32) a x).toNat < S128x128.size a) ∧
  (∀ a x, ((![v106, v384] : Fin 2 → IVec S16 32) a x).toNat < S128x128.size a) ∧
  (∀ a x, ((![v108, v384] : Fin 2 → IVec S16 32) a x).toNat < S128x128.size a) ∧
  (∀ a x, ((![v100, v384] : Fin 2 → IVec S16 32) a x).toNat < S256x128.size a) ∧
  (∀ a x, ((![v110, v384] : Fin 2 → IVec S16 32) a x).toNat < S128x128.size a) ∧
  (∀ a x, ((![v112, v384] : Fin 2 → IVec S16 32) a x).toNat < S128x128.size a) ∧
  (∀ a x, ((![v114, v384] : Fin 2 → IVec S16 32) a x).toNat < S128x128.size a) ∧
  (∀ a x, ((![v116, v384] : Fin 2 → IVec S16 32) a x).toNat < S128x128.size a)
theorem k0_idx231_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v98, v384] : Fin 2 → IVec S16 32) a x).toNat < S256x128.size a := fun v98 v100 v102 v104 v106 v108 v110 v112 v114 v116 v384 k0_hw24 => k0_hw24.1
theorem k0_idx232_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v102, v384] : Fin 2 → IVec S16 32) a x).toNat < S128x128.size a := fun v98 v100 v102 v104 v106 v108 v110 v112 v114 v116 v384 k0_hw24 => k0_hw24.2.1
theorem k0_idx233_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v104, v384] : Fin 2 → IVec S16 32) a x).toNat < S128x128.size a := fun v98 v100 v102 v104 v106 v108 v110 v112 v114 v116 v384 k0_hw24 => k0_hw24.2.2.1
theorem k0_idx234_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v106, v384] : Fin 2 → IVec S16 32) a x).toNat < S128x128.size a := fun v98 v100 v102 v104 v106 v108 v110 v112 v114 v116 v384 k0_hw24 => k0_hw24.2.2.2.1
theorem k0_idx235_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v108, v384] : Fin 2 → IVec S16 32) a x).toNat < S128x128.size a := fun v98 v100 v102 v104 v106 v108 v110 v112 v114 v116 v384 k0_hw24 => k0_hw24.2.2.2.2.1
theorem k0_idx236_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v100, v384] : Fin 2 → IVec S16 32) a x).toNat < S256x128.size a := fun v98 v100 v102 v104 v106 v108 v110 v112 v114 v116 v384 k0_hw24 => k0_hw24.2.2.2.2.2.1
theorem k0_idx237_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v110, v384] : Fin 2 → IVec S16 32) a x).toNat < S128x128.size a := fun v98 v100 v102 v104 v106 v108 v110 v112 v114 v116 v384 k0_hw24 => k0_hw24.2.2.2.2.2.2.1
theorem k0_idx238_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v112, v384] : Fin 2 → IVec S16 32) a x).toNat < S128x128.size a := fun v98 v100 v102 v104 v106 v108 v110 v112 v114 v116 v384 k0_hw24 => k0_hw24.2.2.2.2.2.2.2.1
theorem k0_idx239_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v114, v384] : Fin 2 → IVec S16 32) a x).toNat < S128x128.size a := fun v98 v100 v102 v104 v106 v108 v110 v112 v114 v116 v384 k0_hw24 => k0_hw24.2.2.2.2.2.2.2.2.1
theorem k0_idx240_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v384 : IVec S16 32) (k0_hw24 : k0_chk24 v98 v100 v102 v104 v106 v108 v110 v112 v114 v116 v384), ∀ a x, ((![v116, v384] : Fin 2 → IVec S16 32) a x).toNat < S128x128.size a := fun v98 v100 v102 v104 v106 v108 v110 v112 v114 v116 v384 k0_hw24 => k0_hw24.2.2.2.2.2.2.2.2.2

def k0_chk25 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) : Prop :=
  (∀ a x, ((![v98, v416] : Fin 2 → IVec S16 32) a x).toNat < S256x128.size a) ∧
  (∀ a x, ((![v102, v416] : Fin 2 → IVec S16 32) a x).toNat < S128x128.size a) ∧
  (∀ a x, ((![v104, v416] : Fin 2 → IVec S16 32) a x).toNat < S128x128.size a) ∧
  (∀ a x, ((![v106, v416] : Fin 2 → IVec S16 32) a x).toNat < S128x128.size a) ∧
  (∀ a x, ((![v108, v416] : Fin 2 → IVec S16 32) a x).toNat < S128x128.size a) ∧
  (∀ a x, ((![v100, v416] : Fin 2 → IVec S16 32) a x).toNat < S256x128.size a) ∧
  (∀ a x, ((![v110, v416] : Fin 2 → IVec S16 32) a x).toNat < S128x128.size a) ∧
  (∀ a x, ((![v112, v416] : Fin 2 → IVec S16 32) a x).toNat < S128x128.size a) ∧
  (∀ a x, ((![v114, v416] : Fin 2 → IVec S16 32) a x).toNat < S128x128.size a) ∧
  (∀ a x, ((![v116, v416] : Fin 2 → IVec S16 32) a x).toNat < S128x128.size a)
theorem k0_idx241_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v98, v416] : Fin 2 → IVec S16 32) a x).toNat < S256x128.size a := fun v98 v100 v102 v104 v106 v108 v110 v112 v114 v116 v416 k0_hw25 => k0_hw25.1
theorem k0_idx242_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v102, v416] : Fin 2 → IVec S16 32) a x).toNat < S128x128.size a := fun v98 v100 v102 v104 v106 v108 v110 v112 v114 v116 v416 k0_hw25 => k0_hw25.2.1
theorem k0_idx243_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v104, v416] : Fin 2 → IVec S16 32) a x).toNat < S128x128.size a := fun v98 v100 v102 v104 v106 v108 v110 v112 v114 v116 v416 k0_hw25 => k0_hw25.2.2.1
theorem k0_idx244_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v106, v416] : Fin 2 → IVec S16 32) a x).toNat < S128x128.size a := fun v98 v100 v102 v104 v106 v108 v110 v112 v114 v116 v416 k0_hw25 => k0_hw25.2.2.2.1
theorem k0_idx245_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v108, v416] : Fin 2 → IVec S16 32) a x).toNat < S128x128.size a := fun v98 v100 v102 v104 v106 v108 v110 v112 v114 v116 v416 k0_hw25 => k0_hw25.2.2.2.2.1
theorem k0_idx246_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v100, v416] : Fin 2 → IVec S16 32) a x).toNat < S256x128.size a := fun v98 v100 v102 v104 v106 v108 v110 v112 v114 v116 v416 k0_hw25 => k0_hw25.2.2.2.2.2.1
theorem k0_idx247_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v110, v416] : Fin 2 → IVec S16 32) a x).toNat < S128x128.size a := fun v98 v100 v102 v104 v106 v108 v110 v112 v114 v116 v416 k0_hw25 => k0_hw25.2.2.2.2.2.2.1
theorem k0_idx248_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v112, v416] : Fin 2 → IVec S16 32) a x).toNat < S128x128.size a := fun v98 v100 v102 v104 v106 v108 v110 v112 v114 v116 v416 k0_hw25 => k0_hw25.2.2.2.2.2.2.2.1
theorem k0_idx249_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v114, v416] : Fin 2 → IVec S16 32) a x).toNat < S128x128.size a := fun v98 v100 v102 v104 v106 v108 v110 v112 v114 v116 v416 k0_hw25 => k0_hw25.2.2.2.2.2.2.2.2.1
theorem k0_idx250_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v416 : IVec S16 32) (k0_hw25 : k0_chk25 v98 v100 v102 v104 v106 v108 v110 v112 v114 v116 v416), ∀ a x, ((![v116, v416] : Fin 2 → IVec S16 32) a x).toNat < S128x128.size a := fun v98 v100 v102 v104 v106 v108 v110 v112 v114 v116 v416 k0_hw25 => k0_hw25.2.2.2.2.2.2.2.2.2

def k0_chk26 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) : Prop :=
  (∀ a x, ((![v98, v448] : Fin 2 → IVec S16 32) a x).toNat < S256x128.size a) ∧
  (∀ a x, ((![v102, v448] : Fin 2 → IVec S16 32) a x).toNat < S128x128.size a) ∧
  (∀ a x, ((![v104, v448] : Fin 2 → IVec S16 32) a x).toNat < S128x128.size a) ∧
  (∀ a x, ((![v106, v448] : Fin 2 → IVec S16 32) a x).toNat < S128x128.size a) ∧
  (∀ a x, ((![v108, v448] : Fin 2 → IVec S16 32) a x).toNat < S128x128.size a) ∧
  (∀ a x, ((![v100, v448] : Fin 2 → IVec S16 32) a x).toNat < S256x128.size a) ∧
  (∀ a x, ((![v110, v448] : Fin 2 → IVec S16 32) a x).toNat < S128x128.size a) ∧
  (∀ a x, ((![v112, v448] : Fin 2 → IVec S16 32) a x).toNat < S128x128.size a) ∧
  (∀ a x, ((![v114, v448] : Fin 2 → IVec S16 32) a x).toNat < S128x128.size a) ∧
  (∀ a x, ((![v116, v448] : Fin 2 → IVec S16 32) a x).toNat < S128x128.size a)
theorem k0_idx251_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v98, v448] : Fin 2 → IVec S16 32) a x).toNat < S256x128.size a := fun v98 v100 v102 v104 v106 v108 v110 v112 v114 v116 v448 k0_hw26 => k0_hw26.1
theorem k0_idx252_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v102, v448] : Fin 2 → IVec S16 32) a x).toNat < S128x128.size a := fun v98 v100 v102 v104 v106 v108 v110 v112 v114 v116 v448 k0_hw26 => k0_hw26.2.1
theorem k0_idx253_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v104, v448] : Fin 2 → IVec S16 32) a x).toNat < S128x128.size a := fun v98 v100 v102 v104 v106 v108 v110 v112 v114 v116 v448 k0_hw26 => k0_hw26.2.2.1
theorem k0_idx254_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v106, v448] : Fin 2 → IVec S16 32) a x).toNat < S128x128.size a := fun v98 v100 v102 v104 v106 v108 v110 v112 v114 v116 v448 k0_hw26 => k0_hw26.2.2.2.1
theorem k0_idx255_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v108, v448] : Fin 2 → IVec S16 32) a x).toNat < S128x128.size a := fun v98 v100 v102 v104 v106 v108 v110 v112 v114 v116 v448 k0_hw26 => k0_hw26.2.2.2.2.1
theorem k0_idx256_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v100, v448] : Fin 2 → IVec S16 32) a x).toNat < S256x128.size a := fun v98 v100 v102 v104 v106 v108 v110 v112 v114 v116 v448 k0_hw26 => k0_hw26.2.2.2.2.2.1
theorem k0_idx257_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v110, v448] : Fin 2 → IVec S16 32) a x).toNat < S128x128.size a := fun v98 v100 v102 v104 v106 v108 v110 v112 v114 v116 v448 k0_hw26 => k0_hw26.2.2.2.2.2.2.1
theorem k0_idx258_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v112, v448] : Fin 2 → IVec S16 32) a x).toNat < S128x128.size a := fun v98 v100 v102 v104 v106 v108 v110 v112 v114 v116 v448 k0_hw26 => k0_hw26.2.2.2.2.2.2.2.1
theorem k0_idx259_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v114, v448] : Fin 2 → IVec S16 32) a x).toNat < S128x128.size a := fun v98 v100 v102 v104 v106 v108 v110 v112 v114 v116 v448 k0_hw26 => k0_hw26.2.2.2.2.2.2.2.2.1
theorem k0_idx260_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v448 : IVec S16 32) (k0_hw26 : k0_chk26 v98 v100 v102 v104 v106 v108 v110 v112 v114 v116 v448), ∀ a x, ((![v116, v448] : Fin 2 → IVec S16 32) a x).toNat < S128x128.size a := fun v98 v100 v102 v104 v106 v108 v110 v112 v114 v116 v448 k0_hw26 => k0_hw26.2.2.2.2.2.2.2.2.2

def k0_chk27 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) : Prop :=
  (∀ a x, ((![v98, v480] : Fin 2 → IVec S16 32) a x).toNat < S256x128.size a) ∧
  (∀ a x, ((![v102, v480] : Fin 2 → IVec S16 32) a x).toNat < S128x128.size a) ∧
  (∀ a x, ((![v104, v480] : Fin 2 → IVec S16 32) a x).toNat < S128x128.size a) ∧
  (∀ a x, ((![v106, v480] : Fin 2 → IVec S16 32) a x).toNat < S128x128.size a) ∧
  (∀ a x, ((![v108, v480] : Fin 2 → IVec S16 32) a x).toNat < S128x128.size a) ∧
  (∀ a x, ((![v100, v480] : Fin 2 → IVec S16 32) a x).toNat < S256x128.size a) ∧
  (∀ a x, ((![v110, v480] : Fin 2 → IVec S16 32) a x).toNat < S128x128.size a) ∧
  (∀ a x, ((![v112, v480] : Fin 2 → IVec S16 32) a x).toNat < S128x128.size a) ∧
  (∀ a x, ((![v114, v480] : Fin 2 → IVec S16 32) a x).toNat < S128x128.size a) ∧
  (∀ a x, ((![v116, v480] : Fin 2 → IVec S16 32) a x).toNat < S128x128.size a)
theorem k0_idx261_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v98, v480] : Fin 2 → IVec S16 32) a x).toNat < S256x128.size a := fun v98 v100 v102 v104 v106 v108 v110 v112 v114 v116 v480 k0_hw27 => k0_hw27.1
theorem k0_idx262_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v102, v480] : Fin 2 → IVec S16 32) a x).toNat < S128x128.size a := fun v98 v100 v102 v104 v106 v108 v110 v112 v114 v116 v480 k0_hw27 => k0_hw27.2.1
theorem k0_idx263_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v104, v480] : Fin 2 → IVec S16 32) a x).toNat < S128x128.size a := fun v98 v100 v102 v104 v106 v108 v110 v112 v114 v116 v480 k0_hw27 => k0_hw27.2.2.1
theorem k0_idx264_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v106, v480] : Fin 2 → IVec S16 32) a x).toNat < S128x128.size a := fun v98 v100 v102 v104 v106 v108 v110 v112 v114 v116 v480 k0_hw27 => k0_hw27.2.2.2.1
theorem k0_idx265_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v108, v480] : Fin 2 → IVec S16 32) a x).toNat < S128x128.size a := fun v98 v100 v102 v104 v106 v108 v110 v112 v114 v116 v480 k0_hw27 => k0_hw27.2.2.2.2.1
theorem k0_idx266_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v100, v480] : Fin 2 → IVec S16 32) a x).toNat < S256x128.size a := fun v98 v100 v102 v104 v106 v108 v110 v112 v114 v116 v480 k0_hw27 => k0_hw27.2.2.2.2.2.1
theorem k0_idx267_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v110, v480] : Fin 2 → IVec S16 32) a x).toNat < S128x128.size a := fun v98 v100 v102 v104 v106 v108 v110 v112 v114 v116 v480 k0_hw27 => k0_hw27.2.2.2.2.2.2.1
theorem k0_idx268_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v112, v480] : Fin 2 → IVec S16 32) a x).toNat < S128x128.size a := fun v98 v100 v102 v104 v106 v108 v110 v112 v114 v116 v480 k0_hw27 => k0_hw27.2.2.2.2.2.2.2.1
theorem k0_idx269_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v114, v480] : Fin 2 → IVec S16 32) a x).toNat < S128x128.size a := fun v98 v100 v102 v104 v106 v108 v110 v112 v114 v116 v480 k0_hw27 => k0_hw27.2.2.2.2.2.2.2.2.1
theorem k0_idx270_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v480 : IVec S16 32) (k0_hw27 : k0_chk27 v98 v100 v102 v104 v106 v108 v110 v112 v114 v116 v480), ∀ a x, ((![v116, v480] : Fin 2 → IVec S16 32) a x).toNat < S128x128.size a := fun v98 v100 v102 v104 v106 v108 v110 v112 v114 v116 v480 k0_hw27 => k0_hw27.2.2.2.2.2.2.2.2.2

def k0_chk28 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) : Prop :=
  (∀ a x, ((![v98, v512] : Fin 2 → IVec S16 32) a x).toNat < S256x128.size a) ∧
  (∀ a x, ((![v102, v512] : Fin 2 → IVec S16 32) a x).toNat < S128x128.size a) ∧
  (∀ a x, ((![v104, v512] : Fin 2 → IVec S16 32) a x).toNat < S128x128.size a) ∧
  (∀ a x, ((![v106, v512] : Fin 2 → IVec S16 32) a x).toNat < S128x128.size a) ∧
  (∀ a x, ((![v108, v512] : Fin 2 → IVec S16 32) a x).toNat < S128x128.size a) ∧
  (∀ a x, ((![v100, v512] : Fin 2 → IVec S16 32) a x).toNat < S256x128.size a) ∧
  (∀ a x, ((![v110, v512] : Fin 2 → IVec S16 32) a x).toNat < S128x128.size a) ∧
  (∀ a x, ((![v112, v512] : Fin 2 → IVec S16 32) a x).toNat < S128x128.size a) ∧
  (∀ a x, ((![v114, v512] : Fin 2 → IVec S16 32) a x).toNat < S128x128.size a) ∧
  (∀ a x, ((![v116, v512] : Fin 2 → IVec S16 32) a x).toNat < S128x128.size a)
theorem k0_idx271_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v98, v512] : Fin 2 → IVec S16 32) a x).toNat < S256x128.size a := fun v98 v100 v102 v104 v106 v108 v110 v112 v114 v116 v512 k0_hw28 => k0_hw28.1
theorem k0_idx272_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v102, v512] : Fin 2 → IVec S16 32) a x).toNat < S128x128.size a := fun v98 v100 v102 v104 v106 v108 v110 v112 v114 v116 v512 k0_hw28 => k0_hw28.2.1
theorem k0_idx273_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v104, v512] : Fin 2 → IVec S16 32) a x).toNat < S128x128.size a := fun v98 v100 v102 v104 v106 v108 v110 v112 v114 v116 v512 k0_hw28 => k0_hw28.2.2.1
theorem k0_idx274_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v106, v512] : Fin 2 → IVec S16 32) a x).toNat < S128x128.size a := fun v98 v100 v102 v104 v106 v108 v110 v112 v114 v116 v512 k0_hw28 => k0_hw28.2.2.2.1
theorem k0_idx275_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v108, v512] : Fin 2 → IVec S16 32) a x).toNat < S128x128.size a := fun v98 v100 v102 v104 v106 v108 v110 v112 v114 v116 v512 k0_hw28 => k0_hw28.2.2.2.2.1
theorem k0_idx276_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v100, v512] : Fin 2 → IVec S16 32) a x).toNat < S256x128.size a := fun v98 v100 v102 v104 v106 v108 v110 v112 v114 v116 v512 k0_hw28 => k0_hw28.2.2.2.2.2.1
theorem k0_idx277_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v110, v512] : Fin 2 → IVec S16 32) a x).toNat < S128x128.size a := fun v98 v100 v102 v104 v106 v108 v110 v112 v114 v116 v512 k0_hw28 => k0_hw28.2.2.2.2.2.2.1
theorem k0_idx278_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v112, v512] : Fin 2 → IVec S16 32) a x).toNat < S128x128.size a := fun v98 v100 v102 v104 v106 v108 v110 v112 v114 v116 v512 k0_hw28 => k0_hw28.2.2.2.2.2.2.2.1
theorem k0_idx279_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v114, v512] : Fin 2 → IVec S16 32) a x).toNat < S128x128.size a := fun v98 v100 v102 v104 v106 v108 v110 v112 v114 v116 v512 k0_hw28 => k0_hw28.2.2.2.2.2.2.2.2.1
theorem k0_idx280_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v512 : IVec S16 32) (k0_hw28 : k0_chk28 v98 v100 v102 v104 v106 v108 v110 v112 v114 v116 v512), ∀ a x, ((![v116, v512] : Fin 2 → IVec S16 32) a x).toNat < S128x128.size a := fun v98 v100 v102 v104 v106 v108 v110 v112 v114 v116 v512 k0_hw28 => k0_hw28.2.2.2.2.2.2.2.2.2

def k0_chk29 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) : Prop :=
  (∀ a x, ((![v98, v544] : Fin 2 → IVec S16 32) a x).toNat < S256x128.size a) ∧
  (∀ a x, ((![v102, v544] : Fin 2 → IVec S16 32) a x).toNat < S128x128.size a) ∧
  (∀ a x, ((![v104, v544] : Fin 2 → IVec S16 32) a x).toNat < S128x128.size a) ∧
  (∀ a x, ((![v106, v544] : Fin 2 → IVec S16 32) a x).toNat < S128x128.size a) ∧
  (∀ a x, ((![v108, v544] : Fin 2 → IVec S16 32) a x).toNat < S128x128.size a) ∧
  (∀ a x, ((![v100, v544] : Fin 2 → IVec S16 32) a x).toNat < S256x128.size a) ∧
  (∀ a x, ((![v110, v544] : Fin 2 → IVec S16 32) a x).toNat < S128x128.size a) ∧
  (∀ a x, ((![v112, v544] : Fin 2 → IVec S16 32) a x).toNat < S128x128.size a) ∧
  (∀ a x, ((![v114, v544] : Fin 2 → IVec S16 32) a x).toNat < S128x128.size a) ∧
  (∀ a x, ((![v116, v544] : Fin 2 → IVec S16 32) a x).toNat < S128x128.size a)
theorem k0_idx281_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v98, v544] : Fin 2 → IVec S16 32) a x).toNat < S256x128.size a := fun v98 v100 v102 v104 v106 v108 v110 v112 v114 v116 v544 k0_hw29 => k0_hw29.1
theorem k0_idx282_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v102, v544] : Fin 2 → IVec S16 32) a x).toNat < S128x128.size a := fun v98 v100 v102 v104 v106 v108 v110 v112 v114 v116 v544 k0_hw29 => k0_hw29.2.1
theorem k0_idx283_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v104, v544] : Fin 2 → IVec S16 32) a x).toNat < S128x128.size a := fun v98 v100 v102 v104 v106 v108 v110 v112 v114 v116 v544 k0_hw29 => k0_hw29.2.2.1
theorem k0_idx284_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v106, v544] : Fin 2 → IVec S16 32) a x).toNat < S128x128.size a := fun v98 v100 v102 v104 v106 v108 v110 v112 v114 v116 v544 k0_hw29 => k0_hw29.2.2.2.1
theorem k0_idx285_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v108, v544] : Fin 2 → IVec S16 32) a x).toNat < S128x128.size a := fun v98 v100 v102 v104 v106 v108 v110 v112 v114 v116 v544 k0_hw29 => k0_hw29.2.2.2.2.1
theorem k0_idx286_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v100, v544] : Fin 2 → IVec S16 32) a x).toNat < S256x128.size a := fun v98 v100 v102 v104 v106 v108 v110 v112 v114 v116 v544 k0_hw29 => k0_hw29.2.2.2.2.2.1
theorem k0_idx287_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v110, v544] : Fin 2 → IVec S16 32) a x).toNat < S128x128.size a := fun v98 v100 v102 v104 v106 v108 v110 v112 v114 v116 v544 k0_hw29 => k0_hw29.2.2.2.2.2.2.1
theorem k0_idx288_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v112, v544] : Fin 2 → IVec S16 32) a x).toNat < S128x128.size a := fun v98 v100 v102 v104 v106 v108 v110 v112 v114 v116 v544 k0_hw29 => k0_hw29.2.2.2.2.2.2.2.1
theorem k0_idx289_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v114, v544] : Fin 2 → IVec S16 32) a x).toNat < S128x128.size a := fun v98 v100 v102 v104 v106 v108 v110 v112 v114 v116 v544 k0_hw29 => k0_hw29.2.2.2.2.2.2.2.2.1
theorem k0_idx290_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v544 : IVec S16 32) (k0_hw29 : k0_chk29 v98 v100 v102 v104 v106 v108 v110 v112 v114 v116 v544), ∀ a x, ((![v116, v544] : Fin 2 → IVec S16 32) a x).toNat < S128x128.size a := fun v98 v100 v102 v104 v106 v108 v110 v112 v114 v116 v544 k0_hw29 => k0_hw29.2.2.2.2.2.2.2.2.2

def k0_chk30 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) : Prop :=
  (∀ a x, ((![v98, v576] : Fin 2 → IVec S16 32) a x).toNat < S256x128.size a) ∧
  (∀ a x, ((![v102, v576] : Fin 2 → IVec S16 32) a x).toNat < S128x128.size a) ∧
  (∀ a x, ((![v104, v576] : Fin 2 → IVec S16 32) a x).toNat < S128x128.size a) ∧
  (∀ a x, ((![v106, v576] : Fin 2 → IVec S16 32) a x).toNat < S128x128.size a) ∧
  (∀ a x, ((![v108, v576] : Fin 2 → IVec S16 32) a x).toNat < S128x128.size a) ∧
  (∀ a x, ((![v100, v576] : Fin 2 → IVec S16 32) a x).toNat < S256x128.size a) ∧
  (∀ a x, ((![v110, v576] : Fin 2 → IVec S16 32) a x).toNat < S128x128.size a) ∧
  (∀ a x, ((![v112, v576] : Fin 2 → IVec S16 32) a x).toNat < S128x128.size a) ∧
  (∀ a x, ((![v114, v576] : Fin 2 → IVec S16 32) a x).toNat < S128x128.size a) ∧
  (∀ a x, ((![v116, v576] : Fin 2 → IVec S16 32) a x).toNat < S128x128.size a)
theorem k0_idx291_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v98, v576] : Fin 2 → IVec S16 32) a x).toNat < S256x128.size a := fun v98 v100 v102 v104 v106 v108 v110 v112 v114 v116 v576 k0_hw30 => k0_hw30.1
theorem k0_idx292_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v102, v576] : Fin 2 → IVec S16 32) a x).toNat < S128x128.size a := fun v98 v100 v102 v104 v106 v108 v110 v112 v114 v116 v576 k0_hw30 => k0_hw30.2.1
theorem k0_idx293_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v104, v576] : Fin 2 → IVec S16 32) a x).toNat < S128x128.size a := fun v98 v100 v102 v104 v106 v108 v110 v112 v114 v116 v576 k0_hw30 => k0_hw30.2.2.1
theorem k0_idx294_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v106, v576] : Fin 2 → IVec S16 32) a x).toNat < S128x128.size a := fun v98 v100 v102 v104 v106 v108 v110 v112 v114 v116 v576 k0_hw30 => k0_hw30.2.2.2.1
theorem k0_idx295_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v108, v576] : Fin 2 → IVec S16 32) a x).toNat < S128x128.size a := fun v98 v100 v102 v104 v106 v108 v110 v112 v114 v116 v576 k0_hw30 => k0_hw30.2.2.2.2.1
theorem k0_idx296_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v100, v576] : Fin 2 → IVec S16 32) a x).toNat < S256x128.size a := fun v98 v100 v102 v104 v106 v108 v110 v112 v114 v116 v576 k0_hw30 => k0_hw30.2.2.2.2.2.1
theorem k0_idx297_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v110, v576] : Fin 2 → IVec S16 32) a x).toNat < S128x128.size a := fun v98 v100 v102 v104 v106 v108 v110 v112 v114 v116 v576 k0_hw30 => k0_hw30.2.2.2.2.2.2.1
theorem k0_idx298_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v112, v576] : Fin 2 → IVec S16 32) a x).toNat < S128x128.size a := fun v98 v100 v102 v104 v106 v108 v110 v112 v114 v116 v576 k0_hw30 => k0_hw30.2.2.2.2.2.2.2.1
theorem k0_idx299_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v114, v576] : Fin 2 → IVec S16 32) a x).toNat < S128x128.size a := fun v98 v100 v102 v104 v106 v108 v110 v112 v114 v116 v576 k0_hw30 => k0_hw30.2.2.2.2.2.2.2.2.1
theorem k0_idx300_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v576 : IVec S16 32) (k0_hw30 : k0_chk30 v98 v100 v102 v104 v106 v108 v110 v112 v114 v116 v576), ∀ a x, ((![v116, v576] : Fin 2 → IVec S16 32) a x).toNat < S128x128.size a := fun v98 v100 v102 v104 v106 v108 v110 v112 v114 v116 v576 k0_hw30 => k0_hw30.2.2.2.2.2.2.2.2.2

def k0_chk31 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) : Prop :=
  (∀ a x, ((![v98, v608] : Fin 2 → IVec S16 32) a x).toNat < S256x128.size a) ∧
  (∀ a x, ((![v102, v608] : Fin 2 → IVec S16 32) a x).toNat < S128x128.size a) ∧
  (∀ a x, ((![v104, v608] : Fin 2 → IVec S16 32) a x).toNat < S128x128.size a) ∧
  (∀ a x, ((![v106, v608] : Fin 2 → IVec S16 32) a x).toNat < S128x128.size a) ∧
  (∀ a x, ((![v108, v608] : Fin 2 → IVec S16 32) a x).toNat < S128x128.size a) ∧
  (∀ a x, ((![v100, v608] : Fin 2 → IVec S16 32) a x).toNat < S256x128.size a) ∧
  (∀ a x, ((![v110, v608] : Fin 2 → IVec S16 32) a x).toNat < S128x128.size a) ∧
  (∀ a x, ((![v112, v608] : Fin 2 → IVec S16 32) a x).toNat < S128x128.size a) ∧
  (∀ a x, ((![v114, v608] : Fin 2 → IVec S16 32) a x).toNat < S128x128.size a) ∧
  (∀ a x, ((![v116, v608] : Fin 2 → IVec S16 32) a x).toNat < S128x128.size a)
theorem k0_idx301_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v98, v608] : Fin 2 → IVec S16 32) a x).toNat < S256x128.size a := fun v98 v100 v102 v104 v106 v108 v110 v112 v114 v116 v608 k0_hw31 => k0_hw31.1
theorem k0_idx302_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v102, v608] : Fin 2 → IVec S16 32) a x).toNat < S128x128.size a := fun v98 v100 v102 v104 v106 v108 v110 v112 v114 v116 v608 k0_hw31 => k0_hw31.2.1
theorem k0_idx303_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v104, v608] : Fin 2 → IVec S16 32) a x).toNat < S128x128.size a := fun v98 v100 v102 v104 v106 v108 v110 v112 v114 v116 v608 k0_hw31 => k0_hw31.2.2.1
theorem k0_idx304_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v106, v608] : Fin 2 → IVec S16 32) a x).toNat < S128x128.size a := fun v98 v100 v102 v104 v106 v108 v110 v112 v114 v116 v608 k0_hw31 => k0_hw31.2.2.2.1
theorem k0_idx305_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v108, v608] : Fin 2 → IVec S16 32) a x).toNat < S128x128.size a := fun v98 v100 v102 v104 v106 v108 v110 v112 v114 v116 v608 k0_hw31 => k0_hw31.2.2.2.2.1
theorem k0_idx306_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v100, v608] : Fin 2 → IVec S16 32) a x).toNat < S256x128.size a := fun v98 v100 v102 v104 v106 v108 v110 v112 v114 v116 v608 k0_hw31 => k0_hw31.2.2.2.2.2.1
theorem k0_idx307_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v110, v608] : Fin 2 → IVec S16 32) a x).toNat < S128x128.size a := fun v98 v100 v102 v104 v106 v108 v110 v112 v114 v116 v608 k0_hw31 => k0_hw31.2.2.2.2.2.2.1
theorem k0_idx308_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v112, v608] : Fin 2 → IVec S16 32) a x).toNat < S128x128.size a := fun v98 v100 v102 v104 v106 v108 v110 v112 v114 v116 v608 k0_hw31 => k0_hw31.2.2.2.2.2.2.2.1
theorem k0_idx309_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v114, v608] : Fin 2 → IVec S16 32) a x).toNat < S128x128.size a := fun v98 v100 v102 v104 v106 v108 v110 v112 v114 v116 v608 k0_hw31 => k0_hw31.2.2.2.2.2.2.2.2.1
theorem k0_idx310_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v608 : IVec S16 32) (k0_hw31 : k0_chk31 v98 v100 v102 v104 v106 v108 v110 v112 v114 v116 v608), ∀ a x, ((![v116, v608] : Fin 2 → IVec S16 32) a x).toNat < S128x128.size a := fun v98 v100 v102 v104 v106 v108 v110 v112 v114 v116 v608 k0_hw31 => k0_hw31.2.2.2.2.2.2.2.2.2

def k0_chk32 (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) : Prop :=
  (∀ a x, ((![v98, v640] : Fin 2 → IVec S16 32) a x).toNat < S256x128.size a) ∧
  (∀ a x, ((![v102, v640] : Fin 2 → IVec S16 32) a x).toNat < S128x128.size a) ∧
  (∀ a x, ((![v104, v640] : Fin 2 → IVec S16 32) a x).toNat < S128x128.size a) ∧
  (∀ a x, ((![v106, v640] : Fin 2 → IVec S16 32) a x).toNat < S128x128.size a) ∧
  (∀ a x, ((![v108, v640] : Fin 2 → IVec S16 32) a x).toNat < S128x128.size a) ∧
  (∀ a x, ((![v100, v640] : Fin 2 → IVec S16 32) a x).toNat < S256x128.size a) ∧
  (∀ a x, ((![v110, v640] : Fin 2 → IVec S16 32) a x).toNat < S128x128.size a) ∧
  (∀ a x, ((![v112, v640] : Fin 2 → IVec S16 32) a x).toNat < S128x128.size a) ∧
  (∀ a x, ((![v114, v640] : Fin 2 → IVec S16 32) a x).toNat < S128x128.size a) ∧
  (∀ a x, ((![v116, v640] : Fin 2 → IVec S16 32) a x).toNat < S128x128.size a)
theorem k0_idx311_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v98, v640] : Fin 2 → IVec S16 32) a x).toNat < S256x128.size a := fun v98 v100 v102 v104 v106 v108 v110 v112 v114 v116 v640 k0_hw32 => k0_hw32.1
theorem k0_idx312_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v102, v640] : Fin 2 → IVec S16 32) a x).toNat < S128x128.size a := fun v98 v100 v102 v104 v106 v108 v110 v112 v114 v116 v640 k0_hw32 => k0_hw32.2.1
theorem k0_idx313_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v104, v640] : Fin 2 → IVec S16 32) a x).toNat < S128x128.size a := fun v98 v100 v102 v104 v106 v108 v110 v112 v114 v116 v640 k0_hw32 => k0_hw32.2.2.1
theorem k0_idx314_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v106, v640] : Fin 2 → IVec S16 32) a x).toNat < S128x128.size a := fun v98 v100 v102 v104 v106 v108 v110 v112 v114 v116 v640 k0_hw32 => k0_hw32.2.2.2.1
theorem k0_idx315_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v108, v640] : Fin 2 → IVec S16 32) a x).toNat < S128x128.size a := fun v98 v100 v102 v104 v106 v108 v110 v112 v114 v116 v640 k0_hw32 => k0_hw32.2.2.2.2.1
theorem k0_idx316_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v100, v640] : Fin 2 → IVec S16 32) a x).toNat < S256x128.size a := fun v98 v100 v102 v104 v106 v108 v110 v112 v114 v116 v640 k0_hw32 => k0_hw32.2.2.2.2.2.1
theorem k0_idx317_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v110, v640] : Fin 2 → IVec S16 32) a x).toNat < S128x128.size a := fun v98 v100 v102 v104 v106 v108 v110 v112 v114 v116 v640 k0_hw32 => k0_hw32.2.2.2.2.2.2.1
theorem k0_idx318_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v112, v640] : Fin 2 → IVec S16 32) a x).toNat < S128x128.size a := fun v98 v100 v102 v104 v106 v108 v110 v112 v114 v116 v640 k0_hw32 => k0_hw32.2.2.2.2.2.2.2.1
theorem k0_idx319_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v114, v640] : Fin 2 → IVec S16 32) a x).toNat < S128x128.size a := fun v98 v100 v102 v104 v106 v108 v110 v112 v114 v116 v640 k0_hw32 => k0_hw32.2.2.2.2.2.2.2.2.1
theorem k0_idx320_inb : ∀ (v98 : IVec S16 32) (v100 : IVec S16 32) (v102 : IVec S16 32) (v104 : IVec S16 32) (v106 : IVec S16 32) (v108 : IVec S16 32) (v110 : IVec S16 32) (v112 : IVec S16 32) (v114 : IVec S16 32) (v116 : IVec S16 32) (v640 : IVec S16 32) (k0_hw32 : k0_chk32 v98 v100 v102 v104 v106 v108 v110 v112 v114 v116 v640), ∀ a x, ((![v116, v640] : Fin 2 → IVec S16 32) a x).toNat < S128x128.size a := fun v98 v100 v102 v104 v106 v108 v110 v112 v114 v116 v640 k0_hw32 => k0_hw32.2.2.2.2.2.2.2.2.2
def k0_off9 (k0_t1 : Fin k0_t1_loop.trips) (c0_i32_111 : BitVec 32) : Fin 2 → Nat :=
  let c2_i32_83 : BitVec 32 := 2#32
  let c0_i32_11 : BitVec 32 := 0#32
  let c1_i32 : BitVec 32 := 1#32
  let arg21 : BitVec 32 := Scf.iv c0_i32_11 c1_i32 k0_t1
  let v92 : BitVec 32 := Scalar.muli c2_i32_83 arg21
  let c1_i32_84 : BitVec 32 := 1#32
  let v93 : BitVec 32 := Scalar.addi v92 c1_i32_84
  let c2_i32_88 : BitVec 32 := 2#32
  let v96 : BitVec 32 := Scalar.muli v93 c2_i32_88
  let v127 : BitVec 32 := Scalar.addi v96 c0_i32_111
  let c63_i32_112 : BitVec 32 := 63#32
  let v128 : BitVec 32 := Scalar.andi v127 c63_i32_112
  let v129 : Index := Scalar.indexCast v128
  let c0_113 : Index := 0#32
  ![v129.toNat, 0]
def k0_off10 (k0_t1 : Fin k0_t1_loop.trips) (c0_i32_111 : BitVec 32) : Fin 2 → Nat :=
  let c2_i32_83 : BitVec 32 := 2#32
  let c0_i32_11 : BitVec 32 := 0#32
  let c1_i32 : BitVec 32 := 1#32
  let arg21 : BitVec 32 := Scf.iv c0_i32_11 c1_i32 k0_t1
  let v92 : BitVec 32 := Scalar.muli c2_i32_83 arg21
  let c1_i32_84 : BitVec 32 := 1#32
  let v93 : BitVec 32 := Scalar.addi v92 c1_i32_84
  let c2_i32_88 : BitVec 32 := 2#32
  let v96 : BitVec 32 := Scalar.muli v93 c2_i32_88
  let v127 : BitVec 32 := Scalar.addi v96 c0_i32_111
  let c63_i32_112 : BitVec 32 := 63#32
  let v128 : BitVec 32 := Scalar.andi v127 c63_i32_112
  let v131 : Index := Scalar.indexCast v128
  let c16_114 : Index := 16#32
  ![v131.toNat, 16]
def k0_off11 (k0_t1 : Fin k0_t1_loop.trips) (c0_i32_111 : BitVec 32) : Fin 2 → Nat :=
  let c2_i32_83 : BitVec 32 := 2#32
  let c0_i32_11 : BitVec 32 := 0#32
  let c1_i32 : BitVec 32 := 1#32
  let arg21 : BitVec 32 := Scf.iv c0_i32_11 c1_i32 k0_t1
  let v92 : BitVec 32 := Scalar.muli c2_i32_83 arg21
  let c1_i32_84 : BitVec 32 := 1#32
  let v93 : BitVec 32 := Scalar.addi v92 c1_i32_84
  let c2_i32_88 : BitVec 32 := 2#32
  let v96 : BitVec 32 := Scalar.muli v93 c2_i32_88
  let v127 : BitVec 32 := Scalar.addi v96 c0_i32_111
  let c63_i32_112 : BitVec 32 := 63#32
  let v128 : BitVec 32 := Scalar.andi v127 c63_i32_112
  let v133 : Index := Scalar.indexCast v128
  let c32_115 : Index := 32#32
  ![v133.toNat, 32]
def k0_off12 (k0_t1 : Fin k0_t1_loop.trips) (c0_i32_111 : BitVec 32) : Fin 2 → Nat :=
  let c2_i32_83 : BitVec 32 := 2#32
  let c0_i32_11 : BitVec 32 := 0#32
  let c1_i32 : BitVec 32 := 1#32
  let arg21 : BitVec 32 := Scf.iv c0_i32_11 c1_i32 k0_t1
  let v92 : BitVec 32 := Scalar.muli c2_i32_83 arg21
  let c1_i32_84 : BitVec 32 := 1#32
  let v93 : BitVec 32 := Scalar.addi v92 c1_i32_84
  let c2_i32_88 : BitVec 32 := 2#32
  let v96 : BitVec 32 := Scalar.muli v93 c2_i32_88
  let v127 : BitVec 32 := Scalar.addi v96 c0_i32_111
  let c63_i32_112 : BitVec 32 := 63#32
  let v128 : BitVec 32 := Scalar.andi v127 c63_i32_112
  let v135 : Index := Scalar.indexCast v128
  let c48_116 : Index := 48#32
  ![v135.toNat, 48]
def k0_cond2 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c63_i32_123 : BitVec 32 := 63#32
  let v147 : BitVec 1 := Scalar.cmpi .slt arg21 c63_i32_123
  let v148 : BitVec 32 := Scalar.extui v147
  let c0_i32_124 : BitVec 32 := 0#32
  let v149 : BitVec 1 := Scalar.cmpi .ne v148 c0_i32_124
  v149

def k0_off13 (k0_t1 : Fin k0_t1_loop.trips) : Fin 1 → Nat :=
  let c2_i32_83 : BitVec 32 := 2#32
  let c0_i32_11 : BitVec 32 := 0#32
  let c1_i32 : BitVec 32 := 1#32
  let arg21 : BitVec 32 := Scf.iv c0_i32_11 c1_i32 k0_t1
  let v92 : BitVec 32 := Scalar.muli c2_i32_83 arg21
  let c1_i32_84 : BitVec 32 := 1#32
  let v93 : BitVec 32 := Scalar.addi v92 c1_i32_84
  let c2_i32_127 : BitVec 32 := 2#32
  let v154 : BitVec 32 := Scalar.addi v93 c2_i32_127
  let c128_i32_128 : BitVec 32 := 128#32
  let v155 : BitVec 32 := Scalar.muli v154 c128_i32_128
  ![v155.toNat]
def k0_cond3 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c15_i32 : BitVec 32 := 15#32
  let v150 : BitVec 32 := Scalar.andi arg21 c15_i32
  let c15_i32_125 : BitVec 32 := 15#32
  let v151 : BitVec 1 := Scalar.cmpi .eq v150 c15_i32_125
  let v152 : BitVec 32 := Scalar.extui v151
  let c0_i32_126 : BitVec 32 := 0#32
  let v153 : BitVec 1 := Scalar.cmpi .ne v152 c0_i32_126
  v153

def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_11 : BitVec 32 := 0#32
  let c1_i32 : BitVec 32 := 1#32
  let arg21 : BitVec 32 := Scf.iv c0_i32_11 c1_i32 k0_t1
  let c0_i32_128 : BitVec 32 := 0#32
  let v155 : BitVec 1 := Scalar.cmpi .sgt arg21 c0_i32_128
  let v156 : BitVec 32 := Scalar.extui v155
  let c0_i32_129 : BitVec 32 := 0#32
  let v157 : BitVec 1 := Scalar.cmpi .slt arg21 c0_i32_129
  let v158 : BitVec 32 := Scalar.extui v157
  let v159 : BitVec 32 := Scalar.subi v156 v158
  let c16_i32_127 : BitVec 32 := 16#32
  let c0_i32_130 : BitVec 32 := 0#32
  let v160 : BitVec 1 := Scalar.cmpi .sgt c16_i32_127 c0_i32_130
  let v161 : BitVec 32 := Scalar.extui v160
  let c0_i32_131 : BitVec 32 := 0#32
  let v162 : BitVec 1 := Scalar.cmpi .slt c16_i32_127 c0_i32_131
  let v163 : BitVec 32 := Scalar.extui v162
  let v164 : BitVec 32 := Scalar.subi v161 v163
  let v165 : BitVec 1 := Scalar.cmpi .ne v159 v164
  let v166 : BitVec 32 := Scalar.remsi arg21 c16_i32_127
  let c0_i32_132 : BitVec 32 := 0#32
  let v167 : BitVec 1 := Scalar.cmpi .ne v166 c0_i32_132
  let v168 : BitVec 1 := Scalar.andi v165 v167
  let v154 : BitVec 32 := Scalar.divsi arg21 c16_i32_127
  let c1_i32_133 : BitVec 32 := 1#32
  let v169 : BitVec 32 := Scalar.subi v154 c1_i32_133
  let v170 : BitVec 32 := Scalar.select v168 v169 v154
  let c64_i32_134 : BitVec 32 := 64#32
  let v171 : BitVec 32 := Scalar.muli v170 c64_i32_134
  let v172 : BitVec 32 := Scalar.addi v2 v171
  let c0_i32_135_r3 : BitVec 32 := 0#32
  ![v172.toNat, 0]
@[reducible] def k0_t4_loop : Scf.Loop 32 :=
  let c0_i32_18 : BitVec 32 := 0#32
  let c4_i32 : BitVec 32 := 4#32
  let v16 : BitVec 32 := Scalar.addi c0_i32_18 c4_i32
  let c1_i32_19 : BitVec 32 := 1#32
  ⟨c0_i32_18, v16, c1_i32_19⟩
@[reducible] def k0_t5_loop : Scf.Loop 32 :=
  let c0_i32_56 : BitVec 32 := 0#32
  let c8_i32 : BitVec 32 := 8#32
  let v42 : BitVec 32 := Scalar.addi c0_i32_56 c8_i32
  let c1_i32_57 : BitVec 32 := 1#32
  ⟨c0_i32_56, v42, c1_i32_57⟩

def k0_chk33 (v37 : IVec S16 32) (v40 : IVec S16 32) (v53 : IVec S16 32) : Prop :=
  (∀ a x, ((![v37, v53] : Fin 2 → IVec S16 32) a x).toNat < S256x128.size a) ∧
  (∀ a x, ((![v40, v53] : Fin 2 → IVec S16 32) a x).toNat < S64x128.size a)
theorem k0_idx321_inb : ∀ (v37 : IVec S16 32) (v40 : IVec S16 32) (v53 : IVec S16 32) (k0_hw33 : k0_chk33 v37 v40 v53), ∀ a x, ((![v37, v53] : Fin 2 → IVec S16 32) a x).toNat < S256x128.size a := fun v37 v40 v53 k0_hw33 => k0_hw33.1
theorem k0_idx322_inb : ∀ (v37 : IVec S16 32) (v40 : IVec S16 32) (v53 : IVec S16 32) (k0_hw33 : k0_chk33 v37 v40 v53), ∀ a x, ((![v40, v53] : Fin 2 → IVec S16 32) a x).toNat < S64x128.size a := fun v37 v40 v53 k0_hw33 => k0_hw33.2

def k0_chk34 (v37 : IVec S16 32) (v40 : IVec S16 32) (v63 : IVec S16 32) : Prop :=
  (∀ a x, ((![v37, v63] : Fin 2 → IVec S16 32) a x).toNat < S256x128.size a) ∧
  (∀ a x, ((![v40, v63] : Fin 2 → IVec S16 32) a x).toNat < S64x128.size a)
theorem k0_idx323_inb : ∀ (v37 : IVec S16 32) (v40 : IVec S16 32) (v63 : IVec S16 32) (k0_hw34 : k0_chk34 v37 v40 v63), ∀ a x, ((![v37, v63] : Fin 2 → IVec S16 32) a x).toNat < S256x128.size a := fun v37 v40 v63 k0_hw34 => k0_hw34.1
theorem k0_idx324_inb : ∀ (v37 : IVec S16 32) (v40 : IVec S16 32) (v63 : IVec S16 32) (k0_hw34 : k0_chk34 v37 v40 v63), ∀ a x, ((![v40, v63] : Fin 2 → IVec S16 32) a x).toNat < S64x128.size a := fun v37 v40 v63 k0_hw34 => k0_hw34.2

def k0_chk35 (v37 : IVec S16 32) (v40 : IVec S16 32) (v73 : IVec S16 32) : Prop :=
  (∀ a x, ((![v37, v73] : Fin 2 → IVec S16 32) a x).toNat < S256x128.size a) ∧
  (∀ a x, ((![v40, v73] : Fin 2 → IVec S16 32) a x).toNat < S64x128.size a)
theorem k0_idx325_inb : ∀ (v37 : IVec S16 32) (v40 : IVec S16 32) (v73 : IVec S16 32) (k0_hw35 : k0_chk35 v37 v40 v73), ∀ a x, ((![v37, v73] : Fin 2 → IVec S16 32) a x).toNat < S256x128.size a := fun v37 v40 v73 k0_hw35 => k0_hw35.1
theorem k0_idx326_inb : ∀ (v37 : IVec S16 32) (v40 : IVec S16 32) (v73 : IVec S16 32) (k0_hw35 : k0_chk35 v37 v40 v73), ∀ a x, ((![v40, v73] : Fin 2 → IVec S16 32) a x).toNat < S64x128.size a := fun v37 v40 v73 k0_hw35 => k0_hw35.2

def k0_chk36 (v37 : IVec S16 32) (v40 : IVec S16 32) (v83 : IVec S16 32) : Prop :=
  (∀ a x, ((![v37, v83] : Fin 2 → IVec S16 32) a x).toNat < S256x128.size a) ∧
  (∀ a x, ((![v40, v83] : Fin 2 → IVec S16 32) a x).toNat < S64x128.size a)
theorem k0_idx327_inb : ∀ (v37 : IVec S16 32) (v40 : IVec S16 32) (v83 : IVec S16 32) (k0_hw36 : k0_chk36 v37 v40 v83), ∀ a x, ((![v37, v83] : Fin 2 → IVec S16 32) a x).toNat < S256x128.size a := fun v37 v40 v83 k0_hw36 => k0_hw36.1
theorem k0_idx328_inb : ∀ (v37 : IVec S16 32) (v40 : IVec S16 32) (v83 : IVec S16 32) (k0_hw36 : k0_chk36 v37 v40 v83), ∀ a x, ((![v40, v83] : Fin 2 → IVec S16 32) a x).toNat < S64x128.size a := fun v37 v40 v83 k0_hw36 => k0_hw36.2

def k0_chk37 (v37 : IVec S16 32) (v40 : IVec S16 32) (v93 : IVec S16 32) : Prop :=
  (∀ a x, ((![v37, v93] : Fin 2 → IVec S16 32) a x).toNat < S256x128.size a) ∧
  (∀ a x, ((![v40, v93] : Fin 2 → IVec S16 32) a x).toNat < S64x128.size a)
theorem k0_idx329_inb : ∀ (v37 : IVec S16 32) (v40 : IVec S16 32) (v93 : IVec S16 32) (k0_hw37 : k0_chk37 v37 v40 v93), ∀ a x, ((![v37, v93] : Fin 2 → IVec S16 32) a x).toNat < S256x128.size a := fun v37 v40 v93 k0_hw37 => k0_hw37.1
theorem k0_idx330_inb : ∀ (v37 : IVec S16 32) (v40 : IVec S16 32) (v93 : IVec S16 32) (k0_hw37 : k0_chk37 v37 v40 v93), ∀ a x, ((![v40, v93] : Fin 2 → IVec S16 32) a x).toNat < S64x128.size a := fun v37 v40 v93 k0_hw37 => k0_hw37.2

def k0_chk38 (v37 : IVec S16 32) (v40 : IVec S16 32) (v103 : IVec S16 32) : Prop :=
  (∀ a x, ((![v37, v103] : Fin 2 → IVec S16 32) a x).toNat < S256x128.size a) ∧
  (∀ a x, ((![v40, v103] : Fin 2 → IVec S16 32) a x).toNat < S64x128.size a)
theorem k0_idx331_inb : ∀ (v37 : IVec S16 32) (v40 : IVec S16 32) (v103 : IVec S16 32) (k0_hw38 : k0_chk38 v37 v40 v103), ∀ a x, ((![v37, v103] : Fin 2 → IVec S16 32) a x).toNat < S256x128.size a := fun v37 v40 v103 k0_hw38 => k0_hw38.1
theorem k0_idx332_inb : ∀ (v37 : IVec S16 32) (v40 : IVec S16 32) (v103 : IVec S16 32) (k0_hw38 : k0_chk38 v37 v40 v103), ∀ a x, ((![v40, v103] : Fin 2 → IVec S16 32) a x).toNat < S64x128.size a := fun v37 v40 v103 k0_hw38 => k0_hw38.2

def k0_chk39 (v37 : IVec S16 32) (v40 : IVec S16 32) (v113 : IVec S16 32) : Prop :=
  (∀ a x, ((![v37, v113] : Fin 2 → IVec S16 32) a x).toNat < S256x128.size a) ∧
  (∀ a x, ((![v40, v113] : Fin 2 → IVec S16 32) a x).toNat < S64x128.size a)
theorem k0_idx333_inb : ∀ (v37 : IVec S16 32) (v40 : IVec S16 32) (v113 : IVec S16 32) (k0_hw39 : k0_chk39 v37 v40 v113), ∀ a x, ((![v37, v113] : Fin 2 → IVec S16 32) a x).toNat < S256x128.size a := fun v37 v40 v113 k0_hw39 => k0_hw39.1
theorem k0_idx334_inb : ∀ (v37 : IVec S16 32) (v40 : IVec S16 32) (v113 : IVec S16 32) (k0_hw39 : k0_chk39 v37 v40 v113), ∀ a x, ((![v40, v113] : Fin 2 → IVec S16 32) a x).toNat < S64x128.size a := fun v37 v40 v113 k0_hw39 => k0_hw39.2

def k0_chk40 (v37 : IVec S16 32) (v40 : IVec S16 32) (v123 : IVec S16 32) : Prop :=
  (∀ a x, ((![v37, v123] : Fin 2 → IVec S16 32) a x).toNat < S256x128.size a) ∧
  (∀ a x, ((![v40, v123] : Fin 2 → IVec S16 32) a x).toNat < S64x128.size a)
theorem k0_idx335_inb : ∀ (v37 : IVec S16 32) (v40 : IVec S16 32) (v123 : IVec S16 32) (k0_hw40 : k0_chk40 v37 v40 v123), ∀ a x, ((![v37, v123] : Fin 2 → IVec S16 32) a x).toNat < S256x128.size a := fun v37 v40 v123 k0_hw40 => k0_hw40.1
theorem k0_idx336_inb : ∀ (v37 : IVec S16 32) (v40 : IVec S16 32) (v123 : IVec S16 32) (k0_hw40 : k0_chk40 v37 v40 v123), ∀ a x, ((![v40, v123] : Fin 2 → IVec S16 32) a x).toNat < S64x128.size a := fun v37 v40 v123 k0_hw40 => k0_hw40.2

def k0_chk41 (v37 : IVec S16 32) (v40 : IVec S16 32) (v133 : IVec S16 32) : Prop :=
  (∀ a x, ((![v37, v133] : Fin 2 → IVec S16 32) a x).toNat < S256x128.size a) ∧
  (∀ a x, ((![v40, v133] : Fin 2 → IVec S16 32) a x).toNat < S64x128.size a)
theorem k0_idx337_inb : ∀ (v37 : IVec S16 32) (v40 : IVec S16 32) (v133 : IVec S16 32) (k0_hw41 : k0_chk41 v37 v40 v133), ∀ a x, ((![v37, v133] : Fin 2 → IVec S16 32) a x).toNat < S256x128.size a := fun v37 v40 v133 k0_hw41 => k0_hw41.1
theorem k0_idx338_inb : ∀ (v37 : IVec S16 32) (v40 : IVec S16 32) (v133 : IVec S16 32) (k0_hw41 : k0_chk41 v37 v40 v133), ∀ a x, ((![v40, v133] : Fin 2 → IVec S16 32) a x).toNat < S64x128.size a := fun v37 v40 v133 k0_hw41 => k0_hw41.2

def k0_chk42 (v37 : IVec S16 32) (v40 : IVec S16 32) (v143 : IVec S16 32) : Prop :=
  (∀ a x, ((![v37, v143] : Fin 2 → IVec S16 32) a x).toNat < S256x128.size a) ∧
  (∀ a x, ((![v40, v143] : Fin 2 → IVec S16 32) a x).toNat < S64x128.size a)
theorem k0_idx339_inb : ∀ (v37 : IVec S16 32) (v40 : IVec S16 32) (v143 : IVec S16 32) (k0_hw42 : k0_chk42 v37 v40 v143), ∀ a x, ((![v37, v143] : Fin 2 → IVec S16 32) a x).toNat < S256x128.size a := fun v37 v40 v143 k0_hw42 => k0_hw42.1
theorem k0_idx340_inb : ∀ (v37 : IVec S16 32) (v40 : IVec S16 32) (v143 : IVec S16 32) (k0_hw42 : k0_chk42 v37 v40 v143), ∀ a x, ((![v40, v143] : Fin 2 → IVec S16 32) a x).toNat < S64x128.size a := fun v37 v40 v143 k0_hw42 => k0_hw42.2

def k0_chk43 (v37 : IVec S16 32) (v40 : IVec S16 32) (v153 : IVec S16 32) : Prop :=
  (∀ a x, ((![v37, v153] : Fin 2 → IVec S16 32) a x).toNat < S256x128.size a) ∧
  (∀ a x, ((![v40, v153] : Fin 2 → IVec S16 32) a x).toNat < S64x128.size a)
theorem k0_idx341_inb : ∀ (v37 : IVec S16 32) (v40 : IVec S16 32) (v153 : IVec S16 32) (k0_hw43 : k0_chk43 v37 v40 v153), ∀ a x, ((![v37, v153] : Fin 2 → IVec S16 32) a x).toNat < S256x128.size a := fun v37 v40 v153 k0_hw43 => k0_hw43.1
theorem k0_idx342_inb : ∀ (v37 : IVec S16 32) (v40 : IVec S16 32) (v153 : IVec S16 32) (k0_hw43 : k0_chk43 v37 v40 v153), ∀ a x, ((![v40, v153] : Fin 2 → IVec S16 32) a x).toNat < S64x128.size a := fun v37 v40 v153 k0_hw43 => k0_hw43.2

def k0_chk44 (v37 : IVec S16 32) (v40 : IVec S16 32) (v163 : IVec S16 32) : Prop :=
  (∀ a x, ((![v37, v163] : Fin 2 → IVec S16 32) a x).toNat < S256x128.size a) ∧
  (∀ a x, ((![v40, v163] : Fin 2 → IVec S16 32) a x).toNat < S64x128.size a)
theorem k0_idx343_inb : ∀ (v37 : IVec S16 32) (v40 : IVec S16 32) (v163 : IVec S16 32) (k0_hw44 : k0_chk44 v37 v40 v163), ∀ a x, ((![v37, v163] : Fin 2 → IVec S16 32) a x).toNat < S256x128.size a := fun v37 v40 v163 k0_hw44 => k0_hw44.1
theorem k0_idx344_inb : ∀ (v37 : IVec S16 32) (v40 : IVec S16 32) (v163 : IVec S16 32) (k0_hw44 : k0_chk44 v37 v40 v163), ∀ a x, ((![v40, v163] : Fin 2 → IVec S16 32) a x).toNat < S64x128.size a := fun v37 v40 v163 k0_hw44 => k0_hw44.2

def k0_chk45 (v37 : IVec S16 32) (v40 : IVec S16 32) (v173 : IVec S16 32) : Prop :=
  (∀ a x, ((![v37, v173] : Fin 2 → IVec S16 32) a x).toNat < S256x128.size a) ∧
  (∀ a x, ((![v40, v173] : Fin 2 → IVec S16 32) a x).toNat < S64x128.size a)
theorem k0_idx345_inb : ∀ (v37 : IVec S16 32) (v40 : IVec S16 32) (v173 : IVec S16 32) (k0_hw45 : k0_chk45 v37 v40 v173), ∀ a x, ((![v37, v173] : Fin 2 → IVec S16 32) a x).toNat < S256x128.size a := fun v37 v40 v173 k0_hw45 => k0_hw45.1
theorem k0_idx346_inb : ∀ (v37 : IVec S16 32) (v40 : IVec S16 32) (v173 : IVec S16 32) (k0_hw45 : k0_chk45 v37 v40 v173), ∀ a x, ((![v40, v173] : Fin 2 → IVec S16 32) a x).toNat < S64x128.size a := fun v37 v40 v173 k0_hw45 => k0_hw45.2

def k0_chk46 (v37 : IVec S16 32) (v40 : IVec S16 32) (v183 : IVec S16 32) : Prop :=
  (∀ a x, ((![v37, v183] : Fin 2 → IVec S16 32) a x).toNat < S256x128.size a) ∧
  (∀ a x, ((![v40, v183] : Fin 2 → IVec S16 32) a x).toNat < S64x128.size a)
theorem k0_idx347_inb : ∀ (v37 : IVec S16 32) (v40 : IVec S16 32) (v183 : IVec S16 32) (k0_hw46 : k0_chk46 v37 v40 v183), ∀ a x, ((![v37, v183] : Fin 2 → IVec S16 32) a x).toNat < S256x128.size a := fun v37 v40 v183 k0_hw46 => k0_hw46.1
theorem k0_idx348_inb : ∀ (v37 : IVec S16 32) (v40 : IVec S16 32) (v183 : IVec S16 32) (k0_hw46 : k0_chk46 v37 v40 v183), ∀ a x, ((![v40, v183] : Fin 2 → IVec S16 32) a x).toNat < S64x128.size a := fun v37 v40 v183 k0_hw46 => k0_hw46.2

def k0_chk47 (v37 : IVec S16 32) (v40 : IVec S16 32) (v193 : IVec S16 32) : Prop :=
  (∀ a x, ((![v37, v193] : Fin 2 → IVec S16 32) a x).toNat < S256x128.size a) ∧
  (∀ a x, ((![v40, v193] : Fin 2 → IVec S16 32) a x).toNat < S64x128.size a)
theorem k0_idx349_inb : ∀ (v37 : IVec S16 32) (v40 : IVec S16 32) (v193 : IVec S16 32) (k0_hw47 : k0_chk47 v37 v40 v193), ∀ a x, ((![v37, v193] : Fin 2 → IVec S16 32) a x).toNat < S256x128.size a := fun v37 v40 v193 k0_hw47 => k0_hw47.1
theorem k0_idx350_inb : ∀ (v37 : IVec S16 32) (v40 : IVec S16 32) (v193 : IVec S16 32) (k0_hw47 : k0_chk47 v37 v40 v193), ∀ a x, ((![v40, v193] : Fin 2 → IVec S16 32) a x).toNat < S64x128.size a := fun v37 v40 v193 k0_hw47 => k0_hw47.2

def k0_chk48 (v37 : IVec S16 32) (v40 : IVec S16 32) (v203 : IVec S16 32) : Prop :=
  (∀ a x, ((![v37, v203] : Fin 2 → IVec S16 32) a x).toNat < S256x128.size a) ∧
  (∀ a x, ((![v40, v203] : Fin 2 → IVec S16 32) a x).toNat < S64x128.size a)
theorem k0_idx351_inb : ∀ (v37 : IVec S16 32) (v40 : IVec S16 32) (v203 : IVec S16 32) (k0_hw48 : k0_chk48 v37 v40 v203), ∀ a x, ((![v37, v203] : Fin 2 → IVec S16 32) a x).toNat < S256x128.size a := fun v37 v40 v203 k0_hw48 => k0_hw48.1
theorem k0_idx352_inb : ∀ (v37 : IVec S16 32) (v40 : IVec S16 32) (v203 : IVec S16 32) (k0_hw48 : k0_chk48 v37 v40 v203), ∀ a x, ((![v40, v203] : Fin 2 → IVec S16 32) a x).toNat < S64x128.size a := fun v37 v40 v203 k0_hw48 => k0_hw48.2
def k0_off15 (k0_t4 : Fin k0_t4_loop.trips) : Fin 1 → Nat :=
  let c0_i32_18 : BitVec 32 := 0#32
  let c1_i32_19 : BitVec 32 := 1#32
  let arg21 : BitVec 32 := Scf.iv c0_i32_18 c1_i32_19 k0_t4
  let c16_i32_59 : BitVec 32 := 16#32
  let v44 : BitVec 32 := Scalar.muli arg21 c16_i32_59
  let v45 : Index := Scalar.indexCast v44
  ![v45.toNat]
def k0_off16 (i : grid0.Coords) (c0_i32_21 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v17 : BitVec 32 := Scalar.addi v2 c0_i32_21
  ![v17.toNat]
@[reducible] def k0_t6_loop : Scf.Loop 32 :=
  let c0_i32_29 : BitVec 32 := 0#32
  let c4_i32_30 : BitVec 32 := 4#32
  let v22 : BitVec 32 := Scalar.addi c0_i32_29 c4_i32_30
  let c1_i32_31 : BitVec 32 := 1#32
  ⟨c0_i32_29, v22, c1_i32_31⟩
@[reducible] def k0_t7_loop : Scf.Loop 32 :=
  let c0_i32_56 : BitVec 32 := 0#32
  let c8_i32 : BitVec 32 := 8#32
  let v42 : BitVec 32 := Scalar.addi c0_i32_56 c8_i32
  let c1_i32_57 : BitVec 32 := 1#32
  ⟨c0_i32_56, v42, c1_i32_57⟩

def k0_chk49 (v37 : IVec S16 32) (v40 : IVec S16 32) (v53 : IVec S16 32) : Prop :=
  (∀ a x, ((![v37, v53] : Fin 2 → IVec S16 32) a x).toNat < S256x128.size a) ∧
  (∀ a x, ((![v40, v53] : Fin 2 → IVec S16 32) a x).toNat < S64x128.size a)
theorem k0_idx353_inb : ∀ (v37 : IVec S16 32) (v40 : IVec S16 32) (v53 : IVec S16 32) (k0_hw49 : k0_chk49 v37 v40 v53), ∀ a x, ((![v37, v53] : Fin 2 → IVec S16 32) a x).toNat < S256x128.size a := fun v37 v40 v53 k0_hw49 => k0_hw49.1
theorem k0_idx354_inb : ∀ (v37 : IVec S16 32) (v40 : IVec S16 32) (v53 : IVec S16 32) (k0_hw49 : k0_chk49 v37 v40 v53), ∀ a x, ((![v40, v53] : Fin 2 → IVec S16 32) a x).toNat < S64x128.size a := fun v37 v40 v53 k0_hw49 => k0_hw49.2

def k0_chk50 (v37 : IVec S16 32) (v40 : IVec S16 32) (v63 : IVec S16 32) : Prop :=
  (∀ a x, ((![v37, v63] : Fin 2 → IVec S16 32) a x).toNat < S256x128.size a) ∧
  (∀ a x, ((![v40, v63] : Fin 2 → IVec S16 32) a x).toNat < S64x128.size a)
theorem k0_idx355_inb : ∀ (v37 : IVec S16 32) (v40 : IVec S16 32) (v63 : IVec S16 32) (k0_hw50 : k0_chk50 v37 v40 v63), ∀ a x, ((![v37, v63] : Fin 2 → IVec S16 32) a x).toNat < S256x128.size a := fun v37 v40 v63 k0_hw50 => k0_hw50.1
theorem k0_idx356_inb : ∀ (v37 : IVec S16 32) (v40 : IVec S16 32) (v63 : IVec S16 32) (k0_hw50 : k0_chk50 v37 v40 v63), ∀ a x, ((![v40, v63] : Fin 2 → IVec S16 32) a x).toNat < S64x128.size a := fun v37 v40 v63 k0_hw50 => k0_hw50.2

def k0_chk51 (v37 : IVec S16 32) (v40 : IVec S16 32) (v73 : IVec S16 32) : Prop :=
  (∀ a x, ((![v37, v73] : Fin 2 → IVec S16 32) a x).toNat < S256x128.size a) ∧
  (∀ a x, ((![v40, v73] : Fin 2 → IVec S16 32) a x).toNat < S64x128.size a)
theorem k0_idx357_inb : ∀ (v37 : IVec S16 32) (v40 : IVec S16 32) (v73 : IVec S16 32) (k0_hw51 : k0_chk51 v37 v40 v73), ∀ a x, ((![v37, v73] : Fin 2 → IVec S16 32) a x).toNat < S256x128.size a := fun v37 v40 v73 k0_hw51 => k0_hw51.1
theorem k0_idx358_inb : ∀ (v37 : IVec S16 32) (v40 : IVec S16 32) (v73 : IVec S16 32) (k0_hw51 : k0_chk51 v37 v40 v73), ∀ a x, ((![v40, v73] : Fin 2 → IVec S16 32) a x).toNat < S64x128.size a := fun v37 v40 v73 k0_hw51 => k0_hw51.2

def k0_chk52 (v37 : IVec S16 32) (v40 : IVec S16 32) (v83 : IVec S16 32) : Prop :=
  (∀ a x, ((![v37, v83] : Fin 2 → IVec S16 32) a x).toNat < S256x128.size a) ∧
  (∀ a x, ((![v40, v83] : Fin 2 → IVec S16 32) a x).toNat < S64x128.size a)
theorem k0_idx359_inb : ∀ (v37 : IVec S16 32) (v40 : IVec S16 32) (v83 : IVec S16 32) (k0_hw52 : k0_chk52 v37 v40 v83), ∀ a x, ((![v37, v83] : Fin 2 → IVec S16 32) a x).toNat < S256x128.size a := fun v37 v40 v83 k0_hw52 => k0_hw52.1
theorem k0_idx360_inb : ∀ (v37 : IVec S16 32) (v40 : IVec S16 32) (v83 : IVec S16 32) (k0_hw52 : k0_chk52 v37 v40 v83), ∀ a x, ((![v40, v83] : Fin 2 → IVec S16 32) a x).toNat < S64x128.size a := fun v37 v40 v83 k0_hw52 => k0_hw52.2

def k0_chk53 (v37 : IVec S16 32) (v40 : IVec S16 32) (v93 : IVec S16 32) : Prop :=
  (∀ a x, ((![v37, v93] : Fin 2 → IVec S16 32) a x).toNat < S256x128.size a) ∧
  (∀ a x, ((![v40, v93] : Fin 2 → IVec S16 32) a x).toNat < S64x128.size a)
theorem k0_idx361_inb : ∀ (v37 : IVec S16 32) (v40 : IVec S16 32) (v93 : IVec S16 32) (k0_hw53 : k0_chk53 v37 v40 v93), ∀ a x, ((![v37, v93] : Fin 2 → IVec S16 32) a x).toNat < S256x128.size a := fun v37 v40 v93 k0_hw53 => k0_hw53.1
theorem k0_idx362_inb : ∀ (v37 : IVec S16 32) (v40 : IVec S16 32) (v93 : IVec S16 32) (k0_hw53 : k0_chk53 v37 v40 v93), ∀ a x, ((![v40, v93] : Fin 2 → IVec S16 32) a x).toNat < S64x128.size a := fun v37 v40 v93 k0_hw53 => k0_hw53.2

def k0_chk54 (v37 : IVec S16 32) (v40 : IVec S16 32) (v103 : IVec S16 32) : Prop :=
  (∀ a x, ((![v37, v103] : Fin 2 → IVec S16 32) a x).toNat < S256x128.size a) ∧
  (∀ a x, ((![v40, v103] : Fin 2 → IVec S16 32) a x).toNat < S64x128.size a)
theorem k0_idx363_inb : ∀ (v37 : IVec S16 32) (v40 : IVec S16 32) (v103 : IVec S16 32) (k0_hw54 : k0_chk54 v37 v40 v103), ∀ a x, ((![v37, v103] : Fin 2 → IVec S16 32) a x).toNat < S256x128.size a := fun v37 v40 v103 k0_hw54 => k0_hw54.1
theorem k0_idx364_inb : ∀ (v37 : IVec S16 32) (v40 : IVec S16 32) (v103 : IVec S16 32) (k0_hw54 : k0_chk54 v37 v40 v103), ∀ a x, ((![v40, v103] : Fin 2 → IVec S16 32) a x).toNat < S64x128.size a := fun v37 v40 v103 k0_hw54 => k0_hw54.2

def k0_chk55 (v37 : IVec S16 32) (v40 : IVec S16 32) (v113 : IVec S16 32) : Prop :=
  (∀ a x, ((![v37, v113] : Fin 2 → IVec S16 32) a x).toNat < S256x128.size a) ∧
  (∀ a x, ((![v40, v113] : Fin 2 → IVec S16 32) a x).toNat < S64x128.size a)
theorem k0_idx365_inb : ∀ (v37 : IVec S16 32) (v40 : IVec S16 32) (v113 : IVec S16 32) (k0_hw55 : k0_chk55 v37 v40 v113), ∀ a x, ((![v37, v113] : Fin 2 → IVec S16 32) a x).toNat < S256x128.size a := fun v37 v40 v113 k0_hw55 => k0_hw55.1
theorem k0_idx366_inb : ∀ (v37 : IVec S16 32) (v40 : IVec S16 32) (v113 : IVec S16 32) (k0_hw55 : k0_chk55 v37 v40 v113), ∀ a x, ((![v40, v113] : Fin 2 → IVec S16 32) a x).toNat < S64x128.size a := fun v37 v40 v113 k0_hw55 => k0_hw55.2

def k0_chk56 (v37 : IVec S16 32) (v40 : IVec S16 32) (v123 : IVec S16 32) : Prop :=
  (∀ a x, ((![v37, v123] : Fin 2 → IVec S16 32) a x).toNat < S256x128.size a) ∧
  (∀ a x, ((![v40, v123] : Fin 2 → IVec S16 32) a x).toNat < S64x128.size a)
theorem k0_idx367_inb : ∀ (v37 : IVec S16 32) (v40 : IVec S16 32) (v123 : IVec S16 32) (k0_hw56 : k0_chk56 v37 v40 v123), ∀ a x, ((![v37, v123] : Fin 2 → IVec S16 32) a x).toNat < S256x128.size a := fun v37 v40 v123 k0_hw56 => k0_hw56.1
theorem k0_idx368_inb : ∀ (v37 : IVec S16 32) (v40 : IVec S16 32) (v123 : IVec S16 32) (k0_hw56 : k0_chk56 v37 v40 v123), ∀ a x, ((![v40, v123] : Fin 2 → IVec S16 32) a x).toNat < S64x128.size a := fun v37 v40 v123 k0_hw56 => k0_hw56.2

def k0_chk57 (v37 : IVec S16 32) (v40 : IVec S16 32) (v133 : IVec S16 32) : Prop :=
  (∀ a x, ((![v37, v133] : Fin 2 → IVec S16 32) a x).toNat < S256x128.size a) ∧
  (∀ a x, ((![v40, v133] : Fin 2 → IVec S16 32) a x).toNat < S64x128.size a)
theorem k0_idx369_inb : ∀ (v37 : IVec S16 32) (v40 : IVec S16 32) (v133 : IVec S16 32) (k0_hw57 : k0_chk57 v37 v40 v133), ∀ a x, ((![v37, v133] : Fin 2 → IVec S16 32) a x).toNat < S256x128.size a := fun v37 v40 v133 k0_hw57 => k0_hw57.1
theorem k0_idx370_inb : ∀ (v37 : IVec S16 32) (v40 : IVec S16 32) (v133 : IVec S16 32) (k0_hw57 : k0_chk57 v37 v40 v133), ∀ a x, ((![v40, v133] : Fin 2 → IVec S16 32) a x).toNat < S64x128.size a := fun v37 v40 v133 k0_hw57 => k0_hw57.2

def k0_chk58 (v37 : IVec S16 32) (v40 : IVec S16 32) (v143 : IVec S16 32) : Prop :=
  (∀ a x, ((![v37, v143] : Fin 2 → IVec S16 32) a x).toNat < S256x128.size a) ∧
  (∀ a x, ((![v40, v143] : Fin 2 → IVec S16 32) a x).toNat < S64x128.size a)
theorem k0_idx371_inb : ∀ (v37 : IVec S16 32) (v40 : IVec S16 32) (v143 : IVec S16 32) (k0_hw58 : k0_chk58 v37 v40 v143), ∀ a x, ((![v37, v143] : Fin 2 → IVec S16 32) a x).toNat < S256x128.size a := fun v37 v40 v143 k0_hw58 => k0_hw58.1
theorem k0_idx372_inb : ∀ (v37 : IVec S16 32) (v40 : IVec S16 32) (v143 : IVec S16 32) (k0_hw58 : k0_chk58 v37 v40 v143), ∀ a x, ((![v40, v143] : Fin 2 → IVec S16 32) a x).toNat < S64x128.size a := fun v37 v40 v143 k0_hw58 => k0_hw58.2

def k0_chk59 (v37 : IVec S16 32) (v40 : IVec S16 32) (v153 : IVec S16 32) : Prop :=
  (∀ a x, ((![v37, v153] : Fin 2 → IVec S16 32) a x).toNat < S256x128.size a) ∧
  (∀ a x, ((![v40, v153] : Fin 2 → IVec S16 32) a x).toNat < S64x128.size a)
theorem k0_idx373_inb : ∀ (v37 : IVec S16 32) (v40 : IVec S16 32) (v153 : IVec S16 32) (k0_hw59 : k0_chk59 v37 v40 v153), ∀ a x, ((![v37, v153] : Fin 2 → IVec S16 32) a x).toNat < S256x128.size a := fun v37 v40 v153 k0_hw59 => k0_hw59.1
theorem k0_idx374_inb : ∀ (v37 : IVec S16 32) (v40 : IVec S16 32) (v153 : IVec S16 32) (k0_hw59 : k0_chk59 v37 v40 v153), ∀ a x, ((![v40, v153] : Fin 2 → IVec S16 32) a x).toNat < S64x128.size a := fun v37 v40 v153 k0_hw59 => k0_hw59.2

def k0_chk60 (v37 : IVec S16 32) (v40 : IVec S16 32) (v163 : IVec S16 32) : Prop :=
  (∀ a x, ((![v37, v163] : Fin 2 → IVec S16 32) a x).toNat < S256x128.size a) ∧
  (∀ a x, ((![v40, v163] : Fin 2 → IVec S16 32) a x).toNat < S64x128.size a)
theorem k0_idx375_inb : ∀ (v37 : IVec S16 32) (v40 : IVec S16 32) (v163 : IVec S16 32) (k0_hw60 : k0_chk60 v37 v40 v163), ∀ a x, ((![v37, v163] : Fin 2 → IVec S16 32) a x).toNat < S256x128.size a := fun v37 v40 v163 k0_hw60 => k0_hw60.1
theorem k0_idx376_inb : ∀ (v37 : IVec S16 32) (v40 : IVec S16 32) (v163 : IVec S16 32) (k0_hw60 : k0_chk60 v37 v40 v163), ∀ a x, ((![v40, v163] : Fin 2 → IVec S16 32) a x).toNat < S64x128.size a := fun v37 v40 v163 k0_hw60 => k0_hw60.2

def k0_chk61 (v37 : IVec S16 32) (v40 : IVec S16 32) (v173 : IVec S16 32) : Prop :=
  (∀ a x, ((![v37, v173] : Fin 2 → IVec S16 32) a x).toNat < S256x128.size a) ∧
  (∀ a x, ((![v40, v173] : Fin 2 → IVec S16 32) a x).toNat < S64x128.size a)
theorem k0_idx377_inb : ∀ (v37 : IVec S16 32) (v40 : IVec S16 32) (v173 : IVec S16 32) (k0_hw61 : k0_chk61 v37 v40 v173), ∀ a x, ((![v37, v173] : Fin 2 → IVec S16 32) a x).toNat < S256x128.size a := fun v37 v40 v173 k0_hw61 => k0_hw61.1
theorem k0_idx378_inb : ∀ (v37 : IVec S16 32) (v40 : IVec S16 32) (v173 : IVec S16 32) (k0_hw61 : k0_chk61 v37 v40 v173), ∀ a x, ((![v40, v173] : Fin 2 → IVec S16 32) a x).toNat < S64x128.size a := fun v37 v40 v173 k0_hw61 => k0_hw61.2

def k0_chk62 (v37 : IVec S16 32) (v40 : IVec S16 32) (v183 : IVec S16 32) : Prop :=
  (∀ a x, ((![v37, v183] : Fin 2 → IVec S16 32) a x).toNat < S256x128.size a) ∧
  (∀ a x, ((![v40, v183] : Fin 2 → IVec S16 32) a x).toNat < S64x128.size a)
theorem k0_idx379_inb : ∀ (v37 : IVec S16 32) (v40 : IVec S16 32) (v183 : IVec S16 32) (k0_hw62 : k0_chk62 v37 v40 v183), ∀ a x, ((![v37, v183] : Fin 2 → IVec S16 32) a x).toNat < S256x128.size a := fun v37 v40 v183 k0_hw62 => k0_hw62.1
theorem k0_idx380_inb : ∀ (v37 : IVec S16 32) (v40 : IVec S16 32) (v183 : IVec S16 32) (k0_hw62 : k0_chk62 v37 v40 v183), ∀ a x, ((![v40, v183] : Fin 2 → IVec S16 32) a x).toNat < S64x128.size a := fun v37 v40 v183 k0_hw62 => k0_hw62.2

def k0_chk63 (v37 : IVec S16 32) (v40 : IVec S16 32) (v193 : IVec S16 32) : Prop :=
  (∀ a x, ((![v37, v193] : Fin 2 → IVec S16 32) a x).toNat < S256x128.size a) ∧
  (∀ a x, ((![v40, v193] : Fin 2 → IVec S16 32) a x).toNat < S64x128.size a)
theorem k0_idx381_inb : ∀ (v37 : IVec S16 32) (v40 : IVec S16 32) (v193 : IVec S16 32) (k0_hw63 : k0_chk63 v37 v40 v193), ∀ a x, ((![v37, v193] : Fin 2 → IVec S16 32) a x).toNat < S256x128.size a := fun v37 v40 v193 k0_hw63 => k0_hw63.1
theorem k0_idx382_inb : ∀ (v37 : IVec S16 32) (v40 : IVec S16 32) (v193 : IVec S16 32) (k0_hw63 : k0_chk63 v37 v40 v193), ∀ a x, ((![v40, v193] : Fin 2 → IVec S16 32) a x).toNat < S64x128.size a := fun v37 v40 v193 k0_hw63 => k0_hw63.2

def k0_chk64 (v37 : IVec S16 32) (v40 : IVec S16 32) (v203 : IVec S16 32) : Prop :=
  (∀ a x, ((![v37, v203] : Fin 2 → IVec S16 32) a x).toNat < S256x128.size a) ∧
  (∀ a x, ((![v40, v203] : Fin 2 → IVec S16 32) a x).toNat < S64x128.size a)
theorem k0_idx383_inb : ∀ (v37 : IVec S16 32) (v40 : IVec S16 32) (v203 : IVec S16 32) (k0_hw64 : k0_chk64 v37 v40 v203), ∀ a x, ((![v37, v203] : Fin 2 → IVec S16 32) a x).toNat < S256x128.size a := fun v37 v40 v203 k0_hw64 => k0_hw64.1
theorem k0_idx384_inb : ∀ (v37 : IVec S16 32) (v40 : IVec S16 32) (v203 : IVec S16 32) (k0_hw64 : k0_chk64 v37 v40 v203), ∀ a x, ((![v40, v203] : Fin 2 → IVec S16 32) a x).toNat < S64x128.size a := fun v37 v40 v203 k0_hw64 => k0_hw64.2
def k0_off17 (k0_t6 : Fin k0_t6_loop.trips) : Fin 1 → Nat :=
  let c0_i32_29 : BitVec 32 := 0#32
  let c1_i32_31 : BitVec 32 := 1#32
  let arg21 : BitVec 32 := Scf.iv c0_i32_29 c1_i32_31 k0_t6
  let c16_i32_59 : BitVec 32 := 16#32
  let v44 : BitVec 32 := Scalar.muli arg21 c16_i32_59
  let v45 : Index := Scalar.indexCast v44
  ![v45.toNat]
@[reducible] def k0_t8_loop : Scf.Loop 32 :=
  let c0_i32_40 : BitVec 32 := 0#32
  let c4_i32_41 : BitVec 32 := 4#32
  let v28 : BitVec 32 := Scalar.addi c0_i32_40 c4_i32_41
  let c1_i32_42 : BitVec 32 := 1#32
  ⟨c0_i32_40, v28, c1_i32_42⟩
@[reducible] def k0_t9_loop : Scf.Loop 32 :=
  let c0_i32_56 : BitVec 32 := 0#32
  let c8_i32 : BitVec 32 := 8#32
  let v42 : BitVec 32 := Scalar.addi c0_i32_56 c8_i32
  let c1_i32_57 : BitVec 32 := 1#32
  ⟨c0_i32_56, v42, c1_i32_57⟩

def k0_chk65 (v37 : IVec S16 32) (v40 : IVec S16 32) (v53 : IVec S16 32) : Prop :=
  (∀ a x, ((![v37, v53] : Fin 2 → IVec S16 32) a x).toNat < S256x128.size a) ∧
  (∀ a x, ((![v40, v53] : Fin 2 → IVec S16 32) a x).toNat < S64x128.size a)
theorem k0_idx385_inb : ∀ (v37 : IVec S16 32) (v40 : IVec S16 32) (v53 : IVec S16 32) (k0_hw65 : k0_chk65 v37 v40 v53), ∀ a x, ((![v37, v53] : Fin 2 → IVec S16 32) a x).toNat < S256x128.size a := fun v37 v40 v53 k0_hw65 => k0_hw65.1
theorem k0_idx386_inb : ∀ (v37 : IVec S16 32) (v40 : IVec S16 32) (v53 : IVec S16 32) (k0_hw65 : k0_chk65 v37 v40 v53), ∀ a x, ((![v40, v53] : Fin 2 → IVec S16 32) a x).toNat < S64x128.size a := fun v37 v40 v53 k0_hw65 => k0_hw65.2

def k0_chk66 (v37 : IVec S16 32) (v40 : IVec S16 32) (v63 : IVec S16 32) : Prop :=
  (∀ a x, ((![v37, v63] : Fin 2 → IVec S16 32) a x).toNat < S256x128.size a) ∧
  (∀ a x, ((![v40, v63] : Fin 2 → IVec S16 32) a x).toNat < S64x128.size a)
theorem k0_idx387_inb : ∀ (v37 : IVec S16 32) (v40 : IVec S16 32) (v63 : IVec S16 32) (k0_hw66 : k0_chk66 v37 v40 v63), ∀ a x, ((![v37, v63] : Fin 2 → IVec S16 32) a x).toNat < S256x128.size a := fun v37 v40 v63 k0_hw66 => k0_hw66.1
theorem k0_idx388_inb : ∀ (v37 : IVec S16 32) (v40 : IVec S16 32) (v63 : IVec S16 32) (k0_hw66 : k0_chk66 v37 v40 v63), ∀ a x, ((![v40, v63] : Fin 2 → IVec S16 32) a x).toNat < S64x128.size a := fun v37 v40 v63 k0_hw66 => k0_hw66.2

def k0_chk67 (v37 : IVec S16 32) (v40 : IVec S16 32) (v73 : IVec S16 32) : Prop :=
  (∀ a x, ((![v37, v73] : Fin 2 → IVec S16 32) a x).toNat < S256x128.size a) ∧
  (∀ a x, ((![v40, v73] : Fin 2 → IVec S16 32) a x).toNat < S64x128.size a)
theorem k0_idx389_inb : ∀ (v37 : IVec S16 32) (v40 : IVec S16 32) (v73 : IVec S16 32) (k0_hw67 : k0_chk67 v37 v40 v73), ∀ a x, ((![v37, v73] : Fin 2 → IVec S16 32) a x).toNat < S256x128.size a := fun v37 v40 v73 k0_hw67 => k0_hw67.1
theorem k0_idx390_inb : ∀ (v37 : IVec S16 32) (v40 : IVec S16 32) (v73 : IVec S16 32) (k0_hw67 : k0_chk67 v37 v40 v73), ∀ a x, ((![v40, v73] : Fin 2 → IVec S16 32) a x).toNat < S64x128.size a := fun v37 v40 v73 k0_hw67 => k0_hw67.2

def k0_chk68 (v37 : IVec S16 32) (v40 : IVec S16 32) (v83 : IVec S16 32) : Prop :=
  (∀ a x, ((![v37, v83] : Fin 2 → IVec S16 32) a x).toNat < S256x128.size a) ∧
  (∀ a x, ((![v40, v83] : Fin 2 → IVec S16 32) a x).toNat < S64x128.size a)
theorem k0_idx391_inb : ∀ (v37 : IVec S16 32) (v40 : IVec S16 32) (v83 : IVec S16 32) (k0_hw68 : k0_chk68 v37 v40 v83), ∀ a x, ((![v37, v83] : Fin 2 → IVec S16 32) a x).toNat < S256x128.size a := fun v37 v40 v83 k0_hw68 => k0_hw68.1
theorem k0_idx392_inb : ∀ (v37 : IVec S16 32) (v40 : IVec S16 32) (v83 : IVec S16 32) (k0_hw68 : k0_chk68 v37 v40 v83), ∀ a x, ((![v40, v83] : Fin 2 → IVec S16 32) a x).toNat < S64x128.size a := fun v37 v40 v83 k0_hw68 => k0_hw68.2

def k0_chk69 (v37 : IVec S16 32) (v40 : IVec S16 32) (v93 : IVec S16 32) : Prop :=
  (∀ a x, ((![v37, v93] : Fin 2 → IVec S16 32) a x).toNat < S256x128.size a) ∧
  (∀ a x, ((![v40, v93] : Fin 2 → IVec S16 32) a x).toNat < S64x128.size a)
theorem k0_idx393_inb : ∀ (v37 : IVec S16 32) (v40 : IVec S16 32) (v93 : IVec S16 32) (k0_hw69 : k0_chk69 v37 v40 v93), ∀ a x, ((![v37, v93] : Fin 2 → IVec S16 32) a x).toNat < S256x128.size a := fun v37 v40 v93 k0_hw69 => k0_hw69.1
theorem k0_idx394_inb : ∀ (v37 : IVec S16 32) (v40 : IVec S16 32) (v93 : IVec S16 32) (k0_hw69 : k0_chk69 v37 v40 v93), ∀ a x, ((![v40, v93] : Fin 2 → IVec S16 32) a x).toNat < S64x128.size a := fun v37 v40 v93 k0_hw69 => k0_hw69.2

def k0_chk70 (v37 : IVec S16 32) (v40 : IVec S16 32) (v103 : IVec S16 32) : Prop :=
  (∀ a x, ((![v37, v103] : Fin 2 → IVec S16 32) a x).toNat < S256x128.size a) ∧
  (∀ a x, ((![v40, v103] : Fin 2 → IVec S16 32) a x).toNat < S64x128.size a)
theorem k0_idx395_inb : ∀ (v37 : IVec S16 32) (v40 : IVec S16 32) (v103 : IVec S16 32) (k0_hw70 : k0_chk70 v37 v40 v103), ∀ a x, ((![v37, v103] : Fin 2 → IVec S16 32) a x).toNat < S256x128.size a := fun v37 v40 v103 k0_hw70 => k0_hw70.1
theorem k0_idx396_inb : ∀ (v37 : IVec S16 32) (v40 : IVec S16 32) (v103 : IVec S16 32) (k0_hw70 : k0_chk70 v37 v40 v103), ∀ a x, ((![v40, v103] : Fin 2 → IVec S16 32) a x).toNat < S64x128.size a := fun v37 v40 v103 k0_hw70 => k0_hw70.2

def k0_chk71 (v37 : IVec S16 32) (v40 : IVec S16 32) (v113 : IVec S16 32) : Prop :=
  (∀ a x, ((![v37, v113] : Fin 2 → IVec S16 32) a x).toNat < S256x128.size a) ∧
  (∀ a x, ((![v40, v113] : Fin 2 → IVec S16 32) a x).toNat < S64x128.size a)
theorem k0_idx397_inb : ∀ (v37 : IVec S16 32) (v40 : IVec S16 32) (v113 : IVec S16 32) (k0_hw71 : k0_chk71 v37 v40 v113), ∀ a x, ((![v37, v113] : Fin 2 → IVec S16 32) a x).toNat < S256x128.size a := fun v37 v40 v113 k0_hw71 => k0_hw71.1
theorem k0_idx398_inb : ∀ (v37 : IVec S16 32) (v40 : IVec S16 32) (v113 : IVec S16 32) (k0_hw71 : k0_chk71 v37 v40 v113), ∀ a x, ((![v40, v113] : Fin 2 → IVec S16 32) a x).toNat < S64x128.size a := fun v37 v40 v113 k0_hw71 => k0_hw71.2

def k0_chk72 (v37 : IVec S16 32) (v40 : IVec S16 32) (v123 : IVec S16 32) : Prop :=
  (∀ a x, ((![v37, v123] : Fin 2 → IVec S16 32) a x).toNat < S256x128.size a) ∧
  (∀ a x, ((![v40, v123] : Fin 2 → IVec S16 32) a x).toNat < S64x128.size a)
theorem k0_idx399_inb : ∀ (v37 : IVec S16 32) (v40 : IVec S16 32) (v123 : IVec S16 32) (k0_hw72 : k0_chk72 v37 v40 v123), ∀ a x, ((![v37, v123] : Fin 2 → IVec S16 32) a x).toNat < S256x128.size a := fun v37 v40 v123 k0_hw72 => k0_hw72.1
theorem k0_idx400_inb : ∀ (v37 : IVec S16 32) (v40 : IVec S16 32) (v123 : IVec S16 32) (k0_hw72 : k0_chk72 v37 v40 v123), ∀ a x, ((![v40, v123] : Fin 2 → IVec S16 32) a x).toNat < S64x128.size a := fun v37 v40 v123 k0_hw72 => k0_hw72.2

def k0_chk73 (v37 : IVec S16 32) (v40 : IVec S16 32) (v133 : IVec S16 32) : Prop :=
  (∀ a x, ((![v37, v133] : Fin 2 → IVec S16 32) a x).toNat < S256x128.size a) ∧
  (∀ a x, ((![v40, v133] : Fin 2 → IVec S16 32) a x).toNat < S64x128.size a)
theorem k0_idx401_inb : ∀ (v37 : IVec S16 32) (v40 : IVec S16 32) (v133 : IVec S16 32) (k0_hw73 : k0_chk73 v37 v40 v133), ∀ a x, ((![v37, v133] : Fin 2 → IVec S16 32) a x).toNat < S256x128.size a := fun v37 v40 v133 k0_hw73 => k0_hw73.1
theorem k0_idx402_inb : ∀ (v37 : IVec S16 32) (v40 : IVec S16 32) (v133 : IVec S16 32) (k0_hw73 : k0_chk73 v37 v40 v133), ∀ a x, ((![v40, v133] : Fin 2 → IVec S16 32) a x).toNat < S64x128.size a := fun v37 v40 v133 k0_hw73 => k0_hw73.2

def k0_chk74 (v37 : IVec S16 32) (v40 : IVec S16 32) (v143 : IVec S16 32) : Prop :=
  (∀ a x, ((![v37, v143] : Fin 2 → IVec S16 32) a x).toNat < S256x128.size a) ∧
  (∀ a x, ((![v40, v143] : Fin 2 → IVec S16 32) a x).toNat < S64x128.size a)
theorem k0_idx403_inb : ∀ (v37 : IVec S16 32) (v40 : IVec S16 32) (v143 : IVec S16 32) (k0_hw74 : k0_chk74 v37 v40 v143), ∀ a x, ((![v37, v143] : Fin 2 → IVec S16 32) a x).toNat < S256x128.size a := fun v37 v40 v143 k0_hw74 => k0_hw74.1
theorem k0_idx404_inb : ∀ (v37 : IVec S16 32) (v40 : IVec S16 32) (v143 : IVec S16 32) (k0_hw74 : k0_chk74 v37 v40 v143), ∀ a x, ((![v40, v143] : Fin 2 → IVec S16 32) a x).toNat < S64x128.size a := fun v37 v40 v143 k0_hw74 => k0_hw74.2

def k0_chk75 (v37 : IVec S16 32) (v40 : IVec S16 32) (v153 : IVec S16 32) : Prop :=
  (∀ a x, ((![v37, v153] : Fin 2 → IVec S16 32) a x).toNat < S256x128.size a) ∧
  (∀ a x, ((![v40, v153] : Fin 2 → IVec S16 32) a x).toNat < S64x128.size a)
theorem k0_idx405_inb : ∀ (v37 : IVec S16 32) (v40 : IVec S16 32) (v153 : IVec S16 32) (k0_hw75 : k0_chk75 v37 v40 v153), ∀ a x, ((![v37, v153] : Fin 2 → IVec S16 32) a x).toNat < S256x128.size a := fun v37 v40 v153 k0_hw75 => k0_hw75.1
theorem k0_idx406_inb : ∀ (v37 : IVec S16 32) (v40 : IVec S16 32) (v153 : IVec S16 32) (k0_hw75 : k0_chk75 v37 v40 v153), ∀ a x, ((![v40, v153] : Fin 2 → IVec S16 32) a x).toNat < S64x128.size a := fun v37 v40 v153 k0_hw75 => k0_hw75.2

def k0_chk76 (v37 : IVec S16 32) (v40 : IVec S16 32) (v163 : IVec S16 32) : Prop :=
  (∀ a x, ((![v37, v163] : Fin 2 → IVec S16 32) a x).toNat < S256x128.size a) ∧
  (∀ a x, ((![v40, v163] : Fin 2 → IVec S16 32) a x).toNat < S64x128.size a)
theorem k0_idx407_inb : ∀ (v37 : IVec S16 32) (v40 : IVec S16 32) (v163 : IVec S16 32) (k0_hw76 : k0_chk76 v37 v40 v163), ∀ a x, ((![v37, v163] : Fin 2 → IVec S16 32) a x).toNat < S256x128.size a := fun v37 v40 v163 k0_hw76 => k0_hw76.1
theorem k0_idx408_inb : ∀ (v37 : IVec S16 32) (v40 : IVec S16 32) (v163 : IVec S16 32) (k0_hw76 : k0_chk76 v37 v40 v163), ∀ a x, ((![v40, v163] : Fin 2 → IVec S16 32) a x).toNat < S64x128.size a := fun v37 v40 v163 k0_hw76 => k0_hw76.2

def k0_chk77 (v37 : IVec S16 32) (v40 : IVec S16 32) (v173 : IVec S16 32) : Prop :=
  (∀ a x, ((![v37, v173] : Fin 2 → IVec S16 32) a x).toNat < S256x128.size a) ∧
  (∀ a x, ((![v40, v173] : Fin 2 → IVec S16 32) a x).toNat < S64x128.size a)
theorem k0_idx409_inb : ∀ (v37 : IVec S16 32) (v40 : IVec S16 32) (v173 : IVec S16 32) (k0_hw77 : k0_chk77 v37 v40 v173), ∀ a x, ((![v37, v173] : Fin 2 → IVec S16 32) a x).toNat < S256x128.size a := fun v37 v40 v173 k0_hw77 => k0_hw77.1
theorem k0_idx410_inb : ∀ (v37 : IVec S16 32) (v40 : IVec S16 32) (v173 : IVec S16 32) (k0_hw77 : k0_chk77 v37 v40 v173), ∀ a x, ((![v40, v173] : Fin 2 → IVec S16 32) a x).toNat < S64x128.size a := fun v37 v40 v173 k0_hw77 => k0_hw77.2

def k0_chk78 (v37 : IVec S16 32) (v40 : IVec S16 32) (v183 : IVec S16 32) : Prop :=
  (∀ a x, ((![v37, v183] : Fin 2 → IVec S16 32) a x).toNat < S256x128.size a) ∧
  (∀ a x, ((![v40, v183] : Fin 2 → IVec S16 32) a x).toNat < S64x128.size a)
theorem k0_idx411_inb : ∀ (v37 : IVec S16 32) (v40 : IVec S16 32) (v183 : IVec S16 32) (k0_hw78 : k0_chk78 v37 v40 v183), ∀ a x, ((![v37, v183] : Fin 2 → IVec S16 32) a x).toNat < S256x128.size a := fun v37 v40 v183 k0_hw78 => k0_hw78.1
theorem k0_idx412_inb : ∀ (v37 : IVec S16 32) (v40 : IVec S16 32) (v183 : IVec S16 32) (k0_hw78 : k0_chk78 v37 v40 v183), ∀ a x, ((![v40, v183] : Fin 2 → IVec S16 32) a x).toNat < S64x128.size a := fun v37 v40 v183 k0_hw78 => k0_hw78.2

def k0_chk79 (v37 : IVec S16 32) (v40 : IVec S16 32) (v193 : IVec S16 32) : Prop :=
  (∀ a x, ((![v37, v193] : Fin 2 → IVec S16 32) a x).toNat < S256x128.size a) ∧
  (∀ a x, ((![v40, v193] : Fin 2 → IVec S16 32) a x).toNat < S64x128.size a)
theorem k0_idx413_inb : ∀ (v37 : IVec S16 32) (v40 : IVec S16 32) (v193 : IVec S16 32) (k0_hw79 : k0_chk79 v37 v40 v193), ∀ a x, ((![v37, v193] : Fin 2 → IVec S16 32) a x).toNat < S256x128.size a := fun v37 v40 v193 k0_hw79 => k0_hw79.1
theorem k0_idx414_inb : ∀ (v37 : IVec S16 32) (v40 : IVec S16 32) (v193 : IVec S16 32) (k0_hw79 : k0_chk79 v37 v40 v193), ∀ a x, ((![v40, v193] : Fin 2 → IVec S16 32) a x).toNat < S64x128.size a := fun v37 v40 v193 k0_hw79 => k0_hw79.2

def k0_chk80 (v37 : IVec S16 32) (v40 : IVec S16 32) (v203 : IVec S16 32) : Prop :=
  (∀ a x, ((![v37, v203] : Fin 2 → IVec S16 32) a x).toNat < S256x128.size a) ∧
  (∀ a x, ((![v40, v203] : Fin 2 → IVec S16 32) a x).toNat < S64x128.size a)
theorem k0_idx415_inb : ∀ (v37 : IVec S16 32) (v40 : IVec S16 32) (v203 : IVec S16 32) (k0_hw80 : k0_chk80 v37 v40 v203), ∀ a x, ((![v37, v203] : Fin 2 → IVec S16 32) a x).toNat < S256x128.size a := fun v37 v40 v203 k0_hw80 => k0_hw80.1
theorem k0_idx416_inb : ∀ (v37 : IVec S16 32) (v40 : IVec S16 32) (v203 : IVec S16 32) (k0_hw80 : k0_chk80 v37 v40 v203), ∀ a x, ((![v40, v203] : Fin 2 → IVec S16 32) a x).toNat < S64x128.size a := fun v37 v40 v203 k0_hw80 => k0_hw80.2
def k0_off18 (k0_t8 : Fin k0_t8_loop.trips) : Fin 1 → Nat :=
  let c0_i32_40 : BitVec 32 := 0#32
  let c1_i32_42 : BitVec 32 := 1#32
  let arg21 : BitVec 32 := Scf.iv c0_i32_40 c1_i32_42 k0_t8
  let c16_i32_59 : BitVec 32 := 16#32
  let v44 : BitVec 32 := Scalar.muli arg21 c16_i32_59
  let v45 : Index := Scalar.indexCast v44
  ![v45.toNat]
@[reducible] def k0_t10_loop : Scf.Loop 32 :=
  let c0_i32_49 : BitVec 32 := 0#32
  let c4_i32_50 : BitVec 32 := 4#32
  let v32 : BitVec 32 := Scalar.addi c0_i32_49 c4_i32_50
  let c1_i32_51 : BitVec 32 := 1#32
  ⟨c0_i32_49, v32, c1_i32_51⟩
@[reducible] def k0_t11_loop : Scf.Loop 32 :=
  let c0_i32_56 : BitVec 32 := 0#32
  let c8_i32 : BitVec 32 := 8#32
  let v42 : BitVec 32 := Scalar.addi c0_i32_56 c8_i32
  let c1_i32_57 : BitVec 32 := 1#32
  ⟨c0_i32_56, v42, c1_i32_57⟩

def k0_chk81 (v37 : IVec S16 32) (v40 : IVec S16 32) (v53 : IVec S16 32) : Prop :=
  (∀ a x, ((![v37, v53] : Fin 2 → IVec S16 32) a x).toNat < S256x128.size a) ∧
  (∀ a x, ((![v40, v53] : Fin 2 → IVec S16 32) a x).toNat < S64x128.size a)
theorem k0_idx417_inb : ∀ (v37 : IVec S16 32) (v40 : IVec S16 32) (v53 : IVec S16 32) (k0_hw81 : k0_chk81 v37 v40 v53), ∀ a x, ((![v37, v53] : Fin 2 → IVec S16 32) a x).toNat < S256x128.size a := fun v37 v40 v53 k0_hw81 => k0_hw81.1
theorem k0_idx418_inb : ∀ (v37 : IVec S16 32) (v40 : IVec S16 32) (v53 : IVec S16 32) (k0_hw81 : k0_chk81 v37 v40 v53), ∀ a x, ((![v40, v53] : Fin 2 → IVec S16 32) a x).toNat < S64x128.size a := fun v37 v40 v53 k0_hw81 => k0_hw81.2

def k0_chk82 (v37 : IVec S16 32) (v40 : IVec S16 32) (v63 : IVec S16 32) : Prop :=
  (∀ a x, ((![v37, v63] : Fin 2 → IVec S16 32) a x).toNat < S256x128.size a) ∧
  (∀ a x, ((![v40, v63] : Fin 2 → IVec S16 32) a x).toNat < S64x128.size a)
theorem k0_idx419_inb : ∀ (v37 : IVec S16 32) (v40 : IVec S16 32) (v63 : IVec S16 32) (k0_hw82 : k0_chk82 v37 v40 v63), ∀ a x, ((![v37, v63] : Fin 2 → IVec S16 32) a x).toNat < S256x128.size a := fun v37 v40 v63 k0_hw82 => k0_hw82.1
theorem k0_idx420_inb : ∀ (v37 : IVec S16 32) (v40 : IVec S16 32) (v63 : IVec S16 32) (k0_hw82 : k0_chk82 v37 v40 v63), ∀ a x, ((![v40, v63] : Fin 2 → IVec S16 32) a x).toNat < S64x128.size a := fun v37 v40 v63 k0_hw82 => k0_hw82.2

def k0_chk83 (v37 : IVec S16 32) (v40 : IVec S16 32) (v73 : IVec S16 32) : Prop :=
  (∀ a x, ((![v37, v73] : Fin 2 → IVec S16 32) a x).toNat < S256x128.size a) ∧
  (∀ a x, ((![v40, v73] : Fin 2 → IVec S16 32) a x).toNat < S64x128.size a)
theorem k0_idx421_inb : ∀ (v37 : IVec S16 32) (v40 : IVec S16 32) (v73 : IVec S16 32) (k0_hw83 : k0_chk83 v37 v40 v73), ∀ a x, ((![v37, v73] : Fin 2 → IVec S16 32) a x).toNat < S256x128.size a := fun v37 v40 v73 k0_hw83 => k0_hw83.1
theorem k0_idx422_inb : ∀ (v37 : IVec S16 32) (v40 : IVec S16 32) (v73 : IVec S16 32) (k0_hw83 : k0_chk83 v37 v40 v73), ∀ a x, ((![v40, v73] : Fin 2 → IVec S16 32) a x).toNat < S64x128.size a := fun v37 v40 v73 k0_hw83 => k0_hw83.2

def k0_chk84 (v37 : IVec S16 32) (v40 : IVec S16 32) (v83 : IVec S16 32) : Prop :=
  (∀ a x, ((![v37, v83] : Fin 2 → IVec S16 32) a x).toNat < S256x128.size a) ∧
  (∀ a x, ((![v40, v83] : Fin 2 → IVec S16 32) a x).toNat < S64x128.size a)
theorem k0_idx423_inb : ∀ (v37 : IVec S16 32) (v40 : IVec S16 32) (v83 : IVec S16 32) (k0_hw84 : k0_chk84 v37 v40 v83), ∀ a x, ((![v37, v83] : Fin 2 → IVec S16 32) a x).toNat < S256x128.size a := fun v37 v40 v83 k0_hw84 => k0_hw84.1
theorem k0_idx424_inb : ∀ (v37 : IVec S16 32) (v40 : IVec S16 32) (v83 : IVec S16 32) (k0_hw84 : k0_chk84 v37 v40 v83), ∀ a x, ((![v40, v83] : Fin 2 → IVec S16 32) a x).toNat < S64x128.size a := fun v37 v40 v83 k0_hw84 => k0_hw84.2

def k0_chk85 (v37 : IVec S16 32) (v40 : IVec S16 32) (v93 : IVec S16 32) : Prop :=
  (∀ a x, ((![v37, v93] : Fin 2 → IVec S16 32) a x).toNat < S256x128.size a) ∧
  (∀ a x, ((![v40, v93] : Fin 2 → IVec S16 32) a x).toNat < S64x128.size a)
theorem k0_idx425_inb : ∀ (v37 : IVec S16 32) (v40 : IVec S16 32) (v93 : IVec S16 32) (k0_hw85 : k0_chk85 v37 v40 v93), ∀ a x, ((![v37, v93] : Fin 2 → IVec S16 32) a x).toNat < S256x128.size a := fun v37 v40 v93 k0_hw85 => k0_hw85.1
theorem k0_idx426_inb : ∀ (v37 : IVec S16 32) (v40 : IVec S16 32) (v93 : IVec S16 32) (k0_hw85 : k0_chk85 v37 v40 v93), ∀ a x, ((![v40, v93] : Fin 2 → IVec S16 32) a x).toNat < S64x128.size a := fun v37 v40 v93 k0_hw85 => k0_hw85.2

def k0_chk86 (v37 : IVec S16 32) (v40 : IVec S16 32) (v103 : IVec S16 32) : Prop :=
  (∀ a x, ((![v37, v103] : Fin 2 → IVec S16 32) a x).toNat < S256x128.size a) ∧
  (∀ a x, ((![v40, v103] : Fin 2 → IVec S16 32) a x).toNat < S64x128.size a)
theorem k0_idx427_inb : ∀ (v37 : IVec S16 32) (v40 : IVec S16 32) (v103 : IVec S16 32) (k0_hw86 : k0_chk86 v37 v40 v103), ∀ a x, ((![v37, v103] : Fin 2 → IVec S16 32) a x).toNat < S256x128.size a := fun v37 v40 v103 k0_hw86 => k0_hw86.1
theorem k0_idx428_inb : ∀ (v37 : IVec S16 32) (v40 : IVec S16 32) (v103 : IVec S16 32) (k0_hw86 : k0_chk86 v37 v40 v103), ∀ a x, ((![v40, v103] : Fin 2 → IVec S16 32) a x).toNat < S64x128.size a := fun v37 v40 v103 k0_hw86 => k0_hw86.2

def k0_chk87 (v37 : IVec S16 32) (v40 : IVec S16 32) (v113 : IVec S16 32) : Prop :=
  (∀ a x, ((![v37, v113] : Fin 2 → IVec S16 32) a x).toNat < S256x128.size a) ∧
  (∀ a x, ((![v40, v113] : Fin 2 → IVec S16 32) a x).toNat < S64x128.size a)
theorem k0_idx429_inb : ∀ (v37 : IVec S16 32) (v40 : IVec S16 32) (v113 : IVec S16 32) (k0_hw87 : k0_chk87 v37 v40 v113), ∀ a x, ((![v37, v113] : Fin 2 → IVec S16 32) a x).toNat < S256x128.size a := fun v37 v40 v113 k0_hw87 => k0_hw87.1
theorem k0_idx430_inb : ∀ (v37 : IVec S16 32) (v40 : IVec S16 32) (v113 : IVec S16 32) (k0_hw87 : k0_chk87 v37 v40 v113), ∀ a x, ((![v40, v113] : Fin 2 → IVec S16 32) a x).toNat < S64x128.size a := fun v37 v40 v113 k0_hw87 => k0_hw87.2

def k0_chk88 (v37 : IVec S16 32) (v40 : IVec S16 32) (v123 : IVec S16 32) : Prop :=
  (∀ a x, ((![v37, v123] : Fin 2 → IVec S16 32) a x).toNat < S256x128.size a) ∧
  (∀ a x, ((![v40, v123] : Fin 2 → IVec S16 32) a x).toNat < S64x128.size a)
theorem k0_idx431_inb : ∀ (v37 : IVec S16 32) (v40 : IVec S16 32) (v123 : IVec S16 32) (k0_hw88 : k0_chk88 v37 v40 v123), ∀ a x, ((![v37, v123] : Fin 2 → IVec S16 32) a x).toNat < S256x128.size a := fun v37 v40 v123 k0_hw88 => k0_hw88.1
theorem k0_idx432_inb : ∀ (v37 : IVec S16 32) (v40 : IVec S16 32) (v123 : IVec S16 32) (k0_hw88 : k0_chk88 v37 v40 v123), ∀ a x, ((![v40, v123] : Fin 2 → IVec S16 32) a x).toNat < S64x128.size a := fun v37 v40 v123 k0_hw88 => k0_hw88.2

def k0_chk89 (v37 : IVec S16 32) (v40 : IVec S16 32) (v133 : IVec S16 32) : Prop :=
  (∀ a x, ((![v37, v133] : Fin 2 → IVec S16 32) a x).toNat < S256x128.size a) ∧
  (∀ a x, ((![v40, v133] : Fin 2 → IVec S16 32) a x).toNat < S64x128.size a)
theorem k0_idx433_inb : ∀ (v37 : IVec S16 32) (v40 : IVec S16 32) (v133 : IVec S16 32) (k0_hw89 : k0_chk89 v37 v40 v133), ∀ a x, ((![v37, v133] : Fin 2 → IVec S16 32) a x).toNat < S256x128.size a := fun v37 v40 v133 k0_hw89 => k0_hw89.1
theorem k0_idx434_inb : ∀ (v37 : IVec S16 32) (v40 : IVec S16 32) (v133 : IVec S16 32) (k0_hw89 : k0_chk89 v37 v40 v133), ∀ a x, ((![v40, v133] : Fin 2 → IVec S16 32) a x).toNat < S64x128.size a := fun v37 v40 v133 k0_hw89 => k0_hw89.2

def k0_chk90 (v37 : IVec S16 32) (v40 : IVec S16 32) (v143 : IVec S16 32) : Prop :=
  (∀ a x, ((![v37, v143] : Fin 2 → IVec S16 32) a x).toNat < S256x128.size a) ∧
  (∀ a x, ((![v40, v143] : Fin 2 → IVec S16 32) a x).toNat < S64x128.size a)
theorem k0_idx435_inb : ∀ (v37 : IVec S16 32) (v40 : IVec S16 32) (v143 : IVec S16 32) (k0_hw90 : k0_chk90 v37 v40 v143), ∀ a x, ((![v37, v143] : Fin 2 → IVec S16 32) a x).toNat < S256x128.size a := fun v37 v40 v143 k0_hw90 => k0_hw90.1
theorem k0_idx436_inb : ∀ (v37 : IVec S16 32) (v40 : IVec S16 32) (v143 : IVec S16 32) (k0_hw90 : k0_chk90 v37 v40 v143), ∀ a x, ((![v40, v143] : Fin 2 → IVec S16 32) a x).toNat < S64x128.size a := fun v37 v40 v143 k0_hw90 => k0_hw90.2

def k0_chk91 (v37 : IVec S16 32) (v40 : IVec S16 32) (v153 : IVec S16 32) : Prop :=
  (∀ a x, ((![v37, v153] : Fin 2 → IVec S16 32) a x).toNat < S256x128.size a) ∧
  (∀ a x, ((![v40, v153] : Fin 2 → IVec S16 32) a x).toNat < S64x128.size a)
theorem k0_idx437_inb : ∀ (v37 : IVec S16 32) (v40 : IVec S16 32) (v153 : IVec S16 32) (k0_hw91 : k0_chk91 v37 v40 v153), ∀ a x, ((![v37, v153] : Fin 2 → IVec S16 32) a x).toNat < S256x128.size a := fun v37 v40 v153 k0_hw91 => k0_hw91.1
theorem k0_idx438_inb : ∀ (v37 : IVec S16 32) (v40 : IVec S16 32) (v153 : IVec S16 32) (k0_hw91 : k0_chk91 v37 v40 v153), ∀ a x, ((![v40, v153] : Fin 2 → IVec S16 32) a x).toNat < S64x128.size a := fun v37 v40 v153 k0_hw91 => k0_hw91.2

def k0_chk92 (v37 : IVec S16 32) (v40 : IVec S16 32) (v163 : IVec S16 32) : Prop :=
  (∀ a x, ((![v37, v163] : Fin 2 → IVec S16 32) a x).toNat < S256x128.size a) ∧
  (∀ a x, ((![v40, v163] : Fin 2 → IVec S16 32) a x).toNat < S64x128.size a)
theorem k0_idx439_inb : ∀ (v37 : IVec S16 32) (v40 : IVec S16 32) (v163 : IVec S16 32) (k0_hw92 : k0_chk92 v37 v40 v163), ∀ a x, ((![v37, v163] : Fin 2 → IVec S16 32) a x).toNat < S256x128.size a := fun v37 v40 v163 k0_hw92 => k0_hw92.1
theorem k0_idx440_inb : ∀ (v37 : IVec S16 32) (v40 : IVec S16 32) (v163 : IVec S16 32) (k0_hw92 : k0_chk92 v37 v40 v163), ∀ a x, ((![v40, v163] : Fin 2 → IVec S16 32) a x).toNat < S64x128.size a := fun v37 v40 v163 k0_hw92 => k0_hw92.2

def k0_chk93 (v37 : IVec S16 32) (v40 : IVec S16 32) (v173 : IVec S16 32) : Prop :=
  (∀ a x, ((![v37, v173] : Fin 2 → IVec S16 32) a x).toNat < S256x128.size a) ∧
  (∀ a x, ((![v40, v173] : Fin 2 → IVec S16 32) a x).toNat < S64x128.size a)
theorem k0_idx441_inb : ∀ (v37 : IVec S16 32) (v40 : IVec S16 32) (v173 : IVec S16 32) (k0_hw93 : k0_chk93 v37 v40 v173), ∀ a x, ((![v37, v173] : Fin 2 → IVec S16 32) a x).toNat < S256x128.size a := fun v37 v40 v173 k0_hw93 => k0_hw93.1
theorem k0_idx442_inb : ∀ (v37 : IVec S16 32) (v40 : IVec S16 32) (v173 : IVec S16 32) (k0_hw93 : k0_chk93 v37 v40 v173), ∀ a x, ((![v40, v173] : Fin 2 → IVec S16 32) a x).toNat < S64x128.size a := fun v37 v40 v173 k0_hw93 => k0_hw93.2

def k0_chk94 (v37 : IVec S16 32) (v40 : IVec S16 32) (v183 : IVec S16 32) : Prop :=
  (∀ a x, ((![v37, v183] : Fin 2 → IVec S16 32) a x).toNat < S256x128.size a) ∧
  (∀ a x, ((![v40, v183] : Fin 2 → IVec S16 32) a x).toNat < S64x128.size a)
theorem k0_idx443_inb : ∀ (v37 : IVec S16 32) (v40 : IVec S16 32) (v183 : IVec S16 32) (k0_hw94 : k0_chk94 v37 v40 v183), ∀ a x, ((![v37, v183] : Fin 2 → IVec S16 32) a x).toNat < S256x128.size a := fun v37 v40 v183 k0_hw94 => k0_hw94.1
theorem k0_idx444_inb : ∀ (v37 : IVec S16 32) (v40 : IVec S16 32) (v183 : IVec S16 32) (k0_hw94 : k0_chk94 v37 v40 v183), ∀ a x, ((![v40, v183] : Fin 2 → IVec S16 32) a x).toNat < S64x128.size a := fun v37 v40 v183 k0_hw94 => k0_hw94.2

def k0_chk95 (v37 : IVec S16 32) (v40 : IVec S16 32) (v193 : IVec S16 32) : Prop :=
  (∀ a x, ((![v37, v193] : Fin 2 → IVec S16 32) a x).toNat < S256x128.size a) ∧
  (∀ a x, ((![v40, v193] : Fin 2 → IVec S16 32) a x).toNat < S64x128.size a)
theorem k0_idx445_inb : ∀ (v37 : IVec S16 32) (v40 : IVec S16 32) (v193 : IVec S16 32) (k0_hw95 : k0_chk95 v37 v40 v193), ∀ a x, ((![v37, v193] : Fin 2 → IVec S16 32) a x).toNat < S256x128.size a := fun v37 v40 v193 k0_hw95 => k0_hw95.1
theorem k0_idx446_inb : ∀ (v37 : IVec S16 32) (v40 : IVec S16 32) (v193 : IVec S16 32) (k0_hw95 : k0_chk95 v37 v40 v193), ∀ a x, ((![v40, v193] : Fin 2 → IVec S16 32) a x).toNat < S64x128.size a := fun v37 v40 v193 k0_hw95 => k0_hw95.2

def k0_chk96 (v37 : IVec S16 32) (v40 : IVec S16 32) (v203 : IVec S16 32) : Prop :=
  (∀ a x, ((![v37, v203] : Fin 2 → IVec S16 32) a x).toNat < S256x128.size a) ∧
  (∀ a x, ((![v40, v203] : Fin 2 → IVec S16 32) a x).toNat < S64x128.size a)
theorem k0_idx447_inb : ∀ (v37 : IVec S16 32) (v40 : IVec S16 32) (v203 : IVec S16 32) (k0_hw96 : k0_chk96 v37 v40 v203), ∀ a x, ((![v37, v203] : Fin 2 → IVec S16 32) a x).toNat < S256x128.size a := fun v37 v40 v203 k0_hw96 => k0_hw96.1
theorem k0_idx448_inb : ∀ (v37 : IVec S16 32) (v40 : IVec S16 32) (v203 : IVec S16 32) (k0_hw96 : k0_chk96 v37 v40 v203), ∀ a x, ((![v40, v203] : Fin 2 → IVec S16 32) a x).toNat < S64x128.size a := fun v37 v40 v203 k0_hw96 => k0_hw96.2
def k0_off19 (k0_t10 : Fin k0_t10_loop.trips) : Fin 1 → Nat :=
  let c0_i32_49 : BitVec 32 := 0#32
  let c1_i32_51 : BitVec 32 := 1#32
  let arg21 : BitVec 32 := Scf.iv c0_i32_49 c1_i32_51 k0_t10
  let c16_i32_59 : BitVec 32 := 16#32
  let v44 : BitVec 32 := Scalar.muli arg21 c16_i32_59
  let v45 : Index := Scalar.indexCast v44
  ![v45.toNat]
abbrev grid1 : Pipeline.Grid := .none

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x128 : Shape := ⟨2, ![8192, 128]⟩
abbrev S8192 : Shape := ⟨1, ![8192]⟩
abbrev S8192x64 : Shape := ⟨2, ![8192, 64]⟩
abbrev S100000x128 : Shape := ⟨2, ![100000, 128]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x64x1 : Shape := ⟨3, ![8192, 64, 1]⟩
abbrev S1x1x1 : Shape := ⟨3, ![1, 1, 1]⟩
abbrev S8192x64x128 : Shape := ⟨3, ![8192, 64, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x64, .i32⟩
  | .hbm, ⟨3, _⟩ => ⟨S100000x128, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S1x1, .i32⟩
  | .hbm, ⟨17, _⟩ => ⟨S8192x1, .i32⟩
  | .hbm, ⟨18, _⟩ => ⟨S8192x1, .i1⟩
  | .hbm, ⟨19, _⟩ => ⟨S8192x1, .i1⟩
  | .hbm, ⟨20, _⟩ => ⟨S_, .i1⟩
  | .hbm, ⟨21, _⟩ => ⟨S8192, .i1⟩
  | .hbm, ⟨22, _⟩ => ⟨S8192x128, .f32⟩
  | .hbm, ⟨23, _⟩ => ⟨S8192x128, .i1⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S_, .i32⟩
  | .hbm, ⟨28, _⟩ => ⟨S8192x64, .i32⟩
  | .hbm, ⟨29, _⟩ => ⟨S8192x64, .i1⟩
  | .hbm, ⟨30, _⟩ => ⟨S_, .i32⟩
  | .hbm, ⟨31, _⟩ => ⟨S8192x64, .i32⟩
  | .hbm, ⟨32, _⟩ => ⟨S8192x64, .i32⟩
  | .hbm, ⟨33, _⟩ => ⟨S8192x64, .i32⟩
  | .hbm, ⟨34, _⟩ => ⟨S8192x64x1, .i32⟩
  | .hbm, ⟨35, _⟩ => ⟨S1, .i32⟩
  | .hbm, ⟨36, _⟩ => ⟨S_, .i32⟩
  | .hbm, ⟨37, _⟩ => ⟨S8192x64x1, .i32⟩
  | .hbm, ⟨38, _⟩ => ⟨S8192x64x1, .i1⟩
  | .hbm, ⟨39, _⟩ => ⟨S1x1x1, .i32⟩
  | .hbm, ⟨40, _⟩ => ⟨S8192x64x1, .i32⟩
  | .hbm, ⟨41, _⟩ => ⟨S8192x64x1, .i1⟩
  | .hbm, ⟨42, _⟩ => ⟨S8192x64x1, .i1⟩
  | .hbm, ⟨43, _⟩ => ⟨S_, .i1⟩
  | .hbm, ⟨44, _⟩ => ⟨S8192x64, .i1⟩
  | .hbm, ⟨45, _⟩ => ⟨S8192x64x128, .f32⟩
  | .hbm, ⟨46, _⟩ => ⟨S8192x64x128, .i1⟩
  | .hbm, ⟨47, _⟩ => ⟨S_, .f32⟩
  | .hbm, ⟨48, _⟩ => ⟨S8192x64x128, .f32⟩
  | .hbm, ⟨49, _⟩ => ⟨S8192x64x128, .f32⟩
  | .hbm, ⟨50, _⟩ => ⟨S8192x128, .f32⟩
  | .hbm, ⟨51, _⟩ => ⟨S_, .f32⟩
  | .hbm, ⟨52, _⟩ => ⟨S8192, .f32⟩
  | .hbm, ⟨53, _⟩ => ⟨S8192x64, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .i1⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192x64, .f32⟩
  | .hbm, ⟨76, _⟩ => ⟨S8192x64, .f32⟩
  | .hbm, ⟨77, _⟩ => ⟨S_, .f32⟩
  | .hbm, ⟨78, _⟩ => ⟨S8192x64, .f32⟩
  | .hbm, ⟨79, _⟩ => ⟨S8192x64, .f32⟩
  | .hbm, ⟨80, _⟩ => ⟨S8192x64, .f32⟩
  | .hbm, ⟨81, _⟩ => ⟨S8192x64, .f32⟩
  | .hbm, ⟨82, _⟩ => ⟨S8192x64, .i1⟩
  | .hbm, ⟨83, _⟩ => ⟨S8192x64, .f32⟩
  | .hbm, ⟨84, _⟩ => ⟨S8192x64, .f32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S8192x64, .f32⟩
  | .hbm, ⟨89, _⟩ => ⟨S8192x64, .f32⟩
  | .hbm, ⟨90, _⟩ => ⟨S8192x64, .f32⟩
  | .hbm, ⟨91, _⟩ => ⟨S8192x64, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_v4 : Ref sig .tc := ⟨.hbm, 53, rfl⟩
abbrev main_call2_v0 : Ref sig .tc := ⟨.hbm, 54, rfl⟩
abbrev main_call2_call0_cst : Ref sig .tc := ⟨.hbm, 55, rfl⟩
abbrev main_call2_call0_v0 : Ref sig .tc := ⟨.hbm, 56, rfl⟩
abbrev main_call2_call0_v1 : Ref sig .tc := ⟨.hbm, 57, rfl⟩
abbrev main_call2_call0_v2 : Ref sig .tc := ⟨.hbm, 58, rfl⟩
abbrev main_call2_call0_v3 : Ref sig .tc := ⟨.hbm, 59, rfl⟩
abbrev main_call2_call0_v4 : Ref sig .tc := ⟨.hbm, 60, rfl⟩
abbrev main_call2_call0_v5 : Ref sig .tc := ⟨.hbm, 61, rfl⟩
abbrev main_call2_call0_v6 : Ref sig .tc := ⟨.hbm, 62, rfl⟩
abbrev main_call2_call0_v7 : Ref sig .tc := ⟨.hbm, 63, rfl⟩
abbrev main_call2_call0_v8 : Ref sig .tc := ⟨.hbm, 64, rfl⟩
abbrev main_call2_call0_v9 : Ref sig .tc := ⟨.hbm, 65, rfl⟩
abbrev main_call2_call0_v10 : Ref sig .tc := ⟨.hbm, 66, rfl⟩
abbrev main_call2_call0_v11 : Ref sig .tc := ⟨.hbm, 67, rfl⟩
abbrev main_call2_v1 : Ref sig .tc := ⟨.hbm, 68, rfl⟩
abbrev main_v5 : Ref sig .tc := ⟨.hbm, 69, rfl⟩
abbrev main_cst_0 : Ref sig .tc := ⟨.hbm, 70, rfl⟩
abbrev main_v6 : Ref sig .tc := ⟨.hbm, 71, rfl⟩
abbrev main_cst_1 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1 : Ref sig .tc := ⟨.hbm, 90, rfl⟩
abbrev main_v10 : Ref sig .tc := ⟨.hbm, 91, rfl⟩
abbrev main_cst_2 : Ref sig .tc := ⟨.hbm, 92, rfl⟩
abbrev main_v11 : Ref sig .tc := ⟨.hbm, 93, rfl⟩
abbrev main_cst_3 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩

abbrev nD : Nat := 1
abbrev τ : Topo := Topo.v7x

variable {F : FTy → Type} [FloatOps F]
-- ==== Proof.Setup.lean ====
/- What every later module shares: the program as the SparseCore launch theorem sees it, the resource algebra (the
   handshakes' rounds, the TensorCore pipeline's rounds, the transfers' counters), names for the buffers. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_vocab

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshake cells' rounds, duties named by numbers. -/
abbrev UH : Type := URounds (GSem nD τ sig) ℕ
/-- The loss pipeline's staging cells' rounds. -/
abbrev UP : Type := URounds (GSem nD τ sig) Unit
/-- The two and the transfers' counters, side by side. -/
abbrev UU : Type := UH × (UP × Counters)

/-- The machine's algebra at float values `F`. -/
abbrev MM (F : FTy → Type) : Type := MT nD τ sig (HIx 1) (Elt F) ℕ UU ℕ

abbrev EH : Emb UH (MM F) := embL
/-- The loss pipeline's: the left half of the right factor. -/
def EP : Emb UP (MM F) := (Emb.inl : Emb UP (UP × Counters)).trans embR
instance EP_landsIn : (EP : Emb UP (MM F)).LandsIn (upEmb : UEmb _ (MM F)) := by unfold EP; infer_instance
/-- The transfers' counters. -/
abbrev EC : UEmb Counters (MM F) := countersEmb

/-! ## The buffers -/

abbrev hLoc (d : Dev nD) : Loc nD τ sig := (SparseCore.T d).loc main_arg0
abbrev tLoc (d : Dev nD) : Loc nD τ sig := (SparseCore.T d).loc main_arg1
abbrev nLoc (d : Dev nD) : Loc nD τ sig := (SparseCore.T d).loc main_arg2
abbrev wLoc (d : Dev nD) : Loc nD τ sig := (SparseCore.T d).loc main_arg3
/-- The flattened negatives. -/
abbrev gLoc (d : Dev nD) : Loc nD τ sig := (SparseCore.T d).loc main_v0
/-- The positive scores. -/
abbrev pLoc (d : Dev nD) : Loc nD τ sig := (SparseCore.T d).loc main_v1_0
/-- The negative scores. -/
abbrev qLoc (d : Dev nD) : Loc nD τ sig := (SparseCore.T d).loc main_v1_1

/-- One tile's kernel, at its place in the grid. -/
abbrev cL (c : Fin 2) : Fin τ.nSC := c.castLE (show (2:ℕ) ≤ τ.nSC by decide)
abbrev jL (s : Fin 16) : Fin τ.nSub := s.castLE (show (16:ℕ) ≤ τ.nSub by decide)

end Cert.Proof.Score
end
-- ==== Proof.Reads.lean ====
/- The inner loops read two buffers and compute: `Gives R P a` says that `P`, run holding `R`, gives `R` back and
   returns `a`. Its rules for the three kinds of step those loops are made of. -/
module

public import proofs.«01_k».proof.Proof.Setup

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile at grid coordinates `i`. -/
abbrev thr (d : Dev nD) (i : grid0.Coords) : Thread nD τ := V d ((i 0).castLE hcore0) ((i 1).castLE hsub0)

/-- The tile's program type. -/
abbrev TP (F : FTy → Type) (i : grid0.Coords) (α : Type) : Type 1 :=
  Prog (TpuEff nD τ sig (Elt F) Λ₀ (.scVector ((i 0).castLE hcore0) ((i 1).castLE hsub0))) α

/-- The tile's weakest precondition. -/
abbrev wpT {α : Type} (d : Dev nD) (i : grid0.Coords) (P : TP F i α) (Q : α → sProp (MM F)) : sProp (MM F) :=
  wp frame (wpE (defs₀ (F := F)) 𝒱₀ (thr d i) none) Set.univ P Q

/-- `P`, run holding `R`, gives `R` back and returns `a`. -/
def Gives {α : Type} (d : Dev nD) (i : grid0.Coords) (R : sProp (MM F)) (P : TP F i α) (a : α) : Prop :=
  R ⊢ wpT d i P fun x => iprop(⌜x = a⌝ ∗ R)

section
variable {d : Dev nD} {i : grid0.Coords} {R : sProp (MM F)}

theorem Gives.ret {α : Type} {a b : α} (h : a = b) : Gives d i R (pure a : TP F i α) b := by
  unfold Gives wpT
  show R ⊢ wp _ _ _ (.ret a) _
  rw [wp_ret]
  iintro H
  imodintro
  isplitr
  · ipureintro; exact h
  iexact H

theorem Gives.assoc {α β γ : Type} {P : TP F i α} {k : α → TP F i β} {l : β → TP F i γ} {a : γ}
    (h : Gives d i R (P >>= fun x => k x >>= l) a) : Gives d i R ((P >>= k) >>= l) a := by
  rw [bind_assoc]; exact h

theorem Gives.pure {α β : Type} {x : α} {k : α → TP F i β} {a : β} (h : Gives d i R (k x) a) :
    Gives d i R ((Pure.pure x : TP F i α) >>= k) a := by
  rw [pure_bind]; exact h

theorem Gives.assume {β : Type} {p : Prop} {dec : Decidable p} {k : PLift p → TP F i β} {a : β} (hp : p)
    (h : Gives d i R (k ⟨hp⟩) a) : Gives d i R (Prog.lift (TpuEff.assume p dec) >>= k) a := by
  unfold Gives wpT at *
  show R ⊢ wp _ _ _ (.op (.assume p dec) k) _
  rw [wp_assume_of 𝒱₀ (thr d i) none Set.univ hp]
  exact h

/-- A piece run before a continuation. -/
theorem Gives.bind {α β : Type} {P : TP F i α} {x : α} {k : α → TP F i β} {a : β} (hP : Gives d i R P x)
    (h : Gives d i R (k x) a) : Gives d i R (P >>= k) a := by
  unfold Gives wpT at *
  rw [wp_bind]
  refine hP.trans (wp_mono _ _ _ fun y => ?_)
  iintro ⟨%hy, H⟩
  subst hy
  iapply h
  iexact H

theorem Gives.loadL {β : Type} {s : Shape} {t : Shape} {e : EltTy} {base : Memref sig .scVector .vmem s e} {q : PosShare TreeShare}
    {f : Buf (Elt F) ((base.access (.whole s)).loc (thr d i))} {R' : sProp (MM F)}
    {idxs : Fin s.rank → IVec t 32} {hx : ∀ a x, (idxs a x).toNat < s.size a} {hl : base.view.Loads} {k : Vec F t e → TP F i β} {a : β}
    (h : Gives d i iprop(((base.access (.whole s)).loc (thr d i) ↦[Finset.univ]{q} f) ∗ R') (k (loadIdx ((base.access (.whole s)).read (Elt F) f) idxs hx)) a) :
    Gives d i iprop(((base.access (.whole s)).loc (thr d i) ↦[Finset.univ]{q} f) ∗ R') ((SparseCore.vectorLoadIdx (p := .scVector ((i 0).castLE hcore0) ((i 1).castLE hsub0)) base idxs hx hl : TP F i (Vec F t e)) >>= k) a := by
  unfold Gives wpT at *
  iintro ⟨H, H'⟩
  iapply (SparseCore.wp_vectorLoadIdx 𝒱₀ (thr d i) none Set.univ (base := base) (Finset.subset_univ _)) $$ H
  iintro H
  iapply h
  isplitl [H] <;> iassumption

theorem Gives.loadR {β : Type} {s : Shape} {t : Shape} {e : EltTy} {base : Memref sig .scVector .vmem s e} {q : PosShare TreeShare}
    {f : Buf (Elt F) ((base.access (.whole s)).loc (thr d i))} {R' : sProp (MM F)}
    {idxs : Fin s.rank → IVec t 32} {hx : ∀ a x, (idxs a x).toNat < s.size a} {hl : base.view.Loads} {k : Vec F t e → TP F i β} {a : β}
    (h : Gives d i iprop(R' ∗ ((base.access (.whole s)).loc (thr d i) ↦[Finset.univ]{q} f)) (k (loadIdx ((base.access (.whole s)).read (Elt F) f) idxs hx)) a) :
    Gives d i iprop(R' ∗ ((base.access (.whole s)).loc (thr d i) ↦[Finset.univ]{q} f)) ((SparseCore.vectorLoadIdx (p := .scVector ((i 0).castLE hcore0) ((i 1).castLE hsub0)) base idxs hx hl : TP F i (Vec F t e)) >>= k) a := by
  unfold Gives wpT at *
  iintro ⟨H', H⟩
  iapply (SparseCore.wp_vectorLoadIdx 𝒱₀ (thr d i) none Set.univ (base := base) (Finset.subset_univ _)) $$ H
  iintro H
  iapply h
  isplitl [H'] <;> iassumption

end

/-- The columns diagonal `n` reads, one per lane, in the column block that starts at `o`. -/
def cols (v3 : IVec S16 32) (o : BitVec 32) (n : ℕ) : IVec S16 32 :=
  addi (andi (addi v3 (broadcast S16 (BitVec.ofNat 32 n))) (broadcast S16 15#32)) (broadcast S16 o)

/-- The partial sums of the products of two gathers along the first `n` diagonals, onto `acc`. -/
def diag {s t : Shape} (hv : Vec F s .f32) (wv : Vec F t .f32) (a : ℕ → Fin s.rank → IVec S16 32) (b : ℕ → Fin t.rank → IVec S16 32)
    (ha : ∀ n x y, (a n x y).toNat < s.size x) (hb : ∀ n x y, (b n x y).toNat < t.size x) (acc : FVec F S16 .f32) : ℕ → FVec F S16 .f32
  | 0 => acc
  | n + 1 => addf (diag hv wv a b ha hb acc n) (mulf (loadIdx hv (a n) (ha n)) (loadIdx wv (b n) (hb n)))

end Cert.Proof.Score
end
-- ==== Proof.Values.lean ====
/- The dot product a lane accumulates, in the order the kernel adds it up, and the inner loop's vectors as such sums. -/
module

public import proofs.«01_k».proof.Proof.Reads

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Indices of rank-one and rank-two arrays -/

def at1 {a : ℕ} (r : Fin a) : (⟨1, ![a]⟩ : Shape).Idx := Fin.cons r finZeroElim
def at2 {a b : ℕ} (r : Fin a) (c : Fin b) : (⟨2, ![a, b]⟩ : Shape).Idx := Fin.cons r (Fin.cons c finZeroElim)

theorem at1_eta {a : ℕ} (x : (⟨1, ![a]⟩ : Shape).Idx) : at1 (x 0) = x := by
  funext k; fin_cases k; rfl
theorem at2_eta {a b : ℕ} (x : (⟨2, ![a, b]⟩ : Shape).Idx) : at2 (x 0) (x 1) = x := by
  funext k; fin_cases k <;> rfl
theorem eq_at2 {a b : ℕ} (x : (⟨2, ![a, b]⟩ : Shape).Idx) (r : Fin a) (c : Fin b) (h0 : (x 0).val = r.val) (h1 : (x 1).val = c.val) : x = at2 r c := by
  rw [← at2_eta x]; congr 1 <;> exact Fin.ext (by assumption)
theorem eq_at1 {a : ℕ} (x : (⟨1, ![a]⟩ : Shape).Idx) (r : Fin a) (h0 : (x 0).val = r.val) : x = at1 r := by
  rw [← at1_eta x]; congr 1; exact Fin.ext h0

/-! ## The dot product along the diagonals -/

/-- The column lane `l` reads at step `m` of the 128. -/
def dcol (l m : ℕ) : Fin 128 := ⟨((l + m % 16) % 16 + 16 * (m / 16)) % 128, Nat.mod_lt _ (by decide)⟩

def zero32 : F .f32 := Scalar.ofBits .f32 0x00000000#32

/-- The first `m` products, added up in the order lane `l` adds them. -/
def dotAt (a b : Fin 128 → F .f32) (l : ℕ) : ℕ → F .f32
  | 0 => zero32
  | m + 1 => FloatOps.addf (dotAt a b l m) (FloatOps.mulf (a (dcol l m)) (b (dcol l m)))

/-- All 128. -/
def dotL (l : ℕ) (a b : Fin 128 → F .f32) : F .f32 := dotAt a b l 128

theorem cols_toNat (v3 : IVec S16 32) (o : BitVec 32) (n j : ℕ) (x : S16.Idx) (hj : j < 8) (ho : o.toNat = 16 * j) :
    (cols v3 o n x).toNat = ((v3 x).toNat + n) % 16 + 16 * j := by
  show (((v3 x + BitVec.ofNat 32 n) &&& 15#32) + o).toNat = _
  rw [BitVec.toNat_add, BitVec.toNat_and, BitVec.toNat_add, BitVec.toNat_ofNat, ho, show (15#32).toNat = 2 ^ 4 - 1 from rfl,
    Nat.and_two_pow_sub_one_eq_mod]
  omega

/-- Rows in range make every pair of row and diagonal column in range. -/
theorem inb_cols {a : ℕ} (r v3 : IVec S16 32) (o : BitVec 32) (j : ℕ) (hj : j < 8) (ho : o.toNat = 16 * j) (hr : ∀ x, (r x).toNat < a) :
    ∀ n k y, ((![r, cols v3 o n] : Fin 2 → IVec S16 32) k y).toNat < (⟨2, ![a, 128]⟩ : Shape).size k := by
  intro n k y
  match k with
  | 0 => exact hr y
  | 1 => show (cols v3 o n y).toNat < 128
         rw [cols_toNat v3 o n j y hj ho]; omega

theorem diag_lane {p q : ℕ} (hv : Vec F ⟨2, ![p, 128]⟩ .f32) (wv : Vec F ⟨2, ![q, 128]⟩ .f32) (r r' v3 : IVec S16 32) (o : BitVec 32)
    (ha : ∀ n k y, ((![r, cols v3 o n] : Fin 2 → IVec S16 32) k y).toNat < (⟨2, ![p, 128]⟩ : Shape).size k)
    (hb : ∀ n k y, ((![r', cols v3 o n] : Fin 2 → IVec S16 32) k y).toNat < (⟨2, ![q, 128]⟩ : Shape).size k)
    (acc : FVec F S16 .f32) (j : ℕ) (hj : j < 8) (ho : o.toNat = 16 * j) (x : S16.Idx) (l : ℕ) (hl : (v3 x).toNat = l)
    (A B : Fin 128 → F .f32)
    (hA : ∀ c, hv (at2 ⟨(r x).toNat, ha 0 0 x⟩ c) = A c) (hB : ∀ c, wv (at2 ⟨(r' x).toNat, hb 0 0 x⟩ c) = B c)
    (hacc : acc x = dotAt A B l (16 * j)) :
    ∀ n ≤ 16, diag (s := ⟨2, ![p, 128]⟩) (t := ⟨2, ![q, 128]⟩) hv wv (fun n => ![r, cols v3 o n]) (fun n => ![r', cols v3 o n]) ha hb acc n x = dotAt A B l (16 * j + n)
  | 0, _ => hacc
  | n + 1, h => by
    have ih := diag_lane hv wv r r' v3 o ha hb acc j hj ho x l hl A B hA hB hacc n (by omega)
    show FloatOps.addf (diag _ _ _ _ ha hb acc n x) (FloatOps.mulf (hv _) (wv _)) = FloatOps.addf (dotAt A B l (16 * j + n)) _
    rw [ih]
    have hc : (cols v3 o n x).toNat = (dcol l (16 * j + n)).val := by
      rw [cols_toNat v3 o n j x hj ho, hl]
      show _ = ((l + (16 * j + n) % 16) % 16 + 16 * ((16 * j + n) / 16)) % 128
      omega
    congr 2
    · rw [← hA]; congr 1; exact eq_at2 _ _ _ rfl hc
    · rw [← hB]; congr 1; exact eq_at2 _ _ _ rfl hc

end Cert.Proof.Score
end
-- ==== Proof.Fetch.lean ====
/- One indexed fetch: issuing it, and taking its rows when it has landed. -/
module

public import proofs.«01_k».proof.Proof.Values

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev S1d (N : ℕ) : Shape := ⟨1, ![N]⟩
abbrev S2d (n m : ℕ) : Shape := ⟨2, ![n, m]⟩

/-- The table row a list entry names. -/
def rowIx (v : BitVec 32) : Fin 100000 := ⟨v.toNat % 100000, Nat.mod_lt _ (by decide)⟩

/-- The whole table, as each fetch names it. -/
abbrev srcW : Memref sig .scVector .hbm S100000x128 .f32 :=
  (Memref.whole main_arg3_scv).slice (Rect.unit (s := S100000x128) ![0, 0] S100000x128.size inb_S100000x128_S100000x128_0_0) (fun _ => rfl)

/-- The part of the list one fetch reads. -/
abbrev win {N : ℕ} (n : ℕ) (lst : Memref sig .scVector .vmem (S1d N) .i32) (off : Fin 1 → ℕ) (inb : ∀ a, off a + (S1d n).size a ≤ (S1d N).size a) :
    Memref sig .scVector .vmem (S1d n) .i32 :=
  lst.slice (Rect.unit (s := S1d N) off (S1d n).size inb) (fun _ => rfl)

/-- A buffer of rows holding the rows `V` names. -/
def chunk {n : ℕ} (d : Dev nD) (i : grid0.Coords) (dst : Memref sig .scVector .vmem (S2d n 128) .f32) (V : ℕ → Fin 128 → F .f32) : sProp (MM F) :=
  iprop(∃ f, ⌜∀ (r : Fin n) c, dst.view.read (Elt F) f (at2 r c) = V r.val c⌝ ∗ (dst.view.loc (thr d i) ↦[dst.view.set]{fullShare} f))

/-- The table rows that entries `o, o+1, …` of the list `L` name. -/
def rowsOf (W : Fin 100000 → Fin 128 → F .f32) (L : ℕ → BitVec 32) (o : ℕ) : ℕ → Fin 128 → F .f32 := fun r c => W (rowIx (L (o + r))) c

/-- This tile's share of the table. -/
def wSh (d : Dev nD) (i : grid0.Coords) (q : PosShare TreeShare) (W : Buf (Elt F) (srcW.view.loc (thr d i))) : sProp (MM F) :=
  srcW.view.loc (thr d i) ↦[srcW.view.set]{q} W

/-- A fetch on its way. -/
def Pend {n N : ℕ} (d : Dev nD) (i : grid0.Coords) (dst : Memref sig .scVector .vmem (S2d n 128) .f32) (sem : DmaSem sig) (c : ℕ)
    (lst : Memref sig .scVector .vmem (S1d N) .i32) (q qo : PosShare TreeShare) (W : Buf (Elt F) (srcW.view.loc (thr d i)))
    (fo : Buf (Elt F) (lst.view.loc (thr d i))) (V : ℕ → Fin 128 → F .f32) : sProp (MM F) :=
  iprop(∃ I : Finset _, ⌜I ⊆ lst.view.set⌝ ∗ Transfers.Flight EC (thr d i) (.dma sem) (none : HIx 1) c
      iprop(chunk d i dst V ∗ wSh d i q W ∗ (lst.view.loc (thr d i) ↦[I]{qo} fo))
    ∗ (lst.view.loc (thr d i) ↦[lst.view.set \ I]{qo} fo))

/-- A rank-one index's number is its coordinate. -/
theorem rowMajor1 {n : ℕ} (x : (S1d n).Idx) : ((S1d n).rowMajor x).val = (x 0).val := by
  show (Shape.rowMajorPi _ x).val = _
  rw [Shape.rowMajorPi_succ_val]
  have : ∀ (y : Fin (∏ a : Fin 0, (fun a : Fin 0 => ![n] a.succ) a)), y.val = 0 := fun y => by
    have := y.isLt; simp at this; omega
  rw [this]
  simp

theorem Shape.emb_unit1 {N n : ℕ} (off : Fin 1 → ℕ) (inb : ∀ a, off a + (S1d n).size a ≤ (S1d N).size a) (x : (S1d n).Idx) :
    ((Rect.unit (s := S1d N) off (S1d n).size inb).emb x 0).val = off 0 + (x 0).val := by
  rw [Rect.emb_apply]; show off 0 + 1 * (x 0 : Nat) = _; omega

/-- What has landed: the rows the list names. -/
theorem landed {n N : ℕ} {d : Dev nD} {i : grid0.Coords} {dst : Memref sig .scVector .vmem (S2d n 128) .f32}
    {lst : Memref sig .scVector .vmem (S1d N) .i32} {q qo : PosShare TreeShare} {W : Buf (Elt F) (srcW.view.loc (thr d i))}
    {fo : Buf (Elt F) (lst.view.loc (thr d i))} {off : Fin 1 → ℕ} {inb : ∀ a, off a + (S1d n).size a ≤ (S1d N).size a} {o : ℕ}
    {L : ℕ → BitVec 32} (hg : S100000x128.Gathers 0 (S2d n 128)) (hn : (S1d n).numel = (S2d n 128).size hg.axis')
    (hin : ∀ x, ((win n lst off inb).view.read (Elt F) fo x).toNat < S100000x128.size hg.axis)
    (hread : ∀ x, (win n lst off inb).view.read (Elt F) fo x = L (o + (x 0).val)) {fd : Buf (Elt F) (dst.view.loc (thr d i))} :
    (iprop((dst.view.loc (thr d i) ↦[dst.view.set]{fullShare}
              (dst.view.write (Elt F) fd (SparseCore.gatherPayload hg (srcW.view.read (Elt F) W) (SparseCore.rows ((win n lst off inb).view.read (Elt F) fo) hn hin)) Finset.univ))
        ∗ (srcW.view.loc (thr d i) ↦[srcW.view.set]{q} W) ∗ ((win n lst off inb).view.loc (thr d i) ↦[(win n lst off inb).view.set]{qo} fo)) : sProp (MM F))
      ⊢ iprop(chunk d i dst (rowsOf (fun r c => srcW.view.read (Elt F) W (at2 r c)) L o) ∗ wSh d i q W
          ∗ (lst.view.loc (thr d i) ↦[(win n lst off inb).view.set]{qo} fo)) := by
  iintro ⟨Hd, HW, Hl⟩
  isplitl [Hd]
  · unfold chunk
    iexists (dst.view.write (Elt F) fd (SparseCore.gatherPayload hg (srcW.view.read (Elt F) W) (SparseCore.rows ((win n lst off inb).view.read (Elt F) fo) hn hin)) Finset.univ)
    isplitr
    · ipureintro
      intro r c
      rw [View.read_write_univ]
      refine congrArg (srcW.view.read (Elt F) W) (eq_at2 _ _ _ ?_ rfl)
      show ((win n lst off inb).view.read (Elt F) fo _).toNat = (L (o + r.val)).toNat % 100000
      have e := hread ((S1d n).rowMajor.symm (Fin.cast hn.symm r))
      have hx := rowMajor1 ((S1d n).rowMajor.symm (Fin.cast hn.symm r))
      rw [Equiv.apply_symm_apply] at hx
      have h1 := hin ((S1d n).rowMajor.symm (Fin.cast hn.symm r))
      rw [e, ← hx] at h1
      change (L (o + r.val)).toNat < 100000 at h1
      refine (congrArg BitVec.toNat (e.trans (by rw [← hx]; rfl))).trans (Nat.mod_eq_of_lt h1).symm
    iexact Hd
  isplitl [HW]
  · unfold wSh; iexact HW
  iexact Hl

theorem issue {α : Type} {n N : ℕ} (d : Dev nD) (i : grid0.Coords) (dst : Memref sig .scVector .vmem (S2d n 128) .f32) (sem : DmaSem sig) (c : ℕ)
    (lst : Memref sig .scVector .vmem (S1d N) .i32) (q qo : PosShare TreeShare) (W : Buf (Elt F) (srcW.view.loc (thr d i)))
    (fo : Buf (Elt F) (lst.view.loc (thr d i))) (off : Fin 1 → ℕ) (inb : ∀ a, off a + (S1d n).size a ≤ (S1d N).size a) (o : ℕ) (ho : off 0 = o)
    (L : ℕ → BitVec 32) (hL : ∀ m : Fin N, lst.view.read (Elt F) fo (at1 m) = L m.val) (hin : ∀ m, (L m).toNat < 100000)
    (hg : S100000x128.Gathers 0 (S2d n 128)) (hn : (S1d n).numel = (S2d n 128).size hg.axis')
    {hp : (thr d i).2.kind = .scVector} {hsrc : srcW.view.WordExact} {he : EltTy.f32.bits = 32} {hsp : Space.hbm = .hbm ∨ Space.hbm = .shared}
    {hr : S100000x128.StreamRows 0}
    (hN : ∑ j, (dst.slice ((S2d n 128).rowRect hg.axis' j) ((S2d n 128).stride_rowRect hg.axis' j)).view.dmaCredit = c) (hpos : 0 < (S2d n 128).numel)
    (k : PUnit → TP F i α) (Q : α → sProp (MM F)) (fd : Buf (Elt F) (dst.view.loc (thr d i))) :
    iprop(wSh d i q W ∗ (dst.view.loc (thr d i) ↦[dst.view.set]{fullShare} fd) ∗ (lst.view.loc (thr d i) ↦[lst.view.set]{qo} fo)
        ∗ semVal ((thr d i), SemLoc.dma sem) 0)
      ⊢ iprop((Pend d i dst sem c lst q qo W fo (rowsOf (fun r c => srcW.view.read (Elt F) W (at2 r c)) L o) -∗ wpT d i (k ⟨⟩) Q)
          -∗ wpT d i (SparseCore.enqueueIndirectGather hp srcW dst hg (win n lst off inb) hn sem hsrc he hsp hr >>= k) Q) := by
  have hsub : (win n lst off inb).view.set ⊆ lst.view.set := View.set_slice_subset _ _
  have hread : ∀ x, (win n lst off inb).view.read (Elt F) fo x = L (o + (x 0).val) := by
    intro x
    have h0 : off 0 + (x 0).val < N := by
      have := inb 0; have := (x 0).isLt
      change off 0 + n ≤ N at *; change (x 0).val < n at *; omega
    have := hL ⟨off 0 + (x 0).val, h0⟩
    rw [← ho, ← this]
    show lst.view.read (Elt F) fo _ = _
    exact congrArg _ (eq_at1 _ _ (Shape.emb_unit1 _ _ _))
  have hin' : ∀ x, ((win n lst off inb).view.read (Elt F) fo x).toNat < S100000x128.size hg.axis := fun x => by
    rw [hread x]; exact hin _
  iintro ⟨HW, Hd, Hl, Hs⟩ Hk
  ihave Hl2 := (pointsTo_split_subset hsub).1 $$ Hl
  icases Hl2 with ⟨Hlw, Hlr⟩
  iapply (SparseCore.wp_indirectGatherLocal EC 𝒱₀ (thr d i) none (none : HIx 1) c hN hpos hin' (fs := W) (fd := fd) (q := q) (qo := qo)) $$ [HW Hd Hlw Hs]
  · unfold wSh
    isplitl [HW]; · iexact HW
    isplitl [Hd]; · iexact Hd
    isplitl [Hlw]; · iexact Hlw
    iexact Hs
  iintro Hf
  iapply Hk
  unfold Pend
  iexists (win n lst off inb).view.set
  isplitr
  · ipureintro; exact hsub
  isplitl [Hf]
  · iapply (Transfers.Flight_mono EC (thr d i) (landed hg hn hin' (fun x => hread x))) $$ Hf
  iexact Hlr

theorem take {α : Type} {n N : ℕ} (d : Dev nD) (i : grid0.Coords) (dst : Memref sig .scVector .vmem (S2d n 128) .f32) (sem : DmaSem sig) (c : ℕ)
    (lst : Memref sig .scVector .vmem (S1d N) .i32) (q qo : PosShare TreeShare) (W : Buf (Elt F) (srcW.view.loc (thr d i)))
    (fo : Buf (Elt F) (lst.view.loc (thr d i))) (V : ℕ → Fin 128 → F .f32) (hN : dst.view.dmaCredit = c)
    {h1 : srcW.view.WordExact} {h2 : dst.view.WordExact} (O : CellTallies nD τ sig (HIx 1)) (Ws : Waits sig (HIx 1))
    (k : PUnit → TP F i α) (Q : α → sProp (MM F)) :
    iprop(Pend d i dst sem c lst q qo W fo V ∗ owes (thr d i) O Ws ∗ Transfers.MayWaits (thr d i) (none : HIx 1) O)
      ⊢ iprop((iprop(chunk d i dst V ∗ wSh d i q W ∗ (lst.view.loc (thr d i) ↦[lst.view.set]{qo} fo) ∗ semVal ((thr d i), SemLoc.dma sem) 0
                ∗ owes (thr d i) O (insert (SemLoc.dma sem, none) Ws)) -∗ wpT d i (k ⟨⟩) Q)
          -∗ wpT d i (SparseCore.waitIndirectGather sem srcW dst h1 h2 >>= k) Q) := by
  unfold Pend
  iintro ⟨⟨%I, %hI, Hf, Hr⟩, HO, Hmw⟩ Hk
  iapply (Transfers.wp_waitLocalO EC 𝒱₀ (thr d i) none (none : HIx 1) hN) $$ [Hf HO Hmw]
  · isplitl [Hf]; · iexact Hf
    isplitl [HO]; · iexact HO
    iapply (Transfers.MayWaits.elim (SemLoc.dma sem)) $$ Hmw
  iintro ⟨⟨Hc, HW, Hl⟩, Hs, HO⟩
  iapply Hk
  isplitl [Hc]; · iexact Hc
  isplitl [HW]; · iexact HW
  isplitl [Hl Hr]
  · iapply (pointsTo_split_subset hI).2 $$ [Hl Hr]
    isplitl [Hl]; · iexact Hl
    iexact Hr
  isplitl [Hs]; · iexact Hs
  iexact HO

end Cert.Proof.Score
end
-- ==== Proof.Stores.lean ====
/- What a tile's scratch holds, and a load-then-store of a piece of it. -/
module

public import proofs.«01_k».proof.Proof.Fetch

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The buffer reads as `g`. -/
def holds {s : Shape} {e : EltTy} {sp : Space} (d : Dev nD) (i : grid0.Coords) (m : Memref sig .scVector sp s e) (g : s.Idx → Elt F e) : sProp (MM F) :=
  iprop(∃ f, ⌜m.view.read (Elt F) f = g⌝ ∗ (m.view.loc (thr d i) ↦[m.view.set]{fullShare} f))

theorem loadT {α : Type} {s : Shape} {d : Dev nD} {i : grid0.Coords} {m : Memref sig .scVector .vmem s .f32} {R : Rect s}
    {f : Buf (Elt F) (m.view.loc (thr d i))} {hl : m.view.LoadsAt R.toLoadRect} {k : (R.shape.Idx → F .f32) → TP F i α} {Q : α → sProp (MM F)} :
    (m.view.loc (thr d i) ↦[m.view.set]{fullShare} f : sProp (MM F))
      ⊢ iprop(((m.view.loc (thr d i) ↦[m.view.set]{fullShare} f) -∗ wpT d i (k ((m.access R).read (Elt F) f)) Q)
        -∗ wpT d i (Prog.lift (.load m R.toLoadRect hl) >>= k) Q) :=
  wp_load_rect 𝒱₀ (thr d i) none Set.univ (m := m) (r := R) (S := m.view.set) (View.set_slice_subset _ _)

theorem storeT {α : Type} {s : Shape} {d : Dev nD} {i : grid0.Coords} {m : Memref sig .scVector .vmem s .f32} {R : Rect s} {w : R.shape.Idx → F .f32}
    {f : Buf (Elt F) (m.view.loc (thr d i))} {hs} {hm} {k : PUnit → TP F i α} {Q : α → sProp (MM F)} :
    (m.view.loc (thr d i) ↦[m.view.set]{fullShare} f : sProp (MM F))
      ⊢ iprop(((m.view.loc (thr d i) ↦[m.view.set]{fullShare} ((m.access R).write (Elt F) f w Finset.univ)) -∗ wpT d i (k ⟨⟩) Q)
        -∗ wpT d i (Prog.lift (.store m R w Finset.univ hs hm) >>= k) Q) :=
  wp_store 𝒱₀ (thr d i) none Set.univ (m := m) (r := R) (Mk := Finset.univ) (S := m.view.set) (View.set_slice_subset _ _)

/-- A piece loaded (its value unused) and then overwritten. -/
theorem over {α : Type} {s : Shape} {d : Dev nD} {i : grid0.Coords} {m : Memref sig .scVector .vmem s .f32} {g g' : s.Idx → F .f32} {R : Rect s}
    {w : R.shape.Idx → F .f32} (h1 : ∀ x, g' (R.emb x) = w x) (h2 : ∀ y, y ∉ R.set → g' y = g y)
    {hl : m.view.LoadsAt R.toLoadRect} {hs} {hm} {k : PUnit → TP F i α} {Q : α → sProp (MM F)} :
    holds d i m g ⊢ iprop((holds d i m g' -∗ wpT d i (k ⟨⟩) Q)
      -∗ wpT d i (Prog.lift (.load m R.toLoadRect hl) >>= fun _ => Prog.lift (.store m R w Finset.univ hs hm) >>= k) Q) := by
  unfold holds
  iintro ⟨%f, %hf, Hm⟩ Hk
  iapply (loadT (m := m) (R := R) (f := f)) $$ Hm
  iintro Hm
  iapply (storeT (m := m) (R := R) (f := f)) $$ Hm
  iintro Hm
  iapply Hk
  iexists ((m.access R).write (Elt F) f w Finset.univ)
  isplitr
  · ipureintro
    funext y
    by_cases hy : y ∈ R.set
    · rw [← Rect.map_emb_univ, Finset.mem_map] at hy
      obtain ⟨x, -, rfl⟩ := hy
      rw [h1]
      exact View.read_slice_write_emb (v := m.view) R f w (Finset.mem_univ x)
    · rw [h2 y hy, ← hf]
      exact View.read_slice_write_of_not_mem (v := m.view) R f w Finset.univ (by rw [Rect.map_emb_univ]; exact hy)
  iexact Hm

/-- Sixteen entries of row `r`, group `g`, replaced. -/
def put {a b : ℕ} (f : (S2d a b).Idx → F .f32) (r g : ℕ) (v : Fin 16 → F .f32) : (S2d a b).Idx → F .f32 :=
  fun y => if (y 0).val = r ∧ (y 1).val / 16 = g then v ⟨(y 1).val % 16, Nat.mod_lt _ (by decide)⟩ else f y

def put1 {a : ℕ} (f : (S1d a).Idx → F .f32) (g : ℕ) (v : Fin 16 → F .f32) : (S1d a).Idx → F .f32 :=
  fun y => if (y 0).val / 16 = g then v ⟨(y 0).val % 16, Nat.mod_lt _ (by decide)⟩ else f y

theorem rowMajor2 {n m : ℕ} (x : (S2d n m).Idx) : ((S2d n m).rowMajor x).val = (x 0).val * m + (x 1).val := by
  show (Shape.rowMajorPi _ x).val = _
  rw [Shape.rowMajorPi_succ_val, Shape.rowMajorPi_succ_val]
  have : ∀ (y : Fin (∏ a : Fin 0, (fun a : Fin 0 => (fun a : Fin 1 => ![n, m] a.succ) a.succ) a)), y.val = 0 := fun y => by
    have := y.isLt; simp at this; omega
  rw [this]
  simp

theorem cast_row (v : Vec F S16 .f32) (h : S16.ShapeCasts S1x16) (x : S1x16.Idx) : shapeCast S1x16 v h x = v (at1 (x 1)) := by
  refine congrArg v (Shape.reshapeEquiv_eq_of_rowMajor _ ?_)
  refine (rowMajor1 _).trans ((rowMajor2 (n := 1) (m := 16) x).trans ?_).symm
  have : (x 0).val < 1 := (x 0).isLt
  show (x 0).val * 16 + (x 1).val = (x 1).val
  omega

theorem over2 {α : Type} {d : Dev nD} {i : grid0.Coords} {m : Memref sig .scVector .vmem S64x64 .f32} {f : S64x64.Idx → F .f32}
    {off : Fin 2 → ℕ} {inb : ∀ a, off a + S1x16.size a ≤ S64x64.size a} (r g : ℕ) (hr : off 0 = r) (hg : off 1 = 16 * g)
    {v : Vec F S16 .f32} {hc : S16.ShapeCasts S1x16}
    {hl : m.view.LoadsAt (Rect.unit (s := S64x64) off S1x16.size inb).toLoadRect} {hs} {hm} {k : PUnit → TP F i α} {Q : α → sProp (MM F)} :
    holds d i m f ⊢ iprop((holds d i m (put f r g fun l => v (at1 l)) -∗ wpT d i (k ⟨⟩) Q)
      -∗ wpT d i (Prog.lift (.load m (Rect.unit (s := S64x64) off S1x16.size inb).toLoadRect hl)
          >>= fun _ => Prog.lift (.store m (Rect.unit (s := S64x64) off S1x16.size inb) (shapeCast S1x16 v hc) Finset.univ hs hm) >>= k) Q) := by
  refine over (fun x => ?_) (fun y hy => ?_)
  · rw [cast_row]
    have h0 : ((Rect.unit (s := S64x64) off S1x16.size inb).emb x 0).val = r := by
      rw [Rect.emb_apply]; show off 0 + 1 * (x 0 : ℕ) = r
      have : (x 0).val < 1 := (x 0).isLt
      omega
    have h1 : ((Rect.unit (s := S64x64) off S1x16.size inb).emb x 1).val = 16 * g + (x 1).val := by
      rw [Rect.emb_apply]; show off 1 + 1 * (x 1 : ℕ) = _; omega
    have hx : (x 1).val < 16 := (x 1).isLt
    unfold put
    rw [if_pos ⟨h0, by rw [h1]; omega⟩]
    refine congrArg v (eq_at1 _ _ ?_).symm
    show _ = _ % 16
    rw [h1]
    show (x 1).val = _
    omega
  · unfold put
    refine if_neg fun h => hy ?_
    rw [Rect.mem_set_unit]
    intro a
    match a with
    | 0 => show off 0 ≤ (y 0).val ∧ (y 0).val < off 0 + 1
           omega
    | 1 => show off 1 ≤ (y 1).val ∧ (y 1).val < off 1 + 16
           omega

theorem over1 {α : Type} {d : Dev nD} {i : grid0.Coords} {m : Memref sig .scVector .vmem S64 .f32} {f : S64.Idx → F .f32}
    {off : Fin 1 → ℕ} {inb : ∀ a, off a + S16.size a ≤ S64.size a} (g : ℕ) (hg : off 0 = 16 * g)
    {v : Vec F S16 .f32}
    {hl : m.view.LoadsAt (Rect.unit (s := S64) off S16.size inb).toLoadRect} {hs} {hm} {k : PUnit → TP F i α} {Q : α → sProp (MM F)} :
    holds d i m f ⊢ iprop((holds d i m (put1 f g fun l => v (at1 l)) -∗ wpT d i (k ⟨⟩) Q)
      -∗ wpT d i (Prog.lift (.load m (Rect.unit (s := S64) off S16.size inb).toLoadRect hl)
          >>= fun _ => Prog.lift (.store m (Rect.unit (s := S64) off S16.size inb) v Finset.univ hs hm) >>= k) Q) := by
  refine over (fun x => ?_) (fun y hy => ?_)
  · have h1 : ((Rect.unit (s := S64) off S16.size inb).emb x 0).val = 16 * g + (x 0).val := by
      rw [Rect.emb_apply]; show off 0 + 1 * (x 0 : ℕ) = _; omega
    have hx : (x 0).val < 16 := (x 0).isLt
    unfold put1
    rw [if_pos (by rw [h1]; omega)]
    refine congrArg v (eq_at1 _ _ ?_).symm
    show _ = _ % 16
    rw [h1]; omega
  · unfold put1
    refine if_neg fun h => hy ?_
    rw [Rect.mem_set_unit]
    intro a
    match a with
    | 0 => show off 0 ≤ (y 0).val ∧ (y 0).val < off 0 + 16
           omega

end Cert.Proof.Score
end
-- ==== Proof.NegBody.lean ====
/- One column block of a negatives chunk: what the inner loop's body returns. -/
module

public import proofs.«01_k».proof.Proof.Reads

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxHeartbeats 4000000 in
set_option maxRecDepth 65536 in
theorem t2_gives (d : Dev nD) (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v3 : IVec S16 32) (k0_t1 : Fin k0_t1_loop.trips) (arg21 v35 v38 : BitVec 32) (v40 v42 v44 v46 v48 v50 v52 v54 v56 v58 : IVec S16 32)
  (v59 v60 v61 v62 v63 v64 v65 v66 : FVec F S16 .f32) (c0 : BitVec 32) (j : Fin k0_t2_loop.trips)
  (x : FVec F S16 .f32 × FVec F S16 .f32 × FVec F S16 .f32 × FVec F S16 .f32 × FVec F S16 .f32 × FVec F S16 .f32 × FVec F S16 .f32 × FVec F S16 .f32)
  (o : BitVec 32) (ho : Scalar.muli (Scf.iv c0 1#32 j) 16#32 = o)
  (qh qw : PosShare TreeShare) (fh : Buf (Elt F) ((arg8.access (.whole _)).loc (thr d i))) (fw : Buf (Elt F) ((arg11.access (.whole _)).loc (thr d i)))
  (h40 : ∀ n a y, ((![v40, cols v3 o n] : Fin 2 → IVec S16 32) a y).toNat < S256x128.size a)
  (h42 : ∀ n a y, ((![v42, cols v3 o n] : Fin 2 → IVec S16 32) a y).toNat < S256x128.size a)
  (h44 : ∀ n a y, ((![v44, cols v3 o n] : Fin 2 → IVec S16 32) a y).toNat < S128x128.size a) (h46 : ∀ n a y, ((![v46, cols v3 o n] : Fin 2 → IVec S16 32) a y).toNat < S128x128.size a) (h48 : ∀ n a y, ((![v48, cols v3 o n] : Fin 2 → IVec S16 32) a y).toNat < S128x128.size a) (h50 : ∀ n a y, ((![v50, cols v3 o n] : Fin 2 → IVec S16 32) a y).toNat < S128x128.size a) (h52 : ∀ n a y, ((![v52, cols v3 o n] : Fin 2 → IVec S16 32) a y).toNat < S128x128.size a) (h54 : ∀ n a y, ((![v54, cols v3 o n] : Fin 2 → IVec S16 32) a y).toNat < S128x128.size a) (h56 : ∀ n a y, ((![v56, cols v3 o n] : Fin 2 → IVec S16 32) a y).toNat < S128x128.size a) (h58 : ∀ n a y, ((![v58, cols v3 o n] : Fin 2 → IVec S16 32) a y).toNat < S128x128.size a) :
  Gives d i iprop(((arg8.access (.whole _)).loc (thr d i) ↦[Finset.univ]{qh} fh) ∗ ((arg11.access (.whole _)).loc (thr d i) ↦[Finset.univ]{qw} fw))
    (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v3 k0_t1 arg21 v35 v38 v40 v42 v44 v46 v48 v50 v52 v54 v56 v58 v59 v60 v61 v62 v63 v64 v65 v66 c0 j x)
    (diag ((arg8.access (.whole _)).read (Elt F) fh) ((arg11.access (.whole _)).read (Elt F) fw) (fun n => ![v40, cols v3 o n]) (fun n => ![v44, cols v3 o n]) h40 h44 x.1 16, diag ((arg8.access (.whole _)).read (Elt F) fh) ((arg11.access (.whole _)).read (Elt F) fw) (fun n => ![v40, cols v3 o n]) (fun n => ![v46, cols v3 o n]) h40 h46 x.2.1 16, diag ((arg8.access (.whole _)).read (Elt F) fh) ((arg11.access (.whole _)).read (Elt F) fw) (fun n => ![v40, cols v3 o n]) (fun n => ![v48, cols v3 o n]) h40 h48 x.2.2.1 16, diag ((arg8.access (.whole _)).read (Elt F) fh) ((arg11.access (.whole _)).read (Elt F) fw) (fun n => ![v40, cols v3 o n]) (fun n => ![v50, cols v3 o n]) h40 h50 x.2.2.2.1 16, diag ((arg8.access (.whole _)).read (Elt F) fh) ((arg11.access (.whole _)).read (Elt F) fw) (fun n => ![v42, cols v3 o n]) (fun n => ![v52, cols v3 o n]) h42 h52 x.2.2.2.2.1 16, diag ((arg8.access (.whole _)).read (Elt F) fh) ((arg11.access (.whole _)).read (Elt F) fw) (fun n => ![v42, cols v3 o n]) (fun n => ![v54, cols v3 o n]) h42 h54 x.2.2.2.2.2.1 16, diag ((arg8.access (.whole _)).read (Elt F) fh) ((arg11.access (.whole _)).read (Elt F) fw) (fun n => ![v42, cols v3 o n]) (fun n => ![v56, cols v3 o n]) h42 h56 x.2.2.2.2.2.2.1 16, diag ((arg8.access (.whole _)).read (Elt F) fh) ((arg11.access (.whole _)).read (Elt F) fw) (fun n => ![v42, cols v3 o n]) (fun n => ![v58, cols v3 o n]) h42 h58 x.2.2.2.2.2.2.2 16) := by
  have hc : ∀ n, k0_chk1 v40 v42 v44 v46 v48 v50 v52 v54 v56 v58 (cols v3 o n) := fun n =>
    ⟨h40 n, h44 n, h46 n, h48 n, h50 n, h42 n, h52 n, h54 n, h56 n, h58 n⟩
  subst ho
  obtain ⟨a1, a2, a3, a4, a5, a6, a7, a8⟩ := x
  unfold k0_t2_body
  dsimp only
  repeat (first
    | with_reducible apply Gives.loadL
    | with_reducible apply Gives.loadR
    | ((with_reducible refine Gives.assume ?_ ?_); · exact hc _)
    | (with_reducible apply Gives.pure; dsimp only)
    | with_reducible apply Gives.assoc
    | first | unfold k0_part1 | unfold k0_part2 | unfold k0_part3 | unfold k0_part4 | unfold k0_part5 | unfold k0_part6 | unfold k0_part7 | unfold k0_part8 | unfold k0_part9)
  exact Gives.ret rfl

set_option maxHeartbeats 4000000 in
set_option maxRecDepth 65536 in
/-- The second chunk's body is the first's with the two chunk buffers exchanged. -/
theorem t3_eq (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v3 : IVec S16 32) (k0_t1 : Fin k0_t1_loop.trips) (arg21 v35 v38 : BitVec 32) (v40 v42 v44 v46 v48 v50 v52 v54 v56 v58 : IVec S16 32)
  (v59 v60 v61 v62 v63 v64 v65 v66 : FVec F S16 .f32) (c0 : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v3 k0_t1 arg21 v35 v38 v40 v42 v44 v46 v48 v50 v52 v54 v56 v58 v59 v60 v61 v62 v63 v64 v65 v66 c0
      = k0_t2_body (F := F) i arg2 harg2 arg3 harg3 arg4 harg4 arg5 harg5 arg6 harg6 arg7 harg7 arg8 harg8 arg9 harg9 arg10 harg10 arg12 harg12 arg11 harg11 arg13 harg13 arg14 harg14 arg15 harg15 arg16 harg16 arg17 arg18 arg19 arg20 v34_r0 v34_r1 v34_r2 v173_r3 v34_r4 v34_r5 v34_r6 v34_r7 v3 k0_t1 arg21 v35 v38 v40 v42 v44 v46 v48 v50 v52 v54 v56 v58 v59 v60 v61 v62 v63 v64 v65 v66 c0 := rfl

end Cert.Proof.Score
end
-- ==== Proof.PosBody.lean ====
/- One column block of sixteen positives: what the inner loop's body returns. -/
module

public import proofs.«01_k».proof.Proof.Reads

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxHeartbeats 4000000 in
set_option maxRecDepth 65536 in
theorem t5_gives (d : Dev nD) (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v2 : BitVec 32) (v3 : IVec S16 32) (c0 : BitVec 32) (v37 v40 : IVec S16 32) (j : Fin k0_t5_loop.trips) (x : FVec F S16 .f32)
  (o : BitVec 32) (ho : Scalar.muli (Scf.iv 0#32 1#32 j) 16#32 = o)
  (qh qw : PosShare TreeShare) (fh : Buf (Elt F) ((arg8.access (.whole _)).loc (thr d i))) (fw : Buf (Elt F) ((arg13.access (.whole _)).loc (thr d i)))
  (h37 : ∀ n a y, ((![v37, cols v3 o n] : Fin 2 → IVec S16 32) a y).toNat < S256x128.size a)
  (h40 : ∀ n a y, ((![v40, cols v3 o n] : Fin 2 → IVec S16 32) a y).toNat < S64x128.size a) :
  Gives d i iprop(((arg8.access (.whole _)).loc (thr d i) ↦[Finset.univ]{qh} fh) ∗ ((arg13.access (.whole _)).loc (thr d i) ↦[Finset.univ]{qw} fw))
    (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3 c0 v37 v40 j x)
    (diag ((arg8.access (.whole _)).read (Elt F) fh) ((arg13.access (.whole _)).read (Elt F) fw) (fun n => ![v37, cols v3 o n]) (fun n => ![v40, cols v3 o n]) h37 h40 x 16) := by
  have hc : ∀ n, k0_chk33 v37 v40 (cols v3 o n) := fun n => ⟨h37 n, h40 n⟩
  subst ho
  unfold k0_t5_body
  dsimp only
  repeat (first
    | with_reducible apply Gives.loadL
    | with_reducible apply Gives.loadR
    | ((with_reducible refine Gives.assume ?_ ?_); · exact hc _)
    | (with_reducible apply Gives.pure; dsimp only)
    | with_reducible apply Gives.assoc
    | first | unfold k0_part23 | unfold k0_part24 | unfold k0_part25)
  exact Gives.ret rfl

set_option maxHeartbeats 4000000 in
set_option maxRecDepth 65536 in
theorem t7_eq (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v2 : BitVec 32) (v3 : IVec S16 32) (c0 : BitVec 32) (v37 v40 : IVec S16 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3 c0 v37 v40 = k0_t5_body (F := F) i arg2 harg2 arg3 harg3 arg4 harg4 arg5 harg5 arg6 harg6 arg7 harg7 arg8 harg8 arg9 harg9 arg10 harg10 arg11 harg11 arg12 harg12 arg14 harg14 arg13 harg13 arg15 harg15 arg16 harg16 arg17 arg18 arg19 arg20 v34_r0 v34_r1 v34_r2 v173_r3 v34_r4 v34_r5 v34_r6 v34_r7 v2 v3 c0 v37 v40 := rfl

set_option maxHeartbeats 4000000 in
set_option maxRecDepth 65536 in
theorem t9_eq (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v2 : BitVec 32) (v3 : IVec S16 32) (c0 : BitVec 32) (v37 v40 : IVec S16 32) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3  v37 v40 = k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3 c0 v37 v40 := rfl

set_option maxHeartbeats 4000000 in
set_option maxRecDepth 65536 in
theorem t11_eq (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v2 : BitVec 32) (v3 : IVec S16 32) (c0 : BitVec 32) (v37 v40 : IVec S16 32) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3  v37 v40 = k0_t5_body (F := F) i arg2 harg2 arg3 harg3 arg4 harg4 arg5 harg5 arg6 harg6 arg7 harg7 arg8 harg8 arg9 harg9 arg10 harg10 arg11 harg11 arg12 harg12 arg14 harg14 arg13 harg13 arg15 harg15 arg16 harg16 arg17 arg18 arg19 arg20 v34_r0 v34_r1 v34_r2 v173_r3 v34_r4 v34_r5 v34_r6 v34_r7 v2 v3 c0 v37 v40 := rfl

end Cert.Proof.Score
end
-- ==== Proof.Loops.lean ====
/- The inner loops: all 128 columns of a group of dot products. -/
module

public import proofs.«01_k».proof.Proof.Stores
public import proofs.«01_k».proof.Proof.NegBody
public import proofs.«01_k».proof.Proof.PosBody

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable {d : Dev nD} {i : grid0.Coords} {R : sProp (MM F)}

/-- A counted loop whose trip `k` takes the value `S k` to `S (k + 1)`. -/
theorem Gives.loop {σ : Type} {l : Scf.Loop 32} {ok : l.OK} {init : σ} {b : Fin l.trips → σ → TP F i σ} (S : ℕ → σ) (h0 : S 0 = init)
    (hb : ∀ k : Fin l.trips, Gives d i R (b k (S k.val)) (S (k.val + 1))) : Gives d i R (Scf.Loop.for l ok init b) (S l.trips) := by
  unfold Gives wpT at *
  have hs := Scf.wp_for frame (wpE (defs₀ (F := F)) 𝒱₀ (thr d i) none) Set.univ l.lb l.ub l.st ok init b (fun k acc => iprop(⌜acc = S k⌝ ∗ R)) (fun k acc => by
    iintro ⟨%e, H⟩
    subst e
    iapply (hb k) $$ H) (Q := fun x => iprop(⌜x = S l.trips⌝ ∗ R))
  iintro H
  iapply hs
  isplitl [H]
  · isplitr
    · ipureintro; exact h0.symm
    iexact H
  iintro %acc H
  iexact H

/-- A counted loop carrying no values, at the head of a program. -/
theorem loopT {α : Type} {l : Scf.Loop 32} {ok : l.OK} {b : Fin l.trips → Unit → TP F i Unit} {kk : Unit → TP F i α} {Q : α → sProp (MM F)} (I : ℕ → sProp (MM F))
    (hb : ∀ k : Fin l.trips, I k.val ⊢ wpT d i (b k ()) fun _ => I (k.val + 1)) :
    I 0 ⊢ iprop((I l.trips -∗ wpT d i (kk ()) Q) -∗ wpT d i (Scf.Loop.for l ok () b >>= kk) Q) := by
  unfold wpT at *
  iintro H Hk
  iapply (Scf.wp_for_bind _ _ _ l.lb l.ub l.st ok () b (fun k _ => I k) (fun k _ => hb k)) $$ H
  iintro %acc H
  iapply Hk $$ H

/-- A value given, at the head of a program. -/
theorem Gives.at {α β : Type} {P : TP F i α} {x : α} (h : Gives d i R P x) {kk : α → TP F i β} {Q : β → sProp (MM F)} :
    R ⊢ iprop((R -∗ wpT d i (kk x) Q) -∗ wpT d i (P >>= kk) Q) := by
  unfold Gives wpT at *
  iintro H Hk
  rw [wp_bind]
  iapply (wp_wand _ _ _) $$ [H]
  · iapply h $$ H
  iintro %a ⟨%e, H⟩
  subst e
  iapply Hk $$ H
end

/-- What sixteen lanes have after `m` steps: lane `x` is at row `r x` of `hv` and row `r' x` of `wv`. -/
def laneAt {p q : ℕ} (hv : (S2d p 128).Idx → F .f32) (wv : (S2d q 128).Idx → F .f32) (r r' : IVec S16 32) (hr : ∀ x, (r x).toNat < p) (hr' : ∀ x, (r' x).toNat < q)
    (m : ℕ) : FVec F S16 .f32 :=
  fun x => dotAt (fun c => hv (at2 ⟨(r x).toNat, hr x⟩ c)) (fun c => wv (at2 ⟨(r' x).toNat, hr' x⟩ c)) (x 0).val m

theorem diag_step {p q : ℕ} (hv : (S2d p 128).Idx → F .f32) (wv : (S2d q 128).Idx → F .f32) (r r' v3 : IVec S16 32) (o : BitVec 32) (hr : ∀ x, (r x).toNat < p) (hr' : ∀ x, (r' x).toNat < q)
    (hv3 : ∀ x, (v3 x).toNat = (x 0).val) (j : ℕ) (hj : j < 8) (ho : o.toNat = 16 * j)
    (ha : ∀ n k y, ((![r, cols v3 o n] : Fin 2 → IVec S16 32) k y).toNat < (S2d p 128).size k)
    (hb : ∀ n k y, ((![r', cols v3 o n] : Fin 2 → IVec S16 32) k y).toNat < (S2d q 128).size k) :
    diag (s := S2d p 128) (t := S2d q 128) hv wv (fun n => ![r, cols v3 o n]) (fun n => ![r', cols v3 o n]) ha hb (laneAt hv wv r r' hr hr' (16 * j)) 16
      = laneAt hv wv r r' hr hr' (16 * (j + 1)) := by
  funext x
  rw [show 16 * (j + 1) = 16 * j + 16 by omega]
  exact diag_lane hv wv r r' v3 o ha hb _ j hj ho x _ (hv3 x) _ _ (fun _ => rfl) (fun _ => rfl) rfl 16 le_rfl

theorem iv_off : ∀ j : Fin 8, (Scalar.muli (Scf.iv 0#32 1#32 j) 16#32 : BitVec 32).toNat = 16 * j.val := by decide +kernel

set_option maxHeartbeats 2000000 in
set_option maxRecDepth 65536 in
/-- The eight sums of two tokens, over all 128 columns. -/
theorem negLoop (d : Dev nD) (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v3 : IVec S16 32) (k0_t1 : Fin k0_t1_loop.trips) (arg21 v35 v38 : BitVec 32) (v40 v42 v44 v46 v48 v50 v52 v54 v56 v58 : IVec S16 32)
  (qh qw : PosShare TreeShare) (fh : Buf (Elt F) ((arg8.access (.whole _)).loc (thr d i))) (fw : Buf (Elt F) ((arg11.access (.whole _)).loc (thr d i)))
  (hv3 : ∀ x, (v3 x).toNat = (x 0).val) (e40 : ∀ x, (v40 x).toNat < 256) (e42 : ∀ x, (v42 x).toNat < 256)
  (e44 : ∀ x, (v44 x).toNat < 128) (e46 : ∀ x, (v46 x).toNat < 128) (e48 : ∀ x, (v48 x).toNat < 128) (e50 : ∀ x, (v50 x).toNat < 128) (e52 : ∀ x, (v52 x).toNat < 128) (e54 : ∀ x, (v54 x).toNat < 128) (e56 : ∀ x, (v56 x).toNat < 128) (e58 : ∀ x, (v58 x).toNat < 128) :
  Gives d i iprop(((arg8.access (.whole _)).loc (thr d i) ↦[Finset.univ]{qh} fh) ∗ ((arg11.access (.whole _)).loc (thr d i) ↦[Finset.univ]{qw} fw))
    (Scf.Loop.for k0_t2_loop k0_t2_ok ((fun _ => zero32), (fun _ => zero32), (fun _ => zero32), (fun _ => zero32), (fun _ => zero32), (fun _ => zero32), (fun _ => zero32), (fun _ => zero32)) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v3 k0_t1 arg21 v35 v38 v40 v42 v44 v46 v48 v50 v52 v54 v56 v58 (fun _ => zero32) (fun _ => zero32) (fun _ => zero32) (fun _ => zero32) (fun _ => zero32) (fun _ => zero32) (fun _ => zero32) (fun _ => zero32) 0#32))
    (laneAt ((arg8.access (.whole _)).read (Elt F) fh) ((arg11.access (.whole _)).read (Elt F) fw) v40 v44 e40 e44 128, laneAt ((arg8.access (.whole _)).read (Elt F) fh) ((arg11.access (.whole _)).read (Elt F) fw) v40 v46 e40 e46 128, laneAt ((arg8.access (.whole _)).read (Elt F) fh) ((arg11.access (.whole _)).read (Elt F) fw) v40 v48 e40 e48 128, laneAt ((arg8.access (.whole _)).read (Elt F) fh) ((arg11.access (.whole _)).read (Elt F) fw) v40 v50 e40 e50 128, laneAt ((arg8.access (.whole _)).read (Elt F) fh) ((arg11.access (.whole _)).read (Elt F) fw) v42 v52 e42 e52 128, laneAt ((arg8.access (.whole _)).read (Elt F) fh) ((arg11.access (.whole _)).read (Elt F) fw) v42 v54 e42 e54 128, laneAt ((arg8.access (.whole _)).read (Elt F) fh) ((arg11.access (.whole _)).read (Elt F) fw) v42 v56 e42 e56 128, laneAt ((arg8.access (.whole _)).read (Elt F) fh) ((arg11.access (.whole _)).read (Elt F) fw) v42 v58 e42 e58 128) := by
  refine Gives.loop (ok := k0_t2_ok) (fun j => (laneAt ((arg8.access (.whole _)).read (Elt F) fh) ((arg11.access (.whole _)).read (Elt F) fw) v40 v44 e40 e44 (16 * j), laneAt ((arg8.access (.whole _)).read (Elt F) fh) ((arg11.access (.whole _)).read (Elt F) fw) v40 v46 e40 e46 (16 * j), laneAt ((arg8.access (.whole _)).read (Elt F) fh) ((arg11.access (.whole _)).read (Elt F) fw) v40 v48 e40 e48 (16 * j), laneAt ((arg8.access (.whole _)).read (Elt F) fh) ((arg11.access (.whole _)).read (Elt F) fw) v40 v50 e40 e50 (16 * j), laneAt ((arg8.access (.whole _)).read (Elt F) fh) ((arg11.access (.whole _)).read (Elt F) fw) v42 v52 e42 e52 (16 * j), laneAt ((arg8.access (.whole _)).read (Elt F) fh) ((arg11.access (.whole _)).read (Elt F) fw) v42 v54 e42 e54 (16 * j), laneAt ((arg8.access (.whole _)).read (Elt F) fh) ((arg11.access (.whole _)).read (Elt F) fw) v42 v56 e42 e56 (16 * j), laneAt ((arg8.access (.whole _)).read (Elt F) fh) ((arg11.access (.whole _)).read (Elt F) fw) v42 v58 e42 e58 (16 * j))) rfl fun j => ?_
  have hj : j.val < 8 := j.isLt
  have ho := iv_off j
  have hg := t2_gives d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v3 k0_t1 arg21 v35 v38 v40 v42 v44 v46 v48 v50 v52 v54 v56 v58 (fun _ => zero32) (fun _ => zero32) (fun _ => zero32) (fun _ => zero32) (fun _ => zero32) (fun _ => zero32) (fun _ => zero32) (fun _ => zero32) 0#32 j
    (laneAt ((arg8.access (.whole _)).read (Elt F) fh) ((arg11.access (.whole _)).read (Elt F) fw) v40 v44 e40 e44 (16 * j.val), laneAt ((arg8.access (.whole _)).read (Elt F) fh) ((arg11.access (.whole _)).read (Elt F) fw) v40 v46 e40 e46 (16 * j.val), laneAt ((arg8.access (.whole _)).read (Elt F) fh) ((arg11.access (.whole _)).read (Elt F) fw) v40 v48 e40 e48 (16 * j.val), laneAt ((arg8.access (.whole _)).read (Elt F) fh) ((arg11.access (.whole _)).read (Elt F) fw) v40 v50 e40 e50 (16 * j.val), laneAt ((arg8.access (.whole _)).read (Elt F) fh) ((arg11.access (.whole _)).read (Elt F) fw) v42 v52 e42 e52 (16 * j.val), laneAt ((arg8.access (.whole _)).read (Elt F) fh) ((arg11.access (.whole _)).read (Elt F) fw) v42 v54 e42 e54 (16 * j.val), laneAt ((arg8.access (.whole _)).read (Elt F) fh) ((arg11.access (.whole _)).read (Elt F) fw) v42 v56 e42 e56 (16 * j.val), laneAt ((arg8.access (.whole _)).read (Elt F) fh) ((arg11.access (.whole _)).read (Elt F) fw) v42 v58 e42 e58 (16 * j.val)) _ rfl qh qw fh fw
    (inb_cols v40 v3 _ j.val hj ho e40) (inb_cols v42 v3 _ j.val hj ho e42) (inb_cols v44 v3 _ j.val hj ho e44) (inb_cols v46 v3 _ j.val hj ho e46) (inb_cols v48 v3 _ j.val hj ho e48) (inb_cols v50 v3 _ j.val hj ho e50) (inb_cols v52 v3 _ j.val hj ho e52) (inb_cols v54 v3 _ j.val hj ho e54) (inb_cols v56 v3 _ j.val hj ho e56) (inb_cols v58 v3 _ j.val hj ho e58)
  have e := fun (r r' : IVec S16 32) (hr : ∀ x, (r x).toNat < 256) (hr' : ∀ x, (r' x).toNat < 128) =>
    diag_step ((arg8.access (.whole _)).read (Elt F) fh) ((arg11.access (.whole _)).read (Elt F) fw) r r' v3 _ hr hr' hv3 j.val hj ho (inb_cols r v3 _ j.val hj ho hr) (inb_cols r' v3 _ j.val hj ho hr')
  refine cast (congrArg (Gives d i _ _) ?_) hg
  exact Prod.ext (e _ _ _ _) (Prod.ext (e _ _ _ _) (Prod.ext (e _ _ _ _) (Prod.ext (e _ _ _ _) (Prod.ext (e _ _ _ _) (Prod.ext (e _ _ _ _) (Prod.ext (e _ _ _ _) (e _ _ _ _)))))))

set_option maxHeartbeats 2000000 in
set_option maxRecDepth 65536 in
/-- Sixteen positive scores, over all 128 columns. -/
theorem posLoop (d : Dev nD) (i : grid0.Coords) (arg2 : Memref sig .scVector .hbm S100000x128 .f32) (harg2 : arg2.IsWhole) (arg3 : Memref sig .scVector .hbm S8192x128 .f32) (harg3 : arg3.IsWhole) (arg4 : Memref sig .scVector .hbm S8192 .i32) (harg4 : arg4.IsWhole) (arg5 : Memref sig .scVector .hbm S524288 .i32) (harg5 : arg5.IsWhole) (arg6 : Memref sig .scVector .hbm S8192 .f32) (harg6 : arg6.IsWhole) (arg7 : Memref sig .scVector .hbm S8192x64 .f32) (harg7 : arg7.IsWhole) (arg8 : Memref sig .scVector .vmem S256x128 .f32) (harg8 : arg8.IsWhole) (arg9 : Memref sig .scVector .vmem S256 .i32) (harg9 : arg9.IsWhole) (arg10 : Memref sig .scVector .vmem S16384 .i32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S64x128 .f32) (harg13 : arg13.IsWhole) (arg14 : Memref sig .scVector .vmem S64x128 .f32) (harg14 : arg14.IsWhole) (arg15 : Memref sig .scVector .vmem S64 .f32) (harg15 : arg15.IsWhole) (arg16 : Memref sig .scVector .vmem S64x64 .f32) (harg16 : arg16.IsWhole) (arg17 : DmaSems sig S_) (arg18 : DmaSems sig S_) (arg19 : DmaSems sig S_) (arg20 : DmaSems sig S_) (v34_r0 : DmaSems sig S_) (v34_r1 : DmaSems sig S_) (v34_r2 : DmaSems sig S_) (v173_r3 : DmaSems sig S_) (v34_r4 : DmaSems sig S_) (v34_r5 : DmaSems sig S_) (v34_r6 : DmaSems sig S_) (v34_r7 : DmaSems sig S_)
  (v2 : BitVec 32) (v3 : IVec S16 32) (c0 : BitVec 32) (v37 v40 : IVec S16 32)
  (qh qw : PosShare TreeShare) (fh : Buf (Elt F) ((arg8.access (.whole _)).loc (thr d i))) (fw : Buf (Elt F) ((arg13.access (.whole _)).loc (thr d i)))
  (hv3 : ∀ x, (v3 x).toNat = (x 0).val) (e37 : ∀ x, (v37 x).toNat < 256) (e40 : ∀ x, (v40 x).toNat < 64) :
  Gives d i iprop(((arg8.access (.whole _)).loc (thr d i) ↦[Finset.univ]{qh} fh) ∗ ((arg13.access (.whole _)).loc (thr d i) ↦[Finset.univ]{qw} fw))
    (Scf.Loop.for k0_t5_loop k0_t5_ok (fun _ => zero32) (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3 c0 v37 v40))
    (laneAt ((arg8.access (.whole _)).read (Elt F) fh) ((arg13.access (.whole _)).read (Elt F) fw) v37 v40 e37 e40 128) := by
  refine Gives.loop (ok := k0_t5_ok) (fun j => laneAt ((arg8.access (.whole _)).read (Elt F) fh) ((arg13.access (.whole _)).read (Elt F) fw) v37 v40 e37 e40 (16 * j)) rfl fun j => ?_
  have hj : j.val < 8 := j.isLt
  have ho := iv_off j
  have hg := t5_gives d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 v34_r0 v34_r1 v34_r2 v173_r3 v34_r4 v34_r5 v34_r6 v34_r7 v2 v3 c0 v37 v40 j (laneAt ((arg8.access (.whole _)).read (Elt F) fh) ((arg13.access (.whole _)).read (Elt F) fw) v37 v40 e37 e40 (16 * j.val)) _ rfl qh qw fh fw
    (inb_cols v37 v3 _ j.val hj ho e37) (inb_cols v40 v3 _ j.val hj ho e40)
  refine cast (congrArg (Gives d i _ _) ?_) hg
  exact diag_step ((arg8.access (.whole _)).read (Elt F) fh) ((arg13.access (.whole _)).read (Elt F) fw) v37 v40 v3 _ e37 e40 hv3 j.val hj ho _ _

end Cert.Proof.Score
end
-- ==== Proof.Tile.lean ====
/- A tile: its scratch, the scores it computes, where it puts them. -/
module

public import proofs.«01_k».proof.Proof.Loops

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The scratch of a tile -/

abbrev mH : Memref sig .scVector .vmem S256x128 .f32 := Memref.whole cc0_scratch0
abbrev mT : Memref sig .scVector .vmem S256 .i32 := Memref.whole cc0_scratch1
abbrev mN : Memref sig .scVector .vmem S16384 .i32 := Memref.whole cc0_scratch2
abbrev mA : Memref sig .scVector .vmem S128x128 .f32 := Memref.whole cc0_scratch3
abbrev mB : Memref sig .scVector .vmem S128x128 .f32 := Memref.whole cc0_scratch4
abbrev mC : Memref sig .scVector .vmem S64x128 .f32 := Memref.whole cc0_scratch5
abbrev mD : Memref sig .scVector .vmem S64x128 .f32 := Memref.whole cc0_scratch6
abbrev mP : Memref sig .scVector .vmem S64 .f32 := Memref.whole cc0_scratch7
abbrev mS : Memref sig .scVector .vmem S64x64 .f32 := Memref.whole cc0_scratch8

/-! ## The scores, as functions of the arrays -/

/-- The four arrays the kernel reads, as one device holds them. -/
structure Ins (F : FTy → Type) where
  h : (S2d 8192 128).Idx → F .f32
  t : (S1d 8192).Idx → BitVec 32
  g : (S1d 524288).Idx → BitVec 32
  w : (S2d 100000 128).Idx → F .f32

namespace Ins
variable (X : Ins F)
def hRow (n : ℕ) (c : Fin 128) : F .f32 := X.h (at2 ⟨n % 8192, Nat.mod_lt _ (by decide)⟩ c)
def tN (n : ℕ) : BitVec 32 := X.t (at1 ⟨n % 8192, Nat.mod_lt _ (by decide)⟩)
def gN (n : ℕ) : BitVec 32 := X.g (at1 ⟨n % 524288, Nat.mod_lt _ (by decide)⟩)
def wRow (r : Fin 100000) (c : Fin 128) : F .f32 := X.w (at2 r c)
/-- Token `n`'s score against its target. -/
def pos (n : ℕ) : F .f32 := dotL (n % 16) (X.hRow n) (X.wRow (rowIx (X.tN n)))
/-- Token `n`'s score against its `k`-th negative. -/
def neg (n k : ℕ) : F .f32 := dotL (k % 16) (X.hRow n) (X.wRow (rowIx (X.gN (64 * n + k))))
/-- Every index names a row of the table. -/
def InRange : Prop := (∀ x, (X.t x).toNat < 100000) ∧ ∀ x, (X.g x).toNat < 100000
end Ins

/-- The tile's first token. -/
def tb (i : grid0.Coords) : ℕ := 512 * (i 1).val + 256 * (i 0).val

theorem tb_le (i : grid0.Coords) : tb i + 256 ≤ 8192 := by
  have h0 : (i 0).val < 2 := (i 0).isLt
  have h1 : (i 1).val < 16 := (i 1).isLt
  unfold tb; omega

/-- The tile's hidden rows. -/
def hTile (X : Ins F) (i : grid0.Coords) : S256x128.Idx → F .f32 := fun x => X.hRow (tb i + (x 0).val) (x 1)

/-! ## The offsets, in closed form -/

theorem off4_eq : ∀ (t : Fin k0_t1_loop.trips) (b : Fin 2), k0_off4 t (BitVec.ofNat 32 b.val) 0 = (4 * t.val + b.val) % 64 ∧ k0_off4 t (BitVec.ofNat 32 b.val) 1 = 16 * 0 := by decide +kernel
theorem off5_eq : ∀ (t : Fin k0_t1_loop.trips) (b : Fin 2), k0_off5 t (BitVec.ofNat 32 b.val) 0 = (4 * t.val + b.val) % 64 ∧ k0_off5 t (BitVec.ofNat 32 b.val) 1 = 16 * 1 := by decide +kernel
theorem off6_eq : ∀ (t : Fin k0_t1_loop.trips) (b : Fin 2), k0_off6 t (BitVec.ofNat 32 b.val) 0 = (4 * t.val + b.val) % 64 ∧ k0_off6 t (BitVec.ofNat 32 b.val) 1 = 16 * 2 := by decide +kernel
theorem off7_eq : ∀ (t : Fin k0_t1_loop.trips) (b : Fin 2), k0_off7 t (BitVec.ofNat 32 b.val) 0 = (4 * t.val + b.val) % 64 ∧ k0_off7 t (BitVec.ofNat 32 b.val) 1 = 16 * 3 := by decide +kernel
theorem off9_eq : ∀ (t : Fin k0_t1_loop.trips) (b : Fin 2), k0_off9 t (BitVec.ofNat 32 b.val) 0 = (4 * t.val + 2 + b.val) % 64 ∧ k0_off9 t (BitVec.ofNat 32 b.val) 1 = 16 * 0 := by decide +kernel
theorem off10_eq : ∀ (t : Fin k0_t1_loop.trips) (b : Fin 2), k0_off10 t (BitVec.ofNat 32 b.val) 0 = (4 * t.val + 2 + b.val) % 64 ∧ k0_off10 t (BitVec.ofNat 32 b.val) 1 = 16 * 1 := by decide +kernel
theorem off11_eq : ∀ (t : Fin k0_t1_loop.trips) (b : Fin 2), k0_off11 t (BitVec.ofNat 32 b.val) 0 = (4 * t.val + 2 + b.val) % 64 ∧ k0_off11 t (BitVec.ofNat 32 b.val) 1 = 16 * 2 := by decide +kernel
theorem off12_eq : ∀ (t : Fin k0_t1_loop.trips) (b : Fin 2), k0_off12 t (BitVec.ofNat 32 b.val) 0 = (4 * t.val + 2 + b.val) % 64 ∧ k0_off12 t (BitVec.ofNat 32 b.val) 1 = 16 * 3 := by decide +kernel
theorem off8_eq : ∀ t : Fin k0_t1_loop.trips, t.val < 63 → k0_off8 t 0 = 256 * (t.val + 1) := by decide +kernel
theorem off13_eq : ∀ t : Fin k0_t1_loop.trips, t.val < 63 → k0_off13 t 0 = 256 * (t.val + 1) + 128 := by decide +kernel
theorem cond1_iff : ∀ t : Fin k0_t1_loop.trips, k0_cond1 t = 1#1 ↔ t.val < 63 := by decide +kernel
theorem cond2_iff : ∀ t : Fin k0_t1_loop.trips, k0_cond2 t = 1#1 ↔ t.val < 63 := by decide +kernel
theorem cond3_iff : ∀ t : Fin k0_t1_loop.trips, k0_cond3 t = 1#1 ↔ t.val % 16 = 15 := by decide +kernel
theorem off14_eq : ∀ (c : Fin 2) (s : Fin 16) (u : Fin 4),
    k0_off14 (fun | 0 => c | 1 => s) ⟨16 * u.val + 15, by have := u.isLt; show _ < 64; omega⟩ 0 = 512 * s.val + 256 * c.val + 64 * u.val
      ∧ k0_off14 (fun | 0 => c | 1 => s) ⟨16 * u.val + 15, by have := u.isLt; show _ < 64; omega⟩ 1 = 0 := by decide +kernel

end Cert.Proof.Score
end
-- ==== Proof.Steps.lean ====
/- The steps of a tile, each with the rest of its state carried along. -/
module

public import proofs.«01_k».proof.Proof.Tile

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's list of negatives. -/
def negL (X : Ins F) (i : grid0.Coords) (n : ℕ) : BitVec 32 := X.gN (64 * tb i + n)
/-- The tile's list of targets. -/
def tgtL (X : Ins F) (i : grid0.Coords) (n : ℕ) : BitVec 32 := X.tN (tb i + n)

/-- Two rows of the scratch replaced by two tokens' scores. -/
def step2 (X : Ins F) (base R : ℕ) (f : S64x64.Idx → F .f32) : S64x64.Idx → F .f32 :=
  fun y => if (y 0).val = R then X.neg base (y 1).val else if (y 0).val = R + 1 then X.neg (base + 1) (y 1).val else f y

theorem puts8 (X : Ins F) (base R : ℕ) (f : S64x64.Idx → F .f32) (a0 a1 a2 a3 b0 b1 b2 b3 : Fin 16 → F .f32)
    (h0 : ∀ l, a0 l = X.neg (base + 0) (16 * 0 + l.val)) (h1 : ∀ l, a1 l = X.neg (base + 0) (16 * 1 + l.val)) (h2 : ∀ l, a2 l = X.neg (base + 0) (16 * 2 + l.val)) (h3 : ∀ l, a3 l = X.neg (base + 0) (16 * 3 + l.val))
    (g0 : ∀ l, b0 l = X.neg (base + 1) (16 * 0 + l.val)) (g1 : ∀ l, b1 l = X.neg (base + 1) (16 * 1 + l.val)) (g2 : ∀ l, b2 l = X.neg (base + 1) (16 * 2 + l.val)) (g3 : ∀ l, b3 l = X.neg (base + 1) (16 * 3 + l.val)) :
    put (put (put (put (put (put (put (put f (R + 0) 0 a0) (R + 0) 1 a1) (R + 0) 2 a2) (R + 0) 3 a3) (R + 1) 0 b0) (R + 1) 1 b1) (R + 1) 2 b2) (R + 1) 3 b3
      = step2 X base R f := by
  funext y
  have hy : (y 1).val < 64 := (y 1).isLt
  have hd : (y 1).val / 16 = 0 ∨ (y 1).val / 16 = 1 ∨ (y 1).val / 16 = 2 ∨ (y 1).val / 16 = 3 := by omega
  have hm := Nat.div_add_mod (y 1).val 16
  unfold put step2
  simp only [h0, h1, h2, h3, g0, g1, g2, g3]
  by_cases h0 : (y 0).val = R
  · rcases hd with h | h | h | h <;> rw [h] at hm <;> simp [h0, h] <;> exact congrArg _ (by omega)
  · by_cases h1 : (y 0).val = R + 1
    · rcases hd with h | h | h | h <;> rw [h] at hm <;> simp [h1, h] <;> exact congrArg _ (by omega)
    · simp [h0, h1]

theorem laneNeg (X : Ins F) (i : grid0.Coords) {hv : (S2d 256 128).Idx → F .f32} {wv : (S2d 128 128).Idx → F .f32} {r r' : IVec S16 32} {hr : ∀ x, (r x).toNat < 256} {hr' : ∀ x, (r' x).toNat < 128}
    (T b g B : ℕ) (hB : B = tb i + T + b) (hh : hv = hTile X i) (hw : ∀ (r : Fin 128) c, wv (at2 r c) = rowsOf X.wRow (negL X i) (64 * T) r.val c)
    (er : ∀ x, (r x).toNat = T + b) (er' : ∀ x, (r' x).toNat = 64 * b + 16 * g + (x 0).val) (l : Fin 16) :
    laneAt hv wv r r' hr hr' 128 (at1 l) = X.neg B (16 * g + l.val) := by
  have hx : l.val < 16 := l.isLt
  have er := er (at1 l)
  have er' := er' (at1 l)
  subst hB
  unfold laneAt Ins.neg dotL
  rw [show (16 * g + l.val) % 16 = l.val by omega]
  show dotAt _ _ l.val 128 = _
  congr 1
  · funext c
    rw [hh]
    show X.hRow (tb i + (r (at1 l)).toNat) c = _
    rw [er, Nat.add_assoc]
  · funext c
    rw [hw]
    show X.wRow (rowIx (X.gN (64 * tb i + (64 * T + (r' (at1 l)).toNat)))) c = _
    rw [er', show 64 * tb i + (64 * T + (64 * b + 16 * g + ((at1 l : S16.Idx) 0).val)) = 64 * (tb i + T + b) + (16 * g + l.val) by show 64 * tb i + (64 * T + (64 * b + 16 * g + l.val)) = _; ring]

section
variable {d : Dev nD} {i : grid0.Coords}

/-- `over2` with the rest of the state carried along. -/
theorem over2C {α : Type} {m : Memref sig .scVector .vmem S64x64 .f32} {f : S64x64.Idx → F .f32} {R : sProp (MM F)}
    {off : Fin 2 → ℕ} {inb : ∀ a, off a + S1x16.size a ≤ S64x64.size a} (r g : ℕ) (hrg : off 0 = r ∧ off 1 = 16 * g)
    {v : Vec F S16 .f32} {hc : S16.ShapeCasts S1x16}
    {hl : m.view.LoadsAt (Rect.unit (s := S64x64) off S1x16.size inb).toLoadRect} {hs} {hm} {k : PUnit → TP F i α} {Q : α → sProp (MM F)}
    (h : iprop(holds d i m (put f r g fun l => v (at1 l)) ∗ R) ⊢ wpT d i (k ⟨⟩) Q) :
    iprop(holds d i m f ∗ R) ⊢ wpT d i (Prog.lift (.load m (Rect.unit (s := S64x64) off S1x16.size inb).toLoadRect hl)
          >>= fun _ => Prog.lift (.store m (Rect.unit (s := S64x64) off S1x16.size inb) (shapeCast S1x16 v hc) Finset.univ hs hm) >>= k) Q := by
  iintro ⟨Hm, HR⟩
  iapply (over2 r g hrg.1 hrg.2) $$ Hm
  iintro Hm
  iapply h
  isplitl [Hm]; · iexact Hm
  iexact HR

/-- A fetch's buffers, its share of the list and of the table, with no fetch on its way. -/
def Idle {n N : ℕ} (d : Dev nD) (i : grid0.Coords) (dst : Memref sig .scVector .vmem (S2d n 128) .f32) (sem : DmaSem sig)
    (lst : Memref sig .scVector .vmem (S1d N) .i32) (q qo : PosShare TreeShare) (W : Buf (Elt F) (srcW.view.loc (thr d i)))
    (fo : Buf (Elt F) (lst.view.loc (thr d i))) : sProp (MM F) :=
  iprop((∃ V, chunk d i dst V) ∗ wSh d i q W ∗ (lst.view.loc (thr d i) ↦[lst.view.set]{qo} fo) ∗ semVal ((thr d i), SemLoc.dma sem) 0)

/-- The tile's fetch slot at trip `t` of the 64: the chunk at `256 t + o` on its way, and nothing after the last. -/
def Slot (X : Ins F) (d : Dev nD) (i : grid0.Coords) (dst : Memref sig .scVector .vmem S128x128 .f32) (sem : DmaSem sig)
    (q qo : PosShare TreeShare) (W : Buf (Elt F) (srcW.view.loc (thr d i))) (fo : Buf (Elt F) (mN.view.loc (thr d i))) (o t : ℕ) : sProp (MM F) :=
  if t < 64 then Pend (n := 128) (N := 16384) d i dst sem dst.view.dmaCredit mN q qo W fo (rowsOf X.wRow (negL X i) (256 * t + o))
  else Idle (n := 128) (N := 16384) d i dst sem mN q qo W fo

theorem issueC {α : Type} {n N : ℕ} {dst : Memref sig .scVector .vmem (S2d n 128) .f32} {sem : DmaSem sig}
    {lst : Memref sig .scVector .vmem (S1d N) .i32} {q qo : PosShare TreeShare} {W : Buf (Elt F) (srcW.view.loc (thr d i))}
    {fo : Buf (Elt F) (lst.view.loc (thr d i))} {off : Fin 1 → ℕ} {inb : ∀ a, off a + (S1d n).size a ≤ (S1d N).size a} (o : ℕ) (ho : off 0 = o)
    {X : Ins F} (hW : ∀ r c, srcW.view.read (Elt F) W (at2 r c) = X.w (at2 r c))
    (L : ℕ → BitVec 32) (hL : ∀ m : Fin N, lst.view.read (Elt F) fo (at1 m) = L m.val) (hin : ∀ m, (L m).toNat < 100000)
    {hg : S100000x128.Gathers 0 (S2d n 128)} {hn : (S1d n).numel = (S2d n 128).size hg.axis'}
    {hp : (thr d i).2.kind = .scVector} {hsrc : srcW.view.WordExact} {he : EltTy.f32.bits = 32} {hsp : Space.hbm = .hbm ∨ Space.hbm = .shared}
    {hr : S100000x128.StreamRows 0}
    (hN : ∑ j, (dst.slice ((S2d n 128).rowRect hg.axis' j) ((S2d n 128).stride_rowRect hg.axis' j)).view.dmaCredit = dst.view.dmaCredit) (hpos : 0 < (S2d n 128).numel)
    {k : PUnit → TP F i α} {Q : α → sProp (MM F)} {R : sProp (MM F)}
    (h : iprop(Pend d i dst sem dst.view.dmaCredit lst q qo W fo (rowsOf X.wRow L o) ∗ R) ⊢ wpT d i (k ⟨⟩) Q) :
    iprop(Idle d i dst sem lst q qo W fo ∗ R)
      ⊢ wpT d i (SparseCore.enqueueIndirectGather hp srcW dst hg (win n lst off inb) hn sem hsrc he hsp hr >>= k) Q := by
  have e : (fun r c => srcW.view.read (Elt F) W (at2 r c)) = X.wRow := by funext r c; exact hW r c
  unfold Idle chunk
  iintro ⟨⟨⟨%V, %fd, %hV, Hd⟩, HW, Hl, Hs⟩, HR⟩
  iapply (issue d i dst sem dst.view.dmaCredit lst q qo W fo off inb o ho L hL hin hg hn hN hpos k Q fd) $$ [HW Hd Hl Hs]
  · isplitl [HW]; · iexact HW
    isplitl [Hd]; · iexact Hd
    isplitl [Hl]; · iexact Hl
    iexact Hs
  rw [e]
  iintro Hp
  iapply h
  isplitl [Hp]; · iexact Hp
  iexact HR

/-- A value given, with the rest of the state carried along. -/
theorem Gives.atC {α β : Type} {R S : sProp (MM F)} {P : TP F i α} {x : α} (h : Gives d i R P x) {kk : α → TP F i β} {Q : β → sProp (MM F)}
    (h2 : iprop(R ∗ S) ⊢ wpT d i (kk x) Q) : iprop(R ∗ S) ⊢ wpT d i (P >>= kk) Q := by
  iintro ⟨HR, HS⟩
  iapply h.at $$ HR
  iintro HR
  iapply h2
  isplitl [HR]; · iexact HR
  iexact HS

theorem retC {α : Type} {P : sProp (MM F)} {x : α} {Q : α → sProp (MM F)} (h : P ⊢ Q x) : P ⊢ wpT d i (pure x) Q := by
  unfold wpT
  show P ⊢ wp _ _ _ (.ret x) _
  rw [wp_ret]
  iintro H
  imodintro
  iapply h $$ H

theorem readAcc {s : Shape} {sp : Space} {e : EltTy} (m : Memref sig .scVector sp s e) (f : Buf (Elt F) (m.view.loc (thr d i))) :
    (m.access (.whole _)).read (Elt F) f = m.view.read (Elt F) f := by
  funext x
  show m.view.read (Elt F) f ((Rect.whole s).emb x) = _
  rw [Rect.emb_whole_apply]

/-- The three buffers of a trip opened for its loop. -/
theorem openC {α : Type} {n : ℕ} {X : Ins F} {m : Memref sig .scVector .vmem (S2d n 128) .f32} (hm : m.view.set = Finset.univ) {V : ℕ → Fin 128 → F .f32}
    {S : sProp (MM F)} {p : TP F i α} {Q : α → sProp (MM F)}
    (h : ∀ (fh : Buf (Elt F) (mH.view.loc (thr d i))) (fw : Buf (Elt F) (m.view.loc (thr d i))), (mH.access (.whole _)).read (Elt F) fh = hTile X i → (∀ (r : Fin n) c, (m.access (.whole _)).read (Elt F) fw (at2 r c) = V r.val c) →
      iprop((((mH.access (.whole _)).loc (thr d i) ↦[Finset.univ]{fullShare} fh) ∗ ((m.access (.whole _)).loc (thr d i) ↦[Finset.univ]{fullShare} fw)) ∗ S) ⊢ wpT d i p Q) :
    iprop(holds d i mH (hTile X i) ∗ chunk d i m V ∗ S) ⊢ wpT d i p Q := by
  unfold holds chunk
  rw [hm, show mH.view.set = Finset.univ from View.set_whole _]
  iintro ⟨⟨%fh, %hfh, Hh⟩, ⟨%fw, %hfw, Hw⟩, HS⟩
  have hs := h fh fw ((readAcc (d := d) (i := i) mH fh).trans hfh) (fun r c => (congrFun (readAcc (d := d) (i := i) m fw) _).trans (hfw r c))
  iapply hs
  isplitl [Hh Hw]
  · isplitl [Hh]; · iexact Hh
    iexact Hw
  iexact HS

/-- And closed after it, the chunk's buffer free again. -/
theorem closeC {n N : ℕ} {X : Ins F} {m : Memref sig .scVector .vmem (S2d n 128) .f32} (hm : m.view.set = Finset.univ) {sem : DmaSem sig}
    {lst : Memref sig .scVector .vmem (S1d N) .i32} {q qo : PosShare TreeShare} {W : Buf (Elt F) (srcW.view.loc (thr d i))}
    {fo : Buf (Elt F) (lst.view.loc (thr d i))} {fh : Buf (Elt F) (mH.view.loc (thr d i))} {fw : Buf (Elt F) (m.view.loc (thr d i))} (hfh : (mH.access (.whole _)).read (Elt F) fh = hTile X i)
    (V : ℕ → Fin 128 → F .f32) (hfw : ∀ (r : Fin n) c, (m.access (.whole _)).read (Elt F) fw (at2 r c) = V r.val c) :
    iprop((((mH.access (.whole _)).loc (thr d i) ↦[Finset.univ]{fullShare} fh) ∗ ((m.access (.whole _)).loc (thr d i) ↦[Finset.univ]{fullShare} fw))
        ∗ wSh d i q W ∗ (lst.view.loc (thr d i) ↦[lst.view.set]{qo} fo) ∗ semVal ((thr d i), SemLoc.dma sem) 0)
      ⊢ iprop(Idle d i m sem lst q qo W fo ∗ holds d i mH (hTile X i)) := by
  unfold Idle holds chunk
  rw [hm, show mH.view.set = Finset.univ from View.set_whole _]
  iintro ⟨⟨Hh, Hw⟩, HW, Hl, Hs⟩
  isplitl [Hw HW Hl Hs]
  · isplitl [Hw]
    · iexists V
      iexists fw
      isplitr
      · ipureintro; exact fun r c => (congrFun (readAcc (d := d) (i := i) m fw) _).symm.trans (hfw r c)
      iexact Hw
    isplitl [HW]; · iexact HW
    isplitl [Hl]; · iexact Hl
    iexact Hs
  iexists fh
  isplitr
  · ipureintro; exact (readAcc (d := d) (i := i) mH fh).symm.trans hfh
  iexact Hh
end

end Cert.Proof.Score
end
-- ==== Proof.NegTrip.lean ====
/- One trip of the main loop: four tokens against their negatives. -/
module

public import proofs.«01_k».proof.Proof.Steps

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {d : Dev nD} {i : grid0.Coords}
theorem swapC {A B P Q : sProp (MM F)} (h : iprop(A ∗ (P ∗ B)) ⊢ Q) : iprop(P ∗ (A ∗ B)) ⊢ Q := by
  iintro ⟨HP, HA, HB⟩
  iapply h
  isplitl [HA]; · iexact HA
  isplitl [HP]; · iexact HP
  iexact HB

/-- The contents of a buffer, under another name. -/
theorem putsC {α : Type} {s : Shape} {e : EltTy} {m : Memref sig .scVector .vmem s e} {g g' : s.Idx → Elt F e} (hg : g' = g) {A : sProp (MM F)} {p : TP F i α}
    {Q : α → sProp (MM F)} (h : iprop(holds d i m g ∗ A) ⊢ wpT d i p Q) : iprop(holds d i m g' ∗ A) ⊢ wpT d i p Q := hg ▸ h

theorem pureI {φ : Prop} {A B : sProp (MM F)} (hφ : φ) (h : A ⊢ B) : A ⊢ iprop(⌜φ⌝ ∗ B) := by
  iintro H
  isplitr
  · ipureintro; exact hφ
  iapply h $$ H

theorem rot3 {A B C : sProp (MM F)} : iprop(A ∗ (B ∗ C)) ⊢ iprop(B ∗ (C ∗ A)) := by
  iintro ⟨HA, HB, HC⟩
  isplitl [HB]; · iexact HB
  isplitl [HC]; · iexact HC
  iexact HA

/-- The buffers of a trip closed after its loop. -/
theorem foldC {α : Type} {n N : ℕ} {X : Ins F} {m : Memref sig .scVector .vmem (S2d n 128) .f32} (hm : m.view.set = Finset.univ) {sem : DmaSem sig}
    {lst : Memref sig .scVector .vmem (S1d N) .i32} {q qo : PosShare TreeShare} {W : Buf (Elt F) (srcW.view.loc (thr d i))}
    {fo : Buf (Elt F) (lst.view.loc (thr d i))} {fh : Buf (Elt F) (mH.view.loc (thr d i))} {fw : Buf (Elt F) (m.view.loc (thr d i))} (hfh : (mH.access (.whole _)).read (Elt F) fh = hTile X i)
    (V : ℕ → Fin 128 → F .f32) (hfw : ∀ (r : Fin n) c, (m.access (.whole _)).read (Elt F) fw (at2 r c) = V r.val c) {A : sProp (MM F)} {p : TP F i α} {Q : α → sProp (MM F)}
    (h : iprop(Idle d i m sem lst q qo W fo ∗ (holds d i mH (hTile X i) ∗ A)) ⊢ wpT d i p Q) :
    iprop(A ∗ ((((mH.access (.whole _)).loc (thr d i) ↦[Finset.univ]{fullShare} fh) ∗ ((m.access (.whole _)).loc (thr d i) ↦[Finset.univ]{fullShare} fw))
        ∗ wSh d i q W ∗ (lst.view.loc (thr d i) ↦[lst.view.set]{qo} fo) ∗ semVal ((thr d i), SemLoc.dma sem) 0)) ⊢ wpT d i p Q := by
  iintro ⟨HA, HB⟩
  ihave HC := closeC (X := X) (sem := sem) (q := q) (qo := qo) (W := W) (fo := fo) hm hfh V hfw $$ HB
  icases HC with ⟨HI, HH⟩
  iapply h
  isplitl [HI]; · iexact HI
  isplitl [HH]; · iexact HH
  iexact HA

/-- The gather's own amounts add up to the whole buffer's. -/
theorem amt128 : ∀ m ∈ [mA, mB], ∑ j, (m.slice ((S2d 128 128).rowRect gathers_S100000x128_S128x128.axis' j) ((S2d 128 128).stride_rowRect gathers_S100000x128_S128x128.axis' j)).view.dmaCredit
    = m.view.dmaCredit := by decide

set_option maxHeartbeats 4000000 in
set_option maxRecDepth 65536 in
/-- The first chunk's two tokens: scores stored, the next chunk asked for. -/
theorem part20_spec (X : Ins F) (hX : X.InRange) (d : Dev nD) (i : grid0.Coords) (v3 : IVec S16 32) (k0_t1 : Fin k0_t1_loop.trips) (arg21 v35 v38 : BitVec 32)
   (v40 v42 v44 v46 v48 v50 v52 v54 v56 v58 : IVec S16 32) (f : S64x64.Idx → F .f32)
   (q qo : PosShare TreeShare) (W : Buf (Elt F) (srcW.view.loc (thr d i))) (fo : Buf (Elt F) (mN.view.loc (thr d i)))
   (hW : ∀ r c, srcW.view.read (Elt F) W (at2 r c) = X.w (at2 r c)) (hL : ∀ m : Fin 16384, mN.view.read (Elt F) fo (at1 m) = negL X i m.val)
   (hv3 : ∀ x, (v3 x).toNat = (x 0).val) (ea : ∀ x, (v40 x).toNat = 4 * k0_t1.val + 0) (eb : ∀ x, (v42 x).toNat = 4 * k0_t1.val + 1)
   (e44 : ∀ x, (v44 x).toNat = 64 * 0 + 16 * 0 + (x 0).val) (e46 : ∀ x, (v46 x).toNat = 64 * 0 + 16 * 1 + (x 0).val) (e48 : ∀ x, (v48 x).toNat = 64 * 0 + 16 * 2 + (x 0).val) (e50 : ∀ x, (v50 x).toNat = 64 * 0 + 16 * 3 + (x 0).val) (e52 : ∀ x, (v52 x).toNat = 64 * 1 + 16 * 0 + (x 0).val) (e54 : ∀ x, (v54 x).toNat = 64 * 1 + 16 * 1 + (x 0).val) (e56 : ∀ x, (v56 x).toNat = 64 * 1 + 16 * 2 + (x 0).val) (e58 : ∀ x, (v58 x).toNat = 64 * 1 + 16 * 3 + (x 0).val) :
  iprop(holds d i mH (hTile X i) ∗ chunk (n := 128) d i mA (rowsOf X.wRow (negL X i) (256 * k0_t1.val + 0)) ∗ holds d i mS f
      ∗ wSh d i q W ∗ (mN.view.loc (thr d i) ↦[mN.view.set]{qo} fo) ∗ semVal ((thr d i), SemLoc.dma cc0_scratch9.sem) 0)
    ⊢ wpT d i (k0_part20 (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v3 k0_t1 arg21 v35 v38 v40 v42 v44 v46 v48 v50 v52 v54 v56 v58 (fun _ => zero32) (fun _ => zero32) (fun _ => zero32) (fun _ => zero32) (fun _ => zero32) (fun _ => zero32) (fun _ => zero32) (fun _ => zero32) 0#32)
        fun x => iprop(⌜x = 2#32⌝ ∗ holds d i mH (hTile X i) ∗ holds d i mS (step2 X (tb i + 4 * k0_t1.val + 0) ((4 * k0_t1.val + 0) % 64) f)
          ∗ Slot X d i mA cc0_scratch9.sem q qo W fo 0 (k0_t1.val + 1)) := by
  have ht : k0_t1.val < 64 := k0_t1.isLt
  have hx : ∀ x : S16.Idx, (x 0).val < 16 := fun x => (x 0).isLt
  have o0 : ∀ b : Fin 2, _ := fun b => off4_eq k0_t1 b
  have o1 : ∀ b : Fin 2, _ := fun b => off5_eq k0_t1 b
  have o2 : ∀ b : Fin 2, _ := fun b => off6_eq k0_t1 b
  have o3 : ∀ b : Fin 2, _ := fun b => off7_eq k0_t1 b
  have hr : (4 * k0_t1.val + 1) % 64 = (4 * k0_t1.val + 0) % 64 + 1 := by omega
  rw [k0_part20_eq_skeleton]
  unfold k0_part20_skel
  refine openC (View.set_whole _) fun fh fw hfh hfw => ?_
  refine Gives.atC (negLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v3 k0_t1 arg21 v35 v38 v40 v42 v44 v46 v48 v50 v52 v54 v56 v58 fullShare fullShare fh fw hv3
    (fun x => by rw [ea]; omega) (fun x => by rw [eb]; omega) (fun x => by have := hx x; rw [e44]; omega) (fun x => by have := hx x; rw [e46]; omega) (fun x => by have := hx x; rw [e48]; omega) (fun x => by have := hx x; rw [e50]; omega) (fun x => by have := hx x; rw [e52]; omega) (fun x => by have := hx x; rw [e54]; omega) (fun x => by have := hx x; rw [e56]; omega) (fun x => by have := hx x; rw [e58]; omega)) ?_
  dsimp only
  refine swapC ?_
  refine over2C ((4 * k0_t1.val + 0) % 64 + 0) 0 ⟨(o0 0).1.trans rfl, (o0 0).2⟩ ?_
  refine over2C ((4 * k0_t1.val + 0) % 64 + 0) 1 ⟨(o1 0).1.trans rfl, (o1 0).2⟩ ?_
  refine over2C ((4 * k0_t1.val + 0) % 64 + 0) 2 ⟨(o2 0).1.trans rfl, (o2 0).2⟩ ?_
  refine over2C ((4 * k0_t1.val + 0) % 64 + 0) 3 ⟨(o3 0).1.trans rfl, (o3 0).2⟩ ?_
  refine over2C ((4 * k0_t1.val + 0) % 64 + 1) 0 ⟨(o0 1).1.trans hr, (o0 1).2⟩ ?_
  refine over2C ((4 * k0_t1.val + 0) % 64 + 1) 1 ⟨(o1 1).1.trans hr, (o1 1).2⟩ ?_
  refine over2C ((4 * k0_t1.val + 0) % 64 + 1) 2 ⟨(o2 1).1.trans hr, (o2 1).2⟩ ?_
  refine over2C ((4 * k0_t1.val + 0) % 64 + 1) 3 ⟨(o3 1).1.trans hr, (o3 1).2⟩ ?_
  have hw' : ∀ (r : Fin 128) c, ((mA).access (.whole _)).read (Elt F) fw (at2 r c) = rowsOf X.wRow (negL X i) (64 * (4 * k0_t1.val + 0)) r.val c :=
    fun r c => (hfw r c).trans (congrArg (fun o => rowsOf X.wRow (negL X i) o r.val c) (by ring : 256 * k0_t1.val + 0 = 64 * (4 * k0_t1.val + 0)))
  have hB : ∀ b, tb i + 4 * k0_t1.val + 0 + b = tb i + (4 * k0_t1.val + 0) + b := fun b => by omega
  refine putsC (puts8 X (tb i + 4 * k0_t1.val + 0) ((4 * k0_t1.val + 0) % 64) f _ _ _ _ _ _ _ _
    (laneNeg X i (4 * k0_t1.val + 0) 0 0 _ (hB _) hfh hw' ea e44)
    (laneNeg X i (4 * k0_t1.val + 0) 0 1 _ (hB _) hfh hw' ea e46)
    (laneNeg X i (4 * k0_t1.val + 0) 0 2 _ (hB _) hfh hw' ea e48)
    (laneNeg X i (4 * k0_t1.val + 0) 0 3 _ (hB _) hfh hw' ea e50)
    (laneNeg X i (4 * k0_t1.val + 0) 1 0 _ (hB _) hfh hw' eb e52)
    (laneNeg X i (4 * k0_t1.val + 0) 1 1 _ (hB _) hfh hw' eb e54)
    (laneNeg X i (4 * k0_t1.val + 0) 1 2 _ (hB _) hfh hw' eb e56)
    (laneNeg X i (4 * k0_t1.val + 0) 1 3 _ (hB _) hfh hw' eb e58)) ?_
  refine foldC (X := X) (q := q) (qo := qo) (W := W) (fo := fo) (View.set_whole _) hfh _ hfw ?_
  by_cases hc : k0_cond1 k0_t1 = 1#1
  · have h63 := (cond1_iff k0_t1).1 hc
    rw [dif_pos hc]
    refine issueC (dst := mA) (256 * (k0_t1.val + 1) + 0) (off8_eq k0_t1 h63) hW (negL X i) hL (fun m => hX.2 _) (amt128 mA (by simp)) (by decide) ?_
    refine retC ?_
    unfold Slot
    rw [if_pos (by omega)]
    exact pureI (by rfl) rot3
  · have h63 : ¬ k0_t1.val + 1 < 64 := fun h => hc ((cond1_iff k0_t1).2 (by omega))
    rw [dif_neg hc]
    refine retC ?_
    unfold Slot
    rw [if_neg h63]
    exact pureI (by rfl) rot3

end Cert.Proof.Score
end
-- ==== Proof.NegTrip2.lean ====
/- The second half of a trip of the main loop. -/
module

public import proofs.«01_k».proof.Proof.NegTrip

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxHeartbeats 4000000 in
set_option maxRecDepth 65536 in
/-- The second chunk's two tokens: scores stored, the next chunk asked for. -/
theorem part22_spec (X : Ins F) (hX : X.InRange) (d : Dev nD) (i : grid0.Coords) (v3 : IVec S16 32) (k0_t1 : Fin k0_t1_loop.trips) (arg21 v93 v96 : BitVec 32)
   (v98 v100 v102 v104 v106 v108 v110 v112 v114 v116 : IVec S16 32) (f : S64x64.Idx → F .f32)
   (q qo : PosShare TreeShare) (W : Buf (Elt F) (srcW.view.loc (thr d i))) (fo : Buf (Elt F) (mN.view.loc (thr d i)))
   (hW : ∀ r c, srcW.view.read (Elt F) W (at2 r c) = X.w (at2 r c)) (hL : ∀ m : Fin 16384, mN.view.read (Elt F) fo (at1 m) = negL X i m.val)
   (hv3 : ∀ x, (v3 x).toNat = (x 0).val) (ea : ∀ x, (v98 x).toNat = 4 * k0_t1.val + 2) (eb : ∀ x, (v100 x).toNat = 4 * k0_t1.val + 3)
   (e102 : ∀ x, (v102 x).toNat = 64 * 0 + 16 * 0 + (x 0).val) (e104 : ∀ x, (v104 x).toNat = 64 * 0 + 16 * 1 + (x 0).val) (e106 : ∀ x, (v106 x).toNat = 64 * 0 + 16 * 2 + (x 0).val) (e108 : ∀ x, (v108 x).toNat = 64 * 0 + 16 * 3 + (x 0).val) (e110 : ∀ x, (v110 x).toNat = 64 * 1 + 16 * 0 + (x 0).val) (e112 : ∀ x, (v112 x).toNat = 64 * 1 + 16 * 1 + (x 0).val) (e114 : ∀ x, (v114 x).toNat = 64 * 1 + 16 * 2 + (x 0).val) (e116 : ∀ x, (v116 x).toNat = 64 * 1 + 16 * 3 + (x 0).val) :
  iprop(holds d i mH (hTile X i) ∗ chunk (n := 128) d i mB (rowsOf X.wRow (negL X i) (256 * k0_t1.val + 128)) ∗ holds d i mS f
      ∗ wSh d i q W ∗ (mN.view.loc (thr d i) ↦[mN.view.set]{qo} fo) ∗ semVal ((thr d i), SemLoc.dma cc0_scratch10.sem) 0)
    ⊢ wpT d i (k0_part22 (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v3 k0_t1 arg21 v93 v96 v98 v100 v102 v104 v106 v108 v110 v112 v114 v116 (fun _ => zero32) (fun _ => zero32) (fun _ => zero32) (fun _ => zero32) (fun _ => zero32) (fun _ => zero32) (fun _ => zero32) (fun _ => zero32) 0#32)
        fun x => iprop(⌜True⌝ ∗ holds d i mH (hTile X i) ∗ holds d i mS (step2 X (tb i + 4 * k0_t1.val + 2) ((4 * k0_t1.val + 2) % 64) f)
          ∗ Slot X d i mB cc0_scratch10.sem q qo W fo 128 (k0_t1.val + 1)) := by
  have ht : k0_t1.val < 64 := k0_t1.isLt
  have hx : ∀ x : S16.Idx, (x 0).val < 16 := fun x => (x 0).isLt
  have o0 : ∀ b : Fin 2, _ := fun b => off9_eq k0_t1 b
  have o1 : ∀ b : Fin 2, _ := fun b => off10_eq k0_t1 b
  have o2 : ∀ b : Fin 2, _ := fun b => off11_eq k0_t1 b
  have o3 : ∀ b : Fin 2, _ := fun b => off12_eq k0_t1 b
  have hr : (4 * k0_t1.val + 2 + 1) % 64 = (4 * k0_t1.val + 2) % 64 + 1 := by omega
  rw [k0_part22_eq_skeleton]
  unfold k0_part22_skel
  rw [t3_eq]
  refine openC (View.set_whole _) fun fh fw hfh hfw => ?_
  refine Gives.atC (negLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch4) (Memref.isWhole_whole _) (Memref.whole cc0_scratch3) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v3 k0_t1 arg21 v93 v96 v98 v100 v102 v104 v106 v108 v110 v112 v114 v116 fullShare fullShare fh fw hv3
    (fun x => by rw [ea]; omega) (fun x => by rw [eb]; omega) (fun x => by have := hx x; rw [e102]; omega) (fun x => by have := hx x; rw [e104]; omega) (fun x => by have := hx x; rw [e106]; omega) (fun x => by have := hx x; rw [e108]; omega) (fun x => by have := hx x; rw [e110]; omega) (fun x => by have := hx x; rw [e112]; omega) (fun x => by have := hx x; rw [e114]; omega) (fun x => by have := hx x; rw [e116]; omega)) ?_
  dsimp only
  refine swapC ?_
  refine over2C ((4 * k0_t1.val + 2) % 64 + 0) 0 ⟨(o0 0).1.trans rfl, (o0 0).2⟩ ?_
  refine over2C ((4 * k0_t1.val + 2) % 64 + 0) 1 ⟨(o1 0).1.trans rfl, (o1 0).2⟩ ?_
  refine over2C ((4 * k0_t1.val + 2) % 64 + 0) 2 ⟨(o2 0).1.trans rfl, (o2 0).2⟩ ?_
  refine over2C ((4 * k0_t1.val + 2) % 64 + 0) 3 ⟨(o3 0).1.trans rfl, (o3 0).2⟩ ?_
  refine over2C ((4 * k0_t1.val + 2) % 64 + 1) 0 ⟨(o0 1).1.trans hr, (o0 1).2⟩ ?_
  refine over2C ((4 * k0_t1.val + 2) % 64 + 1) 1 ⟨(o1 1).1.trans hr, (o1 1).2⟩ ?_
  refine over2C ((4 * k0_t1.val + 2) % 64 + 1) 2 ⟨(o2 1).1.trans hr, (o2 1).2⟩ ?_
  refine over2C ((4 * k0_t1.val + 2) % 64 + 1) 3 ⟨(o3 1).1.trans hr, (o3 1).2⟩ ?_
  have hw' : ∀ (r : Fin 128) c, ((mB).access (.whole _)).read (Elt F) fw (at2 r c) = rowsOf X.wRow (negL X i) (64 * (4 * k0_t1.val + 2)) r.val c :=
    fun r c => (hfw r c).trans (congrArg (fun o => rowsOf X.wRow (negL X i) o r.val c) (by ring : 256 * k0_t1.val + 128 = 64 * (4 * k0_t1.val + 2)))
  have hB : ∀ b, tb i + 4 * k0_t1.val + 2 + b = tb i + (4 * k0_t1.val + 2) + b := fun b => by omega
  refine putsC (puts8 X (tb i + 4 * k0_t1.val + 2) ((4 * k0_t1.val + 2) % 64) f _ _ _ _ _ _ _ _
    (laneNeg X i (4 * k0_t1.val + 2) 0 0 _ (hB _) hfh hw' ea e102)
    (laneNeg X i (4 * k0_t1.val + 2) 0 1 _ (hB _) hfh hw' ea e104)
    (laneNeg X i (4 * k0_t1.val + 2) 0 2 _ (hB _) hfh hw' ea e106)
    (laneNeg X i (4 * k0_t1.val + 2) 0 3 _ (hB _) hfh hw' ea e108)
    (laneNeg X i (4 * k0_t1.val + 2) 1 0 _ (hB _) hfh hw' eb e110)
    (laneNeg X i (4 * k0_t1.val + 2) 1 1 _ (hB _) hfh hw' eb e112)
    (laneNeg X i (4 * k0_t1.val + 2) 1 2 _ (hB _) hfh hw' eb e114)
    (laneNeg X i (4 * k0_t1.val + 2) 1 3 _ (hB _) hfh hw' eb e116)) ?_
  refine foldC (X := X) (q := q) (qo := qo) (W := W) (fo := fo) (View.set_whole _) hfh _ hfw ?_
  by_cases hc : k0_cond2 k0_t1 = 1#1
  · have h63 := (cond2_iff k0_t1).1 hc
    rw [dif_pos hc]
    refine issueC (dst := mB) (256 * (k0_t1.val + 1) + 128) (off13_eq k0_t1 h63) hW (negL X i) hL (fun m => hX.2 _) (amt128 mB (by simp)) (by decide) ?_
    refine retC ?_
    unfold Slot
    rw [if_pos (by omega)]
    exact pureI (by trivial) rot3
  · have h63 : ¬ k0_t1.val + 1 < 64 := fun h => hc ((cond2_iff k0_t1).2 (by omega))
    rw [dif_neg hc]
    refine retC ?_
    unfold Slot
    rw [if_neg h63]
    exact pureI (by trivial) rot3

end Cert.Proof.Score
end
-- ==== Proof.Moves.lean ====
/- Copies sent and waited for, and fetches taken, each with the rest of the state carried along. -/
module

public import proofs.«01_k».proof.Proof.Steps

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

instance : Std.Associative (BIBase.sep : sProp (MM F) → sProp (MM F) → sProp (MM F)) :=
  ⟨fun P Q R => equiv_iff.mp ⟨BI.sep_assoc, BI.sep_assoc'⟩⟩
instance : Std.Commutative (BIBase.sep : sProp (MM F) → sProp (MM F) → sProp (MM F)) :=
  ⟨fun P Q => equiv_iff.mp ⟨BI.sep_comm, BI.sep_comm⟩⟩

/-- The same pieces in another order. -/
theorem permC {A B C : sProp (MM F)} (h : A = B) (h2 : B ⊢ C) : A ⊢ C := h ▸ h2

/-- What the tile owes, every wait so far a plain one, with leave to wait. -/
def Owing (d : Dev nD) (i : grid0.Coords) (O : CellTallies nD τ sig (HIx 1)) (W : Waits sig (HIx 1)) : sProp (MM F) :=
  iprop((∃ Ws, ⌜∀ p ∈ Ws, p ∈ W ∨ p.2 = none⌝ ∗ owes (thr d i) O Ws) ∗ Transfers.MayWaits (thr d i) (none : HIx 1) O)

variable {d : Dev nD} {i : grid0.Coords} {O : CellTallies nD τ sig (HIx 1)} {Wt : Waits sig (HIx 1)}

theorem specC {α β : Type} {P P' R : sProp (MM F)} {p : TP F i α} {kk : α → TP F i β} {Q : β → sProp (MM F)} {φ : α → Prop}
    (h : P ⊢ wpT d i p fun x => iprop(⌜φ x⌝ ∗ P')) (h2 : ∀ x, φ x → iprop(P' ∗ R) ⊢ wpT d i (kk x) Q) : iprop(P ∗ R) ⊢ wpT d i (p >>= kk) Q := by
  unfold wpT at *
  rw [wp_bind]
  iintro ⟨HP, HR⟩
  ihave Hw := h $$ HP
  iapply (wp_wand _ _ _) $$ Hw
  iintro %x ⟨%hx, HP⟩
  have h3 := h2 x hx
  iapply h3
  isplitl [HP]; · iexact HP
  iexact HR

theorem bindC {α β γ : Type} {P : sProp (MM F)} {p : TP F i α} {f : α → TP F i β} {kk : β → TP F i γ} {Q : γ → sProp (MM F)}
    (h : P ⊢ wpT d i (p >>= fun x => f x >>= kk) Q) : P ⊢ wpT d i ((p >>= f) >>= kk) Q := by
  rw [bind_assoc]; exact h

theorem pureC {α β : Type} {P : sProp (MM F)} {x : α} {kk : α → TP F i β} {Q : β → sProp (MM F)} (h : P ⊢ wpT d i (kk x) Q) :
    P ⊢ wpT d i ((pure x : TP F i α) >>= kk) Q := by rw [pure_bind]; exact h

theorem takeC {α : Type} {n N : ℕ} {dst : Memref sig .scVector .vmem (S2d n 128) .f32} {sem : DmaSem sig}
    {lst : Memref sig .scVector .vmem (S1d N) .i32} {q qo : PosShare TreeShare} {W : Buf (Elt F) (srcW.view.loc (thr d i))}
    {fo : Buf (Elt F) (lst.view.loc (thr d i))} {V : ℕ → Fin 128 → F .f32} {R : sProp (MM F)}
    {h1 : srcW.view.WordExact} {h2 : dst.view.WordExact} {k : PUnit → TP F i α} {Q : α → sProp (MM F)}
    (h : iprop((chunk d i dst V ∗ wSh d i q W ∗ (lst.view.loc (thr d i) ↦[lst.view.set]{qo} fo) ∗ semVal ((thr d i), SemLoc.dma sem) 0) ∗ Owing d i O Wt ∗ R) ⊢ wpT d i (k ⟨⟩) Q) :
    iprop(Pend d i dst sem dst.view.dmaCredit lst q qo W fo V ∗ Owing d i O Wt ∗ R)
      ⊢ wpT d i (SparseCore.waitIndirectGather sem srcW dst h1 h2 >>= k) Q := by
  unfold Owing at *
  iintro ⟨Hp, ⟨⟨%Ws, %hWs, HO⟩, #Hmw⟩, HR⟩
  iapply (take d i dst sem dst.view.dmaCredit lst q qo W fo V rfl O Ws k Q) $$ [Hp HO]
  · isplitl [Hp]; · iexact Hp
    isplitl [HO]; · iexact HO
    iexact Hmw
  iintro ⟨Hc, HW, Hl, Hs, HO⟩
  iapply h
  isplitl [Hc HW Hl Hs]
  · isplitl [Hc]; · iexact Hc
    isplitl [HW]; · iexact HW
    isplitl [Hl]; · iexact Hl
    iexact Hs
  isplitl [HO]
  · isplitl [HO]
    · iexists (insert (SemLoc.dma sem, none) Ws)
      isplitr
      · ipureintro
        intro p hp
        rcases Finset.mem_insert.1 hp with rfl | hp
        · exact .inr rfl
        · exact hWs p hp
      iexact HO
    iexact Hmw
  iexact HR

/-- A copy sent: what will have landed, where it lands read off as `G'`. -/
theorem sendC {α : Type} {sp sp' : Space} {s : Shape} {e : EltTy} {src : Memref sig .scVector sp s e} {dst : Memref sig .scVector sp' s e} {sem : DmaSem sig}
    {q : PosShare TreeShare} {fs : Buf (Elt F) (src.view.loc (thr d i))} {I : Finset (Idx (dst.view.loc (thr d i)))} {G G' : Buf (Elt F) (dst.view.loc (thr d i))}
    (hI : dst.view.set ⊆ I) (h1 : ∀ y, dst.view.read (Elt F) G' y = src.view.read (Elt F) fs y) (h2 : ∀ x ∈ I, x ∉ dst.view.set → G' x = G x)
    (h0 : 0 < dst.view.dmaCredit) {hsrc : src.view.WordExact} {hdst : dst.view.WordExact} {hsem : DmaTarget.Typed (nD := nD) (p := (thr d i).2) sp (.dma sem) (.here dst)}
    {k : PUnit → TP F i α} {Q : α → sProp (MM F)} {R : sProp (MM F)}
    (h : iprop(Transfers.Flight EC (thr d i) (.dma sem) (none : HIx 1) dst.view.dmaCredit
          iprop((dst.view.loc (thr d i) ↦[I]{fullShare} G') ∗ (src.view.loc (thr d i) ↦[src.view.set]{q} fs)) ∗ R) ⊢ wpT d i (k ⟨⟩) Q) :
    iprop(((src.view.loc (thr d i) ↦[src.view.set]{q} fs) ∗ (dst.view.loc (thr d i) ↦[I]{fullShare} G) ∗ semVal ((thr d i), SemLoc.dma sem) 0) ∗ R)
      ⊢ wpT d i (Prog.lift (.enqueueDma src (.here dst) (.dma sem) hsrc hdst hsem) >>= k) Q := by
  have e : ∀ x ∈ I, (dst.view.write (Elt F) G (src.view.read (Elt F) fs) Finset.univ) x = G' x := by
    intro x hx
    by_cases hd : x ∈ dst.view.set
    · obtain ⟨y, -, rfl⟩ := Finset.mem_map.1 hd
      have := congrFun (View.read_write_univ (v := dst.view) (Val := Elt F) G (src.view.read (Elt F) fs)) y
      exact (cast_inj _).1 (this.trans (h1 y).symm)
    · rw [h2 x hx hd]
      exact View.write_of_not_mem _ _ _ (by rwa [View.setOn_univ])
  iintro ⟨H, HR⟩
  iapply (Transfers.wp_dmaLocal EC 𝒱₀ (thr d i) none (none : HIx 1) dst.view.dmaCredit rfl h0 hI (fs := fs) (fd := G) (q := q)) $$ H
  iintro Hf
  iapply h
  isplitl [Hf]
  · rw [← pointsTo_congr e]
    iexact Hf
  iexact HR

/-- And waited for. -/
theorem landC {α : Type} {sp sp' : Space} {s s' : Shape} {e e' : EltTy} {src : Memref sig .scVector sp s e} {dst : Memref sig .scVector sp' s' e'} {sem : DmaSem sig}
    {D R : sProp (MM F)} {hsrc : src.view.WordExact} {hdst : dst.view.WordExact} {k : PUnit → TP F i α} {Q : α → sProp (MM F)}
    (h : iprop(D ∗ semVal ((thr d i), SemLoc.dma sem) 0 ∗ Owing d i O Wt ∗ R) ⊢ wpT d i (k ⟨⟩) Q) :
    iprop(Transfers.Flight EC (thr d i) (.dma sem) (none : HIx 1) dst.view.dmaCredit D ∗ Owing d i O Wt ∗ R)
      ⊢ wpT d i (Prog.lift (.waitDma2 sem src dst hsrc hdst) >>= k) Q := by
  unfold Owing at *
  iintro ⟨Hp, ⟨⟨%Ws, %hWs, HO⟩, #Hmw⟩, HR⟩
  iapply (Transfers.wp_waitLocalO EC 𝒱₀ (thr d i) none (none : HIx 1) rfl) $$ [Hp HO]
  · isplitl [Hp]; · iexact Hp
    isplitl [HO]; · iexact HO
    iapply (Transfers.MayWaits.elim (SemLoc.dma sem)) $$ Hmw
  iintro ⟨HD, Hs, HO⟩
  iapply h
  isplitl [HD]; · iexact HD
  isplitl [Hs]; · iexact Hs
  isplitl [HO]
  · isplitl [HO]
    · iexists (insert (SemLoc.dma sem, none) Ws)
      isplitr
      · ipureintro
        intro p hp
        rcases Finset.mem_insert.1 hp with rfl | hp
        · exact .inr rfl
        · exact hWs p hp
      iexact HO
    iexact Hmw
  iexact HR

end Cert.Proof.Score
end
-- ==== Proof.NegOut.lean ====
/- The negative scores of a tile, as its blocks of rows are written. -/
module

public import proofs.«01_k».proof.Proof.NegTrip2
public import proofs.«01_k».proof.Proof.Moves

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The lanes of one trip -/

theorem lane_add (o : ℕ) (ho : o < 256) (v : BitVec 32) (l : ℕ) (hl : l < 16) (h : v.toNat = l) : (BitVec.ofNat 32 o + v).toNat = o + l := by
  rw [BitVec.toNat_add, BitVec.toNat_ofNat, h]; omega

theorem tok0 : ∀ t : Fin k0_t1_loop.trips, (k0_pay185 0#32 1#32 t (at1 0)).toNat = 4 * t.val + 0 := by decide +kernel
theorem tok1 : ∀ t : Fin k0_t1_loop.trips, (k0_pay186 0#32 1#32 t (at1 0)).toNat = 4 * t.val + 1 := by decide +kernel
theorem tok2 : ∀ t : Fin k0_t1_loop.trips, (k0_pay211 (Scf.iv 0#32 1#32 t) 2#32 (at1 0)).toNat = 4 * t.val + 2 := by decide +kernel
theorem tok3 : ∀ t : Fin k0_t1_loop.trips, (k0_pay212 (Scf.iv 0#32 1#32 t) 2#32 (at1 0)).toNat = 4 * t.val + 3 := by decide +kernel

theorem off14 (i : grid0.Coords) (t : Fin k0_t1_loop.trips) (h : t.val % 16 = 15) :
    k0_off14 i t 0 = tb i + 64 * (t.val / 16) ∧ k0_off14 i t 1 = 0 := by
  have ht : t.val < 64 := t.isLt
  have hi : i = (fun | 0 => i 0 | 1 => i 1) := by funext a; match a with | 0 => rfl | 1 => rfl
  have e : ∀ (c : Fin 2) (s : Fin 16) (j : grid0.Coords), j = (fun | 0 => c | 1 => s) → ∀ u : Fin 4,
      k0_off14 j ⟨16 * u.val + 15, by have := u.isLt; show _ < 64; omega⟩ 0 = 512 * s.val + 256 * c.val + 64 * u.val
      ∧ k0_off14 j ⟨16 * u.val + 15, by have := u.isLt; show _ < 64; omega⟩ 1 = 0 := by
    rintro c s _ rfl u
    exact off14_eq c s u
  have e := e (i 0) (i 1) i hi ⟨t.val / 16, by omega⟩
  have et : (⟨16 * (t.val / 16) + 15, by show _ < 64; omega⟩ : Fin k0_t1_loop.trips) = t := Fin.ext (by show 16 * (t.val / 16) + 15 = t.val; omega)
  rw [et] at e
  exact e

/-! ## The negative scores written so far -/

abbrev mQ : Memref sig .scVector .hbm S8192x64 .f32 := Memref.whole main_v1_1_scv

/-- The tile's rows of the result. -/
def tileRows (i : grid0.Coords) : Finset S8192x64.Idx := Finset.univ.filter fun x => tb i ≤ (x 0).val ∧ (x 0).val < tb i + 256

/-- The result with the tile's first `T` blocks of 64 rows written. -/
def negOut (X : Ins F) (i : grid0.Coords) (g0 : S8192x64.Idx → F .f32) (T : ℕ) : S8192x64.Idx → F .f32 :=
  fun x => if (x 0).val < tb i + 64 * T then X.neg (x 0).val (x 1).val else g0 x

/-- The scratch after `t` trips: this block's tokens so far. -/
def Part (X : Ins F) (i : grid0.Coords) (t : ℕ) (f : S64x64.Idx → F .f32) : Prop :=
  ∀ y, (y 0).val < 4 * (t % 16) → f y = X.neg (tb i + 64 * (t / 16) + (y 0).val) (y 1).val

theorem part_step {X : Ins F} {i : grid0.Coords} {t : ℕ} {f : S64x64.Idx → F .f32} (h : Part X i t f) (y : S64x64.Idx) (hy : (y 0).val < 4 * (t % 16) + 4) :
    step2 X (tb i + 4 * t + 2) ((4 * t + 2) % 64) (step2 X (tb i + 4 * t + 0) ((4 * t + 0) % 64) f) y = X.neg (tb i + 64 * (t / 16) + (y 0).val) (y 1).val := by
  unfold step2
  split_ifs with h1 h2 h3 h4
  · exact congrArg (fun n => X.neg n _) (by omega)
  · exact congrArg (fun n => X.neg n _) (by omega)
  · exact congrArg (fun n => X.neg n _) (by omega)
  · exact congrArg (fun n => X.neg n _) (by omega)
  · exact h y (by omega)

section
variable {off : Fin 2 → ℕ} {inb : ∀ a, off a + S64x64.size a ≤ S8192x64.size a}

abbrev blk (off : Fin 2 → ℕ) (inb : ∀ a, off a + S64x64.size a ≤ S8192x64.size a) : Memref sig .scVector .hbm S64x64 .f32 :=
  mQ.slice (Rect.unit (s := S8192x64) off S64x64.size inb) (fun _ => rfl)

theorem mem_blk (x : S8192x64.Idx) : x ∈ (blk off inb).view.set ↔ (off 0 ≤ (x 0).val ∧ (x 0).val < off 0 + 64) ∧ (off 1 ≤ (x 1).val ∧ (x 1).val < off 1 + 64) := by
  have e : (blk off inb).view.set = (Rect.unit (s := S8192x64) off S64x64.size inb).set := View.set_slice_whole _ _
  rw [e, Rect.mem_set_unit]
  constructor
  · exact fun h => ⟨h 0, h 1⟩
  · rintro ⟨h0, h1⟩ a
    match a with
    | 0 => exact h0
    | 1 => exact h1

theorem blk_credit : 0 < (blk off inb).view.dmaCredit := by
  show 0 < (View.whole main_v1_1_scv).ref.dmaCredit S64x64 .f32
  decide

theorem flush_sub {i : grid0.Coords} {T : ℕ} (hT : T < 4) (h0 : off 0 = tb i + 64 * T) : (blk off inb).view.set ⊆ tileRows i := by
  intro x hx
  have := (mem_blk x).1 hx
  exact Finset.mem_filter.2 ⟨Finset.mem_univ _, by omega, by omega⟩

theorem flush_read {X : Ins F} {i : grid0.Coords} {g0 : S8192x64.Idx → F .f32} {T T' : ℕ} (hT : T' = T + 1) (h0 : off 0 = tb i + 64 * T) (h1 : off 1 = 0)
    {f : S64x64.Idx → F .f32} (hf : ∀ y, f y = X.neg (tb i + 64 * T + (y 0).val) (y 1).val) (y : S64x64.Idx) :
    (blk off inb).view.read (Elt F) (negOut X i g0 T') y = f y := by
  rw [hf y, hT]
  show negOut X i g0 (T + 1) ((Rect.unit (s := S8192x64) off S64x64.size inb).emb y) = _
  have e0 : ((Rect.unit (s := S8192x64) off S64x64.size inb).emb y 0).val = tb i + 64 * T + (y 0).val := by
    rw [Rect.emb_apply]; show off 0 + 1 * (y 0 : ℕ) = _; omega
  have e1 : ((Rect.unit (s := S8192x64) off S64x64.size inb).emb y 1).val = (y 1).val := by
    rw [Rect.emb_apply]; show off 1 + 1 * (y 1 : ℕ) = _; omega
  have hy : (y 0).val < 64 := (y 0).isLt
  unfold negOut
  rw [if_pos (by omega), e0, e1]

theorem flush_rest {X : Ins F} {i : grid0.Coords} {g0 : S8192x64.Idx → F .f32} {T T' : ℕ} (hT : T' = T + 1) (h0 : off 0 = tb i + 64 * T) (h1 : off 1 = 0)
    (x : S8192x64.Idx) (hx : x ∉ (blk off inb).view.set) : negOut X i g0 T' x = negOut X i g0 T x := by
  have hx1 : (x 1).val < 64 := (x 1).isLt
  have h : ¬ (tb i + 64 * T ≤ (x 0).val ∧ (x 0).val < tb i + 64 * T + 64) := fun h => hx ((mem_blk x).2 ⟨by omega, by omega⟩)
  unfold negOut
  subst hT
  by_cases hlt : (x 0).val < tb i + 64 * T
  · rw [if_pos (by omega), if_pos hlt]
  · rw [if_neg (by omega), if_neg hlt]
end

variable {d : Dev nD} {i : grid0.Coords}

theorem exC {α : Type} {φ : α → Prop} {A : α → sProp (MM F)} {C : sProp (MM F)} (h : ∀ x, φ x → A x ⊢ C) : iprop(∃ x, ⌜φ x⌝ ∗ A x) ⊢ C := by
  iintro ⟨%x, %hx, HA⟩
  have := h x hx
  iapply this $$ HA

theorem exI {α : Type} {φ : α → Prop} {A : α → sProp (MM F)} {C : sProp (MM F)} (x : α) (hx : φ x) (h : C ⊢ A x) : C ⊢ iprop(∃ x, ⌜φ x⌝ ∗ A x) := by
  iintro H
  iexists x
  isplitr
  · ipureintro; exact hx
  iapply h $$ H

/-- A buffer's contents sent off. -/
theorem outC {α : Type} {sp sp' : Space} {s : Shape} {e : EltTy} {src : Memref sig .scVector sp s e} {dst : Memref sig .scVector sp' s e} {sem : DmaSem sig}
    {g : s.Idx → Elt F e} {I : Finset (Idx (dst.view.loc (thr d i)))} {G G' : Buf (Elt F) (dst.view.loc (thr d i))}
    (hI : dst.view.set ⊆ I) (h1 : ∀ y, dst.view.read (Elt F) G' y = g y) (h2 : ∀ x ∈ I, x ∉ dst.view.set → G' x = G x)
    (h0 : 0 < dst.view.dmaCredit) {hsrc : src.view.WordExact} {hdst : dst.view.WordExact} {hsem : DmaTarget.Typed (nD := nD) (p := (thr d i).2) sp (.dma sem) (.here dst)}
    {k : PUnit → TP F i α} {Q : α → sProp (MM F)} {R : sProp (MM F)}
    (h : iprop(Transfers.Flight EC (thr d i) (.dma sem) (none : HIx 1) dst.view.dmaCredit
          iprop((dst.view.loc (thr d i) ↦[I]{fullShare} G') ∗ holds d i src g) ∗ R) ⊢ wpT d i (k ⟨⟩) Q) :
    iprop((holds d i src g ∗ (dst.view.loc (thr d i) ↦[I]{fullShare} G) ∗ semVal ((thr d i), SemLoc.dma sem) 0) ∗ R)
      ⊢ wpT d i (Prog.lift (.enqueueDma src (.here dst) (.dma sem) hsrc hdst hsem) >>= k) Q := by
  have hs : ∀ fs, src.view.read (Elt F) fs = g → iprop(((src.view.loc (thr d i) ↦[src.view.set]{fullShare} fs) ∗ (dst.view.loc (thr d i) ↦[I]{fullShare} G)
      ∗ semVal ((thr d i), SemLoc.dma sem) 0) ∗ R) ⊢ wpT d i (Prog.lift (.enqueueDma src (.here dst) (.dma sem) hsrc hdst hsem) >>= k) Q := by
    intro fs hfs
    refine sendC (q := fullShare) (fs := fs) (G' := G') hI (fun y => (h1 y).trans (congrFun hfs y).symm) h2 h0 ?_
    iintro ⟨HF, HR⟩
    iapply h
    isplitl [HF]
    · have hm : iprop((dst.view.loc (thr d i) ↦[I]{fullShare} G') ∗ (src.view.loc (thr d i) ↦[src.view.set]{fullShare} fs)) ⊢ (iprop((dst.view.loc (thr d i) ↦[I]{fullShare} G') ∗ holds d i src g) : sProp (MM F)) := by
        unfold holds
        iintro ⟨HD, HS⟩
        isplitl [HD]; · iexact HD
        iexists fs
        isplitr
        · ipureintro; exact hfs
        iexact HS
      iapply (Transfers.Flight_mono EC (thr d i) hm) $$ HF
    iexact HR
  conv => lhs; unfold holds
  iintro ⟨⟨⟨%fs, %hfs, HS⟩, HD, Hs⟩, HR⟩
  have hs' := hs fs hfs
  iapply hs'
  isplitl [HS HD Hs]
  · isplitl [HS]; · iexact HS
    isplitl [HD]; · iexact HD
    iexact Hs
  iexact HR

end Cert.Proof.Score
end
-- ==== Proof.NegLoop.lean ====
/- The main loop of a tile, trip by trip. -/
module

public import proofs.«01_k».proof.Proof.NegOut

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- What the tile holds before trip `t` of the main loop. -/
def Trip (X : Ins F) (d : Dev nD) (i : grid0.Coords) (O : CellTallies nD τ sig (HIx 1)) (Wt : Waits sig (HIx 1)) (qa qb oa ob : PosShare TreeShare)
    (W : Buf (Elt F) (srcW.view.loc (thr d i))) (fo : Buf (Elt F) (mN.view.loc (thr d i))) (g0 : S8192x64.Idx → F .f32) (t : ℕ) : sProp (MM F) :=
  iprop(∃ f, ⌜Part X i t f⌝ ∗ holds d i mS f ∗ holds d i mH (hTile X i) ∗ Slot X d i mA cc0_scratch9.sem qa oa W fo 0 t ∗ Slot X d i mB cc0_scratch10.sem qb ob W fo 128 t
    ∗ (mQ.view.loc (thr d i) ↦[tileRows i]{fullShare} (negOut X i g0 (t / 16))) ∗ semVal ((thr d i), SemLoc.dma cc0_scoped3.sem) 0 ∗ Owing d i O Wt)

variable {d : Dev nD} {i : grid0.Coords}

theorem slot_lt {X : Ins F} {dst : Memref sig .scVector .vmem S128x128 .f32} {sem : DmaSem sig}
    {q qo : PosShare TreeShare} {W : Buf (Elt F) (srcW.view.loc (thr d i))} {fo : Buf (Elt F) (mN.view.loc (thr d i))} {o t : ℕ} (h : t < 64) :
    Slot X d i dst sem q qo W fo o t = Pend (n := 128) (N := 16384) d i dst sem dst.view.dmaCredit mN q qo W fo (rowsOf X.wRow (negL X i) (256 * t + o)) :=
  if_pos h

set_option maxHeartbeats 1000000 in
set_option maxRecDepth 65536 in
/-- One trip: four tokens scored, and every sixteenth trip a block of rows written out. -/
theorem trip_spec (X : Ins F) (hX : X.InRange) (O : CellTallies nD τ sig (HIx 1)) (Wt : Waits sig (HIx 1)) (qa qb oa ob : PosShare TreeShare)
    (W : Buf (Elt F) (srcW.view.loc (thr d i))) (fo : Buf (Elt F) (mN.view.loc (thr d i))) (g0 : S8192x64.Idx → F .f32)
    (hW : ∀ r c, srcW.view.read (Elt F) W (at2 r c) = X.w (at2 r c)) (hL : ∀ m : Fin 16384, mN.view.read (Elt F) fo (at1 m) = negL X i m.val)
    (v2 : BitVec 32) (v3 : IVec S16 32) (hv3 : ∀ x, (v3 x).toNat = (x 0).val) (k0_t1 : Fin k0_t1_loop.trips) (u : Unit) :
    Trip X d i O Wt qa qb oa ob W fo g0 k0_t1.val
      ⊢ wpT d i (k0_t1_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 k0_t1 u) fun _ => Trip X d i O Wt qa qb oa ob W fo g0 (k0_t1.val + 1) := by
  have ht : k0_t1.val < 64 := k0_t1.isLt
  unfold k0_t1_body
  refine exC fun f hf => ?_
  refine permC (B := iprop(Pend (n := 128) (N := 16384) d i mA cc0_scratch9.sem mA.view.dmaCredit mN qa oa W fo (rowsOf X.wRow (negL X i) (256 * k0_t1.val + 0)) ∗ Owing d i O Wt ∗ (holds d i mS f ∗ holds d i mH (hTile X i) ∗ Pend (n := 128) (N := 16384) d i mB cc0_scratch10.sem mB.view.dmaCredit mN qb ob W fo (rowsOf X.wRow (negL X i) (256 * k0_t1.val + 128)) ∗ (mQ.view.loc (thr d i) ↦[tileRows i]{fullShare} (negOut X i g0 (k0_t1.val / 16))) ∗ semVal ((thr d i), SemLoc.dma cc0_scoped3.sem) 0)))
    (by rw [slot_lt ht, slot_lt ht]; ac_rfl) ?_
  rw [k0_part19_eq_skeleton]
  unfold k0_part19_skel
  refine bindC ?_
  refine takeC ?_
  refine pureC ?_
  dsimp only
  refine permC (B := iprop((holds d i mH (hTile X i) ∗ chunk (n := 128) d i mA (rowsOf X.wRow (negL X i) (256 * k0_t1.val + 0)) ∗ holds d i mS f ∗ wSh d i qa W ∗ (mN.view.loc (thr d i) ↦[mN.view.set]{oa} fo) ∗ semVal ((thr d i), SemLoc.dma cc0_scratch9.sem) 0) ∗ (Owing d i O Wt ∗ Pend (n := 128) (N := 16384) d i mB cc0_scratch10.sem mB.view.dmaCredit mN qb ob W fo (rowsOf X.wRow (negL X i) (256 * k0_t1.val + 128)) ∗ (mQ.view.loc (thr d i) ↦[tileRows i]{fullShare} (negOut X i g0 (k0_t1.val / 16))) ∗ semVal ((thr d i), SemLoc.dma cc0_scoped3.sem) 0)))
    (by ac_rfl) ?_
  refine specC (part20_spec X hX d i v3 k0_t1 _ _ _ _ _ _ _ _ _ _ _ _ _ f qa oa W fo hW hL hv3 (fun x => tok0 k0_t1) (fun x => tok1 k0_t1)
    (fun x => lane_add 0 (by decide) (v3 x) _ (x 0).isLt (hv3 x)) (fun x => lane_add 16 (by decide) (v3 x) _ (x 0).isLt (hv3 x)) (fun x => lane_add 32 (by decide) (v3 x) _ (x 0).isLt (hv3 x)) (fun x => lane_add 48 (by decide) (v3 x) _ (x 0).isLt (hv3 x)) (fun x => lane_add 64 (by decide) (v3 x) _ (x 0).isLt (hv3 x)) (fun x => lane_add 80 (by decide) (v3 x) _ (x 0).isLt (hv3 x)) (fun x => lane_add 96 (by decide) (v3 x) _ (x 0).isLt (hv3 x)) (fun x => lane_add 112 (by decide) (v3 x) _ (x 0).isLt (hv3 x))) fun x hx => ?_
  subst hx
  refine permC (B := iprop(Pend (n := 128) (N := 16384) d i mB cc0_scratch10.sem mB.view.dmaCredit mN qb ob W fo (rowsOf X.wRow (negL X i) (256 * k0_t1.val + 128)) ∗ Owing d i O Wt ∗ (holds d i mS (step2 X (tb i + 4 * k0_t1.val + 0) ((4 * k0_t1.val + 0) % 64) f) ∗ holds d i mH (hTile X i) ∗ Slot X d i mA cc0_scratch9.sem qa oa W fo 0 (k0_t1.val + 1) ∗ (mQ.view.loc (thr d i) ↦[tileRows i]{fullShare} (negOut X i g0 (k0_t1.val / 16))) ∗ semVal ((thr d i), SemLoc.dma cc0_scoped3.sem) 0)))
    (by ac_rfl) ?_
  rw [k0_part21_eq_skeleton]
  unfold k0_part21_skel
  refine bindC ?_
  refine takeC ?_
  refine pureC ?_
  dsimp only
  refine permC (B := iprop((holds d i mH (hTile X i) ∗ chunk (n := 128) d i mB (rowsOf X.wRow (negL X i) (256 * k0_t1.val + 128)) ∗ holds d i mS (step2 X (tb i + 4 * k0_t1.val + 0) ((4 * k0_t1.val + 0) % 64) f) ∗ wSh d i qb W ∗ (mN.view.loc (thr d i) ↦[mN.view.set]{ob} fo) ∗ semVal ((thr d i), SemLoc.dma cc0_scratch10.sem) 0) ∗ (Owing d i O Wt ∗ Slot X d i mA cc0_scratch9.sem qa oa W fo 0 (k0_t1.val + 1) ∗ (mQ.view.loc (thr d i) ↦[tileRows i]{fullShare} (negOut X i g0 (k0_t1.val / 16))) ∗ semVal ((thr d i), SemLoc.dma cc0_scoped3.sem) 0)))
    (by ac_rfl) ?_
  refine specC (part22_spec X hX d i v3 k0_t1 _ _ _ _ _ _ _ _ _ _ _ _ _ (step2 X (tb i + 4 * k0_t1.val + 0) ((4 * k0_t1.val + 0) % 64) f) qb ob W fo hW hL hv3 (fun x => tok2 k0_t1) (fun x => tok3 k0_t1)
    (fun x => lane_add 0 (by decide) (v3 x) _ (x 0).isLt (hv3 x)) (fun x => lane_add 16 (by decide) (v3 x) _ (x 0).isLt (hv3 x)) (fun x => lane_add 32 (by decide) (v3 x) _ (x 0).isLt (hv3 x)) (fun x => lane_add 48 (by decide) (v3 x) _ (x 0).isLt (hv3 x)) (fun x => lane_add 64 (by decide) (v3 x) _ (x 0).isLt (hv3 x)) (fun x => lane_add 80 (by decide) (v3 x) _ (x 0).isLt (hv3 x)) (fun x => lane_add 96 (by decide) (v3 x) _ (x 0).isLt (hv3 x)) (fun x => lane_add 112 (by decide) (v3 x) _ (x 0).isLt (hv3 x))) fun x _ => ?_
  have hp := part_step hf
  by_cases hc : k0_cond3 k0_t1 = 1#1
  · have h15 := (cond3_iff k0_t1).1 hc
    have ho := off14 i k0_t1 h15
    rw [dif_pos hc]
    have hT : (k0_t1.val + 1) / 16 = k0_t1.val / 16 + 1 := by omega
    refine permC (B := iprop((holds d i mS (step2 X (tb i + 4 * k0_t1.val + 2) ((4 * k0_t1.val + 2) % 64) (step2 X (tb i + 4 * k0_t1.val + 0) ((4 * k0_t1.val + 0) % 64) f)) ∗ (mQ.view.loc (thr d i) ↦[tileRows i]{fullShare} (negOut X i g0 (k0_t1.val / 16))) ∗ semVal ((thr d i), SemLoc.dma cc0_scoped3.sem) 0) ∗ (holds d i mH (hTile X i) ∗ Slot X d i mA cc0_scratch9.sem qa oa W fo 0 (k0_t1.val + 1) ∗ Slot X d i mB cc0_scratch10.sem qb ob W fo 128 (k0_t1.val + 1) ∗ Owing d i O Wt)))
      (by ac_rfl) ?_
    have hs := flush_sub (inb := k0_off14_inb i k0_t1 hc) (T := k0_t1.val / 16) (by omega) ho.1
    have hr := flush_read (inb := k0_off14_inb i k0_t1 hc) (X := X) (g0 := g0) hT ho.1 ho.2 (f := (step2 X (tb i + 4 * k0_t1.val + 2) ((4 * k0_t1.val + 2) % 64) (step2 X (tb i + 4 * k0_t1.val + 0) ((4 * k0_t1.val + 0) % 64) f))) fun y => hp y (by have := (y 0).isLt; change (y 0).val < 64 at this; omega)
    have hx := fun x => flush_rest (inb := k0_off14_inb i k0_t1 hc) (X := X) (g0 := g0) hT ho.1 ho.2 x
    refine outC (src := mS) (dst := blk (k0_off14 i k0_t1) (k0_off14_inb i k0_t1 hc)) (sem := cc0_scoped3.sem) (I := tileRows i) (G := negOut X i g0 (k0_t1.val / 16))
      (G' := negOut X i g0 ((k0_t1.val + 1) / 16)) hs hr (fun x _ h => hx x h) blk_credit ?_
    refine permC (B := iprop(Transfers.Flight EC (thr d i) (.dma cc0_scoped3.sem) (none : HIx 1) _
          iprop((mQ.view.loc (thr d i) ↦[tileRows i]{fullShare} (negOut X i g0 ((k0_t1.val + 1) / 16))) ∗ holds d i mS (step2 X (tb i + 4 * k0_t1.val + 2) ((4 * k0_t1.val + 2) % 64) (step2 X (tb i + 4 * k0_t1.val + 0) ((4 * k0_t1.val + 0) % 64) f))) ∗ Owing d i O Wt ∗ (holds d i mH (hTile X i) ∗ Slot X d i mA cc0_scratch9.sem qa oa W fo 0 (k0_t1.val + 1) ∗ Slot X d i mB cc0_scratch10.sem qb ob W fo 128 (k0_t1.val + 1))))
      (by ac_rfl) ?_
    refine landC ?_
    refine retC ?_
    refine exI (step2 X (tb i + 4 * k0_t1.val + 2) ((4 * k0_t1.val + 2) % 64) (step2 X (tb i + 4 * k0_t1.val + 0) ((4 * k0_t1.val + 0) % 64) f)) (fun y hy => absurd hy (by omega)) ?_
    exact permC (by ac_rfl) .rfl
  · have h15 : ¬ k0_t1.val % 16 = 15 := fun h => hc ((cond3_iff k0_t1).2 h)
    rw [dif_neg hc]
    refine retC ?_
    refine exI (step2 X (tb i + 4 * k0_t1.val + 2) ((4 * k0_t1.val + 2) % 64) (step2 X (tb i + 4 * k0_t1.val + 0) ((4 * k0_t1.val + 0) % 64) f)) (fun y hy => (hp y (by omega)).trans (congrArg (fun n => X.neg n _) (by omega))) ?_
    refine permC (B := iprop(holds d i mS (step2 X (tb i + 4 * k0_t1.val + 2) ((4 * k0_t1.val + 2) % 64) (step2 X (tb i + 4 * k0_t1.val + 0) ((4 * k0_t1.val + 0) % 64) f)) ∗ holds d i mH (hTile X i) ∗ Slot X d i mA cc0_scratch9.sem qa oa W fo 0 (k0_t1.val + 1) ∗ Slot X d i mB cc0_scratch10.sem qb ob W fo 128 (k0_t1.val + 1) ∗ (mQ.view.loc (thr d i) ↦[tileRows i]{fullShare} (negOut X i g0 (k0_t1.val / 16))) ∗ semVal ((thr d i), SemLoc.dma cc0_scoped3.sem) 0 ∗ Owing d i O Wt)) (by ac_rfl) ?_
    rw [show (k0_t1.val + 1) / 16 = k0_t1.val / 16 by omega]

end Cert.Proof.Score
end
-- ==== Proof.PosOut.lean ====
/- The scores of a tile against its targets, sixteen tokens at a time. -/
module

public import proofs.«01_k».proof.Proof.NegLoop

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev mO : Memref sig .scVector .hbm S8192 .f32 := Memref.whole main_v1_0_scv

/-- The tile's entries of the result. -/
def tileToks (i : grid0.Coords) : Finset S8192.Idx := Finset.univ.filter fun x => tb i ≤ (x 0).val ∧ (x 0).val < tb i + 256

/-- The result with the tile's first `T` blocks of 64 entries written. -/
def posOut (X : Ins F) (i : grid0.Coords) (g0 : S8192.Idx → F .f32) (T : ℕ) : S8192.Idx → F .f32 :=
  fun x => if (x 0).val < tb i + 64 * T then X.pos (x 0).val else g0 x

section
variable {off : Fin 1 → ℕ} {inb : ∀ a, off a + S64.size a ≤ S8192.size a}

abbrev pblk (off : Fin 1 → ℕ) (inb : ∀ a, off a + S64.size a ≤ S8192.size a) : Memref sig .scVector .hbm S64 .f32 :=
  mO.slice (Rect.unit (s := S8192) off S64.size inb) (fun _ => rfl)

theorem mem_pblk (x : S8192.Idx) : x ∈ (pblk off inb).view.set ↔ off 0 ≤ (x 0).val ∧ (x 0).val < off 0 + 64 := by
  have e : (pblk off inb).view.set = (Rect.unit (s := S8192) off S64.size inb).set := View.set_slice_whole _ _
  rw [e, Rect.mem_set_unit]
  constructor
  · exact fun h => h 0
  · rintro h0 a
    match a with
    | 0 => exact h0

theorem pblk_credit : 0 < (pblk off inb).view.dmaCredit := by
  show 0 < (View.whole main_v1_0_scv).ref.dmaCredit S64 .f32
  decide

theorem pout_sub {i : grid0.Coords} {T : ℕ} (hT : T < 4) (h0 : off 0 = tb i + 64 * T) : (pblk off inb).view.set ⊆ tileToks i := by
  intro x hx
  have := (mem_pblk x).1 hx
  exact Finset.mem_filter.2 ⟨Finset.mem_univ _, by omega, by omega⟩

theorem pout_read {X : Ins F} {i : grid0.Coords} {g0 : S8192.Idx → F .f32} {T : ℕ} (h0 : off 0 = tb i + 64 * T)
    {f : S64.Idx → F .f32} (hf : ∀ y, f y = X.pos (tb i + 64 * T + (y 0).val)) (y : S64.Idx) :
    (pblk off inb).view.read (Elt F) (posOut X i g0 (T + 1)) y = f y := by
  rw [hf y]
  show posOut X i g0 (T + 1) ((Rect.unit (s := S8192) off S64.size inb).emb y) = _
  have e0 : ((Rect.unit (s := S8192) off S64.size inb).emb y 0).val = tb i + 64 * T + (y 0).val := by
    rw [Rect.emb_apply]; show off 0 + 1 * (y 0 : ℕ) = _; omega
  have hy : (y 0).val < 64 := (y 0).isLt
  unfold posOut
  rw [if_pos (by omega), e0]

theorem pout_rest {X : Ins F} {i : grid0.Coords} {g0 : S8192.Idx → F .f32} {T : ℕ} (h0 : off 0 = tb i + 64 * T)
    (x : S8192.Idx) (hx : x ∉ (pblk off inb).view.set) : posOut X i g0 (T + 1) x = posOut X i g0 T x := by
  have h : ¬ (tb i + 64 * T ≤ (x 0).val ∧ (x 0).val < tb i + 64 * T + 64) := fun h => hx ((mem_pblk x).2 ⟨by omega, by omega⟩)
  unfold posOut
  by_cases hlt : (x 0).val < tb i + 64 * T
  · rw [if_pos (by omega), if_pos hlt]
  · rw [if_neg (by omega), if_neg hlt]
end

theorem lanePos (X : Ins F) (i : grid0.Coords) {hv : (S2d 256 128).Idx → F .f32} {wv : (S2d 64 128).Idx → F .f32} {r r' : IVec S16 32} {hr : ∀ x, (r x).toNat < 256} {hr' : ∀ x, (r' x).toNat < 64}
    (R t : ℕ) (hh : hv = hTile X i) (hw : ∀ (r : Fin 64) c, wv (at2 r c) = rowsOf X.wRow (tgtL X i) (64 * R) r.val c)
    (er : ∀ x, (r x).toNat = 64 * R + 16 * t + (x 0).val) (er' : ∀ x, (r' x).toNat = 16 * t + (x 0).val) (l : Fin 16) :
    laneAt hv wv r r' hr hr' 128 (at1 l) = X.pos (tb i + 64 * R + (16 * t + l.val)) := by
  have hx : l.val < 16 := l.isLt
  have er := er (at1 l)
  have er' := er' (at1 l)
  change (r (at1 l)).toNat = 64 * R + 16 * t + l.val at er
  change (r' (at1 l)).toNat = 16 * t + l.val at er'
  unfold laneAt Ins.pos dotL
  rw [show (tb i + 64 * R + (16 * t + l.val)) % 16 = l.val by unfold tb; omega]
  show dotAt _ _ l.val 128 = _
  congr 1
  · funext c
    rw [hh]
    show X.hRow (tb i + (r (at1 l)).toNat) c = _
    rw [er, show tb i + (64 * R + 16 * t + l.val) = tb i + 64 * R + (16 * t + l.val) by ring]
  · funext c
    rw [hw]
    show X.wRow (rowIx (X.tN (tb i + (64 * R + (r' (at1 l)).toNat)))) c = _
    rw [er', show tb i + (64 * R + (16 * t + l.val)) = tb i + 64 * R + (16 * t + l.val) by ring]

theorem lane_addv {b v : BitVec 32} {o l : ℕ} (hb : b.toNat = o) (hv : v.toNat = l) (ho : o < 256) (hl : l < 16) : (b + v).toNat = o + l := by
  rw [BitVec.toNat_add, hb, hv]; omega

variable {d : Dev nD} {i : grid0.Coords}

theorem loopC {α : Type} {l : Scf.Loop 32} {ok : l.OK} {b : Fin l.trips → Unit → TP F i Unit} {kk : Unit → TP F i α} {Q : α → sProp (MM F)} (I : ℕ → sProp (MM F))
    {R : sProp (MM F)} (hb : ∀ k : Fin l.trips, I k.val ⊢ wpT d i (b k ()) fun _ => I (k.val + 1)) (h : iprop(I l.trips ∗ R) ⊢ wpT d i (kk ()) Q) :
    iprop(I 0 ∗ R) ⊢ wpT d i (Scf.Loop.for l ok () b >>= kk) Q := by
  iintro ⟨HI, HR⟩
  iapply (loopT I hb) $$ HI
  iintro HI
  iapply h
  isplitl [HI]; · iexact HI
  iexact HR

theorem over1C {α : Type} {m : Memref sig .scVector .vmem S64 .f32} {f : S64.Idx → F .f32} {R : sProp (MM F)}
    {off : Fin 1 → ℕ} {inb : ∀ a, off a + S16.size a ≤ S64.size a} (g : ℕ) (hg : off 0 = 16 * g) {v : Vec F S16 .f32}
    {hl : m.view.LoadsAt (Rect.unit (s := S64) off S16.size inb).toLoadRect} {hs} {hm} {k : PUnit → TP F i α} {Q : α → sProp (MM F)}
    (h : iprop(holds d i m (put1 f g fun l => v (at1 l)) ∗ R) ⊢ wpT d i (k ⟨⟩) Q) :
    iprop(holds d i m f ∗ R) ⊢ wpT d i (Prog.lift (.load m (Rect.unit (s := S64) off S16.size inb).toLoadRect hl)
          >>= fun _ => Prog.lift (.store m (Rect.unit (s := S64) off S16.size inb) v Finset.univ hs hm) >>= k) Q := by
  iintro ⟨Hm, HR⟩
  iapply (over1 g hg) $$ Hm
  iintro Hm
  iapply h
  isplitl [Hm]; · iexact Hm
  iexact HR

theorem shut {n : ℕ} {X : Ins F} {m : Memref sig .scVector .vmem (S2d n 128) .f32} (hm : m.view.set = Finset.univ)
    {fh : Buf (Elt F) (mH.view.loc (thr d i))} {fw : Buf (Elt F) (m.view.loc (thr d i))} (hfh : (mH.access (.whole _)).read (Elt F) fh = hTile X i)
    (V : ℕ → Fin 128 → F .f32) (hfw : ∀ (r : Fin n) c, (m.access (.whole _)).read (Elt F) fw (at2 r c) = V r.val c) {A : sProp (MM F)} :
    iprop(A ∗ (((mH.access (.whole _)).loc (thr d i) ↦[Finset.univ]{fullShare} fh) ∗ ((m.access (.whole _)).loc (thr d i) ↦[Finset.univ]{fullShare} fw)))
      ⊢ iprop(A ∗ holds d i mH (hTile X i) ∗ chunk d i m V) := by
  unfold holds chunk
  rw [hm, show mH.view.set = Finset.univ from View.set_whole _]
  iintro ⟨HA, Hh, Hw⟩
  isplitl [HA]; · iexact HA
  isplitl [Hh]
  · iexists fh
    isplitr
    · ipureintro; exact (readAcc (d := d) (i := i) mH fh).symm.trans hfh
    iexact Hh
  iexists fw
  isplitr
  · ipureintro; exact fun r c => (congrFun (readAcc (d := d) (i := i) m fw) _).symm.trans (hfw r c)
  iexact Hw

/-- What a phase holds before its trip `t`: the tile's rows, the block's table rows, and the scores so far. -/
def Phase (X : Ins F) (d : Dev nD) (i : grid0.Coords) (m : Memref sig .scVector .vmem S64x128 .f32) (R t : ℕ) : sProp (MM F) :=
  iprop(∃ f, ⌜∀ y, (y 0).val < 16 * t → f y = X.pos (tb i + 64 * R + (y 0).val)⌝ ∗ holds d i mP f ∗ holds d i mH (hTile X i)
    ∗ chunk (n := 64) d i m (rowsOf X.wRow (tgtL X i) (64 * R)))

/-- One trip of a phase: sixteen tokens scored against their targets. -/
theorem phase_step (X : Ins F) {m : Memref sig .scVector .vmem S64x128 .f32} (hm : m.view.set = Finset.univ) (R t : ℕ)
    {P : TP F i (Vec F S16 .f32)} {v37 v40 : IVec S16 32} {e37 : ∀ x, (v37 x).toNat < 256} {e40 : ∀ x, (v40 x).toNat < 64}
    (hP : ∀ fh fw, Gives d i iprop(((mH.access (.whole _)).loc (thr d i) ↦[Finset.univ]{fullShare} fh) ∗ ((m.access (.whole _)).loc (thr d i) ↦[Finset.univ]{fullShare} fw)) P
      (laneAt ((mH.access (.whole _)).read (Elt F) fh) ((m.access (.whole _)).read (Elt F) fw) v37 v40 e37 e40 128))
    (er : ∀ x, (v37 x).toNat = 64 * R + 16 * t + (x 0).val) (er' : ∀ x, (v40 x).toNat = 16 * t + (x 0).val)
    {off : Fin 1 → ℕ} {inb : ∀ a, off a + S16.size a ≤ S64.size a} (ho : off 0 = 16 * t)
    {hl : mP.view.LoadsAt (Rect.unit (s := S64) off S16.size inb).toLoadRect} {hs} {hmm} :
    Phase X d i m R t ⊢ wpT d i (P >>= fun v43 => Prog.lift (.load mP (Rect.unit (s := S64) off S16.size inb).toLoadRect hl)
      >>= fun _ => Prog.lift (.store mP (Rect.unit (s := S64) off S16.size inb) v43 Finset.univ hs hmm) >>= fun _ => pure ()) fun _ => Phase X d i m R (t + 1) := by
  refine exC fun f hf => ?_
  refine permC (B := iprop(holds d i mH (hTile X i) ∗ chunk (n := 64) d i m (rowsOf X.wRow (tgtL X i) (64 * R)) ∗ holds d i mP f)) (by ac_rfl) ?_
  refine openC hm fun fh fw hfh hfw => ?_
  refine Gives.atC (hP fh fw) ?_
  refine (BI.sep_comm).trans ?_
  refine over1C t ho ?_
  refine retC ?_
  refine exI _ ?_ (shut (X := X) hm hfh _ hfw)
  intro y hy
  unfold put1
  split_ifs with h
  · refine (lanePos X i R t hfh hfw er er' _).trans (congrArg X.pos ?_)
    show tb i + 64 * R + (16 * t + (y 0).val % 16) = _
    omega
  · exact hf y (by omega)

end Cert.Proof.Score
end
-- ==== Proof.Phases.lean ====
/- The four phases of a tile against its targets. -/
module

public import proofs.«01_k».proof.Proof.PosOut

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {d : Dev nD} {i : grid0.Coords}

theorem base0 : ∀ t : Fin k0_t4_loop.trips, (Scalar.addi 0#32 (Scalar.muli (Scf.iv 0#32 1#32 t) 16#32)).toNat = 64 * 0 + 16 * t.val := by decide +kernel
theorem row0 : ∀ t : Fin k0_t4_loop.trips, (Scalar.muli (Scf.iv 0#32 1#32 t) 16#32).toNat = 16 * t.val := by decide +kernel
theorem off15_eq : ∀ t : Fin k0_t4_loop.trips, k0_off15 t 0 = 16 * t.val := by decide +kernel

theorem phase0 (X : Ins F) (v2 : BitVec 32) (v3 : IVec S16 32) (hv3 : ∀ x, (v3 x).toNat = (x 0).val) (t : Fin k0_t4_loop.trips) :
    Phase X d i mC 0 t.val ⊢ wpT d i (k0_t4_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 t ()) fun _ => Phase X d i mC 0 (t.val + 1) := by
  have ht : t.val < 4 := t.isLt
  have hx : ∀ x : S16.Idx, (x 0).val < 16 := fun x => (x 0).isLt
  have e1 : ∀ x, (k0_pay313 v3 t x).toNat = 64 * 0 + 16 * t.val + (x 0).val := fun x => lane_addv (base0 t) (hv3 x) (by omega) (hx x)
  have e2 : ∀ x, (k0_pay314 v3 t x).toNat = 16 * t.val + (x 0).val := fun x => lane_addv (row0 t) (hv3 x) (by omega) (hx x)
  unfold k0_t4_body
  dsimp only
  have h1 : ∀ x, (k0_pay313 v3 t x).toNat < 256 := fun x => by rw [e1]; have := hx x; omega
  have h2 : ∀ x, (k0_pay314 v3 t x).toNat < 64 := fun x => by rw [e2]; have := hx x; omega
  refine phase_step (m := mC) X (View.set_whole _) 0 t.val (v37 := k0_pay313 v3 t) (v40 := k0_pay314 v3 t) (e37 := h1) (e40 := h2) ?_ e1 e2 (off15_eq t)
  intro fh fw
  rw [show (k0_pay315 (F := F)) = fun _ => zero32 from rfl]
  exact posLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 (k0_pay313 v3 t) (k0_pay314 v3 t) fullShare fullShare fh fw hv3 h1 h2

theorem base1 : ∀ t : Fin k0_t6_loop.trips, (Scalar.addi 64#32 (Scalar.muli (Scf.iv 0#32 1#32 t) 16#32)).toNat = 64 * 1 + 16 * t.val := by decide +kernel
theorem row1 : ∀ t : Fin k0_t6_loop.trips, (Scalar.muli (Scf.iv 0#32 1#32 t) 16#32).toNat = 16 * t.val := by decide +kernel
theorem off17_eq : ∀ t : Fin k0_t6_loop.trips, k0_off17 t 0 = 16 * t.val := by decide +kernel

theorem phase1 (X : Ins F) (v2 : BitVec 32) (v3 : IVec S16 32) (hv3 : ∀ x, (v3 x).toNat = (x 0).val) (t : Fin k0_t6_loop.trips) :
    Phase X d i mD 1 t.val ⊢ wpT d i (k0_t6_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 t ()) fun _ => Phase X d i mD 1 (t.val + 1) := by
  have ht : t.val < 4 := t.isLt
  have hx : ∀ x : S16.Idx, (x 0).val < 16 := fun x => (x 0).isLt
  have e1 : ∀ x, (k0_pay319 v3 t x).toNat = 64 * 1 + 16 * t.val + (x 0).val := fun x => lane_addv (base1 t) (hv3 x) (by omega) (hx x)
  have e2 : ∀ x, (k0_pay320 v3 t x).toNat = 16 * t.val + (x 0).val := fun x => lane_addv (row1 t) (hv3 x) (by omega) (hx x)
  unfold k0_t6_body
  dsimp only
  rw [t7_eq]
  have h1 : ∀ x, (k0_pay319 v3 t x).toNat < 256 := fun x => by rw [e1]; have := hx x; omega
  have h2 : ∀ x, (k0_pay320 v3 t x).toNat < 64 := fun x => by rw [e2]; have := hx x; omega
  refine phase_step (m := mD) X (View.set_whole _) 1 t.val (v37 := k0_pay319 v3 t) (v40 := k0_pay320 v3 t) (e37 := h1) (e40 := h2) ?_ e1 e2 (off17_eq t)
  intro fh fw
  rw [show (k0_pay321 (F := F)) = fun _ => zero32 from rfl]
  exact posLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch6) (Memref.isWhole_whole _) (Memref.whole cc0_scratch5) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 (k0_pay319 v3 t) (k0_pay320 v3 t) fullShare fullShare fh fw hv3 h1 h2

theorem base2 : ∀ t : Fin k0_t8_loop.trips, (Scalar.addi 128#32 (Scalar.muli (Scf.iv 0#32 1#32 t) 16#32)).toNat = 64 * 2 + 16 * t.val := by decide +kernel
theorem row2 : ∀ t : Fin k0_t8_loop.trips, (Scalar.muli (Scf.iv 0#32 1#32 t) 16#32).toNat = 16 * t.val := by decide +kernel
theorem off18_eq : ∀ t : Fin k0_t8_loop.trips, k0_off18 t 0 = 16 * t.val := by decide +kernel

theorem phase2 (X : Ins F) (v2 : BitVec 32) (v3 : IVec S16 32) (hv3 : ∀ x, (v3 x).toNat = (x 0).val) (t : Fin k0_t8_loop.trips) :
    Phase X d i mC 2 t.val ⊢ wpT d i (k0_t8_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 t ()) fun _ => Phase X d i mC 2 (t.val + 1) := by
  have ht : t.val < 4 := t.isLt
  have hx : ∀ x : S16.Idx, (x 0).val < 16 := fun x => (x 0).isLt
  have e1 : ∀ x, (k0_pay325 v3 t x).toNat = 64 * 2 + 16 * t.val + (x 0).val := fun x => lane_addv (base2 t) (hv3 x) (by omega) (hx x)
  have e2 : ∀ x, (k0_pay326 v3 t x).toNat = 16 * t.val + (x 0).val := fun x => lane_addv (row2 t) (hv3 x) (by omega) (hx x)
  unfold k0_t8_body
  dsimp only
  rw [t9_eq (c0 := 0#32)]
  have h1 : ∀ x, (k0_pay325 v3 t x).toNat < 256 := fun x => by rw [e1]; have := hx x; omega
  have h2 : ∀ x, (k0_pay326 v3 t x).toNat < 64 := fun x => by rw [e2]; have := hx x; omega
  refine phase_step (m := mC) X (View.set_whole _) 2 t.val (v37 := k0_pay325 v3 t) (v40 := k0_pay326 v3 t) (e37 := h1) (e40 := h2) ?_ e1 e2 (off18_eq t)
  intro fh fw
  rw [show (k0_pay327 (F := F)) = fun _ => zero32 from rfl]
  exact posLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 (k0_pay325 v3 t) (k0_pay326 v3 t) fullShare fullShare fh fw hv3 h1 h2

theorem base3 : ∀ t : Fin k0_t10_loop.trips, (Scalar.addi 192#32 (Scalar.muli (Scf.iv 0#32 1#32 t) 16#32)).toNat = 64 * 3 + 16 * t.val := by decide +kernel
theorem row3 : ∀ t : Fin k0_t10_loop.trips, (Scalar.muli (Scf.iv 0#32 1#32 t) 16#32).toNat = 16 * t.val := by decide +kernel
theorem off19_eq : ∀ t : Fin k0_t10_loop.trips, k0_off19 t 0 = 16 * t.val := by decide +kernel

theorem phase3 (X : Ins F) (v2 : BitVec 32) (v3 : IVec S16 32) (hv3 : ∀ x, (v3 x).toNat = (x 0).val) (t : Fin k0_t10_loop.trips) :
    Phase X d i mD 3 t.val ⊢ wpT d i (k0_t10_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 t ()) fun _ => Phase X d i mD 3 (t.val + 1) := by
  have ht : t.val < 4 := t.isLt
  have hx : ∀ x : S16.Idx, (x 0).val < 16 := fun x => (x 0).isLt
  have e1 : ∀ x, (k0_pay331 v3 t x).toNat = 64 * 3 + 16 * t.val + (x 0).val := fun x => lane_addv (base3 t) (hv3 x) (by omega) (hx x)
  have e2 : ∀ x, (k0_pay332 v3 t x).toNat = 16 * t.val + (x 0).val := fun x => lane_addv (row3 t) (hv3 x) (by omega) (hx x)
  unfold k0_t10_body
  dsimp only
  rw [t11_eq (c0 := 0#32)]
  have h1 : ∀ x, (k0_pay331 v3 t x).toNat < 256 := fun x => by rw [e1]; have := hx x; omega
  have h2 : ∀ x, (k0_pay332 v3 t x).toNat < 64 := fun x => by rw [e2]; have := hx x; omega
  refine phase_step (m := mD) X (View.set_whole _) 3 t.val (v37 := k0_pay331 v3 t) (v40 := k0_pay332 v3 t) (e37 := h1) (e40 := h2) ?_ e1 e2 (off19_eq t)
  intro fh fw
  rw [show (k0_pay333 (F := F)) = fun _ => zero32 from rfl]
  exact posLoop d i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch6) (Memref.isWhole_whole _) (Memref.whole cc0_scratch5) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7 v2 v3 0#32 (k0_pay331 v3 t) (k0_pay332 v3 t) fullShare fullShare fh fw hv3 h1 h2

end Cert.Proof.Score
end
-- ==== Proof.BodyMoves.lean ====
/- What the whole body of a tile is made of. -/
module

public import proofs.«01_k».proof.Proof.NegLoop
public import proofs.«01_k».proof.Proof.Phases

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {d : Dev nD} {i : grid0.Coords} {O : CellTallies nD τ sig (HIx 1)} {Wt : Waits sig (HIx 1)}

/-! ## The parts of the arrays a tile reads -/

abbrev hSrc (i : grid0.Coords) : Memref sig .scVector .hbm S256x128 .f32 :=
  (Memref.whole main_arg0_scv).slice (Rect.unit (s := S8192x128) (k0_off1 i) S256x128.size (k0_off1_inb i)) (fun _ => rfl)
abbrev tSrc (i : grid0.Coords) : Memref sig .scVector .hbm S256 .i32 :=
  (Memref.whole main_arg1_scv).slice (Rect.unit (s := S8192) (k0_off2 i) S256.size (k0_off2_inb i)) (fun _ => rfl)
abbrev gSrc (i : grid0.Coords) : Memref sig .scVector .hbm S16384 .i32 :=
  (Memref.whole main_v0_scv).slice (Rect.unit (s := S524288) (k0_off3 i) S16384.size (k0_off3_inb i)) (fun _ => rfl)

theorem o1 (i : grid0.Coords) : k0_off1 i 0 = tb i ∧ k0_off1 i 1 = 0 := by
  rw [k0_off1_eq i]; exact ⟨rfl, rfl⟩
theorem o2 (i : grid0.Coords) : k0_off2 i 0 = tb i := by rw [k0_off2_eq i]; rfl
theorem o3 (i : grid0.Coords) : k0_off3 i 0 = 64 * tb i := by
  rw [k0_off3_eq i]; show 32768 * (i 1).val + 16384 * (i 0).val = _; unfold tb; ring

/-- The targets and the negatives as the tile's lists hold them. -/
def fT (X : Ins F) (i : grid0.Coords) : S256.Idx → BitVec 32 := fun x => tgtL X i (x 0).val
def fN (X : Ins F) (i : grid0.Coords) : S16384.Idx → BitVec 32 := fun x => negL X i (x 0).val

theorem hSrc_read (X : Ins F) (y : S256x128.Idx) : mH.view.read (Elt F) (hTile X i) y = (hSrc i).view.read (Elt F) X.h y := by
  have hy : (y 0).val < 256 := (y 0).isLt
  have ht := tb_le i
  show X.h (at2 ⟨(tb i + (y 0).val) % 8192, _⟩ (y 1)) = X.h ((Rect.unit (s := S8192x128) (k0_off1 i) S256x128.size (k0_off1_inb i)).emb y)
  refine congrArg X.h (eq_at2 _ _ _ ?_ ?_).symm
  · rw [Rect.emb_apply]
    show k0_off1 i 0 + 1 * (y 0 : ℕ) = (tb i + (y 0).val) % 8192
    have := (o1 i).1; omega
  · rw [Rect.emb_apply]
    show k0_off1 i 1 + 1 * (y 1 : ℕ) = (y 1).val
    have := (o1 i).2; omega

theorem tSrc_read (X : Ins F) (y : S256.Idx) : mT.view.read (Elt F) (fT X i) y = (tSrc i).view.read (Elt F) X.t y := by
  have hy : (y 0).val < 256 := (y 0).isLt
  have ht := tb_le i
  show X.t (at1 ⟨(tb i + (y 0).val) % 8192, _⟩) = X.t ((Rect.unit (s := S8192) (k0_off2 i) S256.size (k0_off2_inb i)).emb y)
  refine congrArg X.t (eq_at1 _ _ ?_).symm
  rw [Rect.emb_apply]
  show k0_off2 i 0 + 1 * (y 0 : ℕ) = (tb i + (y 0).val) % 8192
  have := o2 i; omega

theorem gSrc_read (X : Ins F) (y : S16384.Idx) : mN.view.read (Elt F) (fN X i) y = (gSrc i).view.read (Elt F) X.g y := by
  have hy : (y 0).val < 16384 := (y 0).isLt
  have ht := tb_le i
  show X.g (at1 ⟨(64 * tb i + (y 0).val) % 524288, _⟩) = X.g ((Rect.unit (s := S524288) (k0_off3 i) S16384.size (k0_off3_inb i)).emb y)
  refine congrArg X.g (eq_at1 _ _ ?_).symm
  rw [Rect.emb_apply]
  show k0_off3 i 0 + 1 * (y 0 : ℕ) = (64 * tb i + (y 0).val) % 524288
  have := o3 i; omega

/-! ## Moves of the whole body -/

theorem convC {A A' R C : sProp (MM F)} (h : A ⊢ A') (h2 : iprop(A' ∗ R) ⊢ C) : iprop(A ∗ R) ⊢ C := by
  iintro ⟨HA, HR⟩
  iapply h2
  isplitl [HA]
  · iapply h; iexact HA
  iexact HR

theorem amt64 : ∀ m ∈ [mC, mD], ∑ j, (m.slice ((S2d 64 128).rowRect gathers_S100000x128_S64x128.axis' j) ((S2d 64 128).stride_rowRect gathers_S100000x128_S64x128.axis' j)).view.dmaCredit
    = m.view.dmaCredit := by decide

/-- A list's two halves, one for each fetch in flight on it. -/
abbrev half (b : Fin 2) : PosShare TreeShare := pieceOf fullShare 2 (by decide) b

theorem halves {ℓ : Loc nD τ sig} (I : Finset (Idx ℓ)) (f : Buf (Elt F) ℓ) :
    (ℓ ↦[I]{fullShare} f : sProp (MM F)) = iprop((ℓ ↦[I]{half 0} f) ∗ (ℓ ↦[I]{half 1} f)) :=
  (pointsTo_piecesOf I f (by decide) fullShare).trans (bigSep_fin_two _)

theorem holdsI {s : Shape} {sp : Space} {e : EltTy} (m : Memref sig .scVector sp s e) {f : Buf (Elt F) (m.view.loc (thr d i))} {g : s.Idx → Elt F e}
    (h : m.view.read (Elt F) f = g) : (m.view.loc (thr d i) ↦[m.view.set]{fullShare} f : sProp (MM F)) ⊢ holds d i m g := by
  unfold holds
  iintro H
  iexists f
  isplitr
  · ipureintro; exact h
  iexact H

theorem anyI {n : ℕ} {dst : Memref sig .scVector .vmem (S2d n 128) .f32} {V : ℕ → Fin 128 → F .f32} :
    (chunk d i dst V : sProp (MM F)) ⊢ iprop(∃ V, chunk d i dst V) := by
  iintro H
  iexists V
  iexact H

/-- A phase's scores, not yet known and known. -/
def anyP (d : Dev nD) (i : grid0.Coords) : sProp (MM F) := iprop(∃ f, ⌜True⌝ ∗ holds (F := F) d i mP f)
def Done (X : Ins F) (d : Dev nD) (i : grid0.Coords) (R : ℕ) : sProp (MM F) :=
  iprop(∃ f, ⌜∀ y, f y = X.pos (tb i + 64 * R + (y 0).val)⌝ ∗ holds d i mP f)

/-- The scores, as the copy out names them. -/
abbrev mPs : Memref sig .scVector .vmem S64 .f32 := mP.slice (Rect.unit (s := S64) ![0] S64.size inb_S64_S64_0) (fun _ => rfl)

theorem mPs_eq (g : S64.Idx → F .f32) : (holds d i mPs g : sProp (MM F)) = holds d i mP g := by
  have hA : mPs.view.set = (Finset.univ : Finset S64.Idx) := by
    refine (View.set_slice_whole _ _).trans (Finset.eq_univ_of_forall fun y => ?_)
    rw [Rect.mem_set_unit]
    intro a
    match a with
    | 0 => exact ⟨Nat.zero_le _, by show (y 0).val < 0 + 64; have h : (y 0).val < 64 := (y 0).isLt; omega⟩
  have hB : mP.view.set = (Finset.univ : Finset S64.Idx) := View.set_whole _
  have hr : ∀ f : Buf (Elt F) (mP.view.loc (thr d i)), mPs.view.read (Elt F) f = mP.view.read (Elt F) f := by
    intro f; funext y
    show f ((Rect.unit (s := S64) ![0] S64.size inb_S64_S64_0).emb y) = f y
    refine congrArg f (funext fun a => Fin.ext ?_)
    match a with
    | 0 => rw [Rect.emb_apply]; show 0 + 1 * (y 0 : ℕ) = _; omega
  have e : (fun f : Buf (Elt F) (mP.view.loc (thr d i)) => (iprop(⌜mPs.view.read (Elt F) f = g⌝ ∗ (mPs.view.loc (thr d i) ↦[mPs.view.set]{fullShare} f)) : sProp (MM F)))
      = fun f => iprop(⌜mP.view.read (Elt F) f = g⌝ ∗ (mP.view.loc (thr d i) ↦[mP.view.set]{fullShare} f)) := by
    funext f
    rw [hr f, hA, hB]
  exact congrArg BIBase.exists e

/-- One phase: the four trips of its loop. -/
theorem phaseC {α : Type} {X : Ins F} {m : Memref sig .scVector .vmem S64x128 .f32} (R : ℕ) {l : Scf.Loop 32} (hl : l.trips = 4) {ok : l.OK} {b : Fin l.trips → Unit → TP F i Unit}
    (hb : ∀ t : Fin l.trips, Phase X d i m R t.val ⊢ wpT d i (b t ()) fun _ => Phase X d i m R (t.val + 1)) {kk : Unit → TP F i α} {Q : α → sProp (MM F)} {S : sProp (MM F)}
    (h : iprop((Done X d i R ∗ holds d i mH (hTile X i) ∗ chunk (n := 64) d i m (rowsOf X.wRow (tgtL X i) (64 * R))) ∗ S) ⊢ wpT d i (kk ()) Q) :
    iprop((anyP d i ∗ holds d i mH (hTile X i) ∗ chunk (n := 64) d i m (rowsOf X.wRow (tgtL X i) (64 * R))) ∗ S) ⊢ wpT d i (Scf.Loop.for l ok () b >>= kk) Q := by
  refine convC (A' := Phase X d i m R 0) ?_ ?_
  · unfold anyP Phase
    iintro ⟨⟨%f, -, Hf⟩, Hh, Hc⟩
    iexists f
    isplitr
    · ipureintro; intro y hy; exact absurd hy (by omega)
    isplitl [Hf]; · iexact Hf
    isplitl [Hh]; · iexact Hh
    iexact Hc
  refine loopC (fun t => Phase X d i m R t) hb ?_
  rw [hl]
  refine convC ?_ h
  unfold Done Phase
  iintro ⟨%f, %hf, Hf, Hh, Hc⟩
  isplitl [Hf]
  · iexists f
    isplitr
    · ipureintro; intro y; exact hf y (by have hy : (y 0).val < 64 := (y 0).isLt; omega)
    iexact Hf
  isplitl [Hh]; · iexact Hh
  iexact Hc

/-- Its scores sent to the result. -/
theorem sendP {α : Type} {X : Ins F} {g0 : S8192.Idx → F .f32} (R : ℕ) (hR : R < 4) {off : Fin 1 → ℕ} {inb : ∀ a, off a + S64.size a ≤ S8192.size a} (h0 : off 0 = tb i + 64 * R)
    {sem : DmaSem sig} {hsrc : mPs.view.WordExact} {hdst : (pblk off inb).view.WordExact} {hsem : DmaTarget.Typed (nD := nD) (p := (thr d i).2) .vmem (.dma sem) (.here (pblk off inb))}
    {k : PUnit → TP F i α} {Q : α → sProp (MM F)} {S : sProp (MM F)}
    (h : iprop(Transfers.Flight EC (thr d i) (.dma sem) (none : HIx 1) (pblk off inb).view.dmaCredit
          iprop((mO.view.loc (thr d i) ↦[tileToks i]{fullShare} posOut X i g0 (R + 1)) ∗ anyP d i) ∗ S) ⊢ wpT d i (k ⟨⟩) Q) :
    iprop((Done X d i R ∗ (mO.view.loc (thr d i) ↦[tileToks i]{fullShare} posOut X i g0 R) ∗ semVal ((thr d i), SemLoc.dma sem) 0) ∗ S)
      ⊢ wpT d i (Prog.lift (.enqueueDma mPs (.here (pblk off inb)) (.dma sem) hsrc hdst hsem) >>= k) Q := by
  have key : ∀ f, (∀ y, f y = X.pos (tb i + 64 * R + (y 0).val)) → iprop(holds d i mP f ∗ ((mO.view.loc (thr d i) ↦[tileToks i]{fullShare} posOut X i g0 R) ∗ semVal ((thr d i), SemLoc.dma sem) 0 ∗ S))
      ⊢ wpT d i (Prog.lift (.enqueueDma mPs (.here (pblk off inb)) (.dma sem) hsrc hdst hsem) >>= k) Q := by
    intro f hf
    have hs := pout_sub (inb := inb) hR h0
    have hr := pout_read (inb := inb) (g0 := g0) h0 hf
    have hx := fun x => pout_rest (inb := inb) (X := X) (g0 := g0) h0 x
    refine permC (B := iprop((holds d i mPs f ∗ (mO.view.loc (thr d i) ↦[tileToks i]{fullShare} posOut X i g0 R) ∗ semVal ((thr d i), SemLoc.dma sem) 0) ∗ S)) (by rw [mPs_eq]; ac_rfl) ?_
    refine outC (src := mPs) (dst := pblk off inb) (sem := sem) (I := tileToks i) (G := posOut X i g0 R) (G' := posOut X i g0 (R + 1)) hs hr (fun x _ h => hx x h) pblk_credit ?_
    refine convC (Transfers.Flight_mono EC (thr d i) ?_) h
    rw [mPs_eq]
    unfold anyP
    iintro ⟨Hd, Hf⟩
    isplitl [Hd]; · iexact Hd
    iexists f
    isplitr
    · ipureintro; trivial
    iexact Hf
  unfold Done
  iintro ⟨⟨⟨%f, %hf, Hf⟩, Hd, Hs⟩, HS⟩
  have hk := key f hf
  iapply hk
  isplitl [Hf]; · iexact Hf
  isplitl [Hd]; · iexact Hd
  isplitl [Hs]; · iexact Hs
  iexact HS

theorem iota_val : ∀ x : S16.Idx, (iota .scVector S16 32 [0] iota_S16_d0_w32_scVector x).toNat = (x 0).val := by
  intro x
  have hx : (x 0).val < 16 := (x 0).isLt
  have e : iota .scVector S16 32 [0] iota_S16_d0_w32_scVector x = BitVec.ofNat 32 (x 0).val := by
    simp [iota]
  rw [e, BitVec.toNat_ofNat]; omega

/-- A copy into the tile's memory, sent and waited for. -/
theorem copyInC {α : Type} {s : Shape} {e : EltTy} {sp : Space} {src : Memref sig .scVector sp s e} {dst : Memref sig .scVector .vmem s e} {sem : DmaSem sig}
    {fs : Buf (Elt F) (src.view.loc (thr d i))} {G : Buf (Elt F) (dst.view.loc (thr d i))} (G' : Buf (Elt F) (dst.view.loc (thr d i)))
    (h1 : ∀ y, dst.view.read (Elt F) G' y = src.view.read (Elt F) fs y) (h0 : 0 < dst.view.dmaCredit)
    {hsrc : src.view.WordExact} {hdst : dst.view.WordExact} {hsem : DmaTarget.Typed (nD := nD) (p := (thr d i).2) sp (.dma sem) (.here dst)} {hsrc' : src.view.WordExact} {hdst' : dst.view.WordExact}
    {k : PUnit → TP F i α} {Q : α → sProp (MM F)} {R : sProp (MM F)}
    (h : iprop(((src.view.loc (thr d i) ↦[src.view.set]{fullShare} fs) ∗ (dst.view.loc (thr d i) ↦[dst.view.set]{fullShare} G') ∗ semVal ((thr d i), SemLoc.dma sem) 0) ∗ Owing d i O Wt ∗ R) ⊢ wpT d i (k ⟨⟩) Q) :
    iprop(((src.view.loc (thr d i) ↦[src.view.set]{fullShare} fs) ∗ (dst.view.loc (thr d i) ↦[dst.view.set]{fullShare} G) ∗ semVal ((thr d i), SemLoc.dma sem) 0) ∗ Owing d i O Wt ∗ R)
      ⊢ wpT d i (Prog.lift (.enqueueDma src (.here dst) (.dma sem) hsrc hdst hsem) >>= fun _ => Prog.lift (.waitDma2 sem src dst hsrc' hdst') >>= k) Q := by
  refine sendC (src := src) (dst := dst) (sem := sem) (I := dst.view.set) (G' := G') (Finset.Subset.refl _) h1 (fun x h h' => absurd h h') h0 ?_
  refine landC ?_
  refine permC ?_ h
  ac_rfl

/-- A block of scores copied out, sent and waited for. -/
theorem copyOutC {α : Type} {X : Ins F} {g0 : S8192.Idx → F .f32} (R : ℕ) (hR : R < 4) {off : Fin 1 → ℕ} {inb : ∀ a, off a + S64.size a ≤ S8192.size a} (h0 : off 0 = tb i + 64 * R)
    {sem : DmaSem sig} {hsrc : mPs.view.WordExact} {hdst : (pblk off inb).view.WordExact} {hsem : DmaTarget.Typed (nD := nD) (p := (thr d i).2) .vmem (.dma sem) (.here (pblk off inb))}
    {hsrc' : mPs.view.WordExact} {hdst' : (pblk off inb).view.WordExact}
    {k : PUnit → TP F i α} {Q : α → sProp (MM F)} {S : sProp (MM F)}
    (h : iprop((anyP d i ∗ (mO.view.loc (thr d i) ↦[tileToks i]{fullShare} posOut X i g0 (R + 1)) ∗ semVal ((thr d i), SemLoc.dma sem) 0) ∗ Owing d i O Wt ∗ S) ⊢ wpT d i (k ⟨⟩) Q) :
    iprop((Done X d i R ∗ (mO.view.loc (thr d i) ↦[tileToks i]{fullShare} posOut X i g0 R) ∗ semVal ((thr d i), SemLoc.dma sem) 0) ∗ Owing d i O Wt ∗ S)
      ⊢ wpT d i (Prog.lift (.enqueueDma mPs (.here (pblk off inb)) (.dma sem) hsrc hdst hsem) >>= fun _ => Prog.lift (.waitDma2 sem mPs (pblk off inb) hsrc' hdst') >>= k) Q := by
  refine sendP (off := off) (inb := inb) (sem := sem) R hR h0 ?_
  refine landC (src := mPs) (dst := pblk off inb) (sem := sem) ?_
  refine permC ?_ h
  ac_rfl

/-- A block's table rows waited for and its tokens scored. -/
theorem scoreC {α : Type} {X : Ins F} {m : Memref sig .scVector .vmem S64x128 .f32} (R : ℕ) {sem : DmaSem sig}
    {q qo : PosShare TreeShare} {W : Buf (Elt F) (srcW.view.loc (thr d i))} {fo : Buf (Elt F) (mT.view.loc (thr d i))}
    {h1 : srcW.view.WordExact} {h2 : m.view.WordExact} {l : Scf.Loop 32} (hl : l.trips = 4) {ok : l.OK} {b : Fin l.trips → Unit → TP F i Unit}
    (hb : ∀ t : Fin l.trips, Phase X d i m R t.val ⊢ wpT d i (b t ()) fun _ => Phase X d i m R (t.val + 1)) {kk : Unit → TP F i α} {Q : α → sProp (MM F)} {S : sProp (MM F)}
    (h : iprop((Done X d i R ∗ holds d i mH (hTile X i) ∗ Idle (n := 64) (N := 256) d i m sem mT q qo W fo) ∗ Owing d i O Wt ∗ S) ⊢ wpT d i (kk ()) Q) :
    iprop((Pend (n := 64) (N := 256) d i m sem m.view.dmaCredit mT q qo W fo (rowsOf X.wRow (tgtL X i) (64 * R)) ∗ anyP d i ∗ holds d i mH (hTile X i)) ∗ Owing d i O Wt ∗ S)
      ⊢ wpT d i (SparseCore.waitIndirectGather sem srcW m h1 h2 >>= fun _ => Scf.Loop.for l ok () b >>= kk) Q := by
  refine permC (B := iprop(Pend (n := 64) (N := 256) d i m sem m.view.dmaCredit mT q qo W fo (rowsOf X.wRow (tgtL X i) (64 * R)) ∗ Owing d i O Wt ∗ (anyP d i ∗ holds d i mH (hTile X i) ∗ S))) (by ac_rfl) ?_
  refine takeC (n := 64) (N := 256) ?_
  generalize e : iprop(wSh d i q W ∗ _ ∗ semVal ((thr d i), SemLoc.dma sem) 0) = L
  refine permC (B := iprop((anyP d i ∗ holds d i mH (hTile X i) ∗ chunk (n := 64) d i m (rowsOf X.wRow (tgtL X i) (64 * R))) ∗ (L ∗ Owing d i O Wt ∗ S))) (by ac_rfl) ?_
  refine phaseC R hl hb ?_
  refine permC (B := iprop((chunk (n := 64) d i m (rowsOf X.wRow (tgtL X i) (64 * R)) ∗ L) ∗ (Done X d i R ∗ holds d i mH (hTile X i) ∗ Owing d i O Wt ∗ S))) (by ac_rfl) ?_
  refine convC (A' := Idle (n := 64) (N := 256) d i m sem mT q qo W fo) ?_ (permC (by ac_rfl) h)
  rw [← e]
  unfold Idle
  exact convC anyI .rfl

theorem halfT {X : Ins F} : (mT.view.loc (thr d i) ↦[mT.view.set]{fullShare} (fT X i) : sProp (MM F))
    ⊢ iprop((mT.view.loc (thr d i) ↦[mT.view.set]{half 0} (fT X i)) ∗ (mT.view.loc (thr d i) ↦[mT.view.set]{half 1} (fT X i))) := by
  refine permC ?_ .rfl
  exact halves (ℓ := mT.view.loc (thr d i)) mT.view.set (fT X i)
theorem halfN {X : Ins F} : (mN.view.loc (thr d i) ↦[mN.view.set]{fullShare} (fN X i) : sProp (MM F))
    ⊢ iprop((mN.view.loc (thr d i) ↦[mN.view.set]{half 0} (fN X i)) ∗ (mN.view.loc (thr d i) ↦[mN.view.set]{half 1} (fN X i))) := by
  refine permC ?_ .rfl
  exact halves (ℓ := mN.view.loc (thr d i)) mN.view.set (fN X i)

end Cert.Proof.Score
end
-- ==== Proof.Body.lean ====
/- A whole tile, from its first copy to its last. -/
module

public import proofs.«01_k».proof.Proof.BodyMoves

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {d : Dev nD} {i : grid0.Coords} {O : CellTallies nD τ sig (HIx 1)} {Wt : Waits sig (HIx 1)}

/-- After the last trip the fetches are idle and every block is written. -/
theorem tripEnd {X : Ins F} {qa qb : PosShare TreeShare} {W : Buf (Elt F) (srcW.view.loc (thr d i))} {q0 : S8192x64.Idx → F .f32} :
    Trip X d i O Wt qa qb (half 0) (half 1) W (fN X i) q0 64
      ⊢ iprop((∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Owing d i O Wt) := by
  refine exC fun f _ => ?_
  refine convC (A := holds d i mS f) (A' := iprop(∃ f, ⌜True⌝ ∗ holds d i mS f)) (exI f trivial .rfl) ?_
  exact .rfl

set_option maxHeartbeats 4000000 in
set_option maxRecDepth 65536 in
/-- A tile's whole body: its 256 scores against the targets, its 256 by 64 scores against the negatives. -/
theorem body_spec (X : Ins F) (hX : X.InRange) (qa qb qc qd : PosShare TreeShare) (W : Buf (Elt F) (srcW.view.loc (thr d i)))
    (hW : ∀ r c, srcW.view.read (Elt F) W (at2 r c) = X.w (at2 r c)) (p0 : S8192.Idx → F .f32) (q0 : S8192x64.Idx → F .f32)
    (fh : Buf (Elt F) (mH.view.loc (thr d i))) (ft : Buf (Elt F) (mT.view.loc (thr d i))) (fn : Buf (Elt F) (mN.view.loc (thr d i))) (f : S64x64.Idx → F .f32) :
    iprop(((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ wSh d i qa W ∗ wSh d i qb W ∗ wSh d i qc W ∗ wSh d i qd W ∗ (mH.view.loc (thr d i) ↦[mH.view.set]{fullShare} fh) ∗ (mT.view.loc (thr d i) ↦[mT.view.set]{fullShare} ft) ∗ (mN.view.loc (thr d i) ↦[mN.view.set]{fullShare} fn) ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt)
      ⊢ wpT d i (cc0__score_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7) fun _ => iprop(((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ Idle (n := 128) (N := 16384) d i mA cc0_scratch9.sem mN qa (half 0) W (fN X i) ∗ Idle (n := 128) (N := 16384) d i mB cc0_scratch10.sem mN qb (half 1) W (fN X i) ∗ Idle (n := 64) (N := 256) d i mC cc0_scratch11.sem mT qc (half 0) W (fT X i) ∗ Idle (n := 64) (N := 256) d i mD cc0_scratch12.sem mT qd (half 1) W (fT X i) ∗ holds d i mH (hTile X i) ∗ (∃ f, ⌜True⌝ ∗ holds d i mS f) ∗ anyP d i ∗ (mO.view.loc (thr d i) ↦[tileToks i]{fullShare} (posOut X i p0 4)) ∗ (mQ.view.loc (thr d i) ↦[tileRows i]{fullShare} (negOut X i q0 (64 / 16))) ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ Owing d i O Wt) := by
  rw [cc0__score_body_eq_skeleton]
  unfold cc0__score_body_skel
  rw [k0_part35_eq_skeleton]
  unfold k0_part35_skel
  simp only [bind_assoc]
  refine permC (B := iprop((((hSrc i).view.loc (thr d i) ↦[(hSrc i).view.set]{fullShare} X.h) ∗ (mH.view.loc (thr d i) ↦[mH.view.set]{fullShare} fh) ∗ semVal ((thr d i), SemLoc.dma cc0_scoped0.sem) 0) ∗ Owing d i O Wt ∗ (((tSrc i).view.loc (thr d i) ↦[(tSrc i).view.set]{fullShare} X.t) ∗ ((gSrc i).view.loc (thr d i) ↦[(gSrc i).view.set]{fullShare} X.g) ∗ wSh d i qa W ∗ wSh d i qb W ∗ wSh d i qc W ∗ wSh d i qd W ∗ (mT.view.loc (thr d i) ↦[mT.view.set]{fullShare} ft) ∗ (mN.view.loc (thr d i) ↦[mN.view.set]{fullShare} fn) ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0))))) (by ac_rfl) ?_
  refine copyInC (src := (hSrc i)) (dst := mH) (sem := cc0_scoped0.sem) (hTile X i) (hSrc_read (i := i) X) (by decide) ?_
  refine permC (B := iprop((mH.view.loc (thr d i) ↦[mH.view.set]{fullShare} (hTile X i)) ∗ (((hSrc i).view.loc (thr d i) ↦[(hSrc i).view.set]{fullShare} X.h) ∗ semVal ((thr d i), SemLoc.dma cc0_scoped0.sem) 0 ∗ ((tSrc i).view.loc (thr d i) ↦[(tSrc i).view.set]{fullShare} X.t) ∗ ((gSrc i).view.loc (thr d i) ↦[(gSrc i).view.set]{fullShare} X.g) ∗ wSh d i qa W ∗ wSh d i qb W ∗ wSh d i qc W ∗ wSh d i qd W ∗ (mT.view.loc (thr d i) ↦[mT.view.set]{fullShare} ft) ∗ (mN.view.loc (thr d i) ↦[mN.view.set]{fullShare} fn) ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC (holdsI mH rfl) ?_
  refine permC (B := iprop((((tSrc i).view.loc (thr d i) ↦[(tSrc i).view.set]{fullShare} X.t) ∗ (mT.view.loc (thr d i) ↦[mT.view.set]{fullShare} ft) ∗ semVal ((thr d i), SemLoc.dma cc0_scoped1.sem) 0) ∗ Owing d i O Wt ∗ (holds d i mH (hTile X i) ∗ ((hSrc i).view.loc (thr d i) ↦[(hSrc i).view.set]{fullShare} X.h) ∗ semVal ((thr d i), SemLoc.dma cc0_scoped0.sem) 0 ∗ ((gSrc i).view.loc (thr d i) ↦[(gSrc i).view.set]{fullShare} X.g) ∗ wSh d i qa W ∗ wSh d i qb W ∗ wSh d i qc W ∗ wSh d i qd W ∗ (mN.view.loc (thr d i) ↦[mN.view.set]{fullShare} fn) ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0))))) (by ac_rfl) ?_
  refine copyInC (src := (tSrc i)) (dst := mT) (sem := cc0_scoped1.sem) (fT X i) (tSrc_read (i := i) X) (by decide) ?_
  refine permC (B := iprop((((gSrc i).view.loc (thr d i) ↦[(gSrc i).view.set]{fullShare} X.g) ∗ (mN.view.loc (thr d i) ↦[mN.view.set]{fullShare} fn) ∗ semVal ((thr d i), SemLoc.dma cc0_scoped2.sem) 0) ∗ Owing d i O Wt ∗ (((tSrc i).view.loc (thr d i) ↦[(tSrc i).view.set]{fullShare} X.t) ∗ (mT.view.loc (thr d i) ↦[mT.view.set]{fullShare} (fT X i)) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qa W ∗ wSh d i qb W ∗ wSh d i qc W ∗ wSh d i qd W ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0))))) (by ac_rfl) ?_
  refine copyInC (src := (gSrc i)) (dst := mN) (sem := cc0_scoped2.sem) (fN X i) (gSrc_read (i := i) X) (by decide) ?_
  refine permC (B := iprop((mT.view.loc (thr d i) ↦[mT.view.set]{fullShare} (fT X i)) ∗ (((gSrc i).view.loc (thr d i) ↦[(gSrc i).view.set]{fullShare} X.g) ∗ (mN.view.loc (thr d i) ↦[mN.view.set]{fullShare} (fN X i)) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qa W ∗ wSh d i qb W ∗ wSh d i qc W ∗ wSh d i qd W ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC halfT ?_
  refine permC (B := iprop((mN.view.loc (thr d i) ↦[mN.view.set]{fullShare} (fN X i)) ∗ ((mT.view.loc (thr d i) ↦[mT.view.set]{half 0} (fT X i)) ∗ (mT.view.loc (thr d i) ↦[mT.view.set]{half 1} (fT X i)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qa W ∗ wSh d i qb W ∗ wSh d i qc W ∗ wSh d i qd W ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC halfN ?_
  refine permC (B := iprop(((∃ V, chunk (n := 128) d i mA V) ∗ wSh d i qa W ∗ (mN.view.loc (thr d i) ↦[mN.view.set]{half 0} (fN X i)) ∗ semVal ((thr d i), SemLoc.dma cc0_scratch9.sem) 0) ∗ ((mN.view.loc (thr d i) ↦[mN.view.set]{half 1} (fN X i)) ∗ (mT.view.loc (thr d i) ↦[mT.view.set]{half 0} (fT X i)) ∗ (mT.view.loc (thr d i) ↦[mT.view.set]{half 1} (fT X i)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qb W ∗ wSh d i qc W ∗ wSh d i qd W ∗ (∃ V, chunk (n := 128) d i mB V) ∗ (∃ V, chunk (n := 64) d i mC V) ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC (A' := Idle (n := 128) (N := 16384) d i mA cc0_scratch9.sem mN qa (half 0) W (fN X i)) .rfl ?_
  refine issueC (n := 128) (N := 16384) (dst := mA) (lst := mN) (q := qa) (qo := half 0) (fo := fN X i) 0 rfl hW (negL X i) (fun m => rfl) (fun m => hX.2 _) (amt128 mA (by simp)) (by decide) ?_
  refine permC (B := iprop(((∃ V, chunk (n := 128) d i mB V) ∗ wSh d i qb W ∗ (mN.view.loc (thr d i) ↦[mN.view.set]{half 1} (fN X i)) ∗ semVal ((thr d i), SemLoc.dma cc0_scratch10.sem) 0) ∗ (Pend (n := 128) (N := 16384) d i mA cc0_scratch9.sem mA.view.dmaCredit mN qa (half 0) W (fN X i) (rowsOf X.wRow (negL X i) 0) ∗ (mT.view.loc (thr d i) ↦[mT.view.set]{half 0} (fT X i)) ∗ (mT.view.loc (thr d i) ↦[mT.view.set]{half 1} (fT X i)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qc W ∗ wSh d i qd W ∗ (∃ V, chunk (n := 64) d i mC V) ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC (A' := Idle (n := 128) (N := 16384) d i mB cc0_scratch10.sem mN qb (half 1) W (fN X i)) .rfl ?_
  refine issueC (n := 128) (N := 16384) (dst := mB) (lst := mN) (q := qb) (qo := half 1) (fo := fN X i) 128 rfl hW (negL X i) (fun m => rfl) (fun m => hX.2 _) (amt128 mB (by simp)) (by decide) ?_
  refine permC (B := iprop(((∃ V, chunk (n := 64) d i mC V) ∗ wSh d i qc W ∗ (mT.view.loc (thr d i) ↦[mT.view.set]{half 0} (fT X i)) ∗ semVal ((thr d i), SemLoc.dma cc0_scratch11.sem) 0) ∗ (Pend (n := 128) (N := 16384) d i mB cc0_scratch10.sem mB.view.dmaCredit mN qb (half 1) W (fN X i) (rowsOf X.wRow (negL X i) 128) ∗ Pend (n := 128) (N := 16384) d i mA cc0_scratch9.sem mA.view.dmaCredit mN qa (half 0) W (fN X i) (rowsOf X.wRow (negL X i) 0) ∗ (mT.view.loc (thr d i) ↦[mT.view.set]{half 1} (fT X i)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ wSh d i qd W ∗ (∃ V, chunk (n := 64) d i mD V) ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch12.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC (A' := Idle (n := 64) (N := 256) d i mC cc0_scratch11.sem mT qc (half 0) W (fT X i)) .rfl ?_
  refine issueC (n := 64) (N := 256) (dst := mC) (lst := mT) (q := qc) (qo := half 0) (fo := fT X i) (64 * 0) rfl hW (tgtL X i) (fun m => rfl) (fun m => hX.1 _) (amt64 mC (by simp)) (by decide) ?_
  refine permC (B := iprop(((∃ V, chunk (n := 64) d i mD V) ∗ wSh d i qd W ∗ (mT.view.loc (thr d i) ↦[mT.view.set]{half 1} (fT X i)) ∗ semVal ((thr d i), SemLoc.dma cc0_scratch12.sem) 0) ∗ (Pend (n := 64) (N := 256) d i mC cc0_scratch11.sem mC.view.dmaCredit mT qc (half 0) W (fT X i) (rowsOf X.wRow (tgtL X i) (64 * 0)) ∗ Pend (n := 128) (N := 16384) d i mB cc0_scratch10.sem mB.view.dmaCredit mN qb (half 1) W (fN X i) (rowsOf X.wRow (negL X i) 128) ∗ Pend (n := 128) (N := 16384) d i mA cc0_scratch9.sem mA.view.dmaCredit mN qa (half 0) W (fN X i) (rowsOf X.wRow (negL X i) 0) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ holds d i mH (hTile X i) ∗ ((hSrc i).view.loc (thr d i) ↦[(hSrc i).view.set]{fullShare} X.h) ∗ semVal ((thr d i), SemLoc.dma cc0_scoped0.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ holds d i mS f ∗ anyP d i ∗ (mO.view.loc (thr d i) ↦[tileToks i]{fullShare} (posOut X i p0 0)) ∗ (mQ.view.loc (thr d i) ↦[tileRows i]{fullShare} (negOut X i q0 0)) ∗ Owing d i O Wt))) (by ac_rfl) ?_
  refine convC (A' := Idle (n := 64) (N := 256) d i mD cc0_scratch12.sem mT qd (half 1) W (fT X i)) .rfl ?_
  refine issueC (n := 64) (N := 256) (dst := mD) (lst := mT) (q := qd) (qo := half 1) (fo := fT X i) (64 * 1) rfl hW (tgtL X i) (fun m => rfl) (fun m => hX.1 _) (amt64 mD (by simp)) (by decide) ?_
  refine pureC ?_
  dsimp only
  rw [k0_part36_eq_skeleton]
  unfold k0_part36_skel
  simp only [bind_assoc]
  refine permC (B := iprop((Pend (n := 128) (N := 16384) d i mA cc0_scratch9.sem mA.view.dmaCredit mN qa (half 0) W (fN X i) (rowsOf X.wRow (negL X i) 0) ∗ Pend (n := 128) (N := 16384) d i mB cc0_scratch10.sem mB.view.dmaCredit mN qb (half 1) W (fN X i) (rowsOf X.wRow (negL X i) 128) ∗ holds d i mS f ∗ holds d i mH (hTile X i) ∗ (mQ.view.loc (thr d i) ↦[tileRows i]{fullShare} (negOut X i q0 0)) ∗ semVal ((thr d i), SemLoc.dma cc0_scoped3.sem) 0 ∗ Owing d i O Wt) ∗ (Pend (n := 64) (N := 256) d i mD cc0_scratch12.sem mD.view.dmaCredit mT qd (half 1) W (fT X i) (rowsOf X.wRow (tgtL X i) (64 * 1)) ∗ Pend (n := 64) (N := 256) d i mC cc0_scratch11.sem mC.view.dmaCredit mT qc (half 0) W (fT X i) (rowsOf X.wRow (tgtL X i) (64 * 0)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ anyP d i ∗ (mO.view.loc (thr d i) ↦[tileToks i]{fullShare} (posOut X i p0 0))))) (by ac_rfl) ?_
  refine convC (A' := Trip X d i O Wt qa qb (half 0) (half 1) W (fN X i) q0 0) ?_ ?_
  · refine exI f (fun y hy => absurd hy (by omega)) ?_
    exact permC (B := iprop(holds d i mS f ∗ holds d i mH (hTile X i) ∗ Slot X d i mA cc0_scratch9.sem qa (half 0) W (fN X i) 0 0 ∗ Slot X d i mB cc0_scratch10.sem qb (half 1) W (fN X i) 128 0 ∗ (mQ.view.loc (thr d i) ↦[tileRows i]{fullShare} (negOut X i q0 0)) ∗ semVal ((thr d i), SemLoc.dma cc0_scoped3.sem) 0 ∗ Owing d i O Wt)) (by rw [slot_lt (by decide), slot_lt (by decide)]; ac_rfl) .rfl
  refine loopC (fun t => Trip X d i O Wt qa qb (half 0) (half 1) W (fN X i) q0 t) (fun t => trip_spec X hX O Wt qa qb (half 0) (half 1) W (fN X i) q0 hW (fun m => rfl) _ _ iota_val t ()) ?_
  dsimp only
  refine convC (A' := iprop((∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Owing d i O Wt)) tripEnd ?_
  refine permC (B := iprop((Pend (n := 64) (N := 256) d i mC cc0_scratch11.sem mC.view.dmaCredit mT qc (half 0) W (fT X i) (rowsOf X.wRow (tgtL X i) (64 * 0)) ∗ anyP d i ∗ holds d i mH (hTile X i)) ∗ Owing d i O Wt ∗ ((∃ f, ⌜True⌝ ∗ holds d i mS f) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Pend (n := 64) (N := 256) d i mD cc0_scratch12.sem mD.view.dmaCredit mT qd (half 1) W (fT X i) (rowsOf X.wRow (tgtL X i) (64 * 1)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ (mO.view.loc (thr d i) ↦[tileToks i]{fullShare} (posOut X i p0 0))))) (by ac_rfl) ?_
  refine scoreC (m := mC) 0 rfl (fun t => phase0 X _ _ iota_val t) ?_
  refine permC (B := iprop((Done X d i 0 ∗ (mO.view.loc (thr d i) ↦[tileToks i]{fullShare} (posOut X i p0 0)) ∗ semVal ((thr d i), SemLoc.dma cc0_scoped4.sem) 0) ∗ Owing d i O Wt ∗ (Idle (n := 64) (N := 256) d i mC cc0_scratch11.sem mT qc (half 0) W (fT X i) ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Pend (n := 64) (N := 256) d i mD cc0_scratch12.sem mD.view.dmaCredit mT qd (half 1) W (fT X i) (rowsOf X.wRow (tgtL X i) (64 * 1)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped5.sem) 0 ∗ semVal ((thr d i), SemLoc.dma cc0_scoped6.sem) 0 ∗ semVal ((thr d i), SemLoc.dma cc0_scoped7.sem) 0))) (by ac_rfl) ?_
  have ho0 : k0_off16 i 0#32 0 = tb i + 64 * 0 := congrFun (k0_off16_eq i 0) 0
  refine copyOutC (X := X) (g0 := p0) 0 (by decide) (off := k0_off16 i 0#32) (inb := k0_off16_inb i 0) (sem := cc0_scoped4.sem) ho0 ?_
  refine permC (B := iprop(Idle (n := 64) (N := 256) d i mC cc0_scratch11.sem mT qc (half 0) W (fT X i) ∗ ((mO.view.loc (thr d i) ↦[tileToks i]{fullShare} (posOut X i p0 1)) ∗ anyP d i ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Owing d i O Wt ∗ Pend (n := 64) (N := 256) d i mD cc0_scratch12.sem mD.view.dmaCredit mT qd (half 1) W (fT X i) (rowsOf X.wRow (tgtL X i) (64 * 1)) ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0))) (by ac_rfl) ?_
  refine issueC (n := 64) (N := 256) (dst := mC) (lst := mT) (q := qc) (qo := half 0) (fo := fT X i) (64 * 2) rfl hW (tgtL X i) (fun m => rfl) (fun m => hX.1 _) (amt64 mC (by simp)) (by decide) ?_
  refine permC (B := iprop((Pend (n := 64) (N := 256) d i mD cc0_scratch12.sem mD.view.dmaCredit mT qd (half 1) W (fT X i) (rowsOf X.wRow (tgtL X i) (64 * 1)) ∗ anyP d i ∗ holds d i mH (hTile X i)) ∗ Owing d i O Wt ∗ (Pend (n := 64) (N := 256) d i mC cc0_scratch11.sem mC.view.dmaCredit mT qc (half 0) W (fT X i) (rowsOf X.wRow (tgtL X i) (64 * 2)) ∗ (mO.view.loc (thr d i) ↦[tileToks i]{fullShare} (posOut X i p0 1)) ∗ (∃ f, ⌜True⌝ ∗ holds d i mS f) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0))) (by ac_rfl) ?_
  refine scoreC (m := mD) 1 rfl (fun t => phase1 X _ _ iota_val t) ?_
  refine permC (B := iprop((Done X d i 1 ∗ (mO.view.loc (thr d i) ↦[tileToks i]{fullShare} (posOut X i p0 1)) ∗ semVal ((thr d i), SemLoc.dma cc0_scoped5.sem) 0) ∗ (Idle (n := 64) (N := 256) d i mD cc0_scratch12.sem mT qd (half 1) W (fT X i) ∗ Pend (n := 64) (N := 256) d i mC cc0_scratch11.sem mC.view.dmaCredit mT qc (half 0) W (fT X i) (rowsOf X.wRow (tgtL X i) (64 * 2)) ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Owing d i O Wt ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0 ∗ semVal ((thr d i), SemLoc.dma cc0_scoped7.sem) 0))) (by ac_rfl) ?_
  have ho1 : k0_off16 i 64#32 0 = tb i + 64 * 1 := congrFun (k0_off16_eq i 1) 0
  refine sendP (X := X) (g0 := p0) 1 (by decide) (off := k0_off16 i 64#32) (inb := k0_off16_inb i 1) (sem := cc0_scoped5.sem) ho1 ?_
  refine pureC ?_
  rw [k0_part37_eq_skeleton]
  unfold k0_part37_skel
  simp only [bind_assoc]
  refine permC (B := iprop(Transfers.Flight EC (thr d i) (.dma cc0_scoped5.sem) (none : HIx 1) (pblk (k0_off16 i 64#32) (k0_off16_inb i 1)).view.dmaCredit iprop((mO.view.loc (thr d i) ↦[tileToks i]{fullShare} (posOut X i p0 2)) ∗ anyP d i) ∗ Owing d i O Wt ∗ (Idle (n := 64) (N := 256) d i mD cc0_scratch12.sem mT qd (half 1) W (fT X i) ∗ Pend (n := 64) (N := 256) d i mC cc0_scratch11.sem mC.view.dmaCredit mT qc (half 0) W (fT X i) (rowsOf X.wRow (tgtL X i) (64 * 2)) ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0 ∗ semVal ((thr d i), SemLoc.dma cc0_scoped7.sem) 0))) (by ac_rfl) ?_
  refine landC ?_
  refine permC (B := iprop(Idle (n := 64) (N := 256) d i mD cc0_scratch12.sem mT qd (half 1) W (fT X i) ∗ ((mO.view.loc (thr d i) ↦[tileToks i]{fullShare} (posOut X i p0 2)) ∗ anyP d i ∗ semVal ((thr d i), SemLoc.dma cc0_scoped5.sem) 0 ∗ Pend (n := 64) (N := 256) d i mC cc0_scratch11.sem mC.view.dmaCredit mT qc (half 0) W (fT X i) (rowsOf X.wRow (tgtL X i) (64 * 2)) ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ Owing d i O Wt ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0 ∗ semVal ((thr d i), SemLoc.dma cc0_scoped7.sem) 0))) (by ac_rfl) ?_
  refine issueC (n := 64) (N := 256) (dst := mD) (lst := mT) (q := qd) (qo := half 1) (fo := fT X i) (64 * 3) rfl hW (tgtL X i) (fun m => rfl) (fun m => hX.1 _) (amt64 mD (by simp)) (by decide) ?_
  refine permC (B := iprop((Pend (n := 64) (N := 256) d i mC cc0_scratch11.sem mC.view.dmaCredit mT qc (half 0) W (fT X i) (rowsOf X.wRow (tgtL X i) (64 * 2)) ∗ anyP d i ∗ holds d i mH (hTile X i)) ∗ Owing d i O Wt ∗ (Pend (n := 64) (N := 256) d i mD cc0_scratch12.sem mD.view.dmaCredit mT qd (half 1) W (fT X i) (rowsOf X.wRow (tgtL X i) (64 * 3)) ∗ (mO.view.loc (thr d i) ↦[tileToks i]{fullShare} (posOut X i p0 2)) ∗ semVal ((thr d i), SemLoc.dma cc0_scoped5.sem) 0 ∗ (∃ f, ⌜True⌝ ∗ holds d i mS f) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0 ∗ semVal ((thr d i), SemLoc.dma cc0_scoped7.sem) 0))) (by ac_rfl) ?_
  refine scoreC (m := mC) 2 rfl (fun t => phase2 X _ _ iota_val t) ?_
  refine permC (B := iprop((Done X d i 2 ∗ (mO.view.loc (thr d i) ↦[tileToks i]{fullShare} (posOut X i p0 2)) ∗ semVal ((thr d i), SemLoc.dma cc0_scoped6.sem) 0) ∗ Owing d i O Wt ∗ (Idle (n := 64) (N := 256) d i mC cc0_scratch11.sem mT qc (half 0) W (fT X i) ∗ Pend (n := 64) (N := 256) d i mD cc0_scratch12.sem mD.view.dmaCredit mT qd (half 1) W (fT X i) (rowsOf X.wRow (tgtL X i) (64 * 3)) ∗ semVal ((thr d i), SemLoc.dma cc0_scoped5.sem) 0 ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped7.sem) 0))) (by ac_rfl) ?_
  have ho2 : k0_off16 i 128#32 0 = tb i + 64 * 2 := congrFun (k0_off16_eq i 2) 0
  refine copyOutC (X := X) (g0 := p0) 2 (by decide) (off := k0_off16 i 128#32) (inb := k0_off16_inb i 2) (sem := cc0_scoped6.sem) ho2 ?_
  refine permC (B := iprop((Pend (n := 64) (N := 256) d i mD cc0_scratch12.sem mD.view.dmaCredit mT qd (half 1) W (fT X i) (rowsOf X.wRow (tgtL X i) (64 * 3)) ∗ anyP d i ∗ holds d i mH (hTile X i)) ∗ Owing d i O Wt ∗ ((mO.view.loc (thr d i) ↦[tileToks i]{fullShare} (posOut X i p0 3)) ∗ Idle (n := 64) (N := 256) d i mC cc0_scratch11.sem mT qc (half 0) W (fT X i) ∗ semVal ((thr d i), SemLoc.dma cc0_scoped5.sem) 0 ∗ (∃ f, ⌜True⌝ ∗ holds d i mS f) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0 ∗ semVal ((thr d i), SemLoc.dma cc0_scoped7.sem) 0))) (by ac_rfl) ?_
  refine scoreC (m := mD) 3 rfl (fun t => phase3 X _ _ iota_val t) ?_
  refine pureC ?_
  refine permC (B := iprop((Done X d i 3 ∗ (mO.view.loc (thr d i) ↦[tileToks i]{fullShare} (posOut X i p0 3)) ∗ semVal ((thr d i), SemLoc.dma cc0_scoped7.sem) 0) ∗ Owing d i O Wt ∗ (Idle (n := 64) (N := 256) d i mD cc0_scratch12.sem mT qd (half 1) W (fT X i) ∗ Idle (n := 64) (N := 256) d i mC cc0_scratch11.sem mT qc (half 0) W (fT X i) ∗ semVal ((thr d i), SemLoc.dma cc0_scoped5.sem) 0 ∗ (∃ f, ⌜True⌝ ∗ holds d i mS f) ∗ holds d i mH (hTile X i) ∗ Idle (n := 128) (N := 16384) d i mA cc0_scratch9.sem mN qa (half 0) W (fN X i) ∗ Idle (n := 128) (N := 16384) d i mB cc0_scratch10.sem mN qb (half 1) W (fN X i) ∗ (mQ.view.loc (thr d i) ↦[tileRows i]{fullShare} (negOut X i q0 (64 / 16))) ∗ semVal ((thr d i), SemLoc.dma cc0_scoped3.sem) 0 ∗ ((gSrc i).view.loc (thr d i) ↦[(gSrc i).view.set]{fullShare} X.g) ∗ semVal ((thr d i), SemLoc.dma cc0_scoped2.sem) 0 ∗ ((tSrc i).view.loc (thr d i) ↦[(tSrc i).view.set]{fullShare} X.t) ∗ semVal ((thr d i), SemLoc.dma cc0_scoped1.sem) 0 ∗ ((hSrc i).view.loc (thr d i) ↦[(hSrc i).view.set]{fullShare} X.h) ∗ semVal ((thr d i), SemLoc.dma cc0_scoped0.sem) 0 ∗ semVal ((thr d i), SemLoc.dma cc0_scoped4.sem) 0 ∗ semVal ((thr d i), SemLoc.dma cc0_scoped6.sem) 0))) (by ac_rfl) ?_
  have ho3 : k0_off16 i 192#32 0 = tb i + 64 * 3 := congrFun (k0_off16_eq i 3) 0
  refine copyOutC (X := X) (g0 := p0) 3 (by decide) (off := k0_off16 i 192#32) (inb := k0_off16_inb i 3) (sem := cc0_scoped7.sem) ho3 ?_
  refine retC ?_
  exact permC (B := iprop(((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ Idle (n := 128) (N := 16384) d i mA cc0_scratch9.sem mN qa (half 0) W (fN X i) ∗ Idle (n := 128) (N := 16384) d i mB cc0_scratch10.sem mN qb (half 1) W (fN X i) ∗ Idle (n := 64) (N := 256) d i mC cc0_scratch11.sem mT qc (half 0) W (fT X i) ∗ Idle (n := 64) (N := 256) d i mD cc0_scratch12.sem mT qd (half 1) W (fT X i) ∗ holds d i mH (hTile X i) ∗ (∃ f, ⌜True⌝ ∗ holds d i mS f) ∗ anyP d i ∗ (mO.view.loc (thr d i) ↦[tileToks i]{fullShare} (posOut X i p0 4)) ∗ (mQ.view.loc (thr d i) ↦[tileRows i]{fullShare} (negOut X i q0 (64 / 16))) ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ Owing d i O Wt)) (by ac_rfl) .rfl

end Cert.Proof.Score
end
-- ==== Proof.TileRun.lean ====
/- A tile from the launch to its end: the buffers and semaphores it owns opened for the body and closed after it. -/
module

public import proofs.«01_k».proof.Proof.Body

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.SparseCore.Cfg (ownBufs ownSems0 ownCells ownRefs mem_ownCells mem_ownRefs)

/-- Listed members of a finite collection of resources, apart from the rest. -/
theorem peel {ι : Type} [DecidableEq ι] (Φ : ι → sProp (MM F)) : ∀ (l : List ι) (s : Finset ι), l.Nodup → (∀ x ∈ l, x ∈ s) →
    ∃ R, (bigSep s Φ : sProp (MM F)) = l.foldr (fun x A => iprop(Φ x ∗ A)) R
  | [], s, _, _ => ⟨_, rfl⟩
  | a :: l, s, hn, hm => by
    obtain ⟨R, hR⟩ := peel Φ l (s.erase a) (List.nodup_cons.mp hn).2 fun x hx =>
      Finset.mem_erase.mpr ⟨fun e => (List.nodup_cons.mp hn).1 (e ▸ hx), hm x (List.mem_cons_of_mem _ hx)⟩
    exact ⟨R, by rw [SparseCore.bigSep_erase' (hm a List.mem_cons_self), hR]; rfl⟩

variable {d : Dev nD} {i : grid0.Coords}

/-- A tile's nine scratch buffers, among all it owns. -/
theorem bufs_open : ∃ R : sProp (MM F), (scopedBufs (thr d i) : sProp (MM F)) = iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ R) := by
  have hn : ([cc0_scratch0, cc0_scratch1, cc0_scratch2, cc0_scratch3, cc0_scratch4, cc0_scratch5, cc0_scratch6, cc0_scratch7, cc0_scratch8] : List (Ref sig .scVector)).Nodup := by decide
  obtain ⟨R, hR⟩ := peel (F := F) (fun b => iprop(∃ f, (((thr d i).1, b) : Loc nD τ sig) ↦{fullShare} f))
    (List.map (thr d i).2.devRef [cc0_scratch0, cc0_scratch1, cc0_scratch2, cc0_scratch3, cc0_scratch4, cc0_scratch5, cc0_scratch6, cc0_scratch7, cc0_scratch8])
    (ownRefs (thr d i).2) (hn.map (Proc.devRef_injective _)) (by
      intro x hx
      obtain ⟨b, hb, rfl⟩ := List.mem_map.mp hx
      refine SparseCore.Cfg.mem_ownRefs_of_owner ?_
      fin_cases hb <;> rfl)
  exact ⟨R, ((K (F := F)).scopedBufs_V facts d _ _).trans hR⟩

/-- A tile's twelve transfer semaphores, among all it owns. -/
theorem sems_open : ∃ R : sProp (MM F), (scopedSems0 (thr d i) : sProp (MM F)) = iprop(semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ R) := by
  have hn : ([SemLoc.dma cc0_scratch9.sem, .dma cc0_scratch10.sem, .dma cc0_scratch11.sem, .dma cc0_scratch12.sem, .dma cc0_scoped0.sem, .dma cc0_scoped1.sem,
    .dma cc0_scoped2.sem, .dma cc0_scoped3.sem, .dma cc0_scoped4.sem, .dma cc0_scoped5.sem, .dma cc0_scoped6.sem, .dma cc0_scoped7.sem] : List (SemLoc sig)).Nodup := by decide
  have hs : ∀ s ∈ ([SemLoc.dma cc0_scratch9.sem, .dma cc0_scratch10.sem, .dma cc0_scratch11.sem, .dma cc0_scratch12.sem, .dma cc0_scoped0.sem, .dma cc0_scoped1.sem,
    .dma cc0_scoped2.sem, .dma cc0_scoped3.sem, .dma cc0_scoped4.sem, .dma cc0_scoped5.sem, .dma cc0_scoped6.sem, .dma cc0_scoped7.sem] : List (SemLoc sig)), s.isScoped .scVector = true := by decide
  obtain ⟨R, hR⟩ := peel (F := F) (fun g => semVal g 0)
    (List.map (Prod.mk (thr d i)) [SemLoc.dma cc0_scratch9.sem, .dma cc0_scratch10.sem, .dma cc0_scratch11.sem, .dma cc0_scratch12.sem, .dma cc0_scoped0.sem, .dma cc0_scoped1.sem,
    .dma cc0_scoped2.sem, .dma cc0_scoped3.sem, .dma cc0_scoped4.sem, .dma cc0_scoped5.sem, .dma cc0_scoped6.sem, .dma cc0_scoped7.sem])
    (ownCells (thr d i)) (hn.map (Prod.mk_right_injective _)) (by
      intro x hx
      obtain ⟨s, hb, rfl⟩ := List.mem_map.mp hx
      exact mem_ownCells.mpr ⟨rfl, hs s hb⟩)
  exact ⟨R, (SparseCore.Cfg.scopedSems0_V (Val := Elt F) d _ _).trans hR⟩

/-! ## A scratch buffer, as the body holds it and back -/

theorem anyV {s : Shape} {e : EltTy} {b : Ref sig .scVector} (m : Memref sig .scVector .vmem s e) (hm : m.view.set = Finset.univ)
    (f : Buf (Elt F) (m.view.loc (thr d i))) : (m.view.loc (thr d i) ↦{fullShare} f : sProp (MM F)) = (m.view.loc (thr d i) ↦[m.view.set]{fullShare} f) := by rw [hm]

theorem toChunk {n : ℕ} {m : Memref sig .scVector .vmem (S2d n 128) .f32} (hm : m.view.set = Finset.univ) :
    iprop(∃ f, m.view.loc (thr d i) ↦{fullShare} f) ⊢ (iprop(∃ V, chunk d i m V) : sProp (MM F)) := by
  iintro ⟨%f, H⟩
  iexists fun r c => if h : r < n then m.view.read (Elt F) f (at2 ⟨r, h⟩ c) else zero32
  unfold chunk
  iexists f
  isplitr
  · ipureintro; intro r c; simp only [r.isLt, dif_pos]
  · rw [hm]; iexact H

theorem ofChunk {n : ℕ} {m : Memref sig .scVector .vmem (S2d n 128) .f32} (hm : m.view.set = Finset.univ) :
    (iprop(∃ V, chunk d i m V) : sProp (MM F)) ⊢ iprop(∃ f, m.view.loc (thr d i) ↦{fullShare} f) := by
  unfold chunk
  iintro ⟨%V, %f, -, H⟩
  iexists f
  rw [hm]; iexact H

theorem ofHolds {s : Shape} {e : EltTy} {m : Memref sig .scVector .vmem s e} (hm : m.view.set = Finset.univ) {g : s.Idx → Elt F e} :
    (holds d i m g : sProp (MM F)) ⊢ iprop(∃ f, m.view.loc (thr d i) ↦{fullShare} f) := by
  unfold holds
  iintro ⟨%f, -, H⟩
  iexists f
  rw [hm]; iexact H

theorem toHolds {s : Shape} {e : EltTy} {m : Memref sig .scVector .vmem s e} (hm : m.view.set = Finset.univ) (f : Buf (Elt F) (m.view.loc (thr d i))) :
    (m.view.loc (thr d i) ↦{fullShare} f : sProp (MM F)) ⊢ holds d i m (m.view.read (Elt F) f) := by
  unfold holds
  iintro H
  iexists f
  isplitr
  · ipureintro; rfl
  · rw [hm]; iexact H

/-- A tile's share of the table in the four parts its fetches take. -/
theorem quarters (q : PosShare TreeShare) (W : Buf (Elt F) (srcW.view.loc (thr d i))) :
    (wSh d i q W : sProp (MM F)) = iprop((wSh d i (pieceOf (pieceOf q 2 (by decide) 0) 2 (by decide) 0) W ∗ wSh d i (pieceOf (pieceOf q 2 (by decide) 0) 2 (by decide) 1) W)
      ∗ (wSh d i (pieceOf (pieceOf q 2 (by decide) 1) 2 (by decide) 0) W ∗ wSh d i (pieceOf (pieceOf q 2 (by decide) 1) 2 (by decide) 1) W)) := by
  have two (r : PosShare TreeShare) : (wSh d i r W : sProp (MM F)) = iprop(wSh d i (pieceOf r 2 (by decide) 0) W ∗ wSh d i (pieceOf r 2 (by decide) 1) W) :=
    (pointsTo_piecesOf _ W (by decide) r).trans (bigSep_fin_two _)
  rw [← two, ← two, ← two]

/-! ## The tile, launched -/

/-- What a tile is handed and hands back: its rows of the inputs, its share of the table, its part of the two outputs. -/
abbrev tilePts (X : Ins F) (d : Dev nD) (i : grid0.Coords) (q : PosShare TreeShare) (p : S8192.Idx → F .f32) (n : S8192x64.Idx → F .f32) : sProp (MM F) :=
  iprop(((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ wSh d i q X.w ∗ (mO.view.loc (thr d i) ↦[tileToks i]{fullShare} p) ∗ (mQ.view.loc (thr d i) ↦[tileRows i]{fullShare} n))

theorem frameC {α : Type} {P : TP F i α} {Q Q' : α → sProp (MM F)} {A R : sProp (MM F)} (h : A ⊢ wpT d i P Q) (hq : ∀ a, iprop(Q a ∗ R) ⊢ Q' a) :
    iprop(A ∗ R) ⊢ wpT d i P Q' := by
  refine (sep_mono h .rfl).trans (BI.Entails.trans ?_ (wp_mono frame _ _ hq))
  exact wp_frame_r frame _ _

variable {O : CellTallies nD τ sig (HIx 1)} {Wt : Waits sig (HIx 1)}

theorem copiesIn (X : Ins F) (q : PosShare TreeShare) (p0 : S8192.Idx → F .f32) (q0 : S8192x64.Idx → F .f32) (R S : sProp (MM F)) :
    iprop(tilePts X d i q p0 q0 ∗ ((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ R) ∗ (semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ S) ∗ Owing d i O Wt)
      ⊢ iprop(∃ fh ft fn f, (((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ wSh d i (pieceOf (pieceOf q 2 (by decide) 0) 2 (by decide) 0) X.w ∗ wSh d i (pieceOf (pieceOf q 2 (by decide) 0) 2 (by decide) 1) X.w ∗ wSh d i (pieceOf (pieceOf q 2 (by decide) 1) 2 (by decide) 0) X.w ∗ wSh d i (pieceOf (pieceOf q 2 (by decide) 1) 2 (by decide) 1) X.w ∗ (mH.view.loc (thr d i) ↦[mH.view.set]{fullShare} fh) ∗ (mT.view.loc (thr d i) ↦[mT.view.set]{fullShare} ft) ∗ (mN.view.loc (thr d i) ↦[mN.view.set]{fullShare} fn) ∗ (∃ V, chunk (n := 128) d i mA V) ∗ (∃ V, chunk (n := 128) d i mB V) ∗ (∃ V, chunk (n := 64) d i mC V) ∗ (∃ V, chunk (n := 64) d i mD V) ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ holds d i mS f ∗ anyP d i ∗ (mO.view.loc (thr d i) ↦[tileToks i]{fullShare} p0) ∗ (mQ.view.loc (thr d i) ↦[tileRows i]{fullShare} q0) ∗ Owing d i O Wt) ∗ (R ∗ S)) := by
  iintro ⟨⟨Hh, Ht, Hg, HW, Ho, Hq⟩, ⟨⟨%fh, B0⟩, ⟨%ft, B1⟩, ⟨%fn, B2⟩, B3, B4, B5, B6, ⟨%fp, B7⟩, ⟨%fs, B8⟩, HR⟩, ⟨G0, G1, G2, G3, S0, S1, S2, S3, S4, S5, S6, S7, HS⟩, Hw⟩
  ihave HW4 := (Entails.of_eq (quarters q X.w)) $$ HW
  icases HW4 with ⟨⟨Wa, Wb⟩, ⟨Wc, Wd⟩⟩
  iexists fh
  iexists ft
  iexists fn
  iexists mS.view.read (Elt F) fs
  isplitr [HR HS]
  · isplitl [Hh]; · iexact Hh
    isplitl [Ht]; · iexact Ht
    isplitl [Hg]; · iexact Hg
    isplitl [Wa]; · iexact Wa
    isplitl [Wb]; · iexact Wb
    isplitl [Wc]; · iexact Wc
    isplitl [Wd]; · iexact Wd
    isplitl [B0]; · rw [show mH.view.set = Finset.univ from View.set_whole _]; iexact B0
    isplitl [B1]; · rw [show mT.view.set = Finset.univ from View.set_whole _]; iexact B1
    isplitl [B2]; · rw [show mN.view.set = Finset.univ from View.set_whole _]; iexact B2
    isplitl [B3]; · iapply (toChunk (n := 128) (m := mA) (View.set_whole _)); iexact B3
    isplitl [B4]; · iapply (toChunk (n := 128) (m := mB) (View.set_whole _)); iexact B4
    isplitl [B5]; · iapply (toChunk (n := 64) (m := mC) (View.set_whole _)); iexact B5
    isplitl [B6]; · iapply (toChunk (n := 64) (m := mD) (View.set_whole _)); iexact B6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [G0]; · iexact G0
    isplitl [G1]; · iexact G1
    isplitl [G2]; · iexact G2
    isplitl [G3]; · iexact G3
    isplitl [B8]; · iapply (toHolds (m := mS) (View.set_whole _) fs); iexact B8
    isplitl [B7]
    · unfold anyP; iexists (mP.view.read (Elt F) fp); isplitr; · ipureintro; trivial
      iapply (toHolds (m := mP) (View.set_whole _) fp); iexact B7
    isplitl [Ho]; · iexact Ho
    isplitl [Hq]; · iexact Hq
    iexact Hw
  · isplitl [HR]; · iexact HR
    iexact HS

theorem copiesOut (X : Ins F) (q : PosShare TreeShare) (p0 : S8192.Idx → F .f32) (q0 : S8192x64.Idx → F .f32) (R S : sProp (MM F)) :
    iprop((((hSrc i).view.loc (thr d i) ↦[(hSrc i).view.set]{fullShare} X.h) ∗ ((tSrc i).view.loc (thr d i) ↦[(tSrc i).view.set]{fullShare} X.t) ∗ ((gSrc i).view.loc (thr d i) ↦[(gSrc i).view.set]{fullShare} X.g) ∗ Idle (n := 128) (N := 16384) d i mA cc0_scratch9.sem mN (pieceOf (pieceOf q 2 (by decide) 0) 2 (by decide) 0) (half 0) X.w (fN X i) ∗ Idle (n := 128) (N := 16384) d i mB cc0_scratch10.sem mN (pieceOf (pieceOf q 2 (by decide) 0) 2 (by decide) 1) (half 1) X.w (fN X i) ∗ Idle (n := 64) (N := 256) d i mC cc0_scratch11.sem mT (pieceOf (pieceOf q 2 (by decide) 1) 2 (by decide) 0) (half 0) X.w (fT X i) ∗ Idle (n := 64) (N := 256) d i mD cc0_scratch12.sem mT (pieceOf (pieceOf q 2 (by decide) 1) 2 (by decide) 1) (half 1) X.w (fT X i) ∗ holds d i mH (hTile X i) ∗ (∃ f, ⌜True⌝ ∗ holds d i mS f) ∗ anyP d i ∗ (mO.view.loc (thr d i) ↦[tileToks i]{fullShare} (posOut X i p0 4)) ∗ (mQ.view.loc (thr d i) ↦[tileRows i]{fullShare} (negOut X i q0 (64 / 16))) ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ Owing d i O Wt) ∗ (R ∗ S))
      ⊢ iprop(tilePts X d i q (posOut X i p0 4) (negOut X i q0 (64 / 16)) ∗ ((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ R) ∗ (semVal ((thr d i), SemLoc.dma cc0_scratch9.sem) 0 ∗ semVal ((thr d i), SemLoc.dma cc0_scratch10.sem) 0 ∗ semVal ((thr d i), SemLoc.dma cc0_scratch11.sem) 0 ∗ semVal ((thr d i), SemLoc.dma cc0_scratch12.sem) 0 ∗ semVal ((thr d i), SemLoc.dma cc0_scoped0.sem) 0 ∗ semVal ((thr d i), SemLoc.dma cc0_scoped1.sem) 0 ∗ semVal ((thr d i), SemLoc.dma cc0_scoped2.sem) 0 ∗ semVal ((thr d i), SemLoc.dma cc0_scoped3.sem) 0 ∗ semVal ((thr d i), SemLoc.dma cc0_scoped4.sem) 0 ∗ semVal ((thr d i), SemLoc.dma cc0_scoped5.sem) 0 ∗ semVal ((thr d i), SemLoc.dma cc0_scoped6.sem) 0 ∗ semVal ((thr d i), SemLoc.dma cc0_scoped7.sem) 0 ∗ S) ∗ Owing d i O Wt) := by
  unfold Idle
  iintro ⟨⟨Hh, Ht, Hg, ⟨B3, Wa, N0, G0⟩, ⟨B4, Wb, N1, G1⟩, ⟨B5, Wc, T0, G2⟩, ⟨B6, Wd, T1, G3⟩, B0, ⟨%fs, -, B8⟩, HP, Ho, Hq, S0, S1, S2, S3, S4, S5, S6, S7, Hw⟩, HR, HS⟩
  isplitl [Hh Ht Hg Wa Wb Wc Wd Ho Hq]
  · isplitl [Hh]; · iexact Hh
    isplitl [Ht]; · iexact Ht
    isplitl [Hg]; · iexact Hg
    isplitl [Wa Wb Wc Wd]
    · iapply (Entails.of_eq (quarters q X.w).symm)
      isplitl [Wa Wb]
      · isplitl [Wa]; · iexact Wa
        iexact Wb
      · isplitl [Wc]; · iexact Wc
        iexact Wd
    isplitl [Ho]; · iexact Ho
    iexact Hq
  isplitr [G0 G1 G2 G3 S0 S1 S2 S3 S4 S5 S6 S7 HS Hw]
  · isplitl [B0]; · iapply (ofHolds (m := mH) (View.set_whole _)); iexact B0
    isplitl [T0 T1]
    · iexists fT X i
      rw [anyV (b := cc0_scratch1) mT (View.set_whole _), halves]
      isplitl [T0]; · iexact T0
      iexact T1
    isplitl [N0 N1]
    · iexists fN X i
      rw [anyV (b := cc0_scratch2) mN (View.set_whole _), halves]
      isplitl [N0]; · iexact N0
      iexact N1
    isplitl [B3]; · iapply (ofChunk (n := 128) (m := mA) (View.set_whole _)); iexact B3
    isplitl [B4]; · iapply (ofChunk (n := 128) (m := mB) (View.set_whole _)); iexact B4
    isplitl [B5]; · iapply (ofChunk (n := 64) (m := mC) (View.set_whole _)); iexact B5
    isplitl [B6]; · iapply (ofChunk (n := 64) (m := mD) (View.set_whole _)); iexact B6
    isplitl [HP]
    · unfold anyP
      icases HP with ⟨%fp, -, B7⟩
      iapply (ofHolds (m := mP) (View.set_whole _)); iexact B7
    isplitl [B8]; · iapply (ofHolds (m := mS) (View.set_whole _)); iexact B8
    iexact HR
  isplitr [Hw]
  · isplitl [G0]; · iexact G0
    isplitl [G1]; · iexact G1
    isplitl [G2]; · iexact G2
    isplitl [G3]; · iexact G3
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact HS
  · iexact Hw

theorem posOut_zero (X : Ins F) (p0 : S8192.Idx → F .f32) : (mO.view.loc (thr d i) ↦[tileToks i]{fullShare} (posOut X i p0 0) : sProp (MM F)) = (mO.view.loc (thr d i) ↦[tileToks i]{fullShare} p0) := by
  refine pointsTo_congr fun x hx => ?_
  have h := (Finset.mem_filter.mp hx).2
  exact if_neg (by omega)

theorem negOut_zero (X : Ins F) (q0 : S8192x64.Idx → F .f32) : (mQ.view.loc (thr d i) ↦[tileRows i]{fullShare} (negOut X i q0 0) : sProp (MM F)) = (mQ.view.loc (thr d i) ↦[tileRows i]{fullShare} q0) := by
  refine pointsTo_congr fun x hx => ?_
  have h := (Finset.mem_filter.mp hx).2
  exact if_neg (by omega)

/-- The tile's kernel, from what the launch hands it to what it hands back. -/
theorem tile_spec (X : Ins F) (hX : X.InRange) (hW : ∀ r c, srcW.view.read (Elt F) (X.w : Buf (Elt F) (srcW.view.loc (thr d i))) (at2 r c) = X.w (at2 r c))
    (q : PosShare TreeShare) (p0 : S8192.Idx → F .f32) (q0 : S8192x64.Idx → F .f32) (hO : ∀ g, O g none = 0) :
    iprop(levAts (K (F := F)).L (K (F := F)).lev ∗ emp ∗ tilePts X d i q p0 q0 ∗ scopedBufs (thr d i) ∗ scopedSems0 (thr d i) ∗ owes (thr d i) O Wt)
      ⊢ wpT d i (cc0__score_body (F := F) i (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7) fun _ =>
        iprop(tilePts X d i q (posOut X i p0 4) (negOut X i q0 (64 / 16)) ∗ scopedBufs (thr d i) ∗ scopedSems0 (thr d i)
          ∗ ∃ W', ⌜∀ p ∈ W', p ∈ Wt ∨ p.2 = none⌝ ∗ owes (thr d i) O W') := by
  obtain ⟨R, hR⟩ := bufs_open (F := F) (d := d) (i := i)
  obtain ⟨S, hS⟩ := sems_open (F := F) (d := d) (i := i)
  rw [hR, hS]
  have hin : iprop(levAts (K (F := F)).L (K (F := F)).lev ∗ owes (thr d i) O Wt) ⊢ (Owing d i O Wt : sProp (MM F)) := by
    iintro ⟨#Hlv, HO⟩
    unfold Owing
    isplitl [HO]
    · iexists Wt
      isplitr
      · ipureintro; exact fun p hp => Or.inl hp
      · iexact HO
    · iapply ((K (F := F)).mayWaits_none (thr := thr d i) hO); iexact Hlv
  have hout : (Owing d i O Wt : sProp (MM F)) ⊢ iprop(∃ W', ⌜∀ p ∈ W', p ∈ Wt ∨ p.2 = none⌝ ∗ owes (thr d i) O W') := by
    unfold Owing
    iintro ⟨H, -⟩
    iexact H
  have e1 (B C : sProp (MM F)) : iprop(levAts (K (F := F)).L (K (F := F)).lev ∗ emp ∗ tilePts X d i q p0 q0 ∗ B ∗ C ∗ owes (thr d i) O Wt)
      ⊢ iprop(tilePts X d i q p0 q0 ∗ B ∗ C ∗ Owing d i O Wt) := by
    iintro ⟨Hl, -, Hp, Hb, Hs, HO⟩
    isplitl [Hp]; · iexact Hp
    isplitl [Hb]; · iexact Hb
    isplitl [Hs]; · iexact Hs
    iapply hin
    isplitl [Hl]; · iexact Hl
    iexact HO
  refine (e1 _ _).trans ((copiesIn (d := d) (i := i) (O := O) (Wt := Wt) X q p0 q0 R S).trans ?_)
  refine Idealize.SL.BI.Laws.exists_elim fun fh => Idealize.SL.BI.Laws.exists_elim fun ft => Idealize.SL.BI.Laws.exists_elim fun fn => Idealize.SL.BI.Laws.exists_elim fun f => ?_
  rw [← posOut_zero X, ← negOut_zero X]
  refine frameC (body_spec X hX _ _ _ _ X.w hW p0 q0 fh ft fn f) fun _ => (copiesOut X q p0 q0 R S).trans ?_
  exact sep_mono .rfl (sep_mono .rfl (sep_mono .rfl hout))

end Cert.Proof.Score
end
-- ==== Proof.Split.lean ====
/- The arrays dealt to the 32 tiles and gathered again. -/
module

public import proofs.«01_k».proof.Proof.TileRun

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable {d : Dev nD}

/-! ## Where each tile's parts lie -/

theorem mem_hSrc (i : grid0.Coords) (x : S8192x128.Idx) : x ∈ (hSrc i).view.set ↔ tb i ≤ (x 0).val ∧ (x 0).val < tb i + 256 := by
  have e : (hSrc i).view.set = (Rect.unit (s := S8192x128) (k0_off1 i) S256x128.size (k0_off1_inb i)).set := View.set_slice_whole _ _
  have h0 := (o1 i).1
  have h1 := (o1 i).2
  rw [e, Rect.mem_set_unit, ← h0]
  constructor
  · exact fun h => h 0
  · rintro h a
    match a with
    | 0 => exact h
    | 1 => exact ⟨by rw [h1]; exact Nat.zero_le _, by rw [h1]; exact (Nat.zero_add _).symm ▸ (x 1).isLt⟩

theorem mem_tSrc (i : grid0.Coords) (x : S8192.Idx) : x ∈ (tSrc i).view.set ↔ tb i ≤ (x 0).val ∧ (x 0).val < tb i + 256 := by
  have e : (tSrc i).view.set = (Rect.unit (s := S8192) (k0_off2 i) S256.size (k0_off2_inb i)).set := View.set_slice_whole _ _
  have h0 := o2 i
  rw [e, Rect.mem_set_unit, ← h0]
  constructor
  · exact fun h => h 0
  · rintro h a
    match a with
    | 0 => exact h

theorem mem_gSrc (i : grid0.Coords) (x : S524288.Idx) : x ∈ (gSrc i).view.set ↔ tb i ≤ (x 0).val / 64 ∧ (x 0).val / 64 < tb i + 256 := by
  have e : (gSrc i).view.set = (Rect.unit (s := S524288) (k0_off3 i) S16384.size (k0_off3_inb i)).set := View.set_slice_whole _ _
  have h0 := o3 i
  rw [e, Rect.mem_set_unit]
  constructor
  · intro h
    have h2 : k0_off3 i 0 ≤ (x 0).val ∧ (x 0).val < k0_off3 i 0 + 16384 := h 0
    omega
  · rintro h a
    match a with
    | 0 =>
      show k0_off3 i 0 ≤ (x 0).val ∧ (x 0).val < k0_off3 i 0 + 16384
      omega

theorem mem_tileToks (i : grid0.Coords) (x : S8192.Idx) : x ∈ tileToks i ↔ tb i ≤ (x 0).val ∧ (x 0).val < tb i + 256 := by
  unfold tileToks
  rw [Finset.mem_filter]
  exact ⟨fun h => h.2, fun h => ⟨Finset.mem_univ _, h⟩⟩
theorem mem_tileRows (i : grid0.Coords) (x : S8192x64.Idx) : x ∈ tileRows i ↔ tb i ≤ (x 0).val ∧ (x 0).val < tb i + 256 := by
  unfold tileRows
  rw [Finset.mem_filter]
  exact ⟨fun h => h.2, fun h => ⟨Finset.mem_univ _, h⟩⟩

theorem srcW_set : srcW.view.set = (Finset.univ : Finset S100000x128.Idx) := by
  have e : srcW.view.set = (Rect.unit (s := S100000x128) ![0, 0] S100000x128.size inb_S100000x128_S100000x128_0_0).set := View.set_slice_whole _ _
  rw [e]
  refine Finset.eq_univ_iff_forall.mpr fun x => Rect.mem_set_unit.mpr fun a => ?_
  match a with
  | 0 => exact ⟨Nat.zero_le _, (Nat.zero_add _).symm ▸ (x 0).isLt⟩
  | 1 => exact ⟨Nat.zero_le _, (Nat.zero_add _).symm ▸ (x 1).isLt⟩

theorem srcW_read {i : grid0.Coords} (w : (S2d 100000 128).Idx → F .f32) (r : Fin 100000) (c : Fin 128) :
    srcW.view.read (Elt F) (w : Buf (Elt F) (srcW.view.loc (thr d i))) (at2 r c) = w (at2 r c) := by
  show w ((Rect.unit (s := S100000x128) ![0, 0] S100000x128.size inb_S100000x128_S100000x128_0_0).emb (at2 r c)) = _
  refine congrArg w (eq_at2 _ _ _ ?_ ?_)
  · rw [Rect.emb_apply]
    show 0 + 1 * r.val = r.val
    omega
  · rw [Rect.emb_apply]
    show 0 + 1 * c.val = c.val
    omega

/-! ## The tiles of the grid -/

/-- Tile `s` of SparseCore `c`. -/
def at_ (c : Fin 2) (s : Fin 16) : grid0.Coords := fun
  | 0 => c
  | 1 => s
  | ⟨_ + 2, h⟩ => absurd h (Nat.not_lt.2 (Nat.le_add_left _ _))

theorem tb_at (c : Fin 2) (s : Fin 16) : tb (at_ c s) = 512 * s.val + 256 * c.val := rfl

/-- An array whose elements belong to tokens is its tiles' parts. -/
theorem deal {ℓ : Loc nD τ sig} (ρ : Idx ℓ → ℕ) (hρ : ∀ x, ρ x < 8192) (A : grid0.Coords → Finset (Idx ℓ))
    (hA : ∀ i x, x ∈ A i ↔ tb i ≤ ρ x ∧ ρ x < tb i + 256) (f : Buf (Elt F) ℓ) :
    (ℓ ↦{fullShare} f : sProp (MM F)) = bigSep Finset.univ fun c : Fin 2 => bigSep Finset.univ fun s : Fin 16 => ℓ ↦[A (at_ c s)]{fullShare} f := by
  have hd : ∀ p ∈ (Finset.univ : Finset (Fin 2 × Fin 16)), ∀ p' ∈ (Finset.univ : Finset (Fin 2 × Fin 16)), p ≠ p' → Disjoint (A (at_ p.1 p.2)) (A (at_ p'.1 p'.2)) := by
    rintro ⟨c, s⟩ - ⟨c', s'⟩ - hne
    refine Finset.disjoint_left.mpr fun x hx hx' => hne ?_
    have h1 := (hA _ x).1 hx
    have h2 := (hA _ x).1 hx'
    rw [tb_at] at h1 h2
    have hc := c.isLt
    have hc' := c'.isLt
    dsimp only at h1 h2
    exact Prod.ext (Fin.ext (by show c.val = c'.val; omega)) (Fin.ext (by show s.val = s'.val; omega))
  have hcov : (Finset.univ : Finset (Fin 2 × Fin 16)).biUnion (fun p => A (at_ p.1 p.2)) = Finset.univ := by
    refine Finset.eq_univ_iff_forall.mpr fun x => Finset.mem_biUnion.mpr ?_
    have hx := hρ x
    refine ⟨(⟨ρ x / 256 % 2, by omega⟩, ⟨ρ x / 512, by omega⟩), Finset.mem_univ _, (hA _ x).2 ?_⟩
    rw [tb_at]
    dsimp only
    omega
  rw [← bigSep_univ_prod (fun p : Fin 2 × Fin 16 => (ℓ ↦[A (at_ p.1 p.2)]{fullShare} f : sProp (MM F))),
    ← pointsTo_biUnion Finset.univ (ℓ := ℓ) (fun p : Fin 2 × Fin 16 => A (at_ p.1 p.2)) hd, hcov]

/-- A tile's share of the table. -/
def tileShare (c : Fin 2) (s : Fin 16) : PosShare TreeShare := pieceOf (pieceOf fullShare 2 (by decide) c) 16 (by decide) s

theorem dealShares {ℓ : Loc nD τ sig} (f : Buf (Elt F) ℓ) :
    (ℓ ↦{fullShare} f : sProp (MM F)) = bigSep Finset.univ fun c : Fin 2 => bigSep Finset.univ fun s : Fin 16 => ℓ ↦{tileShare c s} f := by
  rw [pointsTo_piecesOf _ f (show 0 < 2 by decide) fullShare]
  exact bigSep_congr fun c _ => pointsTo_piecesOf _ f (show 0 < 16 by decide) _

/-- The call's operands and results, whole. -/
abbrev wholePts (X : Ins F) (d : Dev nD) (p : S8192.Idx → F .f32) (n : S8192x64.Idx → F .f32) : sProp (MM F) :=
  iprop((hLoc d ↦{fullShare} X.h) ∗ (tLoc d ↦{fullShare} X.t) ∗ (gLoc d ↦{fullShare} X.g) ∗ (wLoc d ↦{fullShare} X.w) ∗ (pLoc d ↦{fullShare} p) ∗ (qLoc d ↦{fullShare} n))

/-- They are the tiles' parts. -/
theorem tiles_eq (X : Ins F) (p : S8192.Idx → F .f32) (n : S8192x64.Idx → F .f32) :
    (bigSep Finset.univ fun c : Fin 2 => bigSep Finset.univ fun s : Fin 16 => tilePts X d (at_ c s) (tileShare c s) p n) = wholePts X d p n := by
  simp only [tilePts, wholePts, bigSep_sep']
  rw [deal (ℓ := hLoc d) (fun x : S8192x128.Idx => (x 0).val) (fun x => (x 0).isLt) (fun i => (hSrc i).view.set) mem_hSrc X.h,
    deal (ℓ := tLoc d) (fun x : S8192.Idx => (x 0).val) (fun x => (x 0).isLt) (fun i => (tSrc i).view.set) mem_tSrc X.t,
    deal (ℓ := gLoc d) (fun x : S524288.Idx => (x 0).val / 64) (fun x => by have : (x 0).val < 524288 := (x 0).isLt; omega) (fun i => (gSrc i).view.set) mem_gSrc X.g,
    dealShares (ℓ := wLoc d) X.w,
    deal (ℓ := pLoc d) (fun x : S8192.Idx => (x 0).val) (fun x => (x 0).isLt) tileToks mem_tileToks p,
    deal (ℓ := qLoc d) (fun x : S8192x64.Idx => (x 0).val) (fun x => (x 0).isLt) tileRows mem_tileRows n]
  have e (c : Fin 2) (s : Fin 16) : (wSh d (at_ c s) (tileShare c s) X.w : sProp (MM F)) = (wLoc d ↦{tileShare c s} X.w) := by
    unfold wSh
    rw [srcW_set]
  simp only [e]

/-- The scores, as the call leaves them. -/
def posAll (X : Ins F) : S8192.Idx → F .f32 := fun x => X.pos (x 0).val
def negAll (X : Ins F) : S8192x64.Idx → F .f32 := fun x => X.neg (x 0).val (x 1).val

theorem tile_done (X : Ins F) (i : grid0.Coords) (q : PosShare TreeShare) (p0 : S8192.Idx → F .f32) (q0 : S8192x64.Idx → F .f32) :
    (tilePts X d i q (posOut X i p0 4) (negOut X i q0 (64 / 16)) : sProp (MM F)) = tilePts X d i q (posAll X) (negAll X) := by
  have e1 : (mO.view.loc (thr d i) ↦[tileToks i]{fullShare} (posOut X i p0 4) : sProp (MM F)) = (mO.view.loc (thr d i) ↦[tileToks i]{fullShare} posAll X) :=
    pointsTo_congr fun x hx => if_pos (by have := (mem_tileToks i x).1 hx; omega)
  have e2 : (mQ.view.loc (thr d i) ↦[tileRows i]{fullShare} (negOut X i q0 (64 / 16)) : sProp (MM F)) = (mQ.view.loc (thr d i) ↦[tileRows i]{fullShare} negAll X) :=
    pointsTo_congr fun x hx => if_pos (by have := (mem_tileRows i x).1 hx; omega)
  simp only [tilePts]
  rw [e1, e2]

end Cert.Proof.Score
end
-- ==== Proof.Hand.lean ====
/- What the call hands the tiles, and what each tile makes of it. -/
module

public import proofs.«01_k».proof.Proof.Split

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What the handshakes carry -/

/-- What a tile is given: its part of the operands, the two results at `p` and `n`. -/
def tileIn (X : Dev nD → Ins F) (p : Dev nD → S8192.Idx → F .f32) (n : Dev nD → S8192x64.Idx → F .f32) (d : Dev nD) (c : Fin 2) (s : Fin 16) : sProp (MM F) :=
  tilePts (X d) d (at_ c s) (tileShare c s) (p d) (n d)
instance tileIn_storable (X : Dev nD → Ins F) (p : Dev nD → S8192.Idx → F .f32) (n : Dev nD → S8192x64.Idx → F .f32) (d : Dev nD) (c : Fin 2) (s : Fin 16) :
    BI.Storable (upEmb : UEmb _ (MM F)) (tileIn X p n d c s) := by
  unfold tileIn tilePts wSh
  infer_instance

/-- One SparseCore's tiles, together. -/
def coreIn (X : Dev nD → Ins F) (p : Dev nD → S8192.Idx → F .f32) (n : Dev nD → S8192x64.Idx → F .f32) (d : Dev nD) (c : Fin 2) : sProp (MM F) :=
  bigSep Finset.univ fun s : Fin 16 => tileIn X p n d c s
instance coreIn_storable (X : Dev nD → Ins F) (p : Dev nD → S8192.Idx → F .f32) (n : Dev nD → S8192x64.Idx → F .f32) (d : Dev nD) (c : Fin 2) :
    BI.Storable (upEmb : UEmb _ (MM F)) (coreIn X p n d c) := by
  unfold coreIn
  infer_instance

variable (X : Dev nD → Ins F) (p0 : Dev nD → S8192.Idx → F .f32) (n0 : Dev nD → S8192x64.Idx → F .f32)

/-- The one call hands each tile its part and takes it back with the scores in place. -/
def P : (K (F := F)).Pay (nD := nD) (Val := Elt F) (Name := ℕ) (U := UU) where
  st := fun q d c => match q with | 0 => coreIn X p0 n0 d ⟨c.val, c.isLt⟩
  dn := fun q d c => match q with | 0 => coreIn X (fun d => posAll (X d)) (fun d => negAll (X d)) d ⟨c.val, c.isLt⟩
  go := fun q d c i => match q with | 0 => tileIn X p0 n0 d ⟨c.val, c.isLt⟩ ⟨i.val, i.isLt⟩
  td := fun q d c i => match q with | 0 => tileIn X (fun d => posAll (X d)) (fun d => negAll (X d)) d ⟨c.val, c.isLt⟩ ⟨i.val, i.isLt⟩
  x := fun _ _ => iprop(emp)

instance P_storable : (P X p0 n0).IsStorable where
  st q d c := match q with
    | 0 => coreIn_storable X p0 n0 d ⟨c.val, c.isLt⟩
  dn q d c := match q with
    | 0 => coreIn_storable X (fun d => posAll (X d)) (fun d => negAll (X d)) d ⟨c.val, c.isLt⟩
  go q d c i := match q with
    | 0 => tileIn_storable X p0 n0 d ⟨c.val, c.isLt⟩ ⟨i.val, i.isLt⟩
  td q d c i := match q with
    | 0 => tileIn_storable X (fun d => posAll (X d)) (fun d => negAll (X d)) d ⟨c.val, c.isLt⟩ ⟨i.val, i.isLt⟩

/-! ## A tile's task -/

theorem defs₀_tile (c : Fin τ.nSC) (s : Fin τ.nSub) :
    defs₀ (F := F) (.scVector c s) 0 () = SparseCore.onTile hcore0 hsub0 (fun c s => cc0__score_body (at_ c s) (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7) ⟨⟩ c s := rfl

/-- A tile records no wait of the handshake's. -/
theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]
  · iexact HA
  isplitl [HB]
  · iexact HB
  isplitl [HC]
  · iexact HC
  iexists W'
  isplitr
  · ipureintro
    intro p hp
    rcases h p hp with h | h
    · exact Or.inl h
    · exact Or.inr (Or.inl h)
  iexact HO

theorem tile_task (hX : ∀ d, (X d).InRange) (d : Dev nD) (c : Fin 2) (s : Fin 16) (O : CellTallies nD τ sig (HIx 1)) (W : Waits sig (HIx 1)) (hO : ∀ g, O g none = 0) :
    iprop(levAts (K (F := F)).L (K (F := F)).lev ∗ emp ∗ tileIn X p0 n0 d c s
        ∗ scopedBufs (thr d (at_ c s)) ∗ scopedSems0 (thr d (at_ c s)) ∗ owes (thr d (at_ c s)) O W)
      ⊢ wpT d (at_ c s) (cc0__score_body (F := F) (at_ c s) (Memref.whole main_arg3_scv) (Memref.isWhole_whole _) (Memref.whole main_arg0_scv) (Memref.isWhole_whole _) (Memref.whole main_arg1_scv) (Memref.isWhole_whole _) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scoped0 cc0_scoped1 cc0_scoped2 cc0_scoped3 cc0_scoped4 cc0_scoped5 cc0_scoped6 cc0_scoped7) fun _ =>
        iprop(tileIn X (fun d => posAll (X d)) (fun d => negAll (X d)) d c s ∗ scopedBufs (thr d (at_ c s)) ∗ scopedSems0 (thr d (at_ c s))
          ∗ ∃ W', ⌜∀ p ∈ W', p ∈ W ∨ p.2 = none ∨ p.2 = some (0 : Fin 1)⌝ ∗ owes (thr d (at_ c s)) O W') := by
  refine (tile_spec (X d) (hX d) (fun r c' => srcW_read (i := at_ c s) (X d).w r c') (tileShare c s) (p0 d) (n0 d) hO).trans (wp_mono frame _ _ fun _ => ?_)
  rw [tile_done]
  exact waits_weaken

set_option maxRecDepth 16384 in
theorem tileObl (hX : ∀ d, (X d).InRange) : (K (F := F)).TileObl (D (F := F)) 𝒱 (P X p0 n0) v₀ 0 := by
  intro d c i O W hO _ _
  simp only [show (P X p0 n0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact tile_task X p0 n0 hX d ⟨c.val, c.isLt⟩ ⟨i.val, i.isLt⟩ O W hO

/-! ## The call's operands and results, dealt and gathered -/

theorem vecSplit : (K (F := F)).VecSplit' (P X p0 n0) 0 := by
  intro d c
  show coreIn X p0 n0 d ⟨c.val, c.isLt⟩ ⊢ |={Set.univ}=> iprop(coreIn X p0 n0 d ⟨c.val, c.isLt⟩
      ∗ (coreIn X (fun d => posAll (X d)) (fun d => negAll (X d)) d ⟨c.val, c.isLt⟩ -∗ coreIn X (fun d => posAll (X d)) (fun d => negAll (X d)) d ⟨c.val, c.isLt⟩))
  iintro H
  imodintro
  isplitl [H]
  · iexact H
  iintro H
  iexact H

theorem starts_eq (d : Dev nD) : (bigSep Finset.univ fun c : Fin ((K (F := F)).nCore 0) => (P X p0 n0).st 0 d c) = wholePts (X d) d (p0 d) (n0 d) :=
  tiles_eq (X d) (p0 d) (n0 d)
theorem dones_eq (d : Dev nD) : (bigSep Finset.univ fun c : Fin ((K (F := F)).nCore 0) => (P X p0 n0).dn 0 d c) = wholePts (X d) d (posAll (X d)) (negAll (X d)) :=
  tiles_eq (X d) (posAll (X d)) (negAll (X d))

end Cert.Proof.Score
end
-- ==== Proof.Loss.lean ====
/- The loss call of the TensorCore. -/
module

public import proofs.«01_k».proof.Proof.Setup
public import Idealize.ShloMosaic.Lib.VecWindow

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.Pipeline (Dat BodyObligation)

/-! ## The loss call: what its pipeline moves and what its body computes -/

/-- The two score arrays as the loss call takes them, its result, and a bound on the waits recorded before it. -/
structure LossIn (F : FTy → Type) where
  p : S64x128.Idx → F .f32
  n : S4096x128.Idx → F .f32
  o : S1x1.Idx → F .f32
  b : ℕ

/-- The body, from its two operands staged: the result's buffer at what it computes of them. -/
noncomputable def lossRun (c : Dev nD) (f0 : Buf (Elt F) ((stage1_0 0).view.loc (c.tc : Thread nD τ))) (f1 : Buf (Elt F) ((stage1_1 0).view.loc (c.tc : Thread nD τ))) :
    { W : Buf (Elt F) ((stage1_2 0).view.loc (c.tc : Thread nD τ)) // ∀ (f2 : Buf (Elt F) ((stage1_2 0).view.loc (c.tc : Thread nD τ))) (E : Set ℕ) (Q : PUnit → sProp (MM F)),
        iprop(((stage1_0 0).view.loc (c.tc : Thread nD τ) ↦{fullShare} f0) ∗ ((stage1_1 0).view.loc (c.tc : Thread nD τ) ↦{fullShare} f1) ∗ ((stage1_2 0).view.loc (c.tc : Thread nD τ) ↦{fullShare} f2)
            ∗ (iprop(((stage1_0 0).view.loc (c.tc : Thread nD τ) ↦{fullShare} f0) ∗ ((stage1_1 0).view.loc (c.tc : Thread nD τ) ↦{fullShare} f1) ∗ ((stage1_2 0).view.loc (c.tc : Thread nD τ) ↦{fullShare} W)) -∗ Q ⟨⟩))
          ⊢ wp frame (wpE (defs₀ (F := F)) 𝒱₀ (c.tc : Thread nD τ) none) E
              (cc1__loss_body (stage1_0 0) (hstage1_0 0) (stage1_1 0) (hstage1_1 0) (stage1_2 0) (hstage1_2 0)) Q } := by
  refine ⟨?_, fun f2 E Q => ?run⟩
  case run =>
    rw [cc1__loss_body_eq_skeleton]
    unfold cc1__loss_body_skel
    iintro ⟨H0, H1, H2, Hk⟩
    sl_exec!
    sl_step
    iapply Hk
    isplitl [H0]
    · iexact H0
    isplitl [H1]
    · iexact H1
    iexact H2

theorem lossRun_val (c : Dev nD) (f0 : Buf (Elt F) ((stage1_0 0).view.loc (c.tc : Thread nD τ))) (f1 : Buf (Elt F) ((stage1_1 0).view.loc (c.tc : Thread nD τ))) :
    (lossRun c f0 f1).1 = k1_pay1 f0 f1 := by
  unfold lossRun
  dsimp only
  delta lossRun.sl.H2_1
  have h0 : View.readAt (Elt F) (stage1_0 0).view (Rect.unit (s := S64x128) ![0, 0] S64x128.size inb_S64x128_S64x128_0_0).toLoadRect f0 = f0 :=
    View.readAt_full _ _ _
  have h1 : View.readAt (Elt F) (stage1_1 0).view (Rect.unit (s := S4096x128) ![0, 0] S4096x128.size inb_S4096x128_S4096x128_0_0).toLoadRect f1 = f1 :=
    View.readAt_full _ _ _
  rw [h0, h1]
  exact View.read_writes_full (Val := Elt F) (View.whole cc1_stg2_0) _ inb_S1x1_S1x1_0_0 (k1_pay1 f0 f1) []

abbrev 𝔸 : (p : Fin 1) → (pcfgs (F := F) p).Adm := fun p => (cfgs p).toPCfg_adm

variable (Y : Dev nD → LossIn F)

/-- The pipeline's proof data: the score arrays in, the loss out. -/
def lossDat (c : Dev nD) : Dat τ (Elt F) (HIx 1) ℕ UU ℕ cfg1 c where
  A w := match w with
    | ⟨0, _⟩ => (Y c).p
    | ⟨1, _⟩ => (Y c).n
    | ⟨2, _⟩ => (Y c).o
  after w _ := match w with
    | ⟨0, _⟩ => (Y c).p
    | ⟨1, _⟩ => (Y c).n
    | ⟨2, _⟩ => k1_pay1 (Y c).p (Y c).n
  Φ _ := iprop(emp)
  q _ := fullShare
  owed _ := 0
  recorded _ := {p | (K (F := F)).lev (T c, p.1) p.2 ≤ (Y c).b}

def lossDats : (p : Fin 1) → (c : Dev nD) → Dat τ (Elt F) (HIx 1) ℕ UU ℕ (Pipeline.pin (pcfgs (F := F)) 𝔸 p) c :=
  fun | 0 => lossDat Y | ⟨_ + 1, h⟩ => absurd h (Nat.not_lt.2 (Nat.le_add_left _ _))

/-- The one block of each window is its whole array. -/
theorem blk_0 (f : S64x128.Idx → F .f32) : (win1_0.blk t1_0).view.read (Elt F) f = f :=
  Memref.read_access_unit_zero (Elt F) main_v2
    (show (fun a => (win1_0.index t1_0) a * main_v2.ty.shape.size a) = fun _ => 0 from funext fun a => by fin_cases a <;> decide)
    (fun a => by fin_cases a <;> decide) f
theorem blk_1 (f : S4096x128.Idx → F .f32) : (win1_1.blk t1_0).view.read (Elt F) f = f :=
  Memref.read_access_unit_zero (Elt F) main_v3
    (show (fun a => (win1_1.index t1_0) a * main_v3.ty.shape.size a) = fun _ => 0 from funext fun a => by fin_cases a <;> decide)
    (fun a => by fin_cases a <;> decide) f
theorem blk_2 (f : S1x1.Idx → F .f32) : (win1_2.blk t1_0).view.read (Elt F) f = f :=
  Memref.read_access_unit_zero (Elt F) main_v4
    (show (fun a => (win1_2.index t1_0) a * main_v4.ty.shape.size a) = fun _ => 0 from funext fun a => by fin_cases a <;> decide)
    (fun a => by fin_cases a <;> decide) f

theorem before_0 (c : Dev nD) (f : (cfg1.win 0).block.Idx → Elt F (cfg1.win 0).elt) : (lossDat Y c).before 0 t1_0 f = (Y c).p := by
  unfold Dat.before
  rw [if_pos (fetch1_0 t1_0)]
  exact blk_0 (F := F) _
theorem before_1 (c : Dev nD) (f : (cfg1.win 1).block.Idx → Elt F (cfg1.win 1).elt) : (lossDat Y c).before 1 t1_0 f = (Y c).n := by
  unfold Dat.before
  rw [if_pos (fetch1_1 t1_0)]
  exact blk_1 (F := F) _

/-- The body at its one point. -/
theorem loss_body (c : Dev nD) : BodyObligation (lossDat Y c) (defs₀ (F := F)) 𝒱₀ (none : HIx 1) Set.univ := fun t => by
  obtain rfl := fin_N1 t
  rw [bigSep_W1, bigSep_W1]
  simp only [owns_whole_eq]
  rw [show (lossDat Y c).Φ t1_0.castSucc = iprop(emp) from rfl, show (lossDat Y c).Φ t1_0.succ = iprop(emp) from rfl,
    show (lossDat Y c).owesAt none t1_0.succ = (lossDat Y c).owesAt none t1_0.castSucc from rfl]
  iintro ⟨-, HO, ⟨%d0, %f0, %h0, H0⟩, ⟨%d1, %f1, %h1, H1⟩, ⟨%d2, %f2, -, H2⟩⟩
  rw [before_0] at h0
  rw [before_1] at h1
  subst h0 h1
  iapply ((lossRun c (Y c).p (Y c).n).2 f2 Set.univ _)
  isplitl [H0]
  · iexact H0
  isplitl [H1]
  · iexact H1
  isplitl [H2]
  · iexact H2
  iintro ⟨H0, H1, H2⟩
  isplitr
  · iempintro
  isplitl [HO]
  · iexact HO
  isplitl [H0]
  · iexists _
    isplitr
    swap
    · iexact H0
    ipureintro
    dsimp only [lossDat]
  isplitl [H1]
  · iexists _
    isplitr
    swap
    · iexact H1
    ipureintro
    dsimp only [lossDat]
  iexists _
  isplitr
  swap
  · iexact H2
  ipureintro
  exact lossRun_val c (Y c).p (Y c).n

theorem arr_0 (c : Dev nD) (n : ℕ) : (lossDat Y c).arrAt 0 n = (Y c).p := (lossDat Y c).arrAt_in 0 rfl n
theorem arr_1 (c : Dev nD) (n : ℕ) : (lossDat Y c).arrAt 1 n = (Y c).n := (lossDat Y c).arrAt_in 1 rfl n
theorem arr_2 (c : Dev nD) : (lossDat Y c).arrAt 2 cfg1.N = k1_pay1 (Y c).p (Y c).n := by
  have hw : (win1_2.blk t1_0).view.read (Elt F) ((lossDat Y c).arrAt 2 cfg1.N) = (lossDat Y c).flushed 2 t1_0 := by
    rw [show cfg1.N = t1_0.val + 1 from N_1, (lossDat Y c).arrAt_succ 2 t1_0, flush1_2, if_pos rfl]
    exact View.read_write_univ _ _
  refine (blk_2 (F := F) _).symm.trans (hw.trans ?_)
  exact funext fun _ => rfl

end Cert.Proof.Score
end
-- ==== Proof.Region.lean ====
/- The loss call as one step of the main program. -/
module

public import proofs.«01_k».proof.Proof.Loss
public import proofs.«01_k».proof.Proof.Body

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.Pipeline (Dat BodyObligation)

/-! ## The loss call as one step of the main program -/

variable (Y : Dev nD → LossIn F)

abbrev v2Loc (d : Dev nD) : Loc nD τ sig := (d.tc : Thread nD τ).loc main_v2
abbrev v3Loc (d : Dev nD) : Loc nD τ sig := (d.tc : Thread nD τ).loc main_v3
abbrev v4Loc (d : Dev nD) : Loc nD τ sig := (d.tc : Thread nD τ).loc main_v4

/-- The three arrays of the call. -/
def lossPts (d : Dev nD) (p : S64x128.Idx → F .f32) (n : S4096x128.Idx → F .f32) (o : S1x1.Idx → F .f32) : sProp (MM F) :=
  iprop((v2Loc d ↦{fullShare} (show Buf (Elt F) (v2Loc d) from p)) ∗ (v3Loc d ↦{fullShare} (show Buf (Elt F) (v3Loc d) from n))
    ∗ v4Loc d ↦{fullShare} (show Buf (Elt F) (v4Loc d) from o))

/-- A core that owes nothing, its waits so far all at most `b` high. -/
def idle (d : Dev nD) (b : ℕ) : sProp (MM F) :=
  iprop(∃ W, ⌜(K (F := F)).WBelow (d.tc : Thread nD τ) W b⌝ ∗ owes (d.tc : Thread nD τ) (0 : CellTallies nD τ sig (HIx 1)) W)

theorem lossDat_share (c : Dev nD) (w : Fin cfg1.W) : (lossDat Y c).share w = fullShare := (lossDat Y c).share_full (fun _ => rfl) w

theorem loss_arrays (c : Dev nD) (G : (w : Fin cfg1.W) → Buf (Elt F) ((cfg1.win w).arr.view.loc (c.tc : Thread nD τ))) :
    (lossDat Y c).arrays G = lossPts c (G 0) (G 1) (G 2) := by
  unfold Dat.arrays lossPts
  rw [bigSep_W1]
  simp only [lossDat_share]
  rw [show (cfg1.win 0).arr.view.set = Finset.univ from View.set_whole _, show (cfg1.win 1).arr.view.set = Finset.univ from View.set_whole _,
    show (cfg1.win 2).arr.view.set = Finset.univ from View.set_whole _]

set_option backward.isDefEq.respectTransparency.types false in
/-- The region: in with the two score arrays, out with the loss beside them. -/
def lossReg : Pipeline.RegionSeg (pcfgs (F := F)) 𝔸 (lossDats Y) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (loss_body Y c).loose
  hwaits := Pipeline.hwaits_of_owed_zero _ _ _ _ (K (F := F)).L (K (F := F)).lev 0 fun _ _ => rfl
  pre c := iprop(lossPts c (Y c).p (Y c).n (Y c).o ∗ idle c (Y c).b)
  post c := iprop(lossPts c (Y c).p (Y c).n (k1_pay1 (Y c).p (Y c).n) ∗ idle c (Y c).b)
  X _ := iprop(emp)
  Y _ := iprop(emp)
  Z _ := iprop(emp)
  hentry c := by
    rw [Pipeline.ownSems0_none]
    have ha : (lossDats Y 0 c).arrays ((lossDats Y 0 c).arrAt · 0) = lossPts c (Y c).p (Y c).n (Y c).o := loss_arrays Y c _
    rw [ha]
    unfold idle
    iintro ⟨⟨Ha, HO⟩, -, -⟩
    imodintro
    isplitl [Ha]
    · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, %hW, HO⟩
      iexists W
      isplitr
      · ipureintro
        exact fun x hx => Or.inl (hW x hx)
      iexact HO
    isplitr
    · iempintro
    iempintro
  hin c := by
    rw [show (lossDats Y 0 c).Φ 0 = iprop(emp) from rfl]
    iintro ⟨-, -, -⟩
    iempintro
  hout c := by
    rw [Pipeline.ownSems0_none, show (lossDats Y 0 c).Φ (Fin.last _) = iprop(emp) from rfl]
    iintro -
    isplitr
    · iempintro
    isplitr
    · iempintro
    rw [show (Pipeline.scopedRest (Pipeline.pin (pcfgs (F := F)) 𝔸 0).spec c : sProp (MM F)) = iprop(emp) from scopedRest1_eq c]
    iempintro
  hexit c := by
    have ha : (lossDats Y 0 c).arrays ((lossDats Y 0 c).arrAt · cfg1.N) = lossPts c (Y c).p (Y c).n (k1_pay1 (Y c).p (Y c).n) :=
      (loss_arrays Y c _).trans (by rw [show (lossDats Y 0 c).arrAt 0 cfg1.N = (Y c).p from arr_0 Y c _,
        show (lossDats Y 0 c).arrAt 1 cfg1.N = (Y c).n from arr_1 Y c _, show (lossDats Y 0 c).arrAt 2 cfg1.N = _ from arr_2 Y c])
    iintro ⟨Ha, HO, -, -⟩
    imodintro
    isplitl [Ha]
    · rw [← ha]
      iexact Ha
    unfold idle Pipeline.Dat.owesAt Pipeline.owesWithin
    icases HO with ⟨%W, %hW, HO⟩
    iexists W
    isplitr
    · ipureintro
      intro x hx
      rcases hW hx with h | ⟨w, s, e⟩
      · exact h
      · have e2 : x.2 = none := e ▸ rfl
        rw [e2]
        exact Nat.zero_le _
    iexact HO

/-- The ghost state the loss call's pipeline starts from. -/
def G (d : Dev nD) : sProp (MM F) :=
  iprop(Pipeline.cellsGhost (Pipeline.pin (pcfgs (F := F)) 𝔸) EP 0 d ∗ Pipeline.toksInit (Pipeline.pin (pcfgs (F := F)) 𝔸) EP 0 d)

/-- The loss call under the pipeline's own table, -/
def lossEntry : Prog (TpuEff nD τ sig (Elt F) (ΛP (F := F)) .tc) PUnit.{1} := .op (.customCall (Pipeline.entry 0) ()) fun _ => .ret ⟨⟩
/-- and in the main program. -/
def lossCall : Prog (TpuEff nD τ sig (Elt F) (SparseCore.Sig (ΛP (F := F)) 1) .tc) PUnit.{1} := Prog.lift (.customCall (SparseCore.inner (Pipeline.entry 0)) ())
theorem lossCall_lift : lossCall (F := F) = SparseCore.liftProg lossEntry := rfl

theorem wp_lossEntry (d : Dev nD) (y : LossIn F) {Q : PUnit.{1} → sProp (MM F)} :
    iprop((iprop(boundary (d.tc : Thread nD τ) ∗ lossPts d y.p y.n (k1_pay1 y.p y.n) ∗ idle d y.b) -∗ wp frame (wpE (D (F := F)) 𝒱 (d.tc : Thread nD τ) none) Set.univ (.ret PUnit.unit) Q)
        ∗ boundary (d.tc : Thread nD τ) ∗ iprop(lossPts d y.p y.n y.o ∗ idle d y.b) ∗ levAts (K (F := F)).L (K (F := F)).lev
        ∗ Pipeline.cellsGhost (Pipeline.pin (pcfgs (F := F)) 𝔸) EP 0 d ∗ Pipeline.toksInit (Pipeline.pin (pcfgs (F := F)) 𝔸) EP 0 d)
      ⊢ wp frame (wpE (D (F := F)) 𝒱 (d.tc : Thread nD τ) none) Set.univ lossEntry Q := by
  have h := Pipeline.RegionSeg.wp (pcfgs (F := F)) 𝔸 (lossDats fun _ => y) (none : HIx 1) cellOf_inj EP defs₀ 𝒱₀ (K (F := F)).L (K (F := F)).lev
    (lossReg fun _ => y) d none (fun _ hu => nomatch hu) (fun _ => .ret PUnit.unit) Q
  unfold lossEntry
  exact h

/-- The loss call in the main program. -/
theorem wp_loss (d : Dev nD) (y : LossIn F) {Q : PUnit.{1} → sProp (MM F)} :
    iprop(boundary (d.tc : Thread nD τ) ∗ lossPts d y.p y.n y.o ∗ idle d y.b ∗ levAts (K (F := F)).L (K (F := F)).lev ∗ G d
        ∗ (iprop(boundary (d.tc : Thread nD τ) ∗ lossPts d y.p y.n (k1_pay1 y.p y.n) ∗ idle d y.b) -∗ Q ⟨⟩))
      ⊢ wp frame (wpE (K.defs (D (F := F))) 𝒱 (d.tc : Thread nD τ) none) Set.univ lossCall Q := by
  rw [lossCall_lift]
  refine BIBase.Entails.trans ?_ (K.wp_liftProg (D (F := F)) 𝒱 (d.tc : Thread nD τ) Set.univ none lossEntry Q)
  refine BIBase.Entails.trans ?_ (wp_lossEntry d y)
  unfold G
  iintro ⟨HB, Hp, HI, #HL, ⟨Hc, Ht⟩, Hk⟩
  isplitl [Hk]
  · iintro ⟨HB, Hp, HI⟩
    rw [wp_ret]
    imodintro
    iapply Hk
    isplitl [HB]
    · iexact HB
    isplitl [Hp]
    · iexact Hp
    iexact HI
  isplitl [HB]
  · iexact HB
  isplitl [Hp HI]
  · isplitl [Hp]
    · iexact Hp
    iexact HI
  isplitr
  · iexact HL
  isplitl [Hc]
  · iexact Hc
  iexact Ht

end Cert.Proof.Score
end
-- ==== Proof.HostStep.lean ====
/- A reshape of the main program. -/
module

public import proofs.«01_k».proof.Proof.Setup

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The main program -/

abbrev v5Loc (d : Dev nD) : Loc nD τ sig := (d.tc : Thread nD τ).loc main_v5

variable (m : (ℓ : Loc nD τ sig) → Buf (Elt F) ℓ)

/-- What a core's buffers hold, but for two of them. -/
def twoAt (d : Dev nD) (x y : Ref sig .tc) (f : Buf (Elt F) ((d.tc : Thread nD τ).loc x)) (g : Buf (Elt F) ((d.tc : Thread nD τ).loc y)) : Valuation τ sig (Elt F) :=
  Function.update (Function.update (fun b => m (d, b)) (Proc.devRef .tc x) f) (Proc.devRef .tc y) g

include m in
/-- A reshape in the main program, from the two buffers it touches. -/
theorem wp_reshape (d : Dev nD) (x y : Ref sig .tc) (he : x.ty.elt = y.ty.elt) (hn) (hx) (hy) (hne : x ≠ y)
    (f : Buf (Elt F) ((d.tc : Thread nD τ).loc x)) (g : Buf (Elt F) ((d.tc : Thread nD τ).loc y)) {Q : PUnit.{1} → sProp (MM F)} :
    iprop(boundary (d.tc : Thread nD τ) ∗ ((d.tc : Thread nD τ).loc x ↦{fullShare} f) ∗ ((d.tc : Thread nD τ).loc y ↦{fullShare} g)
        ∗ (iprop(boundary (d.tc : Thread nD τ) ∗ ((d.tc : Thread nD τ).loc x ↦{fullShare} f)
            ∗ ((d.tc : Thread nD τ).loc y ↦{fullShare} ((fun i => he ▸ shapeCast y.ty.shape f hn i : Buf (Elt F) ((d.tc : Thread nD τ).loc y))))) -∗ Q ⟨⟩))
      ⊢ wp frame (wpE (K.defs (D (F := F))) 𝒱 (d.tc : Thread nD τ) none) Set.univ
          (hlo rfl (StableHlo.reshape x y he hn hx hy) (fun _ => .ret ⟨⟩)) Q := by
  have hb : ∀ V : Valuation τ sig (Elt F), (bigSep (StableHlo.reshape (τ := τ) (Val := Elt F) x y he hn hx hy).bufs fun b => ((d.tc : Thread nD τ).1, b) ↦{fullShare} V b : sProp (MM F))
      = iprop(((d.tc : Thread nD τ).loc x ↦{fullShare} V (Proc.devRef .tc x)) ∗ ((d.tc : Thread nD τ).loc y ↦{fullShare} V (Proc.devRef .tc y))) := fun V => by
    rw [StableHlo.reshape_bufs, SparseCore.bigSep_insert' (fun e => StableHlo.devRef_ne_of_ne hne (Finset.mem_singleton.mp e)), bigSep_singleton]
  have h := wp_hlo (defs := K.defs (D (F := F))) 𝒱 (d.tc : Thread nD τ) none Set.univ (hp := rfl) (Γ := .empty) (op := StableHlo.reshape x y he hn hx hy)
    (k := fun _ => .ret PUnit.unit) (q := fun _ => fullShare) (F := twoAt m d x y f g) (Q := Q) (fun _ _ => rfl) rfl
  rw [hb, hb] at h
  rw [show twoAt m d x y f g (Proc.devRef .tc x) = f from by
      unfold twoAt
      rw [Function.update_of_ne (StableHlo.devRef_ne_of_ne hne), Function.update_self],
    show twoAt m d x y f g (Proc.devRef .tc y) = g from Function.update_self ..] at h
  rw [StableHlo.reshape_result_ne (h := hne), StableHlo.reshape_result'] at h
  rw [show twoAt m d x y f g (Proc.devRef .tc x) = f from by
      unfold twoAt
      rw [Function.update_of_ne (StableHlo.devRef_ne_of_ne hne), Function.update_self]] at h
  iintro ⟨HB, Hx, Hy, Hk⟩
  iapply h $$ [HB Hx Hy]
  · isplitl [HB]
    · iexact HB
    isplitl [Hx]
    · iexact Hx
    iexact Hy
  iintro ⟨HB, Hx, Hy⟩
  rw [wp_ret]
  imodintro
  iapply Hk
  isplitl [HB]
  · iexact HB
  isplitl [Hx]
  · iexact Hx
  iexact Hy

end Cert.Proof.Score
end
-- ==== Proof.Main.lean ====
/- The main program: a reshape, the scoring call, two reshapes, the loss call, a reshape. -/
module

public import proofs.«01_k».proof.Proof.Hand
public import proofs.«01_k».proof.Proof.Region
public import proofs.«01_k».proof.Proof.HostStep

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The main program -/

variable (m : (ℓ : Loc nD τ sig) → Buf (Elt F) ℓ)

/-- The launch's arrays on core `d`, as the scoring kernel takes them: the negatives' rows laid out in one line. -/
def insOf (d : Dev nD) : Ins F where
  h := m (hLoc d)
  t := m (tLoc d)
  g := shapeCast S524288 (show S8192x64.Idx → BitVec 32 from m (nLoc d)) shapeCasts_S8192x64_S524288
  w := m (wLoc d)

/-- The scores in the loss call's shapes, -/
def posBlk (d : Dev nD) : S64x128.Idx → F .f32 := shapeCast S64x128 (posAll (insOf m d)) shapeCasts_S8192_S64x128
def negBlk (d : Dev nD) : S4096x128.Idx → F .f32 := shapeCast S4096x128 (negAll (insOf m d)) shapeCasts_S8192x64_S4096x128
/-- and the loss of them. -/
def lossOf (d : Dev nD) : S_.Idx → F .f32 := shapeCast S_ (k1_pay1 (posBlk m d) (negBlk m d)) shapeCasts_S1x1_S_

abbrev PM : (K (F := F)).Pay (nD := nD) (Val := Elt F) (Name := ℕ) (U := UU) := P (insOf m) (fun d => m (pLoc d)) (fun d => m (qLoc d))

theorem unscopedBufs_eq (d : Dev nD) (W : (b : Ref sig .tc) → Buf (Elt F) ((d.tc : Thread nD τ).loc b)) :
    (unscopedBufs d W : sProp (MM F)) = iprop((hLoc d ↦{fullShare} W main_arg0) ∗ (tLoc d ↦{fullShare} W main_arg1) ∗ (nLoc d ↦{fullShare} W main_arg2) ∗ (wLoc d ↦{fullShare} W main_arg3)
      ∗ (gLoc d ↦{fullShare} W main_v0) ∗ (pLoc d ↦{fullShare} W main_v1_0) ∗ (qLoc d ↦{fullShare} W main_v1_1)
      ∗ (v2Loc d ↦{fullShare} W main_v2) ∗ (v3Loc d ↦{fullShare} W main_v3) ∗ (v4Loc d ↦{fullShare} W main_v4) ∗ v5Loc d ↦{fullShare} W main_v5) := by
  unfold unscopedBufs
  rw [show (Finset.univ.filter fun b : Ref sig .tc => ¬ b.isScoped) = {main_arg0, main_arg1, main_arg2, main_arg3, main_v0, main_v1_0, main_v1_1, main_v2, main_v3, main_v4, main_v5} by decide]
  iterate 10 rw [SparseCore.bigSep_insert' (by decide)]
  rw [bigSep_singleton]

/-- What the main program ends with: its arguments as they were, and the loss. -/
def FIN (d : Dev nD) : sProp (MM F) :=
  iprop((hLoc d ↦{fullShare} m (hLoc d)) ∗ (tLoc d ↦{fullShare} m (tLoc d)) ∗ (nLoc d ↦{fullShare} m (nLoc d)) ∗ (wLoc d ↦{fullShare} m (wLoc d))
    ∗ v5Loc d ↦{fullShare} (show Buf (Elt F) (v5Loc d) from lossOf m d))

/-- Between the calls the core owes nothing. -/
theorem tcSt_idle (d : Dev nD) : ∃ R : sProp (MM F), ((K (F := F)).tcSt EH d 1 : sProp (MM F)) = iprop(idle d (8 * SparseCore.Cfg.Blocks.fst 1 1 1) ∗ R) := by
  have e := (K (F := F)).Otc_end (N := 1) d (n := 1) le_rfl
  refine ⟨iprop(Rounds.atPos EH ((K (F := F)).doneCell d) 1 ∅ 0 ∗ Rounds.reached EH ((K (F := F)).doneCell d) 1
    ∗ (bigSep Finset.univ fun c : Fin τ.nSC => Rounds.reached EH ((K (F := F)).startCell d c) ((K (F := F)).sRank c 1))
    ∗ bigSep (SparseCore.Cfg.callsFrom 1) fun q => bigSep Finset.univ fun c : Fin ((K (F := F)).nCore q) =>
        iprop(Rounds.dutyTok EH ((K (F := F)).startCell d ((K (F := F)).core q c)) ((K (F := F)).sRank ((K (F := F)).core q c) q.val) 0
          ∗ cred (tallyAt ((K (F := F)).doneCell d) (some (SparseCore.Cfg.Blocks.last q)) 1))), ?_⟩
  unfold SparseCore.Cfg.tcSt idle
  rw [e]

theorem main_eq (d : Dev nD) : main (F := F) d = (do
    hlo rfl (StableHlo.reshape main_arg2 main_v0 (rfl : (.i32 : EltTy) = .i32) shapeCasts_S8192x64_S524288) (fun _ => .ret ⟨⟩)
    (K (F := F)).run d 0
    hlo rfl (StableHlo.reshape main_v1_0 main_v2 (rfl : (.f32 : EltTy) = .f32) shapeCasts_S8192_S64x128) (fun _ => .ret ⟨⟩)
    hlo rfl (StableHlo.reshape main_v1_1 main_v3 (rfl : (.f32 : EltTy) = .f32) shapeCasts_S8192x64_S4096x128) (fun _ => .ret ⟨⟩)
    lossCall
    hlo rfl (StableHlo.reshape main_v4 main_v5 (rfl : (.f32 : EltTy) = .f32) shapeCasts_S1x1_S_) (fun _ => .ret ⟨⟩)
    pure ⟨⟩) := rfl

variable (ρ : Dev nD → PrngReg)

theorem hmain (κ : GSem nD τ sig → ℕ) (d : Dev nD) :
    iprop((K (F := F)).ctx EH (PM m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_idle (F := F) d
  have hR' : ((K (F := F)).tcSt EH d ((0 : Fin 1).val + 1) : sProp (MM F)) = iprop(idle d (8 * SparseCore.Cfg.Blocks.fst 1 1 1) ∗ R) := hR
  unfold SparseCore.Cfg.tcRes SparseCore.Cfg.tcEnd
  rw [unscopedBufs_eq, main_eq]
  simp only [wp_bind]
  iintro ⟨#Hctx, Hst, ⟨Hb, ⟨Hh, Ht, Hn, Hw, Hg, Hp, Hq, H2, H3, H4, H5⟩, Hts, -⟩, HG⟩
  iapply (wp_reshape m d main_arg2 main_v0 rfl shapeCasts_S8192x64_S524288 _ _ (by decide) (m (nLoc d)) (m (gLoc d)))
  isplitl [Hb]
  · iexact Hb
  isplitl [Hn]
  · iexact Hn
  isplitl [Hg]
  · iexact Hg
  iintro ⟨Hb, Hn, Hg⟩
  iapply ((K (F := F)).wp_run (D (F := F)) 𝒱 (EH := EH) (P := PM m) κ d 0)
  isplitr
  · iexact Hctx
  isplitl [Hst]
  · iexact Hst
  isplitl [Hh Ht Hg Hw Hp Hq]
  · rw [starts_eq]
    isplitl [Hh]
    · iexact Hh
    isplitl [Ht]
    · iexact Ht
    isplitl [Hg]
    · iexact Hg
    isplitl [Hw]
    · iexact Hw
    isplitl [Hp]
    · iexact Hp
    iexact Hq
  rw [dones_eq]
  iintro ⟨Hst, Hh, Ht, -, Hw, Hp, Hq⟩
  iapply (wp_reshape m d main_v1_0 main_v2 rfl shapeCasts_S8192_S64x128 _ _ (by decide) (posAll (insOf m d)) (m (v2Loc d)))
  isplitl [Hb]
  · iexact Hb
  isplitl [Hp]
  · iexact Hp
  isplitl [H2]
  · iexact H2
  iintro ⟨Hb, -, H2⟩
  iapply (wp_reshape m d main_v1_1 main_v3 rfl shapeCasts_S8192x64_S4096x128 _ _ (by decide) (negAll (insOf m d)) (m (v3Loc d)))
  isplitl [Hb]
  · iexact Hb
  isplitl [Hq]
  · iexact Hq
  isplitl [H3]
  · iexact H3
  iintro ⟨Hb, -, H3⟩
  ihave Hst' := (BIBase.Entails.of_eq hR') $$ Hst
  icases Hst' with ⟨HI, HR⟩
  iapply (wp_loss d ⟨posBlk m d, negBlk m d, m (v4Loc d), 8 * SparseCore.Cfg.Blocks.fst 1 1 1⟩)
  isplitl [Hb]
  · iexact Hb
  isplitl [H2 H3 H4]
  · unfold lossPts
    isplitl [H2]
    · iexact H2
    isplitl [H3]
    · iexact H3
    iexact H4
  isplitl [HI]
  · iexact HI
  isplitr
  · iapply (K (F := F)).ctx_levAts κ $$ Hctx
  isplitl [HG]
  · iexact HG
  unfold lossPts
  iintro ⟨Hb, ⟨-, -, H4⟩, HI⟩
  iapply (wp_reshape m d main_v4 main_v5 rfl shapeCasts_S1x1_S_ _ _ (by decide) (k1_pay1 (posBlk m d) (negBlk m d)) (m (v5Loc d)))
  isplitl [Hb]
  · iexact Hb
  isplitl [H4]
  · iexact H4
  isplitl [H5]
  · iexact H5
  iintro ⟨Hb, -, H5⟩
  rw [wp_pure]
  imodintro
  isplitl [HI HR]
  · rw [hR]
    isplitl [HI]
    · iexact HI
    iexact HR
  isplitr [Hb Hts]
  · unfold FIN
    isplitl [Hh]
    · iexact Hh
    isplitl [Ht]
    · iexact Ht
    isplitl [Hn]
    · iexact Hn
    isplitl [Hw]
    · iexact Hw
    iexact H5
  isplitl [Hb]
  · iexact Hb
  iexact Hts

end Cert.Proof.Score
end
-- ==== Proof.Run.lean ====
/- The whole program: its launch, its run and what it ends with. -/
module

public import proofs.«01_k».proof.Proof.Main

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The whole program -/

variable (m : (ℓ : Loc nD τ sig) → Buf (Elt F) ℓ) (ρ : Dev nD → PrngReg)

/-- The handshakes' ghost state, the loss pipeline's, and no transfer counted. -/
def u₀ : UU :=
  (Rounds.initOf (K (F := F)).hsCells (K (F := F)).hsToks,
    (Rounds.initOf (Pipeline.cells (Pipeline.pin (pcfgs (F := F)) 𝔸) cellOf_inj) (Pipeline.launchToks (Pipeline.pin (pcfgs (F := F)) 𝔸) cellOf_inj), 1))

theorem ghosts_eq :
    (iprop((bigSep Finset.univ fun c : Dev nD => bigSep Finset.univ fun p : Fin 1 => Pipeline.cellsGhost (Pipeline.pin (pcfgs (F := F)) 𝔸) EP p c)
      ∗ (bigSep Finset.univ fun c : Dev nD => bigSep Finset.univ fun p : Fin 1 => Pipeline.toksInit (Pipeline.pin (pcfgs (F := F)) 𝔸) EP p c)) : sProp (MM F))
      = bigSep Finset.univ fun d : Dev nD => G d := by
  unfold G
  rw [bigSep_sep']
  congr 1
  · exact bigSep_congr fun c _ => BI.bigSep_univ_of_subsingleton (0 : Fin 1)
  · exact bigSep_congr fun c _ => BI.bigSep_univ_of_subsingleton (0 : Fin 1)

theorem hu₀ : (ownU (u₀ (F := F)) : sProp (MM F))
    ⊢ |={Set.univ}=> iprop(BI.own (EH (Rounds.initOf (K (F := F)).hsCells (K (F := F)).hsToks)) ∗ (bigSep Finset.univ fun d : Dev nD => G d)
        ∗ bigSep Finset.univ fun thr : Thread nD τ => bigSep Finset.univ fun q : Fin 1 => (PM m).x q thr) := by
  have hx : (bigSep Finset.univ fun thr : Thread nD τ => bigSep Finset.univ fun q : Fin 1 => (PM m).x q thr) = (iprop(emp) : sProp (MM F)) :=
    (bigSep_congr fun _ _ => BI.bigSep_univ_of_subsingleton (0 : Fin 1)).trans (BI.bigSep_emp_const _)
  rw [hx]
  unfold u₀
  iintro Hu
  ihave H := (ownU_pair (Rounds.initOf (K (F := F)).hsCells (K (F := F)).hsToks) (_ : UP × Counters)) $$ Hu
  icases H with ⟨HH, HR⟩
  ihave HR' := (own_pair_emb (embR : Emb (UP × Counters) (MM F)) _ (1 : Counters)) $$ HR
  rw [show ((Emb.inl : Emb UP (UP × Counters)).trans (embR : Emb (UP × Counters) (MM F))) = (EP : Emb UP (MM F)) from rfl]
  icases HR' with ⟨HP, -⟩
  imod (Pipeline.fund_ghost (Pipeline.pin (pcfgs (F := F)) 𝔸) (EP : Emb UP (MM F)) cellOf_inj) $$ HP with HG
  imodintro
  isplitl [HH]
  · iexact HH
  isplitl [HG]
  · rw [← ghosts_eq]
    iexact HG
  iempintro

def fq (d : Dev nD) (s' : Phys nD τ sig (Elt F)) : Prop :=
  s'.mem.mem (hLoc d) = m (hLoc d) ∧ s'.mem.mem (tLoc d) = m (tLoc d) ∧ s'.mem.mem (nLoc d) = m (nLoc d) ∧ s'.mem.mem (wLoc d) = m (wLoc d)
    ∧ s'.mem.mem (v5Loc d) = (show Buf (Elt F) (v5Loc d) from lossOf m d)

/-- An array held whole is what the memory has. -/
theorem held_read {ℓ : Loc nD τ sig} (f : Buf (Elt F) ℓ) (R : sProp (MM F)) (s' : Phys nD τ sig (Elt F)) {φ : Prop}
    (h : s'.mem.mem ℓ = f → iprop(R ∗ SI s') ⊢ (⌜φ⌝ : sProp (MM F))) :
    iprop(((ℓ ↦{fullShare} f) ∗ R) ∗ SI s') ⊢ (⌜φ⌝ : sProp (MM F)) := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  iapply (h (funext fun i => h1 i (Finset.mem_univ i)))
  isplitl [HR]
  · iexact HR
  iexact HSI

theorem hfin (d : Dev nD) (s' : Phys nD τ sig (Elt F)) : iprop(FIN m d ∗ SI s') ⊢ (⌜fq m d s'⌝ : sProp (MM F)) := by
  unfold FIN
  refine held_read _ _ s' fun h1 => held_read _ _ s' fun h2 => held_read _ _ s' fun h3 => held_read _ _ s' fun h4 => ?_
  iintro ⟨H, HSI⟩
  ihave H := (SI_pointsTo_agree (st := s') (ℓ := v5Loc d) (I := Finset.univ) (q := fullShare) (f := lossOf m d)) $$ [HSI H]
  · isplitl [HSI] <;> iassumption
  icases H with %h5
  ipureintro
  exact ⟨h1, h2, h3, h4, funext fun i => h5 i (Finset.mem_univ i)⟩

/-- What a run ends with. -/
def QC : PUnit × MemSt nD τ sig (Elt F) → Prop := fun r =>
  (∀ d : Dev nD, r.2.mem (hLoc d) = m (hLoc d) ∧ r.2.mem (tLoc d) = m (tLoc d) ∧ r.2.mem (nLoc d) = m (nLoc d) ∧ r.2.mem (wLoc d) = m (wLoc d)
    ∧ r.2.mem (v5Loc d) = (show Buf (Elt F) (v5Loc d) from lossOf m d)) ∧ r.2.sem = fun _ => 0

/-- From a memory whose indices are in range, every run ends with its arguments unchanged, the loss in the result, and
    every semaphore at zero. -/
theorem run_main (hX : ∀ d, (insOf m d).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ hX)
    (fun q _ => match q with | 0 => SparseCore.Cfg.VecSplit.of_plain (vecSplit _ _ _))
    m ρ main G (FIN m) (u₀ (F := F)) (sep_elim_left.trans (hu₀ m)) (hmain m ρ) (fq m) (hfin m) (QC m) (fun _ h hz => ⟨h, hz⟩)

end Cert.Proof.Score
end
-- ==== Proof.Twin.lean ====
/-
  The kernel at the words and the idealized kernel are one program: no operation was rewritten, so the two printed
  definition tables, each read at the words, are equal. The run proved of the one is the run of the other.
-/
module

public import proofs.«01_k».proof.Defs
public import proofs.«01_k».proof.Proof.Gen.Kernel
public import proofs.«01_k».proof.Proof.Gen.KernelIdeal

@[expose] public section

noncomputable section

namespace Cert.Proof.Score

open Idealize.ShloMosaic Idealize.SL.Sem

attribute [local instance] Cert.Kernel.Gen.facts Cert.KernelIdeal.Gen.facts

/-- The two tables of bodies agree, label by label. -/
theorem bodies_eq : Cert.Kernel.defs₀ (F := Bits) = Cert.KernelIdeal.defs₀ (F := Bits) := by
  funext p l a
  match p, l, a with
  | .scVector _ _, 0, _ => rfl
  | .scVector _ _, 1, _ => rfl
  | .tc, 0, _ => rfl
  | .tc, 1, (_, _) => rfl
  | .scScalar _, 0, _ => rfl
  | .scScalar _, 1, _ => rfl

/-- So the whole tables agree, -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- and the threads. -/
theorem threads_eq : Cert.Kernel.threads (F := Bits) = Cert.KernelIdeal.threads (F := Bits) := rfl

end Cert.Proof.Score

end
-- ==== Proof.InVocab.lean ====
/- What the precondition says of the indices. -/
module

public import proofs.«01_k».proof.Proof.Setup
public import proofs.«01_k».proof.Pre_in_vocab
public import Idealize.ShloMosaic.Lib.ReduceAll
public import Idealize.ShloMosaic.Lib.Affine

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What the precondition says of the indices -/

/-- A word that is not negative and below the vocabulary's size as a signed word is below it as a number. -/
theorem word_lt {v : BitVec 32} (h0 : IntOp.cmpi .sge v 0#32 = 1#1) (h1 : IntOp.cmpi .slt v 100000#32 = 1#1) : v.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hv := v.isLt
  rw [BitVec.toInt_eq_toNat_cond] at h0 h1
  split at h0 <;> omega

theorem andi_left {a b : BitVec 1} (h : IntOp.andi a b = 1#1) : a = 1#1 := by
  revert h; revert a b; decide
theorem andi_right {a b : BitVec 1} (h : IntOp.andi a b = 1#1) : b = 1#1 := by
  revert h; revert a b; decide

/-- Both index arrays are in range under the precondition. -/
theorem in_range_of_pre [Cert.Pre_in_vocab.Facts] (h : S8192x128.Idx → F .f32) (t : S8192.Idx → BitVec 32) (n : S8192x64.Idx → BitVec 32) (w : S100000x128.Idx → F .f32)
    (e : Cert.Pre_in_vocab.fn (F := F) h t n w = fun _ => 1#1) : (∀ x, (t x).toNat < 100000) ∧ ∀ x, (n x).toNat < 100000 := by
  have e := congrFun e (fun k => k.elim0)
  haveI : Subsingleton Cert.Pre_in_vocab.S_.Idx := ⟨fun a b => funext fun k => k.elim0⟩
  have e3 := andi_right e
  have e' := andi_left e
  have e2 := andi_right e'
  have e'' := andi_left e'
  have e1 := andi_right e''
  have e0 := andi_left e''
  refine ⟨fun x => word_lt ?_ ?_, fun x => word_lt ?_ ?_⟩
  · exact Host.reduce_andi_all _ _ _ _ _ e0 x
  · exact Host.reduce_andi_all _ _ _ _ _ e1 x
  · exact Host.reduce_andi_all _ _ _ _ _ e2 x
  · exact Host.reduce_andi_all _ _ _ _ _ e3 x

end Cert.Proof.Score
end
-- ==== Proof.Rows.lean ====
/-
  The reference's lookup. `jnp.take` prints as a wrap of the negative row numbers, a gather, and a mask of the numbers
  that name no row. Where every number names a row the wrap is the identity, the mask is all ones, and what is left is
  the row itself.
-/
module

public import proofs.«01_k».proof.Proof.Gen.ReferenceIdeal
public import Idealize.ShloMosaic.Lib.Pointwise
public import Idealize.ShloMosaic.Lib.ReduceAll
public import Idealize.ShloMosaic.Lib.Affine

@[expose] public section

noncomputable section

namespace Cert.Proof.Ref

open Cert.ReferenceIdeal Cert.ReferenceIdeal.Gen
open Idealize.ShloMosaic

variable {F : FTy → Type} [FloatOps F]

/-! ## The printed terms -/

/-- The targets, the negative ones moved up by the number of rows. -/
def wrapP (t : IVec S8192 32) : IVec S8192 32 :=
  select (cmpi .slt t (broadcastInDim S8192 ![] bcast_S_S8192 (constantI S_ 32 0#32))) (addi t (broadcastInDim S8192 ![] bcast_S_S8192 (constantI S_ 32 100000#32))) t

/-- They name rows. -/
def maskP (i : IVec S8192x1 32) : IVec S8192 1 :=
  Host.reduce IntOp.andi (andi (cmpi .sge i (broadcastInDim S8192x1 ![] bcast_S_S8192x1 (constantI S_ 32 0#32))) (cmpi .sle i (broadcastInDim S8192x1 ![0, 1] bcast_S1x1_S8192x1_0_1 (broadcastInDim S1x1 ![1] bcast_S1_S1x1_1 (constantI S1 32 99999#32))))) (constantI S_ 1 1#1) reducesTo_S8192x1_S8192_d1 h_S_

/-- The targets' rows. -/
def rowsP (t : IVec S8192 32) (w : FVec F S100000x128 .f32) : FVec F S8192x128 .f32 :=
  select (broadcastInDim S8192x128 ![0] bcast_S8192_S8192x128_0 (maskP (broadcastInDim S8192x1 ![0] bcast_S8192_S8192x1_0 (wrapP t)))) (Host.gather gather_S100000x128_S8192x1_S8192x128_1_0_n_n_0_1_1128 w (broadcastInDim S8192x1 ![0] bcast_S8192_S8192x1_0 (wrapP t))) (broadcastInDim S8192x128 ![] bcast_S_S8192x128 (constant S_ .f32 0x7FC00000#32))

/-- The same three for the negatives. -/
def wrapN (n : IVec S8192x64 32) : IVec S8192x64 32 :=
  select (cmpi .slt n (broadcastInDim S8192x64 ![] bcast_S_S8192x64 (constantI S_ 32 0#32))) (addi n (broadcastInDim S8192x64 ![] bcast_S_S8192x64 (constantI S_ 32 100000#32))) n

def maskN (i : IVec S8192x64x1 32) : IVec S8192x64 1 :=
  Host.reduce IntOp.andi (andi (cmpi .sge i (broadcastInDim S8192x64x1 ![] bcast_S_S8192x64x1 (constantI S_ 32 0#32))) (cmpi .sle i (broadcastInDim S8192x64x1 ![0, 1, 2] bcast_S1x1x1_S8192x64x1_0_1_2 (broadcastInDim S1x1x1 ![2] bcast_S1_S1x1x1_2 (constantI S1 32 99999#32))))) (constantI S_ 1 1#1) reducesTo_S8192x64x1_S8192x64_d2 h_S_

def rowsN (n : IVec S8192x64 32) (w : FVec F S100000x128 .f32) : FVec F S8192x64x128 .f32 :=
  select (broadcastInDim S8192x64x128 ![0, 1] bcast_S8192x64_S8192x64x128_0_1 (maskN (broadcastInDim S8192x64x1 ![0, 1] bcast_S8192x64_S8192x64x1_0_1 (wrapN n)))) (Host.gather gather_S100000x128_S8192x64x1_S8192x64x128_2_0_n_n_0_2_1128 w (broadcastInDim S8192x64x1 ![0, 1] bcast_S8192x64_S8192x64x1_0_1 (wrapN n))) (broadcastInDim S8192x64x128 ![] bcast_S_S8192x64x128 (constant S_ .f32 0x7FC00000#32))

/-! ## Where every number names a row -/

theorem row_toInt {b : BitVec 32} (h : b.toNat < 100000) : b.toInt = b.toNat := BitVec.toInt_eq_toNat_of_lt (by omega)

theorem not_slt_zero {b : BitVec 32} (h : b.toNat < 100000) : IntOp.cmpi .slt b 0#32 = 0#1 := by
  have e := row_toInt h
  refine (BitVec.eq_zero_or_eq_one _).resolve_right fun c => ?_
  rw [IntOp.cmpi_slt, e, show (0#32 : BitVec 32).toInt = 0 by decide] at c
  omega

theorem sge_zero {b : BitVec 32} (h : b.toNat < 100000) : IntOp.cmpi .sge b 0#32 = 1#1 := by
  have e := row_toInt h
  rw [IntOp.cmpi_sge, e, show (0#32 : BitVec 32).toInt = 0 by decide]
  omega

theorem sle_last {b : BitVec 32} (h : b.toNat < 100000) : IntOp.cmpi .sle b 99999#32 = 1#1 := by
  have e := row_toInt h
  rw [IntOp.cmpi_sle, e, show (99999#32 : BitVec 32).toInt = 99999 by decide]
  omega

theorem wrapP_eq (t : IVec S8192 32) (ht : ∀ x, (t x).toNat < 100000) : wrapP t = t := by
  funext x
  show (if IntOp.cmpi .slt (t x) 0#32 = 1#1 then _ else t x) = t x
  rw [not_slt_zero (ht x), if_neg (by decide)]

theorem wrapN_eq (n : IVec S8192x64 32) (hn : ∀ x, (n x).toNat < 100000) : wrapN n = n := by
  funext x
  show (if IntOp.cmpi .slt (n x) 0#32 = 1#1 then _ else n x) = n x
  rw [not_slt_zero (hn x), if_neg (by decide)]

theorem maskP_eq (i : IVec S8192x1 32) (hi : ∀ x, (i x).toNat < 100000) : maskP i = fun _ => 1#1 := by
  funext j
  refine Host.reduce_andi_one _ _ _ _ j rfl fun x => ?_
  exact IntOp.andi_eq_one.2 ⟨sge_zero (hi x), sle_last (hi x)⟩

theorem maskN_eq (i : IVec S8192x64x1 32) (hi : ∀ x, (i x).toNat < 100000) : maskN i = fun _ => 1#1 := by
  funext j
  refine Host.reduce_andi_one _ _ _ _ j rfl fun x => ?_
  exact IntOp.andi_eq_one.2 ⟨sge_zero (hi x), sle_last (hi x)⟩

/-- The row a number names. -/
def rowNo (b : BitVec 32) : Fin 100000 := ⟨b.toNat % 100000, Nat.mod_lt _ (by decide)⟩

theorem clamp_row {b : BitVec 32} (h : b.toNat < 100000) : min b.toInt.toNat (100000 - 1) = (rowNo b).val := by
  rw [row_toInt h]
  show min (Int.toNat (b.toNat : Int)) _ = b.toNat % 100000
  rw [Int.toNat_natCast, Nat.mod_eq_of_lt h]
  omega

/-- The gather of the targets' rows. -/
theorem gatherP {α : Type} (w : S100000x128.Idx → α) (i : IVec S8192x1 32) (n : Fin 8192) (c : Fin 128)
    (hi : (i (ix2 n (0 : Fin 1))).toNat < 100000) :
    Host.gather gather_S100000x128_S8192x1_S8192x128_1_0_n_n_0_1_1128 w i (ix2 n c) = w (ix2 (rowNo (i (ix2 n (0 : Fin 1)))) c) := by
  unfold Host.gather
  refine congrArg w (funext fun a => Fin.ext ?_)
  match a with
  | ⟨0, _⟩ =>
    refine Eq.trans ?_ (clamp_row hi)
    show min (i (GatherDims.siIdx gather_S100000x128_S8192x1_S8192x128_1_0_n_n_0_1_1128 (ix2 n c) ⟨0, by decide⟩)).toInt.toNat (100000 - 1) + 0 + 0 = _
    have e : GatherDims.siIdx gather_S100000x128_S8192x1_S8192x128_1_0_n_n_0_1_1128 (ix2 n c) ⟨0, by decide⟩ = ix2 n (0 : Fin 1) := by
      funext b; apply Fin.ext
      match b with
      | ⟨0, _⟩ => rfl
      | ⟨1, _⟩ => rfl
    rw [e, Nat.add_zero]
  | ⟨1, _⟩ =>
    show 0 + 0 + c.val = c.val
    omega

/-- The gather of the negatives' rows. -/
theorem gatherN {α : Type} (w : S100000x128.Idx → α) (i : IVec S8192x64x1 32) (n : Fin 8192) (k : Fin 64) (c : Fin 128)
    (hi : (i (ix3 n k (0 : Fin 1))).toNat < 100000) :
    Host.gather gather_S100000x128_S8192x64x1_S8192x64x128_2_0_n_n_0_2_1128 w i (ix3 n k c) = w (ix2 (rowNo (i (ix3 n k (0 : Fin 1)))) c) := by
  unfold Host.gather
  refine congrArg w (funext fun a => Fin.ext ?_)
  match a with
  | ⟨0, _⟩ =>
    refine Eq.trans ?_ (clamp_row hi)
    show min (i (GatherDims.siIdx gather_S100000x128_S8192x64x1_S8192x64x128_2_0_n_n_0_2_1128 (ix3 n k c) ⟨0, by decide⟩)).toInt.toNat (100000 - 1) + 0 + 0 = _
    have e : GatherDims.siIdx gather_S100000x128_S8192x64x1_S8192x64x128_2_0_n_n_0_2_1128 (ix3 n k c) ⟨0, by decide⟩ = ix3 n k (0 : Fin 1) := by
      funext b; apply Fin.ext
      match b with
      | ⟨0, _⟩ => rfl
      | ⟨1, _⟩ => rfl
      | ⟨2, _⟩ => rfl
    rw [e, Nat.add_zero]
  | ⟨1, _⟩ =>
    show 0 + 0 + c.val = c.val
    omega

/-- A row looked up. -/
theorem rowsP_apply (t : IVec S8192 32) (w : FVec F S100000x128 .f32) (ht : ∀ x, (t x).toNat < 100000) (n : Fin 8192) (c : Fin 128) :
    rowsP t w (ix2 n c) = w (ix2 (rowNo (t (ix1 n))) c) := by
  unfold rowsP
  rw [wrapP_eq t ht, maskP_eq (broadcastInDim S8192x1 ![0] bcast_S8192_S8192x1_0 t) fun x => ht _]
  refine Eq.trans ?_ ((gatherP w (broadcastInDim S8192x1 ![0] bcast_S8192_S8192x1_0 t) n c (ht _)).trans ?_)
  · rfl
  · refine congrArg (fun r => w (ix2 (rowNo (t r)) c)) (funext fun a => ?_)
    match a with
    | ⟨0, _⟩ => rfl

theorem rowsN_apply (x : IVec S8192x64 32) (w : FVec F S100000x128 .f32) (hx : ∀ y, (x y).toNat < 100000) (n : Fin 8192) (k : Fin 64) (c : Fin 128) :
    rowsN x w (ix3 n k c) = w (ix2 (rowNo (x (ix2 n k))) c) := by
  unfold rowsN
  rw [wrapN_eq x hx, maskN_eq (broadcastInDim S8192x64x1 ![0, 1] bcast_S8192x64_S8192x64x1_0_1 x) fun y => hx _]
  refine Eq.trans ?_ ((gatherN w (broadcastInDim S8192x64x1 ![0, 1] bcast_S8192x64_S8192x64x1_0_1 x) n k c (hx _)).trans ?_)
  · rfl
  · refine congrArg (fun r => w (ix2 (rowNo (x r)) c)) (funext fun a => ?_)
    match a with
    | ⟨0, _⟩ => rfl
    | ⟨1, _⟩ => rfl

end Cert.Proof.Ref

end
-- ==== Proof.Softplus.lean ====
/-
  The loss of one score over the extended reals. `sp y` is the softplus `log (1 + exp y)` in the form both programs
  compute it, `max y 0 + log (1 + exp (-|y|))`. It is never negative, so the reference's three negations — inside its
  mean and outside — cancel whatever the scores are, infinite ones too.
-/
module

public import Idealize.ShloMosaic.PureOps.Ideal
public import Idealize.ShloMosaic.Lib.IdealHost

@[expose] public section

noncomputable section

namespace Cert.Proof.Score

open Idealize.ShloMosaic

/-- Softplus, as both programs take it. -/
def sp (y : EReal) : EReal := max y 0 + Ideal.log (1 + Ideal.exp (-(max y (-y))))

theorem exp_nonneg (x : EReal) : 0 ≤ Ideal.exp x := by
  induction x with
  | bot => exact le_refl _
  | top => exact le_top
  | coe r => exact EReal.coe_nonneg.2 (Real.exp_pos r).le

theorem log_nonneg_of_one_le {x : EReal} (h : 1 ≤ x) : 0 ≤ Ideal.log x := by
  induction x with
  | bot => exact absurd (le_bot_iff.1 h) (EReal.coe_ne_bot 1)
  | top => exact le_top
  | coe r =>
    have h1 : (1 : ℝ) ≤ r := by exact_mod_cast h
    show 0 ≤ (if r ≤ 0 then (⊥ : EReal) else (Real.log r : EReal))
    rw [if_neg (by linarith)]
    exact EReal.coe_nonneg.2 (Real.log_nonneg h1)

theorem sp_nonneg (y : EReal) : 0 ≤ sp y :=
  add_nonneg (le_max_right _ _) (log_nonneg_of_one_le (le_add_of_nonneg_right (exp_nonneg _)))

/-- A sum of negated terms, none of them negative before, is the negated sum. -/
theorem sum_neg_of_nonneg {ι : Type*} (s : Finset ι) (f : ι → EReal) (hf : ∀ i, 0 ≤ f i) : ∑ i ∈ s, -(f i) = -∑ i ∈ s, f i := by
  classical
  induction s using Finset.induction_on with
  | empty => simp
  | insert a s ha ih =>
    rw [Finset.sum_insert ha, Finset.sum_insert ha, ih]
    have h1 : f a ≠ ⊥ := ne_of_gt (lt_of_lt_of_le (by simp) (hf a))
    have h2 : ∑ i ∈ s, f i ≠ ⊥ := ne_of_gt (lt_of_lt_of_le (by simp) (Finset.sum_nonneg fun i _ => hf i))
    rw [EReal.neg_add (.inl h1) (.inr h2), sub_eq_add_neg]

theorem div_neg_left (x : EReal) {c : EReal} (hc : c ≠ 0) : Ideal.div (-x) c = -Ideal.div x c := by
  unfold Ideal.div
  rw [if_neg hc, if_neg hc, EReal.neg_mul]

/-- The reference's mean, its negations cancelled. -/
theorem neg_mean {ι : Type*} [Fintype ι] (f : ι → EReal) (hf : ∀ i, 0 ≤ f i) {c : EReal} (hc : c ≠ 0) :
    -Ideal.div (∑ i, -(f i)) c = Ideal.div (∑ i, f i) c := by
  rw [sum_neg_of_nonneg _ _ hf, div_neg_left _ hc, neg_neg]

/-- The two counts the sums are divided by are not zero. -/
theorem count_pos_ne : Ideal.ofBits .f32 0x46000000#32 ≠ 0 := by
  rw [show (0 : EReal) = ((0 : ℝ) : EReal) by norm_cast]
  simp [Ideal.ofBits, Ideal.ieee, -EReal.coe_mul]

theorem count_neg_ne : Ideal.ofBits .f32 0x49000000#32 ≠ 0 := by
  rw [show (0 : EReal) = ((0 : ℝ) : EReal) by norm_cast]
  simp [Ideal.ofBits, Ideal.ieee, -EReal.coe_mul]

end Cert.Proof.Score

end
-- ==== Proof.LossValue.lean ====
/-
  The kernel's result over the extended reals: its dot products, taken along the diagonals, are the rows' dot products,
  and its sums over the two re-blocked score arrays are the sums over the scores.
 -/
module

public import proofs.«01_k».proof.Proof.Main
public import proofs.«01_k».proof.Proof.Softplus
public import Idealize.ShloMosaic.Lib.Pointwise

@[expose] public section

noncomputable section

namespace Cert.Proof.Score

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

theorem zero32_ideal : (zero32 : Ideal .f32) = 0 := by
  show Ideal.ofBits .f32 0x00000000#32 = 0
  simp [Ideal.ofBits, Ideal.ieee]

/-! ## A dot product along a diagonal -/

theorem dotAt_ideal (a b : Fin 128 → Ideal .f32) (l : ℕ) :
    ∀ n, dotAt (F := Ideal) a b l n = ∑ i ∈ Finset.range n, (a (dcol l i) * b (dcol l i) : EReal)
  | 0 => zero32_ideal
  | n + 1 => by
    rw [Finset.sum_range_succ, ← dotAt_ideal a b l n]
    rfl

/-- A lane meets every column once. -/
theorem dcol_injective (l : ℕ) : Function.Injective fun i : Fin 128 => dcol l i.val := by
  intro i j e
  have e : ((l + i.val % 16) % 16 + 16 * (i.val / 16)) % 128 = ((l + j.val % 16) % 16 + 16 * (j.val / 16)) % 128 := congrArg Fin.val e
  have hi := i.isLt
  have hj := j.isLt
  apply Fin.ext
  omega

/-- Whatever lane takes it, the dot product is the sum of the products. -/
theorem dotL_ideal (l : ℕ) (a b : Fin 128 → Ideal .f32) : dotL (F := Ideal) l a b = ∑ i : Fin 128, (a i * b i : EReal) := by
  show dotAt a b l 128 = _
  rw [dotAt_ideal, Finset.sum_range]
  exact Function.Bijective.sum_comp (Finite.injective_iff_bijective.1 (dcol_injective l)) fun i => (a i * b i : EReal)

/-! ## The loss call -/

instance : Subsingleton S1.Idx := ⟨fun x y => funext fun a => by
  match a with
  | ⟨0, _⟩ => exact Subsingleton.elim (α := Fin 1) _ _⟩

/-- A sum over a whole array, taken by the kernel: the array given a leading axis of one, then both its axes added up. -/
theorem sum_all {s u : Shape} (x : s.Idx → EReal) (h : s.ShapeCasts u) {axes : List (Fin u.rank)} (hr : u.Reduces axes S1) (j : S1.Idx) :
    Ideal.reduceAdd hr (shapeCast u x h) j = ∑ i, x i := by
  unfold Ideal.reduceAdd
  rw [Finset.filter_true_of_mem fun i _ => Subsingleton.elim _ _]
  exact Equiv.sum_comp (Shape.reshapeEquiv h) x

/-- The loss of two blocks of scores. -/
def lossSum {s u : Shape} (p : s.Idx → EReal) (z : u.Idx → EReal) : EReal :=
  Ideal.div (∑ i, sp (-(p i))) (Ideal.ofBits .f32 0x46000000#32) + Ideal.div (∑ i, sp (z i)) (Ideal.ofBits .f32 0x49000000#32)

theorem ofBits_zero32 : Ideal.ofBits .f32 0x00000000#32 = 0 := zero32_ideal

theorem sp_form (x : EReal) : max x 0 + Ideal.log (1 + Ideal.exp (0 - max x (-x))) = sp x := by
  rw [zero_sub]; rfl

theorem sp_form_neg (x : EReal) : max (0 - x) 0 + Ideal.log (1 + Ideal.exp (0 - max x (-x))) = sp (-x) := by
  unfold sp
  rw [zero_sub, zero_sub, neg_neg, max_comm (-x) x]

theorem shapeCast_same {α : Type} {s : Shape} (x : s.Idx → α) (h : s.ShapeCasts s) (i : s.Idx) : shapeCast s x h i = x i := by
  show x (Shape.reshapeEquiv h i) = x i
  rw [Shape.reshapeEquiv_self]

theorem pay1_ideal (p : S64x128.Idx → Ideal .f32) (z : S4096x128.Idx → Ideal .f32) (j : S1x1.Idx) :
    k1_pay1 (F := Ideal) p z j = lossSum p z := by
  refine congrArg₂ (fun a b : EReal => a + b) (congrArg (fun a => Ideal.div a _) ?_) (congrArg (fun a => Ideal.div a _) ?_)
  · refine (sum_all _ shapeCasts_S64x128_S1x64x128 reduces_S1x64x128_S1 _).trans (Finset.sum_congr rfl fun i _ => ?_)
    show max (Ideal.ofBits .f32 0x00000000#32 - shapeCast S64x128 p shapeCasts_S64x128_S64x128 i) (Ideal.ofBits .f32 0x00000000#32)
      + Ideal.log (Ideal.ofBits .f32 0x3F800000#32 + Ideal.exp (Ideal.ofBits .f32 0x00000000#32
        - max (shapeCast S64x128 p shapeCasts_S64x128_S64x128 i) (-(shapeCast S64x128 p shapeCasts_S64x128_S64x128 i)))) = _
    rw [shapeCast_same, ofBits_zero32, Ideal.ofBits_one_f32, sp_form_neg]
  · refine (sum_all _ shapeCasts_S4096x128_S1x4096x128 reduces_S1x4096x128_S1 _).trans (Finset.sum_congr rfl fun i _ => ?_)
    show max (shapeCast S4096x128 z shapeCasts_S4096x128_S4096x128 i) (Ideal.ofBits .f32 0x00000000#32)
      + Ideal.log (Ideal.ofBits .f32 0x3F800000#32 + Ideal.exp (Ideal.ofBits .f32 0x00000000#32
        - max (shapeCast S4096x128 z shapeCasts_S4096x128_S4096x128 i) (-(shapeCast S4096x128 z shapeCasts_S4096x128_S4096x128 i)))) = _
    rw [shapeCast_same, ofBits_zero32, Ideal.ofBits_one_f32, sp_form]

/-- Re-blocking the scores does not change their loss. -/
theorem lossSum_recast {s s' u u' : Shape} (p : s.Idx → EReal) (z : u.Idx → EReal) (h : s.ShapeCasts s') (h' : u.ShapeCasts u') :
    lossSum (shapeCast s' p h) (shapeCast u' z h') = lossSum p z := by
  unfold lossSum
  congr 2
  · exact Equiv.sum_comp (Shape.reshapeEquiv h) fun i => sp (-(p i))
  · exact Equiv.sum_comp (Shape.reshapeEquiv h') fun i => sp (z i)

/-- The kernel's result: the loss of its scores. -/
theorem lossOf_ideal (m : (ℓ : Loc nD τ sig) → Buf (Elt Ideal) ℓ) (d : Dev nD) :
    lossOf (F := Ideal) m d = fun _ => lossSum (posAll (insOf m d)) (negAll (insOf m d)) := by
  funext j
  exact (pay1_ideal (posBlk m d) (negBlk m d) (Shape.reshapeEquiv shapeCasts_S1x1_S_ j)).trans (lossSum_recast _ _ _ _)

end Cert.Proof.Score
end
-- ==== Proof.RefValue.lean ====
/-
  The reference's result over the extended reals: the loss of its scores, each the dot product of a token's row with the
  row looked up.
-/
module

public import proofs.«01_k».proof.Proof.Gen.ReferenceIdeal.Run
public import proofs.«01_k».proof.Proof.Rows
public import proofs.«01_k».proof.Proof.LossValue

@[expose] public section

noncomputable section

namespace Cert.Proof.Ref

open Cert.ReferenceIdeal Cert.ReferenceIdeal.Gen
open Idealize.ShloMosaic Idealize.ShloMosaic.TcCoe
open Cert.Proof.Score (sp lossSum)

variable {F : FTy → Type} [FloatOps F]

/-! ## The printed terms -/

/-- The scores against the targets, -/
def scoreP (h : FVec F S8192x128 .f32) (r : FVec F S8192x128 .f32) : FVec F S8192 .f32 :=
  Host.reduceAdd (mulf h r) (constant S_ .f32 0x00000000#32) reducesTo_S8192x128_S8192_d1 h_S_

/-- and against the negatives. -/
def scoreN (h : FVec F S8192x128 .f32) (r : FVec F S8192x64x128 .f32) : FVec F S8192x64 .f32 :=
  Host.dotGeneral dot_S8192x128_S8192x64x128_S8192x64_1_2_n_1_0_0 none h r

/-- Softplus of a score, as jax prints it. -/
def softP (y : FVec F S8192 .f32) : FVec F S8192 .f32 :=
  select (cmpf .une (subf y (broadcastInDim S8192 ![] bcast_S_S8192 (constant S_ .f32 0x00000000#32))) (subf y (broadcastInDim S8192 ![] bcast_S_S8192 (constant S_ .f32 0x00000000#32)))) (addf y (broadcastInDim S8192 ![] bcast_S_S8192 (constant S_ .f32 0x00000000#32))) (addf (maximumf y (broadcastInDim S8192 ![] bcast_S_S8192 (constant S_ .f32 0x00000000#32))) (Host.log1p (Host.exp (Host.negf (Host.absf (subf y (broadcastInDim S8192 ![] bcast_S_S8192 (constant S_ .f32 0x00000000#32))))))))

def softN (y : FVec F S8192x64 .f32) : FVec F S8192x64 .f32 :=
  select (cmpf .une (subf y (broadcastInDim S8192x64 ![] bcast_S_S8192x64 (constant S_ .f32 0x00000000#32))) (subf y (broadcastInDim S8192x64 ![] bcast_S_S8192x64 (constant S_ .f32 0x00000000#32)))) (addf y (broadcastInDim S8192x64 ![] bcast_S_S8192x64 (constant S_ .f32 0x00000000#32))) (addf (maximumf y (broadcastInDim S8192x64 ![] bcast_S_S8192x64 (constant S_ .f32 0x00000000#32))) (Host.log1p (Host.exp (Host.negf (Host.absf (subf y (broadcastInDim S8192x64 ![] bcast_S_S8192x64 (constant S_ .f32 0x00000000#32))))))))

/-- The loss of the scores. -/
def lossR (p : FVec F S8192 .f32) (z : FVec F S8192x64 .f32) : FVec F S_ .f32 :=
  addf (Host.negf (Host.divf (Host.reduceAdd (Host.negf (softP (Host.negf p))) (constant S_ .f32 0x00000000#32) reducesTo_S8192_S_d0 h_S_) (constant S_ .f32 0x46000000#32)))
    (Host.negf (Host.divf (Host.reduceAdd (Host.negf (softN (Host.negf (Host.negf z)))) (constant S_ .f32 0x00000000#32) reducesTo_S8192x64_S_d0_1 h_S_) (constant S_ .f32 0x49000000#32)))

/-- The reference's result, by those names. -/
theorem res_eq (m : (ℓ : Loc nD τ sig) → Buf (Elt F) ℓ) (c : Dev nD) :
    Value.res_main_v14 m c
      = lossR (scoreP (m ((c.tc : Thread nD τ).loc main_arg0)) (rowsP (m ((c.tc : Thread nD τ).loc main_arg1)) (m ((c.tc : Thread nD τ).loc main_arg3))))
          (scoreN (m ((c.tc : Thread nD τ).loc main_arg0)) (rowsN (m ((c.tc : Thread nD τ).loc main_arg2)) (m ((c.tc : Thread nD τ).loc main_arg3)))) := by
  unfold Value.res_main_v14
  rfl

/-! ## Over the extended reals -/

theorem scoreP_apply (h r : FVec Ideal S8192x128 .f32) (n : Fin 8192) :
    scoreP h r (ix1 n) = ∑ c : Fin 128, (h (ix2 n c) * r (ix2 n c) : EReal) := by
  pointwise [scoreP]

theorem scoreN_apply (h : FVec Ideal S8192x128 .f32) (r : FVec Ideal S8192x64x128 .f32) (n : Fin 8192) (k : Fin 64) :
    scoreN h r (ix2 n k) = ∑ c : Fin 128, (h (ix2 n c) * r (ix3 n k c) : EReal) := by
  pointwise [scoreN]

theorem soft_form (y : EReal) :
    (if Ideal.cmp .une (y - Ideal.ofBits .f32 0x00000000#32) (y - Ideal.ofBits .f32 0x00000000#32) = 1#1 then y + Ideal.ofBits .f32 0x00000000#32
      else max y (Ideal.ofBits .f32 0x00000000#32) + Ideal.log1p (Ideal.exp (-(max (y - Ideal.ofBits .f32 0x00000000#32) (-(y - Ideal.ofBits .f32 0x00000000#32)))))) = sp y := by
  rw [Cert.Proof.Score.ofBits_zero32, sub_zero, if_neg]
  · rfl
  · simp [Ideal.cmp]

theorem softP_apply (y : FVec Ideal S8192 .f32) (i : S8192.Idx) : softP y i = sp (y i) := soft_form (y i)
theorem softN_apply (y : FVec Ideal S8192x64 .f32) (i : S8192x64.Idx) : softN y i = sp (y i) := soft_form (y i)

instance : Subsingleton S_.Idx := ⟨fun a b => funext fun k => k.elim0⟩

/-- The host's sum over a whole array. -/
theorem sum_whole {s : Shape} {axes : List (Fin s.rank)} (h : s.ReducesTo axes S_) (x : s.Idx → EReal) (j : S_.Idx) :
    Ideal.hostReduceAdd h x (Ideal.ofBits .f32 0x00000000#32) j = ∑ i, x i := by
  unfold Ideal.hostReduceAdd
  rw [Cert.Proof.Score.ofBits_zero32, zero_add, Finset.filter_true_of_mem fun i _ => Subsingleton.elim _ _]

theorem lossR_ideal (p : FVec Ideal S8192 .f32) (z : FVec Ideal S8192x64 .f32) : lossR p z = fun _ => lossSum p z := by
  funext j
  refine congrArg₂ (fun a b : EReal => a + b) ?_ ?_
  · show -Ideal.div (Ideal.hostReduceAdd reducesTo_S8192_S_d0 (fun i => -(softP (fun i => -(p i)) i)) (Ideal.ofBits .f32 0x00000000#32) j) _ = _
    rw [sum_whole]
    refine Eq.trans ?_ (Cert.Proof.Score.neg_mean (fun i => sp (-(p i))) (fun _ => Cert.Proof.Score.sp_nonneg _) Cert.Proof.Score.count_pos_ne)
    simp only [softP_apply]
    rfl
  · show -Ideal.div (Ideal.hostReduceAdd reducesTo_S8192x64_S_d0_1 (fun i => -(softN (fun i => -(-(z i))) i)) (Ideal.ofBits .f32 0x00000000#32) j) _ = _
    rw [sum_whole]
    refine Eq.trans ?_ (Cert.Proof.Score.neg_mean (fun i => sp (z i)) (fun _ => Cert.Proof.Score.sp_nonneg _) Cert.Proof.Score.count_neg_ne)
    simp only [softN_apply, neg_neg]
    rfl

end Cert.Proof.Ref

end
-- ==== Proof.Agree.lean ====
/-
  The two programs agree: the reference's scores are the kernel's, so its loss is the kernel's.
-/
module

public import proofs.«01_k».proof.Proof.RefValue

@[expose] public section

noncomputable section

namespace Cert.Proof.Ref

open Cert.ReferenceIdeal Cert.ReferenceIdeal.Gen
open Idealize.ShloMosaic Idealize.ShloMosaic.TcCoe
open Cert.Proof.Score (Ins posAll negAll lossSum dotL dotL_ideal eq_at1 eq_at2 at1 at2 rowIx)

/-- The indices' block and its flat form hold the same words. -/
theorem flat_apply (n : IVec S8192x64 32) (h : (⟨1, ![524288]⟩ : Shape).numel = S8192x64.numel) (i : Fin 8192) (k : Fin 64) (hf : 64 * i.val + k.val < 524288) :
    n (S8192x64.reshapeEquiv h (at1 (⟨64 * i.val + k.val, hf⟩ : Fin 524288))) = n (ix2 i k) := by
  refine congrArg n (Shape.reshapeEquiv_eq_of_rowMajor h ?_)
  rw [Shape.rowMajor_val_two, Shape.rowMajor_val_one]
  show i.val * 64 + k.val = 64 * i.val + k.val
  omega

/-- The targets' scores. -/
theorem scoreP_eq (X : Ins Ideal) (hX : X.InRange) : scoreP X.h (rowsP X.t X.w) = posAll X := by
  funext x
  obtain ⟨n, rfl⟩ : ∃ n : Fin 8192, x = ix1 n := ⟨x 0, funext fun a => match a with | ⟨0, _⟩ => rfl⟩
  rw [scoreP_apply]
  show _ = dotL (n.val % 16) (X.hRow n.val) (X.wRow (rowIx (X.tN n.val)))
  rw [dotL_ideal]
  refine Finset.sum_congr rfl fun c _ => ?_
  rw [rowsP_apply X.t X.w hX.1]
  have en : (⟨n.val % 8192, Nat.mod_lt _ (by decide)⟩ : Fin 8192) = n := Fin.ext (Nat.mod_eq_of_lt n.isLt)
  have eh : X.hRow n.val c = X.h (ix2 n c) := by
    refine congrArg X.h (Eq.symm (eq_at2 _ _ _ ?_ rfl))
    exact (congrArg Fin.val en).symm
  have et : X.tN n.val = X.t (ix1 n) := by
    refine congrArg X.t (Eq.symm (eq_at1 _ _ ?_))
    exact (congrArg Fin.val en).symm
  rw [eh, et]
  exact congrArg (fun y : EReal => X.h (ix2 n c) * y) (congrArg X.w (eq_at2 _ _ _ rfl rfl))

/-- The negatives' scores. -/
theorem scoreN_eq (X : Ins Ideal) (q : IVec S8192x64 32) (hq : ∀ y, (q y).toNat < 100000)
    (hg : ∀ (i : Fin 8192) (k : Fin 64), X.gN (64 * i.val + k.val) = q (ix2 i k)) : scoreN X.h (rowsN q X.w) = negAll X := by
  funext x
  obtain ⟨n, k, rfl⟩ : ∃ (n : Fin 8192) (k : Fin 64), x = ix2 n k := ⟨x 0, x 1, funext fun a => match a with | ⟨0, _⟩ => rfl | ⟨1, _⟩ => rfl⟩
  rw [scoreN_apply]
  show _ = dotL (k.val % 16) (X.hRow n.val) (X.wRow (rowIx (X.gN (64 * n.val + k.val))))
  rw [dotL_ideal, hg]
  refine Finset.sum_congr rfl fun c _ => ?_
  rw [rowsN_apply q X.w hq]
  have eh : X.hRow n.val c = X.h (ix2 n c) := by
    refine congrArg X.h (Eq.symm (eq_at2 _ _ _ ?_ rfl))
    exact (Nat.mod_eq_of_lt n.isLt).symm
  rw [eh]
  exact congrArg (fun y : EReal => X.h (ix2 n c) * y) (congrArg X.w (eq_at2 _ _ _ rfl rfl))

/-- The reference's loss of a device's arguments is the kernel's. -/
theorem loss_eq (m : (ℓ : Loc Cert.KernelIdeal.nD Cert.KernelIdeal.τ Cert.KernelIdeal.sig) → Buf (Elt Ideal) ℓ) (d : Dev Cert.KernelIdeal.nD)
    (hX : (Score.insOf m d).InRange) (hq : ∀ y : S8192x64.Idx, BitVec.toNat (m (Score.nLoc d) y) < 100000) :
    lossR (scoreP (m (Score.hLoc d)) (rowsP (m (Score.tLoc d)) (m (Score.wLoc d))))
      (scoreN (m (Score.hLoc d)) (rowsN (m (Score.nLoc d)) (m (Score.wLoc d)))) = Score.lossOf (F := Ideal) m d := by
  rw [lossR_ideal, Score.lossOf_ideal]
  have e1 := scoreP_eq (Score.insOf m d) hX
  have e2 := scoreN_eq (Score.insOf m d) (m (Score.nLoc d)) hq fun i k => by
    have hf : 64 * i.val + k.val < 524288 := by have := i.isLt; have := k.isLt; omega
    refine Eq.trans ?_ (flat_apply (m (Score.nLoc d)) Cert.KernelIdeal.Gen.shapeCasts_S8192x64_S524288 i k hf)
    exact congrArg (Score.insOf m d).g (congrArg at1 (Fin.ext (Nat.mod_eq_of_lt hf)))
  funext _
  exact congrArg₂ lossSum e1 e2

end Cert.Proof.Ref

end
-- ==== Proof.lean ====
/-
  The claims of the scoring kernel, put together. The kernel's run is Proof/Run.lean, proved once over every float
  model: the frames read it at the words and at the extended reals. The reference has no kernel; its run is generated. Over the extended reals the two losses are one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Gen.ReferenceIdeal.Run
public import proofs.«01_k».proof.Proof.Run
public import proofs.«01_k».proof.Proof.Twin
public import proofs.«01_k».proof.Proof.InVocab
public import proofs.«01_k».proof.Proof.Agree
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_in_vocab.Gen.facts

/-- Under the precondition every row number the idealized kernel reads names a row of the table. -/
theorem in_range_ideal (m : (ℓ : Loc Cert.KernelIdeal.nD Cert.KernelIdeal.τ Cert.KernelIdeal.sig) → Buf (Elt Ideal) ℓ)
    (hP : Cert.Pre_KernelIdeal m) (d : Dev Cert.KernelIdeal.nD) : (Score.insOf m d).InRange :=
  have h := Score.in_range_of_pre _ _ _ _ (hP d)
  ⟨h.1, fun _ => h.2 _⟩

/-- The same at the words. -/
theorem in_range_bits (m : (ℓ : Loc Cert.Kernel.nD Cert.Kernel.τ Cert.Kernel.sig) → Buf (Elt Bits) ℓ)
    (hP : Cert.Pre_Kernel m) (d : Dev Cert.KernelIdeal.nD) : (Score.insOf (F := Bits) m d).InRange :=
  have h := Score.in_range_of_pre (F := Bits) _ _ _ _ (hP d)
  ⟨h.1, fun _ => h.2 _⟩

theorem frame_kernel : Cert.quiescent_Kernel := by
  intro m ρ hP
  have h := Score.run_main (F := Bits) m ρ (in_range_bits m hP)
  rw [← Score.defs_eq] at h
  refine (θ_run (Cert.Kernel.defs (F := Bits)) _ _).mono (fun r h => ?_) h
  exact ⟨fun c => ⟨(h.1 c).1, (h.1 c).2.1, (h.1 c).2.2.1, (h.1 c).2.2.2.1⟩, h.2⟩

theorem frame_ideal : Cert.quiescent_KernelIdeal := fun m ρ hP =>
  (θ_run Cert.KernelIdeal.defs _ _).mono
    (fun _ h => ⟨fun c => ⟨(h.1 c).1, (h.1 c).2.1, (h.1 c).2.2.1, (h.1 c).2.2.2.1⟩, h.2⟩)
    (Score.run_main (F := Ideal) m ρ (in_range_ideal m hP))

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

theorem frame_reference_pre : Cert.quiescent_ReferenceIdeal_pre_in_vocab := fun m ρ _ => frame_reference m ρ trivial

/-- From the same arguments both programs end with the loss of the kernel's scores. -/
theorem algebraic : Cert.algebraic_KernelIdeal_ReferenceIdeal := by
  intro m ρ m' ρ' hP ha
  refine ⟨fun c => Score.lossOf (F := Ideal) m c, ?_, ?_⟩
  · exact (θ_run Cert.KernelIdeal.defs _ _).mono
      (fun _ h c => ⟨(h.1 c).2.2.2.2, (h.1 c).1, (h.1 c).2.1, (h.1 c).2.2.1, (h.1 c).2.2.2.1⟩)
      (Score.run_main (F := Ideal) m ρ (in_range_ideal m hP))
  · refine (θ_run Cert.ReferenceIdeal.defs _ _).mono (fun r h c => ⟨(h c).1.trans ?_, (h c).2⟩) (Cert.ReferenceIdeal.Value.run m' ρ')
    obtain ⟨a0, a1, a2, a3⟩ := ha c
    rw [Ref.res_eq, a0, a1, a2, a3]
    exact Ref.loss_eq m c (in_range_ideal m hP c) (Score.in_range_of_pre _ _ _ _ (hP c)).2

theorem claim : Cert.Claim := ⟨Cert.Kernel.Gen.facts, Cert.KernelIdeal.Gen.facts, Cert.ReferenceIdeal.Gen.facts, Cert.Pre_in_vocab.Gen.facts,
  frame_kernel, frame_ideal, frame_reference, frame_reference_pre, trivial, algebraic⟩

end Cert.Proof

end
